-- ==== Defs.lean ====
def Pre_Assign (m : (ℓ : Loc Cert.Assign.nD Cert.Assign.τ Cert.Assign.sig) → Buf (Elt Bits) ℓ) : Prop :=
  True

def Pre_AssignIdeal (m : (ℓ : Loc Cert.AssignIdeal.nD Cert.AssignIdeal.τ Cert.AssignIdeal.sig) → Buf (Elt Ideal) ℓ) : Prop :=
  True

def Pre_Zsum [hPre_slots_in_range : Cert.Pre_slots_in_range.Facts] (m : (ℓ : Loc Cert.Zsum.nD Cert.Zsum.τ Cert.Zsum.sig) → Buf (Elt Bits) ℓ) : Prop :=
  ∀ c : Dev Cert.Zsum.nD,
    (Cert.Pre_slots_in_range.fn (F := Bits) (m ((c.tc : Thread Cert.Zsum.nD Cert.Zsum.τ).loc Cert.Zsum.main_arg0)) (m ((c.tc : Thread Cert.Zsum.nD Cert.Zsum.τ).loc Cert.Zsum.main_arg1))) = (fun _ => 1#1)

def Pre_ZsumIdeal [hPre_slots_in_range : Cert.Pre_slots_in_range.Facts] (m : (ℓ : Loc Cert.ZsumIdeal.nD Cert.ZsumIdeal.τ Cert.ZsumIdeal.sig) → Buf (Elt Ideal) ℓ) : Prop :=
  ∀ c : Dev Cert.ZsumIdeal.nD,
    (Cert.Pre_slots_in_range.fn (F := Ideal) (m ((c.tc : Thread Cert.ZsumIdeal.nD Cert.ZsumIdeal.τ).loc Cert.ZsumIdeal.main_arg0)) (m ((c.tc : Thread Cert.ZsumIdeal.nD Cert.ZsumIdeal.τ).loc Cert.ZsumIdeal.main_arg1))) = (fun _ => 1#1)

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Assign [hAssign : Cert.Assign.Facts] : Prop :=
  ∀ (m : (ℓ : Loc Cert.Assign.nD Cert.Assign.τ Cert.Assign.sig) → Buf (Elt Bits) ℓ) (g : Dev Cert.Assign.nD → PrngReg), Pre_Assign m →
    θ_run (Cert.Assign.defs (F := Bits)) (onTc (τ := Cert.Assign.τ) (Cert.Assign.main (F := Bits))) ⟨m, fun _ => 0, g⟩ (fun r => (∀ c : Dev Cert.Assign.nD,
      r.2.mem ((c.tc : Thread Cert.Assign.nD Cert.Assign.τ).loc Cert.Assign.main_arg0) = m ((c.tc : Thread Cert.Assign.nD Cert.Assign.τ).loc Cert.Assign.main_arg0))
      ∧ r.2.sem = fun _ => 0)

def quiescent_AssignIdeal [hAssignIdeal : Cert.AssignIdeal.Facts] : Prop :=
  ∀ (m : (ℓ : Loc Cert.AssignIdeal.nD Cert.AssignIdeal.τ Cert.AssignIdeal.sig) → Buf (Elt Ideal) ℓ) (g : Dev Cert.AssignIdeal.nD → PrngReg), Pre_AssignIdeal m →
    θ_run (Cert.AssignIdeal.defs (F := Ideal)) (onTc (τ := Cert.AssignIdeal.τ) (Cert.AssignIdeal.main (F := Ideal))) ⟨m, fun _ => 0, g⟩ (fun r => (∀ c : Dev Cert.AssignIdeal.nD,
      r.2.mem ((c.tc : Thread Cert.AssignIdeal.nD Cert.AssignIdeal.τ).loc Cert.AssignIdeal.main_arg0) = m ((c.tc : Thread Cert.AssignIdeal.nD Cert.AssignIdeal.τ).loc Cert.AssignIdeal.main_arg0))
      ∧ r.2.sem = fun _ => 0)

def quiescent_Zsum [hZsum : Cert.Zsum.Facts] [hPre_slots_in_range : Cert.Pre_slots_in_range.Facts] : Prop :=
  ∀ (m : (ℓ : Loc Cert.Zsum.nD Cert.Zsum.τ Cert.Zsum.sig) → Buf (Elt Bits) ℓ) (g : Dev Cert.Zsum.nD → PrngReg), Pre_Zsum m →
    θ_run (Cert.Zsum.defs (F := Bits)) (onTc (τ := Cert.Zsum.τ) (Cert.Zsum.main (F := Bits))) ⟨m, fun _ => 0, g⟩ (fun r => (∀ c : Dev Cert.Zsum.nD,
      r.2.mem ((c.tc : Thread Cert.Zsum.nD Cert.Zsum.τ).loc Cert.Zsum.main_arg0) = m ((c.tc : Thread Cert.Zsum.nD Cert.Zsum.τ).loc Cert.Zsum.main_arg0)
      ∧ r.2.mem ((c.tc : Thread Cert.Zsum.nD Cert.Zsum.τ).loc Cert.Zsum.main_arg1) = m ((c.tc : Thread Cert.Zsum.nD Cert.Zsum.τ).loc Cert.Zsum.main_arg1))
      ∧ r.2.sem = fun _ => 0)

def quiescent_ZsumIdeal [hZsumIdeal : Cert.ZsumIdeal.Facts] [hPre_slots_in_range : Cert.Pre_slots_in_range.Facts] : Prop :=
  ∀ (m : (ℓ : Loc Cert.ZsumIdeal.nD Cert.ZsumIdeal.τ Cert.ZsumIdeal.sig) → Buf (Elt Ideal) ℓ) (g : Dev Cert.ZsumIdeal.nD → PrngReg), Pre_ZsumIdeal m →
    θ_run (Cert.ZsumIdeal.defs (F := Ideal)) (onTc (τ := Cert.ZsumIdeal.τ) (Cert.ZsumIdeal.main (F := Ideal))) ⟨m, fun _ => 0, g⟩ (fun r => (∀ c : Dev Cert.ZsumIdeal.nD,
      r.2.mem ((c.tc : Thread Cert.ZsumIdeal.nD Cert.ZsumIdeal.τ).loc Cert.ZsumIdeal.main_arg0) = m ((c.tc : Thread Cert.ZsumIdeal.nD Cert.ZsumIdeal.τ).loc Cert.ZsumIdeal.main_arg0)
      ∧ r.2.mem ((c.tc : Thread Cert.ZsumIdeal.nD Cert.ZsumIdeal.τ).loc Cert.ZsumIdeal.main_arg1) = m ((c.tc : Thread Cert.ZsumIdeal.nD Cert.ZsumIdeal.τ).loc Cert.ZsumIdeal.main_arg1))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Assign_AssignIdeal : Prop :=
  True

def preserves_Zsum_ZsumIdeal : Prop :=
  True

def preserves_Attend_AttendIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hAssign : Cert.Assign.Facts) (hAssignIdeal : Cert.AssignIdeal.Facts) (hZsum : Cert.Zsum.Facts) (hZsumIdeal : Cert.ZsumIdeal.Facts) (hAttend : Cert.Attend.Facts) (hAttendIdeal : Cert.AttendIdeal.Facts) (hKernelIdeal : Cert.KernelIdeal.Facts) (hReferenceIdeal : Cert.ReferenceIdeal.Facts) (hPre_slots_in_range : Cert.Pre_slots_in_range.Facts) (hPre_pre : Cert.Pre_pre.Facts),
    quiescent_Assign (hAssign := hAssign)
    ∧ quiescent_AssignIdeal (hAssignIdeal := hAssignIdeal)
    ∧ quiescent_Zsum (hZsum := hZsum) (hPre_slots_in_range := hPre_slots_in_range)
    ∧ quiescent_ZsumIdeal (hZsumIdeal := hZsumIdeal) (hPre_slots_in_range := hPre_slots_in_range)
    ∧ quiescent_Attend (hAttend := hAttend)
    ∧ quiescent_AttendIdeal (hAttendIdeal := hAttendIdeal)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Assign_AssignIdeal
    ∧ preserves_Zsum_ZsumIdeal
    ∧ preserves_Attend_AttendIdeal
    ∧ algebraic_KernelIdeal_ReferenceIdeal_pre_pre (hKernelIdeal := hKernelIdeal) (hReferenceIdeal := hReferenceIdeal) (hPre_pre := hPre_pre)
-- ==== Pre_pre.lean ====
abbrev S1x12x2048x64 : Shape := ⟨4, ![1, 12, 2048, 64]⟩
abbrev S_ : Shape := ⟨0, ![]⟩
abbrev S1x12x2048 : Shape := ⟨3, ![1, 12, 2048]⟩
abbrev S1x12x2048x1 : Shape := ⟨4, ![1, 12, 2048, 1]⟩
abbrev S1x1x1x64 : Shape := ⟨4, ![1, 1, 1, 64]⟩
abbrev S1x12x64x64 : Shape := ⟨4, ![1, 12, 64, 64]⟩

class Facts : Prop where
  reducesTo_S1x12x2048x64_S1x12x2048_d3 : S1x12x2048x64.ReducesTo [3] S1x12x2048
  h_S_ : 0 < S_.numel
  bcast_S1x12x2048_S1x12x2048x1_0_1_2 : S1x12x2048.BroadcastsInDim S1x12x2048x1 (![0, 1, 2] : Fin 3 → Fin S1x12x2048x1.rank)
  bcast_S1x12x2048x1_S1x12x2048x64_0_1_2_3 : S1x12x2048x1.BroadcastsInDim S1x12x2048x64 (![0, 1, 2, 3] : Fin 4 → Fin S1x12x2048x64.rank)
  bcast_S1x1x1x64_S1x12x2048x64_0_1_2_3 : S1x1x1x64.BroadcastsInDim S1x12x2048x64 (![0, 1, 2, 3] : Fin 4 → Fin S1x12x2048x64.rank)
  bcast_S_S1x12x2048x64 : S_.BroadcastsInDim S1x12x2048x64 (![] : Fin 0 → Fin S1x12x2048x64.rank)
  reducesTo_S1x12x2048x64_S_d0_1_2_3 : S1x12x2048x64.ReducesTo [0, 1, 2, 3] S_
  natLt_1_32 : 1 < 32
  bcast_S_S1x12x2048 : S_.BroadcastsInDim S1x12x2048 (![] : Fin 0 → Fin S1x12x2048.rank)
  reducesTo_S1x12x2048_S_d0_1_2 : S1x12x2048.ReducesTo [0, 1, 2] S_
  dot_S1x12x2048x64_S1x12x2048x64_S1x12x64x64_2_2_3_3_01_01_wf : DotDims.WF S1x12x2048x64 S1x12x2048x64 S1x12x64x64 [2] [2] [3] [3] [0, 1] [0, 1]
  dot_S1x12x2048x64_S1x12x64x64_S1x12x2048x64_3_3_2_2_01_01_wf : DotDims.WF S1x12x2048x64 S1x12x64x64 S1x12x2048x64 [3] [3] [2] [2] [0, 1] [0, 1]

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def dot_S1x12x2048x64_S1x12x2048x64_S1x12x64x64_2_2_3_3_01_01 : DotDims S1x12x2048x64 S1x12x2048x64 S1x12x64x64 where
  lhsContracting := [2]
  rhsContracting := [2]
  lhsNonContracting := [3]
  rhsNonContracting := [3]
  lhsBatch := [0, 1]
  rhsBatch := [0, 1]
  wf := dot_S1x12x2048x64_S1x12x2048x64_S1x12x64x64_2_2_3_3_01_01_wf
def dot_S1x12x2048x64_S1x12x64x64_S1x12x2048x64_3_3_2_2_01_01 : DotDims S1x12x2048x64 S1x12x64x64 S1x12x2048x64 where
  lhsContracting := [3]
  rhsContracting := [3]
  lhsNonContracting := [2]
  rhsNonContracting := [2]
  lhsBatch := [0, 1]
  rhsBatch := [0, 1]
  wf := dot_S1x12x2048x64_S1x12x64x64_S1x12x2048x64_3_3_2_2_01_01_wf

def fn_argmax {F : FTy → Type} [FloatOps F] (arg0 : FVec F S1x12x2048x64 .f32) : IVec S1x12x2048 32 :=
  let v0 : IVec S1x12x2048x64 32 := iotaInDim S1x12x2048x64 32 3
  let cst : FVec F S_ .f32 := constant S_ .f32 0xFF800000#32
  let c : IVec S_ 32 := constantI S_ 32 0#32
  let v1_0 : FVec F S1x12x2048 .f32 := (fun x y u v j => (Host.argReduce reducer_argmax_f32_i32 x y u v reducesTo_S1x12x2048x64_S1x12x2048_d3 h_S_ j).1) arg0 v0 cst c
  let v1_1 : IVec S1x12x2048 32 := (fun x y u v j => (Host.argReduce reducer_argmax_f32_i32 x y u v reducesTo_S1x12x2048x64_S1x12x2048_d3 h_S_ j).2) arg0 v0 cst c
  v1_1

def fn_one_hot {F : FTy → Type} [FloatOps F] (arg0 : IVec S1x12x2048 32) : FVec F S1x12x2048x64 .f32 :=
  let v0 : IVec S1x12x2048x1 32 := broadcastInDim S1x12x2048x1 ![0, 1, 2] bcast_S1x12x2048_S1x12x2048x1_0_1_2 arg0
  let v1 : IVec S1x1x1x64 32 := iotaInDim S1x1x1x64 32 3
  let v2 : IVec S1x12x2048x64 32 := broadcastInDim S1x12x2048x64 ![0, 1, 2, 3] bcast_S1x12x2048x1_S1x12x2048x64_0_1_2_3 v0
  let v3 : IVec S1x12x2048x64 32 := broadcastInDim S1x12x2048x64 ![0, 1, 2, 3] bcast_S1x1x1x64_S1x12x2048x64_0_1_2_3 v1
  let v4 : IVec S1x12x2048x64 1 := cmpi .eq v2 v3
  let v5 : FVec F S1x12x2048x64 .f32 := uitofp .f32 v4
  v5

def fn_part1 {F : FTy → Type} [FloatOps F] (main_v4 : IVec S1x12x2048x64 1) (main_v11 : FVec F S1x12x2048x64 .f32) (main_v14 : IVec S_ 1) (main_v17 : IVec S1x12x2048x64 1) (main_c_3 : IVec S_ 1) : IVec S_ 1 :=
  let main_v18 : IVec S_ 1 := (fun x v => Host.reduce IntOp.andi x v reducesTo_S1x12x2048x64_S_d0_1_2_3 h_S_) main_v17 main_c_3
  let main_v19 : IVec S_ 1 := andi main_v14 main_v18
  let main_v20 : IVec S1x12x2048x64 32 := (extui 32 · natLt_1_32) main_v4
  let main_c_4 : IVec S_ 32 := constantI S_ 32 0#32
  let main_v21 : IVec S1x12x2048 32 := (fun x v => Host.reduce IntOp.addi x v reducesTo_S1x12x2048x64_S1x12x2048_d3 h_S_) main_v20 main_c_4
  let main_c_5 : IVec S_ 32 := constantI S_ 32 2#32
  let main_v22 : IVec S1x12x2048 32 := broadcastInDim S1x12x2048 ![] bcast_S_S1x12x2048 main_c_5
  let main_v23 : IVec S1x12x2048 1 := cmpi .sle main_v21 main_v22
  let main_c_6 : IVec S_ 1 := constantI S_ 1 1#1
  let main_v24 : IVec S_ 1 := (fun x v => Host.reduce IntOp.andi x v reducesTo_S1x12x2048_S_d0_1_2 h_S_) main_v23 main_c_6
  let main_v25 : IVec S_ 1 := andi main_v19 main_v24
  let main_v26 : IVec S1x12x2048x64 1 := noti main_v4
  let main_cst_7 : FVec F S_ .f32 := constant S_ .f32 0x00000000#32
  let main_v27 : FVec F S1x12x2048x64 .f32 := broadcastInDim S1x12x2048x64 ![] bcast_S_S1x12x2048x64 main_cst_7
  let main_v28 : IVec S1x12x2048x64 1 := cmpf .une main_v11 main_v27
  let main_v29 : IVec S1x12x2048x64 1 := ori main_v26 main_v28
  let main_c_8 : IVec S_ 1 := constantI S_ 1 1#1
  let main_v30 : IVec S_ 1 := (fun x v => Host.reduce IntOp.andi x v reducesTo_S1x12x2048x64_S_d0_1_2_3 h_S_) main_v29 main_c_8
  let main_v31 : IVec S_ 1 := andi main_v25 main_v30
  main_v31

def fn {F : FTy → Type} [FloatOps F] (main_arg0 : FVec F S1x12x2048x64 .f32) (main_arg1 : FVec F S1x12x2048x64 .f32) (main_arg2 : FVec F S1x12x2048x64 .f32) : IVec S_ 1 :=
  let main_v0 : FVec F S1x12x2048x64 .f32 := Host.absf main_arg0
  let main_cst : FVec F S_ .f32 := constant S_ .f32 0xFF800000#32
  let main_v1 : FVec F S1x12x2048 .f32 := (fun x v => Host.reduce FloatOps.maximumf x v reducesTo_S1x12x2048x64_S1x12x2048_d3 h_S_) main_v0 main_cst
  let main_v2 : FVec F S1x12x2048x1 .f32 := broadcastInDim S1x12x2048x1 ![0, 1, 2] bcast_S1x12x2048_S1x12x2048x1_0_1_2 main_v1
  let main_v3 : FVec F S1x12x2048x64 .f32 := broadcastInDim S1x12x2048x64 ![0, 1, 2, 3] bcast_S1x12x2048x1_S1x12x2048x64_0_1_2_3 main_v2
  let main_v4 : IVec S1x12x2048x64 1 := cmpf .oeq main_v0 main_v3
  let main_v5 : FVec F S1x12x2048x64 .f32 := Host.absf main_arg1
  let main_v6 : IVec S1x12x2048 32 := fn_argmax (F := F) main_v5
  let main_v7 : FVec F S1x12x2048x64 .f32 := fn_one_hot (F := F) main_v6
  let main_v8 : FVec F S1x12x64x64 .f32 := (fun l r => Host.dotGeneral dot_S1x12x2048x64_S1x12x2048x64_S1x12x64x64_2_2_3_3_01_01 none l r) main_v7 main_arg1
  let main_v9 : FVec F S1x12x2048x64 .f32 := (fun l r => Host.dotGeneral dot_S1x12x2048x64_S1x12x64x64_S1x12x2048x64_3_3_2_2_01_01 none l r) main_arg0 main_v8
  let main_cst_0 : FVec F S_ .f32 := constant S_ .f32 0x358637BD#32
  let main_v10 : FVec F S1x12x2048x64 .f32 := broadcastInDim S1x12x2048x64 ![] bcast_S_S1x12x2048x64 main_cst_0
  let main_v11 : FVec F S1x12x2048x64 .f32 := addf main_v9 main_v10
  let main_cst_1 : FVec F S_ .f32 := constant S_ .f32 0x7F800000#32
  let main_v12 : FVec F S1x12x2048x64 .f32 := broadcastInDim S1x12x2048x64 ![] bcast_S_S1x12x2048x64 main_cst_1
  let main_v13 : IVec S1x12x2048x64 1 := cmpf .olt main_v0 main_v12
  let main_c : IVec S_ 1 := constantI S_ 1 1#1
  let main_v14 : IVec S_ 1 := (fun x v => Host.reduce IntOp.andi x v reducesTo_S1x12x2048x64_S_d0_1_2_3 h_S_) main_v13 main_c
  let main_v15 : FVec F S1x12x2048x64 .f32 := Host.absf main_arg2
  let main_cst_2 : FVec F S_ .f32 := constant S_ .f32 0x7F800000#32
  let main_v16 : FVec F S1x12x2048x64 .f32 := broadcastInDim S1x12x2048x64 ![] bcast_S_S1x12x2048x64 main_cst_2
  let main_v17 : IVec S1x12x2048x64 1 := cmpf .olt main_v15 main_v16
  let main_c_3 : IVec S_ 1 := constantI S_ 1 1#1
  fn_part1 (F := F) main_v4 main_v11 main_v14 main_v17 main_c_3
-- ==== Pre_slots_in_range.lean ====
abbrev S12x1x2048 : Shape := ⟨3, ![12, 1, 2048]⟩
abbrev S12x2048x64 : Shape := ⟨3, ![12, 2048, 64]⟩
abbrev S_ : Shape := ⟨0, ![]⟩

class Facts : Prop where
  bcast_S_S12x1x2048 : S_.BroadcastsInDim S12x1x2048 (![] : Fin 0 → Fin S12x1x2048.rank)
  reducesTo_S12x1x2048_S_d0_1_2 : S12x1x2048.ReducesTo [0, 1, 2] S_
  h_S_ : 0 < S_.numel

variable [Facts]

def fn {F : FTy → Type} [FloatOps F] (main_arg0 : IVec S12x1x2048 32) (main_arg1 : FVec F S12x2048x64 .f32) : IVec S_ 1 :=
  let main_c : IVec S_ 32 := constantI S_ 32 0#32
  let main_v0 : IVec S12x1x2048 32 := broadcastInDim S12x1x2048 ![] bcast_S_S12x1x2048 main_c
  let main_v1 : IVec S12x1x2048 1 := cmpi .sge main_arg0 main_v0
  let main_c_0 : IVec S_ 1 := constantI S_ 1 1#1
  let main_v2 : IVec S_ 1 := (fun x v => Host.reduce IntOp.andi x v reducesTo_S12x1x2048_S_d0_1_2 h_S_) main_v1 main_c_0
  let main_c_1 : IVec S_ 32 := constantI S_ 32 64#32
  let main_v3 : IVec S12x1x2048 32 := broadcastInDim S12x1x2048 ![] bcast_S_S12x1x2048 main_c_1
  let main_v4 : IVec S12x1x2048 1 := cmpi .slt main_arg0 main_v3
  let main_c_2 : IVec S_ 1 := constantI S_ 1 1#1
  let main_v5 : IVec S_ 1 := (fun x v => Host.reduce IntOp.andi x v reducesTo_S12x1x2048_S_d0_1_2 h_S_) main_v4 main_c_2
  let main_v6 : IVec S_ 1 := andi main_v2 main_v5
  main_v6
-- ==== Assign.lean ====
abbrev S12x2048x64 : Shape := ⟨3, ![12, 2048, 64]⟩
abbrev S12x1x2048 : Shape := ⟨3, ![12, 1, 2048]⟩
abbrev S1x2048x64 : Shape := ⟨3, ![1, 2048, 64]⟩
abbrev S1x1x2048 : Shape := ⟨3, ![1, 1, 2048]⟩
abbrev S2048x64 : Shape := ⟨2, ![2048, 64]⟩
abbrev S64x64 : Shape := ⟨2, ![64, 64]⟩
abbrev S2048 : Shape := ⟨1, ![2048]⟩
abbrev S2048x1 : Shape := ⟨2, ![2048, 1]⟩
abbrev S64x1 : Shape := ⟨2, ![64, 1]⟩
abbrev S1x64 : Shape := ⟨2, ![1, 64]⟩
abbrev S1x2048 : Shape := ⟨2, ![1, 2048]⟩

abbrev nBuf : Space → Nat
  | .hbm => 2
  | .vmem => 4
  | .smem => 0
  | _ => 0

abbrev bufTy : (tb : Table) → Fin (tcTables nBuf tb) → BufTy
  | .hbm, ⟨0, _⟩ => ⟨S12x2048x64, .f32⟩
  | .hbm, ⟨1, _⟩ => ⟨S12x1x2048, .i32⟩
  | .local _ .vmem, ⟨0, _⟩ => ⟨S1x2048x64, .f32⟩
  | .local _ .vmem, ⟨1, _⟩ => ⟨S1x2048x64, .f32⟩
  | .local _ .vmem, ⟨2, _⟩ => ⟨S1x1x2048, .i32⟩
  | .local _ .vmem, ⟨3, _⟩ => ⟨S1x1x2048, .i32⟩
  | _, _ => ⟨S12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Zsum.lean ====
abbrev S12x1x2048 : Shape := ⟨3, ![12, 1, 2048]⟩
abbrev S12x2048x64 : Shape := ⟨3, ![12, 2048, 64]⟩
abbrev S12x64x64 : Shape := ⟨3, ![12, 64, 64]⟩
abbrev S64x64 : Shape := ⟨2, ![64, 64]⟩
abbrev S1x1x1 : Shape := ⟨3, ![1, 1, 1]⟩
abbrev S1x64 : Shape := ⟨2, ![1, 64]⟩
abbrev S1x1x64 : Shape := ⟨3, ![1, 1, 64]⟩
abbrev S1x64x64 : Shape := ⟨3, ![1, 64, 64]⟩

abbrev nBuf : Space → Nat
  | .hbm => 3
  | .vmem => 14
  | .smem => 1
  | _ => 0

abbrev bufTy : (tb : Table) → Fin (tcTables nBuf tb) → BufTy
  | .hbm, ⟨0, _⟩ => ⟨S12x1x2048, .i32⟩
  | .hbm, ⟨1, _⟩ => ⟨S12x2048x64, .f32⟩
  | .hbm, ⟨2, _⟩ => ⟨S12x64x64, .f32⟩
  | .local _ .vmem, ⟨0, _⟩ => ⟨S12x2048x64, .f32⟩
  | .local _ .vmem, ⟨1, _⟩ => ⟨S12x64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64x64, .f32⟩
  | .local _ .vmem, ⟨10, _⟩ => ⟨S64x64, .f32⟩
  | .local _ .vmem, ⟨11, _⟩ => ⟨S64x64, .f32⟩
  | .local _ .vmem, ⟨12, _⟩ => ⟨S64x64, .f32⟩
  | .local _ .vmem, ⟨13, _⟩ => ⟨S64x64, .f32⟩
  | .local _ .smem, ⟨0, _⟩ => ⟨S12x1x2048, .i32⟩
  | _, _ => ⟨S12x1x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c2048_i32 : BitVec 32 := 2048#32
  let v48 : BitVec 32 := Scalar.addi c0_i32 c2048_i32
  let c1_i32 : BitVec 32 := 1#32
  ⟨c0_i32, v48, c1_i32⟩
def k0_off1 (k0_t1 : Fin k0_t1_loop.trips) : Fin 3 → Nat :=
  let c0_84 : Index := 0#32
  let c0_85 : Index := 0#32
  let c0_i32 : BitVec 32 := 0#32
  let c1_i32 : BitVec 32 := 1#32
  let arg16 : BitVec 32 := Scf.iv c0_i32 c1_i32 k0_t1
  let v97 : Index := Scalar.indexCast arg16
  ![0, 0, v97.toNat]
def k0_off2 (v98 : BitVec 32) : Fin 2 → Nat :=
  let v99 : Index := Scalar.indexCast v98
  let c0_86 : Index := 0#32
  ![v99.toNat, 0]

def k0_chk1 (v98 : BitVec 32) : Prop :=
  (∀ a, (k0_off2 v98) a + S1x64.size a ≤ S64x64.size a)
theorem k0_off2_inb : ∀ (v98 : BitVec 32) (k0_hw1 : k0_chk1 v98), ∀ a, (k0_off2 v98) a + S1x64.size a ≤ S64x64.size a := fun v98 k0_hw1 => k0_hw1

def k0_off3 (k0_t1 : Fin k0_t1_loop.trips) : Fin 3 → Nat :=
  let c0_87 : Index := 0#32
  let c0_i32 : BitVec 32 := 0#32
  let c1_i32 : BitVec 32 := 1#32
  let arg16 : BitVec 32 := Scf.iv c0_i32 c1_i32 k0_t1
  let v101 : Index := Scalar.indexCast arg16
  let c0_88 : Index := 0#32
  ![0, v101.toNat, 0]
def k0_off4 (k0_t1 : Fin k0_t1_loop.trips) : Fin 3 → Nat :=
  let c1_90 : Index := 1#32
  let c0_91 : Index := 0#32
  let c0_i32 : BitVec 32 := 0#32
  let c1_i32 : BitVec 32 := 1#32
  let arg16 : BitVec 32 := Scf.iv c0_i32 c1_i32 k0_t1
  let v109 : Index := Scalar.indexCast arg16
  ![1, 0, v109.toNat]
def k0_off5 (v110 : BitVec 32) : Fin 2 → Nat :=
  let v111 : Index := Scalar.indexCast v110
  let c0_92 : Index := 0#32
  ![v111.toNat, 0]

def k0_chk2 (v110 : BitVec 32) : Prop :=
  (∀ a, (k0_off5 v110) a + S1x64.size a ≤ S64x64.size a)
theorem k0_off5_inb : ∀ (v110 : BitVec 32) (k0_hw2 : k0_chk2 v110), ∀ a, (k0_off5 v110) a + S1x64.size a ≤ S64x64.size a := fun v110 k0_hw2 => k0_hw2

def k0_off6 (k0_t1 : Fin k0_t1_loop.trips) : Fin 3 → Nat :=
  let c1_93 : Index := 1#32
  let c0_i32 : BitVec 32 := 0#32
  let c1_i32 : BitVec 32 := 1#32
  let arg16 : BitVec 32 := Scf.iv c0_i32 c1_i32 k0_t1
  let v113 : Index := Scalar.indexCast arg16
  let c0_94 : Index := 0#32
  ![1, v113.toNat, 0]
def k0_off7 (k0_t1 : Fin k0_t1_loop.trips) : Fin 3 → Nat :=
  let c2_96 : Index := 2#32
  let c0_97 : Index := 0#32
  let c0_i32 : BitVec 32 := 0#32
  let c1_i32 : BitVec 32 := 1#32
  let arg16 : BitVec 32 := Scf.iv c0_i32 c1_i32 k0_t1
  let v121 : Index := Scalar.indexCast arg16
  ![2, 0, v121.toNat]
def k0_off8 (v122 : BitVec 32) : Fin 2 → Nat :=
  let v123 : Index := Scalar.indexCast v122
  let c0_98 : Index := 0#32
  ![v123.toNat, 0]

def k0_chk3 (v122 : BitVec 32) : Prop :=
  (∀ a, (k0_off8 v122) a + S1x64.size a ≤ S64x64.size a)
theorem k0_off8_inb : ∀ (v122 : BitVec 32) (k0_hw3 : k0_chk3 v122), ∀ a, (k0_off8 v122) a + S1x64.size a ≤ S64x64.size a := fun v122 k0_hw3 => k0_hw3

def k0_off9 (k0_t1 : Fin k0_t1_loop.trips) : Fin 3 → Nat :=
  let c2_99 : Index := 2#32
  let c0_i32 : BitVec 32 := 0#32
  let c1_i32 : BitVec 32 := 1#32
  let arg16 : BitVec 32 := Scf.iv c0_i32 c1_i32 k0_t1
  let v125 : Index := Scalar.indexCast arg16
  let c0_100 : Index := 0#32
  ![2, v125.toNat, 0]
def k0_off10 (k0_t1 : Fin k0_t1_loop.trips) : Fin 3 → Nat :=
  let c3_102 : Index := 3#32
  let c0_103 : Index := 0#32
  let c0_i32 : BitVec 32 := 0#32
  let c1_i32 : BitVec 32 := 1#32
  let arg16 : BitVec 32 := Scf.iv c0_i32 c1_i32 k0_t1
  let v133 : Index := Scalar.indexCast arg16
  ![3, 0, v133.toNat]
def k0_off11 (v134 : BitVec 32) : Fin 2 → Nat :=
  let v135 : Index := Scalar.indexCast v134
  let c0_104 : Index := 0#32
  ![v135.toNat, 0]

def k0_chk4 (v134 : BitVec 32) : Prop :=
  (∀ a, (k0_off11 v134) a + S1x64.size a ≤ S64x64.size a)
theorem k0_off11_inb : ∀ (v134 : BitVec 32) (k0_hw4 : k0_chk4 v134), ∀ a, (k0_off11 v134) a + S1x64.size a ≤ S64x64.size a := fun v134 k0_hw4 => k0_hw4

def k0_off12 (k0_t1 : Fin k0_t1_loop.trips) : Fin 3 → Nat :=
  let c3_105 : Index := 3#32
  let c0_i32 : BitVec 32 := 0#32
  let c1_i32 : BitVec 32 := 1#32
  let arg16 : BitVec 32 := Scf.iv c0_i32 c1_i32 k0_t1
  let v137 : Index := Scalar.indexCast arg16
  let c0_106 : Index := 0#32
  ![3, v137.toNat, 0]
def k0_off13 (k0_t1 : Fin k0_t1_loop.trips) : Fin 3 → Nat :=
  let c4_108 : Index := 4#32
  let c0_109 : Index := 0#32
  let c0_i32 : BitVec 32 := 0#32
  let c1_i32 : BitVec 32 := 1#32
  let arg16 : BitVec 32 := Scf.iv c0_i32 c1_i32 k0_t1
  let v145 : Index := Scalar.indexCast arg16
  ![4, 0, v145.toNat]
def k0_off14 (v146 : BitVec 32) : Fin 2 → Nat :=
  let v147 : Index := Scalar.indexCast v146
  let c0_110 : Index := 0#32
  ![v147.toNat, 0]

def k0_chk5 (v146 : BitVec 32) : Prop :=
  (∀ a, (k0_off14 v146) a + S1x64.size a ≤ S64x64.size a)
theorem k0_off14_inb : ∀ (v146 : BitVec 32) (k0_hw5 : k0_chk5 v146), ∀ a, (k0_off14 v146) a + S1x64.size a ≤ S64x64.size a := fun v146 k0_hw5 => k0_hw5

def k0_off15 (k0_t1 : Fin k0_t1_loop.trips) : Fin 3 → Nat :=
  let c4_111 : Index := 4#32
  let c0_i32 : BitVec 32 := 0#32
  let c1_i32 : BitVec 32 := 1#32
  let arg16 : BitVec 32 := Scf.iv c0_i32 c1_i32 k0_t1
  let v149 : Index := Scalar.indexCast arg16
  let c0_112 : Index := 0#32
  ![4, v149.toNat, 0]
def k0_off16 (k0_t1 : Fin k0_t1_loop.trips) : Fin 3 → Nat :=
  let c5_114 : Index := 5#32
  let c0_115 : Index := 0#32
  let c0_i32 : BitVec 32 := 0#32
  let c1_i32 : BitVec 32 := 1#32
  let arg16 : BitVec 32 := Scf.iv c0_i32 c1_i32 k0_t1
  let v157 : Index := Scalar.indexCast arg16
  ![5, 0, v157.toNat]
def k0_off17 (v158 : BitVec 32) : Fin 2 → Nat :=
  let v159 : Index := Scalar.indexCast v158
  let c0_116 : Index := 0#32
  ![v159.toNat, 0]

def k0_chk6 (v158 : BitVec 32) : Prop :=
  (∀ a, (k0_off17 v158) a + S1x64.size a ≤ S64x64.size a)
theorem k0_off17_inb : ∀ (v158 : BitVec 32) (k0_hw6 : k0_chk6 v158), ∀ a, (k0_off17 v158) a + S1x64.size a ≤ S64x64.size a := fun v158 k0_hw6 => k0_hw6

def k0_off18 (k0_t1 : Fin k0_t1_loop.trips) : Fin 3 → Nat :=
  let c5_117 : Index := 5#32
  let c0_i32 : BitVec 32 := 0#32
  let c1_i32 : BitVec 32 := 1#32
  let arg16 : BitVec 32 := Scf.iv c0_i32 c1_i32 k0_t1
  let v161 : Index := Scalar.indexCast arg16
  let c0_118 : Index := 0#32
  ![5, v161.toNat, 0]
def k0_off19 (k0_t1 : Fin k0_t1_loop.trips) : Fin 3 → Nat :=
  let c6_120 : Index := 6#32
  let c0_121 : Index := 0#32
  let c0_i32 : BitVec 32 := 0#32
  let c1_i32 : BitVec 32 := 1#32
  let arg16 : BitVec 32 := Scf.iv c0_i32 c1_i32 k0_t1
  let v169 : Index := Scalar.indexCast arg16
  ![6, 0, v169.toNat]
def k0_off20 (v170 : BitVec 32) : Fin 2 → Nat :=
  let v171 : Index := Scalar.indexCast v170
  let c0_122 : Index := 0#32
  ![v171.toNat, 0]

def k0_chk7 (v170 : BitVec 32) : Prop :=
  (∀ a, (k0_off20 v170) a + S1x64.size a ≤ S64x64.size a)
theorem k0_off20_inb : ∀ (v170 : BitVec 32) (k0_hw7 : k0_chk7 v170), ∀ a, (k0_off20 v170) a + S1x64.size a ≤ S64x64.size a := fun v170 k0_hw7 => k0_hw7

def k0_off21 (k0_t1 : Fin k0_t1_loop.trips) : Fin 3 → Nat :=
  let c6_123 : Index := 6#32
  let c0_i32 : BitVec 32 := 0#32
  let c1_i32 : BitVec 32 := 1#32
  let arg16 : BitVec 32 := Scf.iv c0_i32 c1_i32 k0_t1
  let v173 : Index := Scalar.indexCast arg16
  let c0_124 : Index := 0#32
  ![6, v173.toNat, 0]
def k0_off22 (k0_t1 : Fin k0_t1_loop.trips) : Fin 3 → Nat :=
  let c7_126 : Index := 7#32
  let c0_127 : Index := 0#32
  let c0_i32 : BitVec 32 := 0#32
  let c1_i32 : BitVec 32 := 1#32
  let arg16 : BitVec 32 := Scf.iv c0_i32 c1_i32 k0_t1
  let v181 : Index := Scalar.indexCast arg16
  ![7, 0, v181.toNat]
def k0_off23 (v182 : BitVec 32) : Fin 2 → Nat :=
  let v183 : Index := Scalar.indexCast v182
  let c0_128 : Index := 0#32
  ![v183.toNat, 0]

def k0_chk8 (v182 : BitVec 32) : Prop :=
  (∀ a, (k0_off23 v182) a + S1x64.size a ≤ S64x64.size a)
theorem k0_off23_inb : ∀ (v182 : BitVec 32) (k0_hw8 : k0_chk8 v182), ∀ a, (k0_off23 v182) a + S1x64.size a ≤ S64x64.size a := fun v182 k0_hw8 => k0_hw8

def k0_off24 (k0_t1 : Fin k0_t1_loop.trips) : Fin 3 → Nat :=
  let c7_129 : Index := 7#32
  let c0_i32 : BitVec 32 := 0#32
  let c1_i32 : BitVec 32 := 1#32
  let arg16 : BitVec 32 := Scf.iv c0_i32 c1_i32 k0_t1
  let v185 : Index := Scalar.indexCast arg16
  let c0_130 : Index := 0#32
  ![7, v185.toNat, 0]
def k0_off25 (k0_t1 : Fin k0_t1_loop.trips) : Fin 3 → Nat :=
  let c8_132 : Index := 8#32
  let c0_133 : Index := 0#32
  let c0_i32 : BitVec 32 := 0#32
  let c1_i32 : BitVec 32 := 1#32
  let arg16 : BitVec 32 := Scf.iv c0_i32 c1_i32 k0_t1
  let v193 : Index := Scalar.indexCast arg16
  ![8, 0, v193.toNat]
def k0_off26 (v194 : BitVec 32) : Fin 2 → Nat :=
  let v195 : Index := Scalar.indexCast v194
  let c0_134 : Index := 0#32
  ![v195.toNat, 0]

def k0_chk9 (v194 : BitVec 32) : Prop :=
  (∀ a, (k0_off26 v194) a + S1x64.size a ≤ S64x64.size a)
theorem k0_off26_inb : ∀ (v194 : BitVec 32) (k0_hw9 : k0_chk9 v194), ∀ a, (k0_off26 v194) a + S1x64.size a ≤ S64x64.size a := fun v194 k0_hw9 => k0_hw9

def k0_off27 (k0_t1 : Fin k0_t1_loop.trips) : Fin 3 → Nat :=
  let c8_135 : Index := 8#32
  let c0_i32 : BitVec 32 := 0#32
  let c1_i32 : BitVec 32 := 1#32
  let arg16 : BitVec 32 := Scf.iv c0_i32 c1_i32 k0_t1
  let v197 : Index := Scalar.indexCast arg16
  let c0_136 : Index := 0#32
  ![8, v197.toNat, 0]
def k0_off28 (k0_t1 : Fin k0_t1_loop.trips) : Fin 3 → Nat :=
  let c9_138 : Index := 9#32
  let c0_139 : Index := 0#32
  let c0_i32 : BitVec 32 := 0#32
  let c1_i32 : BitVec 32 := 1#32
  let arg16 : BitVec 32 := Scf.iv c0_i32 c1_i32 k0_t1
  let v205 : Index := Scalar.indexCast arg16
  ![9, 0, v205.toNat]
def k0_off29 (v206 : BitVec 32) : Fin 2 → Nat :=
  let v207 : Index := Scalar.indexCast v206
  let c0_140 : Index := 0#32
  ![v207.toNat, 0]

def k0_chk10 (v206 : BitVec 32) : Prop :=
  (∀ a, (k0_off29 v206) a + S1x64.size a ≤ S64x64.size a)
theorem k0_off29_inb : ∀ (v206 : BitVec 32) (k0_hw10 : k0_chk10 v206), ∀ a, (k0_off29 v206) a + S1x64.size a ≤ S64x64.size a := fun v206 k0_hw10 => k0_hw10

def k0_off30 (k0_t1 : Fin k0_t1_loop.trips) : Fin 3 → Nat :=
  let c9_141 : Index := 9#32
  let c0_i32 : BitVec 32 := 0#32
  let c1_i32 : BitVec 32 := 1#32
  let arg16 : BitVec 32 := Scf.iv c0_i32 c1_i32 k0_t1
  let v209 : Index := Scalar.indexCast arg16
  let c0_142 : Index := 0#32
  ![9, v209.toNat, 0]
def k0_off31 (k0_t1 : Fin k0_t1_loop.trips) : Fin 3 → Nat :=
  let c10_144 : Index := 10#32
  let c0_145 : Index := 0#32
  let c0_i32 : BitVec 32 := 0#32
  let c1_i32 : BitVec 32 := 1#32
  let arg16 : BitVec 32 := Scf.iv c0_i32 c1_i32 k0_t1
  let v217 : Index := Scalar.indexCast arg16
  ![10, 0, v217.toNat]
def k0_off32 (v218 : BitVec 32) : Fin 2 → Nat :=
  let v219 : Index := Scalar.indexCast v218
  let c0_146 : Index := 0#32
  ![v219.toNat, 0]

def k0_chk11 (v218 : BitVec 32) : Prop :=
  (∀ a, (k0_off32 v218) a + S1x64.size a ≤ S64x64.size a)
theorem k0_off32_inb : ∀ (v218 : BitVec 32) (k0_hw11 : k0_chk11 v218), ∀ a, (k0_off32 v218) a + S1x64.size a ≤ S64x64.size a := fun v218 k0_hw11 => k0_hw11

def k0_off33 (k0_t1 : Fin k0_t1_loop.trips) : Fin 3 → Nat :=
  let c10_147 : Index := 10#32
  let c0_i32 : BitVec 32 := 0#32
  let c1_i32 : BitVec 32 := 1#32
  let arg16 : BitVec 32 := Scf.iv c0_i32 c1_i32 k0_t1
  let v221 : Index := Scalar.indexCast arg16
  let c0_148 : Index := 0#32
  ![10, v221.toNat, 0]
def k0_off34 (k0_t1 : Fin k0_t1_loop.trips) : Fin 3 → Nat :=
  let c11_150 : Index := 11#32
  let c0_151 : Index := 0#32
  let c0_i32 : BitVec 32 := 0#32
  let c1_i32 : BitVec 32 := 1#32
  let arg16 : BitVec 32 := Scf.iv c0_i32 c1_i32 k0_t1
  let v229 : Index := Scalar.indexCast arg16
  ![11, 0, v229.toNat]
def k0_off35 (v230 : BitVec 32) : Fin 2 → Nat :=
  let v231 : Index := Scalar.indexCast v230
  let c0_152 : Index := 0#32
  ![v231.toNat, 0]

def k0_chk12 (v230 : BitVec 32) : Prop :=
  (∀ a, (k0_off35 v230) a + S1x64.size a ≤ S64x64.size a)
theorem k0_off35_inb : ∀ (v230 : BitVec 32) (k0_hw12 : k0_chk12 v230), ∀ a, (k0_off35 v230) a + S1x64.size a ≤ S64x64.size a := fun v230 k0_hw12 => k0_hw12

def k0_off36 (k0_t1 : Fin k0_t1_loop.trips) : Fin 3 → Nat :=
  let c11_153 : Index := 11#32
  let c0_i32 : BitVec 32 := 0#32
  let c1_i32 : BitVec 32 := 1#32
  let arg16 : BitVec 32 := Scf.iv c0_i32 c1_i32 k0_t1
  let v233 : Index := Scalar.indexCast arg16
  let c0_154 : Index := 0#32
  ![11, v233.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S12x1x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S12x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Attend.lean ====
abbrev S12x2048x64 : Shape := ⟨3, ![12, 2048, 64]⟩
abbrev S12x64x64 : Shape := ⟨3, ![12, 64, 64]⟩
abbrev S1x256x64 : Shape := ⟨3, ![1, 256, 64]⟩
abbrev S1x2048x64 : Shape := ⟨3, ![1, 2048, 64]⟩
abbrev S1x64x64 : Shape := ⟨3, ![1, 64, 64]⟩
abbrev S256x64 : Shape := ⟨2, ![256, 64]⟩
abbrev S64x64 : Shape := ⟨2, ![64, 64]⟩
abbrev S256 : Shape := ⟨1, ![256]⟩
abbrev S256x1 : Shape := ⟨2, ![256, 1]⟩
abbrev S256x48 : Shape := ⟨2, ![256, 48]⟩
abbrev S256x16 : Shape := ⟨2, ![256, 16]⟩
abbrev S256x32 : Shape := ⟨2, ![256, 32]⟩
abbrev S256x56 : Shape := ⟨2, ![256, 56]⟩
abbrev S256x8 : Shape := ⟨2, ![256, 8]⟩
abbrev S256x60 : Shape := ⟨2, ![256, 60]⟩
abbrev S256x4 : Shape := ⟨2, ![256, 4]⟩
abbrev S256x63 : Shape := ⟨2, ![256, 63]⟩
abbrev S256x62 : Shape := ⟨2, ![256, 62]⟩
abbrev S256x2 : Shape := ⟨2, ![256, 2]⟩
abbrev S1x512x64 : Shape := ⟨3, ![1, 512, 64]⟩
abbrev S512x64 : Shape := ⟨2, ![512, 64]⟩
abbrev S512 : Shape := ⟨1, ![512]⟩
abbrev S512x1 : Shape := ⟨2, ![512, 1]⟩
abbrev S256x512 : Shape := ⟨2, ![256, 512]⟩

abbrev nBuf : Space → Nat
  | .hbm => 5
  | .vmem => 10
  | .smem => 0
  | _ => 0

abbrev bufTy : (tb : Table) → Fin (tcTables nBuf tb) → BufTy
  | .hbm, ⟨0, _⟩ => ⟨S12x2048x64, .f32⟩
  | .hbm, ⟨1, _⟩ => ⟨S12x2048x64, .f32⟩
  | .hbm, ⟨2, _⟩ => ⟨S12x2048x64, .f32⟩
  | .hbm, ⟨3, _⟩ => ⟨S12x64x64, .f32⟩
  | .hbm, ⟨4, _⟩ => ⟨S12x2048x64, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x64x64, .f32⟩
  | .local _ .vmem, ⟨7, _⟩ => ⟨S1x64x64, .f32⟩
  | .local _ .vmem, ⟨8, _⟩ => ⟨S1x256x64, .f32⟩
  | .local _ .vmem, ⟨9, _⟩ => ⟨S1x256x64, .f32⟩
  | _, _ => ⟨S12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 8], ![false, false]⟩

@[reducible] def k0_t1_loop : Scf.Loop 32 :=
  let c0_i32 : BitVec 32 := 0#32
  let c4_i32 : BitVec 32 := 4#32
  let v101 : BitVec 32 := Scalar.addi c0_i32 c4_i32
  let c1_i32 : BitVec 32 := 1#32
  ⟨c0_i32, v101, c1_i32⟩
def k0_off1 (k0_t1 : Fin k0_t1_loop.trips) : Fin 3 → Nat :=
  let c0_18 : Index := 0#32
  let c0_i32 : BitVec 32 := 0#32
  let c1_i32 : BitVec 32 := 1#32
  let arg7 : BitVec 32 := Scf.iv c0_i32 c1_i32 k0_t1
  let c512_i32 : BitVec 32 := 512#32
  let v106 : BitVec 32 := Scalar.muli arg7 c512_i32
  let v107 : Index := Scalar.indexCast v106
  let c0_19 : Index := 0#32
  ![0, v107.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
abbrev S1x12x2048x64 : Shape := ⟨4, ![1, 12, 2048, 64]⟩
abbrev S12x2048x64 : Shape := ⟨3, ![12, 2048, 64]⟩
abbrev S12x1x2048 : Shape := ⟨3, ![12, 1, 2048]⟩
abbrev S1x2048x64 : Shape := ⟨3, ![1, 2048, 64]⟩
abbrev S1x1x2048 : Shape := ⟨3, ![1, 1, 2048]⟩
abbrev S2048x64 : Shape := ⟨2, ![2048, 64]⟩
abbrev S64x64 : Shape := ⟨2, ![64, 64]⟩
abbrev S2048 : Shape := ⟨1, ![2048]⟩
abbrev S2048x1 : Shape := ⟨2, ![2048, 1]⟩
abbrev S64x1 : Shape := ⟨2, ![64, 1]⟩
abbrev S1x64 : Shape := ⟨2, ![1, 64]⟩
abbrev S1x2048 : Shape := ⟨2, ![1, 2048]⟩
abbrev S12x64x64 : Shape := ⟨3, ![12, 64, 64]⟩
abbrev S1x1x1 : Shape := ⟨3, ![1, 1, 1]⟩
abbrev S1x1x64 : Shape := ⟨3, ![1, 1, 64]⟩
abbrev S1x64x64 : Shape := ⟨3, ![1, 64, 64]⟩
abbrev S1x256x64 : Shape := ⟨3, ![1, 256, 64]⟩
abbrev S256x64 : Shape := ⟨2, ![256, 64]⟩
abbrev S256 : Shape := ⟨1, ![256]⟩
abbrev S256x1 : Shape := ⟨2, ![256, 1]⟩
abbrev S256x48 : Shape := ⟨2, ![256, 48]⟩
abbrev S256x16 : Shape := ⟨2, ![256, 16]⟩
abbrev S256x32 : Shape := ⟨2, ![256, 32]⟩
abbrev S256x56 : Shape := ⟨2, ![256, 56]⟩
abbrev S256x8 : Shape := ⟨2, ![256, 8]⟩
abbrev S256x60 : Shape := ⟨2, ![256, 60]⟩
abbrev S256x4 : Shape := ⟨2, ![256, 4]⟩
abbrev S256x63 : Shape := ⟨2, ![256, 63]⟩
abbrev S256x62 : Shape := ⟨2, ![256, 62]⟩
abbrev S256x2 : Shape := ⟨2, ![256, 2]⟩
abbrev S1x512x64 : Shape := ⟨3, ![1, 512, 64]⟩
abbrev S512x64 : Shape := ⟨2, ![512, 64]⟩
abbrev S512 : Shape := ⟨1, ![512]⟩
abbrev S512x1 : Shape := ⟨2, ![512, 1]⟩
abbrev S256x512 : Shape := ⟨2, ![256, 512]⟩

abbrev nBuf : Space → Nat
  | .hbm => 10
  | .vmem => 28
  | .smem => 1
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x64, .f32⟩
  | .hbm, ⟨3, _⟩ => ⟨S12x2048x64, .f32⟩
  | .hbm, ⟨4, _⟩ => ⟨S12x2048x64, .f32⟩
  | .hbm, ⟨5, _⟩ => ⟨S12x2048x64, .f32⟩
  | .hbm, ⟨6, _⟩ => ⟨S12x1x2048, .i32⟩
  | .hbm, ⟨7, _⟩ => ⟨S12x64x64, .f32⟩
  | .hbm, ⟨8, _⟩ => ⟨S12x2048x64, .f32⟩
  | .hbm, ⟨9, _⟩ => ⟨S1x12x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x1x2048, .i32⟩
  | .local _ .vmem, ⟨3, _⟩ => ⟨S1x1x2048, .i32⟩
  | .local _ .vmem, ⟨4, _⟩ => ⟨S12x2048x64, .f32⟩
  | .local _ .vmem, ⟨5, _⟩ => ⟨S12x64x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64x64, .f32⟩
  | .local _ .vmem, ⟨10, _⟩ => ⟨S64x64, .f32⟩
  | .local _ .vmem, ⟨11, _⟩ => ⟨S64x64, .f32⟩
  | .local _ .vmem, ⟨12, _⟩ => ⟨S64x64, .f32⟩
  | .local _ .vmem, ⟨13, _⟩ => ⟨S64x64, .f32⟩
  | .local _ .vmem, ⟨14, _⟩ => ⟨S64x64, .f32⟩
  | .local _ .vmem, ⟨15, _⟩ => ⟨S64x64, .f32⟩
  | .local _ .vmem, ⟨16, _⟩ => ⟨S64x64, .f32⟩
  | .local _ .vmem, ⟨17, _⟩ => ⟨S64x64, .f32⟩
  | .local _ .vmem, ⟨18, _⟩ => ⟨S1x256x64, .f32⟩
  | .local _ .vmem, ⟨19, _⟩ => ⟨S1x256x64, .f32⟩
  | .local _ .vmem, ⟨20, _⟩ => ⟨S1x2048x64, .f32⟩
  | .local _ .vmem, ⟨21, _⟩ => ⟨S1x2048x64, .f32⟩
  | .local _ .vmem, ⟨22, _⟩ => ⟨S1x2048x64, .f32⟩
  | .local _ .vmem, ⟨23, _⟩ => ⟨S1x2048x64, .f32⟩
  | .local _ .vmem, ⟨24, _⟩ => ⟨S1x64x64, .f32⟩
  | .local _ .vmem, ⟨25, _⟩ => ⟨S1x64x64, .f32⟩
  | .local _ .vmem, ⟨26, _⟩ => ⟨S1x256x64, .f32⟩
  | .local _ .vmem, ⟨27, _⟩ => ⟨S1x256x64, .f32⟩
  | .local _ .smem, ⟨0, _⟩ => ⟨S12x1x2048, .i32⟩
  | _, _ => ⟨S1x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_scratch0 : Ref sig .tc := ⟨.vmem, 6, rfl⟩
abbrev cc1_scratch1 : Ref sig .tc := ⟨.vmem, 7, rfl⟩
abbrev cc1_scratch2 : Ref sig .tc := ⟨.vmem, 8, rfl⟩
abbrev cc1_scratch3 : Ref sig .tc := ⟨.vmem, 9, rfl⟩
abbrev cc1_scratch4 : Ref sig .tc := ⟨.vmem, 10, rfl⟩
abbrev cc1_scratch5 : Ref sig .tc := ⟨.vmem, 11, rfl⟩
abbrev cc1_scratch6 : Ref sig .tc := ⟨.vmem, 12, rfl⟩
abbrev cc1_scratch7 : Ref sig .tc := ⟨.vmem, 13, rfl⟩
abbrev cc1_scratch8 : Ref sig .tc := ⟨.vmem, 14, rfl⟩
abbrev cc1_scratch9 : Ref sig .tc := ⟨.vmem, 15, rfl⟩
abbrev cc1_scratch10 : Ref sig .tc := ⟨.vmem, 16, rfl⟩
abbrev cc1_scratch11 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc2_sem0_0 : DmaSem sig := 7
abbrev cc2_sem0_1 : DmaSem sig := 8
abbrev cc2_sem1_0 : DmaSem sig := 9
abbrev cc2_sem1_1 : DmaSem sig := 10
abbrev cc2_sem2_0 : DmaSem sig := 11
abbrev cc2_sem2_1 : DmaSem sig := 12
abbrev cc2_sem3_0 : DmaSem sig := 13
abbrev cc2_sem3_1 : DmaSem sig := 14
abbrev cc2_sem4_0 : DmaSem sig := 15
abbrev cc2_sem4_1 : DmaSem sig := 16

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

@[reducible] def k1_t1_loop : Scf.Loop 32 :=
  let c0_i32 : BitVec 32 := 0#32
  let c2048_i32 : BitVec 32 := 2048#32
  let v48 : BitVec 32 := Scalar.addi c0_i32 c2048_i32
  let c1_i32 : BitVec 32 := 1#32
  ⟨c0_i32, v48, c1_i32⟩
def k1_off1 (k1_t1 : Fin k1_t1_loop.trips) : Fin 3 → Nat :=
  let c0_84 : Index := 0#32
  let c0_85 : Index := 0#32
  let c0_i32 : BitVec 32 := 0#32
  let c1_i32 : BitVec 32 := 1#32
  let arg16 : BitVec 32 := Scf.iv c0_i32 c1_i32 k1_t1
  let v97 : Index := Scalar.indexCast arg16
  ![0, 0, v97.toNat]
def k1_off2 (v98 : BitVec 32) : Fin 2 → Nat :=
  let v99 : Index := Scalar.indexCast v98
  let c0_86 : Index := 0#32
  ![v99.toNat, 0]

def k1_chk1 (v98 : BitVec 32) : Prop :=
  (∀ a, (k1_off2 v98) a + S1x64.size a ≤ S64x64.size a)
theorem k1_off2_inb : ∀ (v98 : BitVec 32) (k1_hw1 : k1_chk1 v98), ∀ a, (k1_off2 v98) a + S1x64.size a ≤ S64x64.size a := fun v98 k1_hw1 => k1_hw1

def k1_off3 (k1_t1 : Fin k1_t1_loop.trips) : Fin 3 → Nat :=
  let c0_87 : Index := 0#32
  let c0_i32 : BitVec 32 := 0#32
  let c1_i32 : BitVec 32 := 1#32
  let arg16 : BitVec 32 := Scf.iv c0_i32 c1_i32 k1_t1
  let v101 : Index := Scalar.indexCast arg16
  let c0_88 : Index := 0#32
  ![0, v101.toNat, 0]
def k1_off4 (k1_t1 : Fin k1_t1_loop.trips) : Fin 3 → Nat :=
  let c1_90 : Index := 1#32
  let c0_91 : Index := 0#32
  let c0_i32 : BitVec 32 := 0#32
  let c1_i32 : BitVec 32 := 1#32
  let arg16 : BitVec 32 := Scf.iv c0_i32 c1_i32 k1_t1
  let v109 : Index := Scalar.indexCast arg16
  ![1, 0, v109.toNat]
def k1_off5 (v110 : BitVec 32) : Fin 2 → Nat :=
  let v111 : Index := Scalar.indexCast v110
  let c0_92 : Index := 0#32
  ![v111.toNat, 0]

def k1_chk2 (v110 : BitVec 32) : Prop :=
  (∀ a, (k1_off5 v110) a + S1x64.size a ≤ S64x64.size a)
theorem k1_off5_inb : ∀ (v110 : BitVec 32) (k1_hw2 : k1_chk2 v110), ∀ a, (k1_off5 v110) a + S1x64.size a ≤ S64x64.size a := fun v110 k1_hw2 => k1_hw2

def k1_off6 (k1_t1 : Fin k1_t1_loop.trips) : Fin 3 → Nat :=
  let c1_93 : Index := 1#32
  let c0_i32 : BitVec 32 := 0#32
  let c1_i32 : BitVec 32 := 1#32
  let arg16 : BitVec 32 := Scf.iv c0_i32 c1_i32 k1_t1
  let v113 : Index := Scalar.indexCast arg16
  let c0_94 : Index := 0#32
  ![1, v113.toNat, 0]
def k1_off7 (k1_t1 : Fin k1_t1_loop.trips) : Fin 3 → Nat :=
  let c2_96 : Index := 2#32
  let c0_97 : Index := 0#32
  let c0_i32 : BitVec 32 := 0#32
  let c1_i32 : BitVec 32 := 1#32
  let arg16 : BitVec 32 := Scf.iv c0_i32 c1_i32 k1_t1
  let v121 : Index := Scalar.indexCast arg16
  ![2, 0, v121.toNat]
def k1_off8 (v122 : BitVec 32) : Fin 2 → Nat :=
  let v123 : Index := Scalar.indexCast v122
  let c0_98 : Index := 0#32
  ![v123.toNat, 0]

def k1_chk3 (v122 : BitVec 32) : Prop :=
  (∀ a, (k1_off8 v122) a + S1x64.size a ≤ S64x64.size a)
theorem k1_off8_inb : ∀ (v122 : BitVec 32) (k1_hw3 : k1_chk3 v122), ∀ a, (k1_off8 v122) a + S1x64.size a ≤ S64x64.size a := fun v122 k1_hw3 => k1_hw3

def k1_off9 (k1_t1 : Fin k1_t1_loop.trips) : Fin 3 → Nat :=
  let c2_99 : Index := 2#32
  let c0_i32 : BitVec 32 := 0#32
  let c1_i32 : BitVec 32 := 1#32
  let arg16 : BitVec 32 := Scf.iv c0_i32 c1_i32 k1_t1
  let v125 : Index := Scalar.indexCast arg16
  let c0_100 : Index := 0#32
  ![2, v125.toNat, 0]
def k1_off10 (k1_t1 : Fin k1_t1_loop.trips) : Fin 3 → Nat :=
  let c3_102 : Index := 3#32
  let c0_103 : Index := 0#32
  let c0_i32 : BitVec 32 := 0#32
  let c1_i32 : BitVec 32 := 1#32
  let arg16 : BitVec 32 := Scf.iv c0_i32 c1_i32 k1_t1
  let v133 : Index := Scalar.indexCast arg16
  ![3, 0, v133.toNat]
def k1_off11 (v134 : BitVec 32) : Fin 2 → Nat :=
  let v135 : Index := Scalar.indexCast v134
  let c0_104 : Index := 0#32
  ![v135.toNat, 0]

def k1_chk4 (v134 : BitVec 32) : Prop :=
  (∀ a, (k1_off11 v134) a + S1x64.size a ≤ S64x64.size a)
theorem k1_off11_inb : ∀ (v134 : BitVec 32) (k1_hw4 : k1_chk4 v134), ∀ a, (k1_off11 v134) a + S1x64.size a ≤ S64x64.size a := fun v134 k1_hw4 => k1_hw4

def k1_off12 (k1_t1 : Fin k1_t1_loop.trips) : Fin 3 → Nat :=
  let c3_105 : Index := 3#32
  let c0_i32 : BitVec 32 := 0#32
  let c1_i32 : BitVec 32 := 1#32
  let arg16 : BitVec 32 := Scf.iv c0_i32 c1_i32 k1_t1
  let v137 : Index := Scalar.indexCast arg16
  let c0_106 : Index := 0#32
  ![3, v137.toNat, 0]
def k1_off13 (k1_t1 : Fin k1_t1_loop.trips) : Fin 3 → Nat :=
  let c4_108 : Index := 4#32
  let c0_109 : Index := 0#32
  let c0_i32 : BitVec 32 := 0#32
  let c1_i32 : BitVec 32 := 1#32
  let arg16 : BitVec 32 := Scf.iv c0_i32 c1_i32 k1_t1
  let v145 : Index := Scalar.indexCast arg16
  ![4, 0, v145.toNat]
def k1_off14 (v146 : BitVec 32) : Fin 2 → Nat :=
  let v147 : Index := Scalar.indexCast v146
  let c0_110 : Index := 0#32
  ![v147.toNat, 0]

def k1_chk5 (v146 : BitVec 32) : Prop :=
  (∀ a, (k1_off14 v146) a + S1x64.size a ≤ S64x64.size a)
theorem k1_off14_inb : ∀ (v146 : BitVec 32) (k1_hw5 : k1_chk5 v146), ∀ a, (k1_off14 v146) a + S1x64.size a ≤ S64x64.size a := fun v146 k1_hw5 => k1_hw5

def k1_off15 (k1_t1 : Fin k1_t1_loop.trips) : Fin 3 → Nat :=
  let c4_111 : Index := 4#32
  let c0_i32 : BitVec 32 := 0#32
  let c1_i32 : BitVec 32 := 1#32
  let arg16 : BitVec 32 := Scf.iv c0_i32 c1_i32 k1_t1
  let v149 : Index := Scalar.indexCast arg16
  let c0_112 : Index := 0#32
  ![4, v149.toNat, 0]
def k1_off16 (k1_t1 : Fin k1_t1_loop.trips) : Fin 3 → Nat :=
  let c5_114 : Index := 5#32
  let c0_115 : Index := 0#32
  let c0_i32 : BitVec 32 := 0#32
  let c1_i32 : BitVec 32 := 1#32
  let arg16 : BitVec 32 := Scf.iv c0_i32 c1_i32 k1_t1
  let v157 : Index := Scalar.indexCast arg16
  ![5, 0, v157.toNat]
def k1_off17 (v158 : BitVec 32) : Fin 2 → Nat :=
  let v159 : Index := Scalar.indexCast v158
  let c0_116 : Index := 0#32
  ![v159.toNat, 0]

def k1_chk6 (v158 : BitVec 32) : Prop :=
  (∀ a, (k1_off17 v158) a + S1x64.size a ≤ S64x64.size a)
theorem k1_off17_inb : ∀ (v158 : BitVec 32) (k1_hw6 : k1_chk6 v158), ∀ a, (k1_off17 v158) a + S1x64.size a ≤ S64x64.size a := fun v158 k1_hw6 => k1_hw6

def k1_off18 (k1_t1 : Fin k1_t1_loop.trips) : Fin 3 → Nat :=
  let c5_117 : Index := 5#32
  let c0_i32 : BitVec 32 := 0#32
  let c1_i32 : BitVec 32 := 1#32
  let arg16 : BitVec 32 := Scf.iv c0_i32 c1_i32 k1_t1
  let v161 : Index := Scalar.indexCast arg16
  let c0_118 : Index := 0#32
  ![5, v161.toNat, 0]
def k1_off19 (k1_t1 : Fin k1_t1_loop.trips) : Fin 3 → Nat :=
  let c6_120 : Index := 6#32
  let c0_121 : Index := 0#32
  let c0_i32 : BitVec 32 := 0#32
  let c1_i32 : BitVec 32 := 1#32
  let arg16 : BitVec 32 := Scf.iv c0_i32 c1_i32 k1_t1
  let v169 : Index := Scalar.indexCast arg16
  ![6, 0, v169.toNat]
def k1_off20 (v170 : BitVec 32) : Fin 2 → Nat :=
  let v171 : Index := Scalar.indexCast v170
  let c0_122 : Index := 0#32
  ![v171.toNat, 0]

def k1_chk7 (v170 : BitVec 32) : Prop :=
  (∀ a, (k1_off20 v170) a + S1x64.size a ≤ S64x64.size a)
theorem k1_off20_inb : ∀ (v170 : BitVec 32) (k1_hw7 : k1_chk7 v170), ∀ a, (k1_off20 v170) a + S1x64.size a ≤ S64x64.size a := fun v170 k1_hw7 => k1_hw7

def k1_off21 (k1_t1 : Fin k1_t1_loop.trips) : Fin 3 → Nat :=
  let c6_123 : Index := 6#32
  let c0_i32 : BitVec 32 := 0#32
  let c1_i32 : BitVec 32 := 1#32
  let arg16 : BitVec 32 := Scf.iv c0_i32 c1_i32 k1_t1
  let v173 : Index := Scalar.indexCast arg16
  let c0_124 : Index := 0#32
  ![6, v173.toNat, 0]
def k1_off22 (k1_t1 : Fin k1_t1_loop.trips) : Fin 3 → Nat :=
  let c7_126 : Index := 7#32
  let c0_127 : Index := 0#32
  let c0_i32 : BitVec 32 := 0#32
  let c1_i32 : BitVec 32 := 1#32
  let arg16 : BitVec 32 := Scf.iv c0_i32 c1_i32 k1_t1
  let v181 : Index := Scalar.indexCast arg16
  ![7, 0, v181.toNat]
def k1_off23 (v182 : BitVec 32) : Fin 2 → Nat :=
  let v183 : Index := Scalar.indexCast v182
  let c0_128 : Index := 0#32
  ![v183.toNat, 0]

def k1_chk8 (v182 : BitVec 32) : Prop :=
  (∀ a, (k1_off23 v182) a + S1x64.size a ≤ S64x64.size a)
theorem k1_off23_inb : ∀ (v182 : BitVec 32) (k1_hw8 : k1_chk8 v182), ∀ a, (k1_off23 v182) a + S1x64.size a ≤ S64x64.size a := fun v182 k1_hw8 => k1_hw8

def k1_off24 (k1_t1 : Fin k1_t1_loop.trips) : Fin 3 → Nat :=
  let c7_129 : Index := 7#32
  let c0_i32 : BitVec 32 := 0#32
  let c1_i32 : BitVec 32 := 1#32
  let arg16 : BitVec 32 := Scf.iv c0_i32 c1_i32 k1_t1
  let v185 : Index := Scalar.indexCast arg16
  let c0_130 : Index := 0#32
  ![7, v185.toNat, 0]
def k1_off25 (k1_t1 : Fin k1_t1_loop.trips) : Fin 3 → Nat :=
  let c8_132 : Index := 8#32
  let c0_133 : Index := 0#32
  let c0_i32 : BitVec 32 := 0#32
  let c1_i32 : BitVec 32 := 1#32
  let arg16 : BitVec 32 := Scf.iv c0_i32 c1_i32 k1_t1
  let v193 : Index := Scalar.indexCast arg16
  ![8, 0, v193.toNat]
def k1_off26 (v194 : BitVec 32) : Fin 2 → Nat :=
  let v195 : Index := Scalar.indexCast v194
  let c0_134 : Index := 0#32
  ![v195.toNat, 0]

def k1_chk9 (v194 : BitVec 32) : Prop :=
  (∀ a, (k1_off26 v194) a + S1x64.size a ≤ S64x64.size a)
theorem k1_off26_inb : ∀ (v194 : BitVec 32) (k1_hw9 : k1_chk9 v194), ∀ a, (k1_off26 v194) a + S1x64.size a ≤ S64x64.size a := fun v194 k1_hw9 => k1_hw9

def k1_off27 (k1_t1 : Fin k1_t1_loop.trips) : Fin 3 → Nat :=
  let c8_135 : Index := 8#32
  let c0_i32 : BitVec 32 := 0#32
  let c1_i32 : BitVec 32 := 1#32
  let arg16 : BitVec 32 := Scf.iv c0_i32 c1_i32 k1_t1
  let v197 : Index := Scalar.indexCast arg16
  let c0_136 : Index := 0#32
  ![8, v197.toNat, 0]
def k1_off28 (k1_t1 : Fin k1_t1_loop.trips) : Fin 3 → Nat :=
  let c9_138 : Index := 9#32
  let c0_139 : Index := 0#32
  let c0_i32 : BitVec 32 := 0#32
  let c1_i32 : BitVec 32 := 1#32
  let arg16 : BitVec 32 := Scf.iv c0_i32 c1_i32 k1_t1
  let v205 : Index := Scalar.indexCast arg16
  ![9, 0, v205.toNat]
def k1_off29 (v206 : BitVec 32) : Fin 2 → Nat :=
  let v207 : Index := Scalar.indexCast v206
  let c0_140 : Index := 0#32
  ![v207.toNat, 0]

def k1_chk10 (v206 : BitVec 32) : Prop :=
  (∀ a, (k1_off29 v206) a + S1x64.size a ≤ S64x64.size a)
theorem k1_off29_inb : ∀ (v206 : BitVec 32) (k1_hw10 : k1_chk10 v206), ∀ a, (k1_off29 v206) a + S1x64.size a ≤ S64x64.size a := fun v206 k1_hw10 => k1_hw10

def k1_off30 (k1_t1 : Fin k1_t1_loop.trips) : Fin 3 → Nat :=
  let c9_141 : Index := 9#32
  let c0_i32 : BitVec 32 := 0#32
  let c1_i32 : BitVec 32 := 1#32
  let arg16 : BitVec 32 := Scf.iv c0_i32 c1_i32 k1_t1
  let v209 : Index := Scalar.indexCast arg16
  let c0_142 : Index := 0#32
  ![9, v209.toNat, 0]
def k1_off31 (k1_t1 : Fin k1_t1_loop.trips) : Fin 3 → Nat :=
  let c10_144 : Index := 10#32
  let c0_145 : Index := 0#32
  let c0_i32 : BitVec 32 := 0#32
  let c1_i32 : BitVec 32 := 1#32
  let arg16 : BitVec 32 := Scf.iv c0_i32 c1_i32 k1_t1
  let v217 : Index := Scalar.indexCast arg16
  ![10, 0, v217.toNat]
def k1_off32 (v218 : BitVec 32) : Fin 2 → Nat :=
  let v219 : Index := Scalar.indexCast v218
  let c0_146 : Index := 0#32
  ![v219.toNat, 0]

def k1_chk11 (v218 : BitVec 32) : Prop :=
  (∀ a, (k1_off32 v218) a + S1x64.size a ≤ S64x64.size a)
theorem k1_off32_inb : ∀ (v218 : BitVec 32) (k1_hw11 : k1_chk11 v218), ∀ a, (k1_off32 v218) a + S1x64.size a ≤ S64x64.size a := fun v218 k1_hw11 => k1_hw11

def k1_off33 (k1_t1 : Fin k1_t1_loop.trips) : Fin 3 → Nat :=
  let c10_147 : Index := 10#32
  let c0_i32 : BitVec 32 := 0#32
  let c1_i32 : BitVec 32 := 1#32
  let arg16 : BitVec 32 := Scf.iv c0_i32 c1_i32 k1_t1
  let v221 : Index := Scalar.indexCast arg16
  let c0_148 : Index := 0#32
  ![10, v221.toNat, 0]
def k1_off34 (k1_t1 : Fin k1_t1_loop.trips) : Fin 3 → Nat :=
  let c11_150 : Index := 11#32
  let c0_151 : Index := 0#32
  let c0_i32 : BitVec 32 := 0#32
  let c1_i32 : BitVec 32 := 1#32
  let arg16 : BitVec 32 := Scf.iv c0_i32 c1_i32 k1_t1
  let v229 : Index := Scalar.indexCast arg16
  ![11, 0, v229.toNat]
def k1_off35 (v230 : BitVec 32) : Fin 2 → Nat :=
  let v231 : Index := Scalar.indexCast v230
  let c0_152 : Index := 0#32
  ![v231.toNat, 0]

def k1_chk12 (v230 : BitVec 32) : Prop :=
  (∀ a, (k1_off35 v230) a + S1x64.size a ≤ S64x64.size a)
theorem k1_off35_inb : ∀ (v230 : BitVec 32) (k1_hw12 : k1_chk12 v230), ∀ a, (k1_off35 v230) a + S1x64.size a ≤ S64x64.size a := fun v230 k1_hw12 => k1_hw12

def k1_off36 (k1_t1 : Fin k1_t1_loop.trips) : Fin 3 → Nat :=
  let c11_153 : Index := 11#32
  let c0_i32 : BitVec 32 := 0#32
  let c1_i32 : BitVec 32 := 1#32
  let arg16 : BitVec 32 := Scf.iv c0_i32 c1_i32 k1_t1
  let v233 : Index := Scalar.indexCast arg16
  let c0_154 : Index := 0#32
  ![11, v233.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 1 → Memref sig .tc .smem S12x1x2048 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S12x2048x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S12x64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨2, ![12, 8], ![false, false]⟩

@[reducible] def k2_t1_loop : Scf.Loop 32 :=
  let c0_i32 : BitVec 32 := 0#32
  let c4_i32 : BitVec 32 := 4#32
  let v101 : BitVec 32 := Scalar.addi c0_i32 c4_i32
  let c1_i32 : BitVec 32 := 1#32
  ⟨c0_i32, v101, c1_i32⟩
def k2_off1 (k2_t1 : Fin k2_t1_loop.trips) : Fin 3 → Nat :=
  let c0_18 : Index := 0#32
  let c0_i32 : BitVec 32 := 0#32
  let c1_i32 : BitVec 32 := 1#32
  let arg7 : BitVec 32 := Scf.iv c0_i32 c1_i32 k2_t1
  let c512_i32 : BitVec 32 := 512#32
  let v106 : BitVec 32 := Scalar.muli arg7 c512_i32
  let v107 : Index := Scalar.indexCast v106
  let c0_19 : Index := 0#32
  ![0, v107.toNat, 0]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x64x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x256x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== ReferenceIdeal.lean ====
abbrev S1x12x2048x64 : Shape := ⟨4, ![1, 12, 2048, 64]⟩
abbrev S1x1x1x12x1x2048x1x64 : Shape := ⟨8, ![1, 1, 1, 12, 1, 2048, 1, 64]⟩
abbrev S1x1x1x12x1x2048x12x64 : Shape := ⟨8, ![1, 1, 1, 12, 1, 2048, 12, 64]⟩
abbrev S1x12x2048x768 : Shape := ⟨4, ![1, 12, 2048, 768]⟩
abbrev S_ : Shape := ⟨0, ![]⟩
abbrev S1x12x2048 : Shape := ⟨3, ![1, 12, 2048]⟩
abbrev S1x12x2048x64x1 : Shape := ⟨5, ![1, 12, 2048, 64, 1]⟩
abbrev S1x12x2048x1x64 : Shape := ⟨5, ![1, 12, 2048, 1, 64]⟩
abbrev S1x12x2048x64x64 : Shape := ⟨5, ![1, 12, 2048, 64, 64]⟩
abbrev S1 : Shape := ⟨1, ![1]⟩
abbrev S1x1x1 : Shape := ⟨3, ![1, 1, 1]⟩
abbrev S12 : Shape := ⟨1, ![12]⟩
abbrev S1x12x1 : Shape := ⟨3, ![1, 12, 1]⟩
abbrev S1x12x768x64x64 : Shape := ⟨5, ![1, 12, 768, 64, 64]⟩
abbrev S1x12x2048x1 : Shape := ⟨4, ![1, 12, 2048, 1]⟩
abbrev S1x12x2048x3 : Shape := ⟨4, ![1, 12, 2048, 3]⟩
abbrev S1x12x768x64 : Shape := ⟨4, ![1, 12, 768, 64]⟩
abbrev S1x12x2048x8 : Shape := ⟨4, ![1, 12, 2048, 8]⟩
abbrev S1x1x1x1 : Shape := ⟨4, ![1, 1, 1, 1]⟩
abbrev S1x12x1x1 : Shape := ⟨4, ![1, 12, 1, 1]⟩
abbrev S1x12x2048x8x1 : Shape := ⟨5, ![1, 12, 2048, 8, 1]⟩
abbrev S1x12x2048x8x3 : Shape := ⟨5, ![1, 12, 2048, 8, 3]⟩
abbrev S1x12x2048x8x64x64 : Shape := ⟨6, ![1, 12, 2048, 8, 64, 64]⟩
abbrev S1x12x2048x8x64 : Shape := ⟨5, ![1, 12, 2048, 8, 64]⟩

abbrev nBuf : Space → Nat
  | .hbm => 174
  | .vmem => 0
  | .smem => 0
  | _ => 0

abbrev hbmTy0_0 (i : Nat) : BufTy := match i % 128 with
  | 0 => ⟨S1x12x2048x64, .f32⟩
  | 1 => ⟨S1x12x2048x64, .f32⟩
  | 2 => ⟨S1x12x2048x64, .f32⟩
  | 3 => ⟨S1x1x1x12x1x2048x1x64, .f32⟩
  | 4 => ⟨S1x1x1x12x1x2048x12x64, .f32⟩
  | 5 => ⟨S1x12x2048x768, .f32⟩
  | 6 => ⟨S1x12x2048x768, .f32⟩
  | 7 => ⟨S1x12x2048x768, .i32⟩
  | 8 => ⟨S_, .f32⟩
  | 9 => ⟨S_, .i32⟩
  | 10 => ⟨S1x12x2048, .f32⟩
  | 11 => ⟨S1x12x2048, .i32⟩
  | 12 => ⟨S1x12x2048x64x1, .f32⟩
  | 13 => ⟨S1x12x2048x1x64, .f32⟩
  | 14 => ⟨S1x12x2048x64x64, .f32⟩
  | 15 => ⟨S1x12x2048x64x64, .f32⟩
  | 16 => ⟨S1x12x2048x64x64, .f32⟩
  | 17 => ⟨S1, .i32⟩
  | 18 => ⟨S1x1x1, .i32⟩
  | 19 => ⟨S12, .i32⟩
  | 20 => ⟨S1x12x1, .i32⟩
  | 21 => ⟨S_, .f32⟩
  | 22 => ⟨S1x12x768x64x64, .f32⟩
  | 23 => ⟨S_, .i32⟩
  | 24 => ⟨S1x1x1, .i32⟩
  | 25 => ⟨S1x1x1, .i1⟩
  | 26 => ⟨S_, .i32⟩
  | 27 => ⟨S1x1x1, .i32⟩
  | 28 => ⟨S1x1x1, .i32⟩
  | 29 => ⟨S1x1x1, .i32⟩
  | 30 => ⟨S_, .i32⟩
  | 31 => ⟨S1x12x1, .i32⟩
  | 32 => ⟨S1x12x1, .i1⟩
  | 33 => ⟨S_, .i32⟩
  | 34 => ⟨S1x12x1, .i32⟩
  | 35 => ⟨S1x12x1, .i32⟩
  | 36 => ⟨S1x12x1, .i32⟩
  | 37 => ⟨S_, .i32⟩
  | 38 => ⟨S1x12x2048, .i32⟩
  | 39 => ⟨S1x12x2048, .i1⟩
  | 40 => ⟨S_, .i32⟩
  | 41 => ⟨S1x12x2048, .i32⟩
  | 42 => ⟨S1x12x2048, .i32⟩
  | 43 => ⟨S1x12x2048, .i32⟩
  | 44 => ⟨S1x12x2048, .i32⟩
  | 45 => ⟨S1x12x2048, .i32⟩
  | 46 => ⟨S1x12x2048x1, .i32⟩
  | 47 => ⟨S1x12x2048x1, .i32⟩
  | 48 => ⟨S1x12x2048x1, .i32⟩
  | 49 => ⟨S1x12x2048x3, .i32⟩
  | 50 => ⟨S1x12x768x64x64, .f32⟩
  | 51 => ⟨S_, .f32⟩
  | 52 => ⟨S1x12x768x64, .f32⟩
  | 53 => ⟨S_, .i32⟩
  | 54 => ⟨S1x1x1, .i32⟩
  | 55 => ⟨S1x1x1, .i1⟩
  | 56 => ⟨S_, .i32⟩
  | 57 => ⟨S1x1x1, .i32⟩
  | 58 => ⟨S1x1x1, .i32⟩
  | 59 => ⟨S1x1x1, .i32⟩
  | 60 => ⟨S_, .i32⟩
  | 61 => ⟨S1x12x1, .i32⟩
  | 62 => ⟨S1x12x1, .i1⟩
  | 63 => ⟨S_, .i32⟩
  | 64 => ⟨S1x12x1, .i32⟩
  | 65 => ⟨S1x12x1, .i32⟩
  | 66 => ⟨S1x12x1, .i32⟩
  | 67 => ⟨S_, .i32⟩
  | 68 => ⟨S1x12x2048, .i32⟩
  | 69 => ⟨S1x12x2048, .i1⟩
  | 70 => ⟨S_, .i32⟩
  | 71 => ⟨S1x12x2048, .i32⟩
  | 72 => ⟨S1x12x2048, .i32⟩
  | 73 => ⟨S1x12x2048, .i32⟩
  | 74 => ⟨S1x12x2048, .i32⟩
  | 75 => ⟨S1x12x2048, .i32⟩
  | 76 => ⟨S1x12x2048x1, .i32⟩
  | 77 => ⟨S1x12x2048x1, .i32⟩
  | 78 => ⟨S1x12x2048x1, .i32⟩
  | 79 => ⟨S1x12x2048x3, .i32⟩
  | 80 => ⟨S1x12x768x64, .f32⟩
  | 81 => ⟨S1x1x1x12x1x2048x1x64, .f32⟩
  | 82 => ⟨S1x1x1x12x1x2048x12x64, .f32⟩
  | 83 => ⟨S1x12x2048x768, .f32⟩
  | 84 => ⟨S1x12x2048x768, .f32⟩
  | 85 => ⟨S1x12x2048x8, .f32⟩
  | 86 => ⟨S1x12x2048x8, .i32⟩
  | 87 => ⟨S_, .f32⟩
  | 88 => ⟨S1x12x2048, .f32⟩
  | 89 => ⟨S_, .f32⟩
  | 90 => ⟨S1x12x2048, .f32⟩
  | 91 => ⟨S1x12x2048, .f32⟩
  | 92 => ⟨S1x12x2048x1, .f32⟩
  | 93 => ⟨S1x12x2048x8, .f32⟩
  | 94 => ⟨S1x12x2048x8, .f32⟩
  | 95 => ⟨S1x12x2048x8, .f32⟩
  | 96 => ⟨S_, .f32⟩
  | 97 => ⟨S1x12x2048, .f32⟩
  | 98 => ⟨S1x12x2048x1, .f32⟩
  | 99 => ⟨S1x12x2048x8, .f32⟩
  | 100 => ⟨S1x12x2048x8, .f32⟩
  | 101 => ⟨S1x1x1x1, .i32⟩
  | 102 => ⟨S1x12x1x1, .i32⟩
  | 103 => ⟨S_, .i32⟩
  | 104 => ⟨S1x1x1x1, .i32⟩
  | 105 => ⟨S1x1x1x1, .i1⟩
  | 106 => ⟨S_, .i32⟩
  | 107 => ⟨S1x1x1x1, .i32⟩
  | 108 => ⟨S1x1x1x1, .i32⟩
  | 109 => ⟨S1x1x1x1, .i32⟩
  | 110 => ⟨S_, .i32⟩
  | 111 => ⟨S1x12x1x1, .i32⟩
  | 112 => ⟨S1x12x1x1, .i1⟩
  | 113 => ⟨S_, .i32⟩
  | 114 => ⟨S1x12x1x1, .i32⟩
  | 115 => ⟨S1x12x1x1, .i32⟩
  | 116 => ⟨S1x12x1x1, .i32⟩
  | 117 => ⟨S_, .i32⟩
  | 118 => ⟨S1x12x2048x8, .i32⟩
  | 119 => ⟨S1x12x2048x8, .i1⟩
  | 120 => ⟨S_, .i32⟩
  | 121 => ⟨S1x12x2048x8, .i32⟩
  | 122 => ⟨S1x12x2048x8, .i32⟩
  | 123 => ⟨S1x12x2048x8, .i32⟩
  | 124 => ⟨S1x12x2048x8, .i32⟩
  | 125 => ⟨S1x12x2048x8, .i32⟩
  | 126 => ⟨S1x12x2048x8x1, .i32⟩
  | 127 => ⟨S1x12x2048x8x1, .i32⟩
  | _ => ⟨S1x12x2048x64, .f32⟩

abbrev hbmTy0_1 (i : Nat) : BufTy := match i % 128 with
  | 0 => ⟨S1x12x2048x8x1, .i32⟩
  | 1 => ⟨S1x12x2048x8x3, .i32⟩
  | 2 => ⟨S1x12x2048x8x64x64, .f32⟩
  | 3 => ⟨S1x1x1x1, .i32⟩
  | 4 => ⟨S1x12x1x1, .i32⟩
  | 5 => ⟨S_, .i32⟩
  | 6 => ⟨S1x1x1x1, .i32⟩
  | 7 => ⟨S1x1x1x1, .i1⟩
  | 8 => ⟨S_, .i32⟩
  | 9 => ⟨S1x1x1x1, .i32⟩
  | 10 => ⟨S1x1x1x1, .i32⟩
  | 11 => ⟨S1x1x1x1, .i32⟩
  | 12 => ⟨S_, .i32⟩
  | 13 => ⟨S1x12x1x1, .i32⟩
  | 14 => ⟨S1x12x1x1, .i1⟩
  | 15 => ⟨S_, .i32⟩
  | 16 => ⟨S1x12x1x1, .i32⟩
  | 17 => ⟨S1x12x1x1, .i32⟩
  | 18 => ⟨S1x12x1x1, .i32⟩
  | 19 => ⟨S_, .i32⟩
  | 20 => ⟨S1x12x2048x8, .i32⟩
  | 21 => ⟨S1x12x2048x8, .i1⟩
  | 22 => ⟨S_, .i32⟩
  | 23 => ⟨S1x12x2048x8, .i32⟩
  | 24 => ⟨S1x12x2048x8, .i32⟩
  | 25 => ⟨S1x12x2048x8, .i32⟩
  | 26 => ⟨S1x12x2048x8, .i32⟩
  | 27 => ⟨S1x12x2048x8, .i32⟩
  | 28 => ⟨S1x12x2048x8x1, .i32⟩
  | 29 => ⟨S1x12x2048x8x1, .i32⟩
  | 30 => ⟨S1x12x2048x8x1, .i32⟩
  | 31 => ⟨S1x12x2048x8x3, .i32⟩
  | 32 => ⟨S1x12x2048x8x64, .f32⟩
  | 33 => ⟨S1x12x2048x8x64, .f32⟩
  | 34 => ⟨S1x12x2048x8, .f32⟩
  | 35 => ⟨S1x12x2048x8x1, .f32⟩
  | 36 => ⟨S_, .f32⟩
  | 37 => ⟨S1x12x2048x8x1, .f32⟩
  | 38 => ⟨S1x12x2048x8x1, .f32⟩
  | 39 => ⟨S1x12x2048x8x64, .f32⟩
  | 40 => ⟨S1x12x2048x8x64, .f32⟩
  | 41 => ⟨S1x12x2048x8x1, .f32⟩
  | 42 => ⟨S1x12x2048x8x64, .f32⟩
  | 43 => ⟨S1x12x2048x8x64, .f32⟩
  | 44 => ⟨S_, .f32⟩
  | 45 => ⟨S1x12x2048x64, .f32⟩
  | _ => ⟨S1x12x2048x64, .f32⟩

abbrev hbmTy (i : Nat) : BufTy := match i / 128 with
  | 0 => hbmTy0_0 i
  | 1 => hbmTy0_1 i
  | _ => ⟨S1x12x2048x64, .f32⟩

abbrev bufTy : (tb : Table) → Fin (tcTables nBuf tb) → BufTy
  | .hbm, ⟨i, _⟩ => hbmTy i
  | _, _ => ⟨S1x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_c : Ref sig .tc := ⟨.hbm, 9, rfl⟩
abbrev main_call0_v1_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_c_6 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_8 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_10 : Ref sig .tc := ⟨.hbm, 67, rfl⟩
abbrev main_v48 : Ref sig .tc := ⟨.hbm, 68, rfl⟩
abbrev main_v49 : Ref sig .tc := ⟨.hbm, 69, rfl⟩
abbrev main_c_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_values : Ref sig .tc := ⟨.hbm, 85, rfl⟩
abbrev main_indices : Ref sig .tc := ⟨.hbm, 86, rfl⟩
abbrev main_cst_12 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_15 : Ref sig .tc := ⟨.hbm, 103, rfl⟩
abbrev main_v77 : Ref sig .tc := ⟨.hbm, 104, rfl⟩
abbrev main_v78 : Ref sig .tc := ⟨.hbm, 105, rfl⟩
abbrev main_c_16 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_17 : Ref sig .tc := ⟨.hbm, 110, rfl⟩
abbrev main_v82 : Ref sig .tc := ⟨.hbm, 111, rfl⟩
abbrev main_v83 : Ref sig .tc := ⟨.hbm, 112, rfl⟩
abbrev main_c_18 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_c_19 : Ref sig .tc := ⟨.hbm, 117, rfl⟩
abbrev main_v87 : Ref sig .tc := ⟨.hbm, 118, rfl⟩
abbrev main_v88 : Ref sig .tc := ⟨.hbm, 119, rfl⟩
abbrev main_c_20 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_c_21 : Ref sig .tc := ⟨.hbm, 133, rfl⟩
abbrev main_v101 : Ref sig .tc := ⟨.hbm, 134, rfl⟩
abbrev main_v102 : Ref sig .tc := ⟨.hbm, 135, rfl⟩
abbrev main_c_22 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_c_23 : Ref sig .tc := ⟨.hbm, 140, rfl⟩
abbrev main_v106 : Ref sig .tc := ⟨.hbm, 141, rfl⟩
abbrev main_v107 : Ref sig .tc := ⟨.hbm, 142, rfl⟩
abbrev main_c_24 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_c_25 : Ref sig .tc := ⟨.hbm, 147, rfl⟩
abbrev main_v111 : Ref sig .tc := ⟨.hbm, 148, rfl⟩
abbrev main_v112 : Ref sig .tc := ⟨.hbm, 149, rfl⟩
abbrev main_c_26 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_27 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_28 : Ref sig .tc := ⟨.hbm, 172, rfl⟩
abbrev main_v133 : Ref sig .tc := ⟨.hbm, 173, rfl⟩

abbrev nD : Nat := 1
abbrev τ : Topo := Topo.v7x

variable {F : FTy → Type} [FloatOps F]
-- ==== Proof.Slots.lean ====
module

public import proofs.«01_k».proof.Defs
public import proofs.«01_k».proof.Proof.Gen.Pre_slots_in_range
public import Idealize.ShloMosaic.Lib.ReduceAll
public import Idealize.ShloMosaic.Lib.WordCmp
public import Idealize.ShloMosaic.Lib.Affine
public import Idealize.ShloMosaic.Lib.IdealHost

/-! What the precondition of the key-sum call says: every slot is below 64. -/

@[expose] public section

noncomputable section

namespace Cert.Proof

open Cert.Pre_slots_in_range Idealize.ShloMosaic

instance : Subsingleton S_.Idx := ⟨fun _ _ => funext fun a => a.elim0⟩

/-- Under the precondition every slot, read as a natural number, is below 64. -/
theorem slots_lt {F : FTy → Type} [FloatOps F] (A : IVec S12x1x2048 32) (K : FVec F S12x2048x64 .f32)
    (e : Cert.Pre_slots_in_range.fn A K = fun _ => 1#1) (i : S12x1x2048.Idx) : (A i).toNat < 64 := by
  have h0 : Cert.Pre_slots_in_range.fn A K (fun a => a.elim0) = 1#1 := congrFun e _
  have h1 := IntOp.andi_eq_one.1 h0
  have ha := Host.reduce_andi_all _ _ _ _ _ h1.1 i
  have hb := Host.reduce_andi_all _ _ _ _ _ h1.2 i
  have hc : IntOp.andi (IntOp.cmpi .sge (A i) 0#32) (IntOp.cmpi .slt (A i) (BitVec.ofNat 32 64)) = 1#1 :=
    IntOp.andi_eq_one.2 ⟨ha, hb⟩
  rw [WordCmp.andi_sge_zero_slt_ofNat (by norm_num)] at hc
  exact (WordCmp.ofBool_decide_eq_one_iff _).1 hc

end Cert.Proof

end
-- ==== Proof.ZsumFrame.lean ====
module

public import proofs.«01_k».proof.Proof.Slots
public import proofs.«01_k».proof.Proof.ZsumRegion
public import Idealize.ShloMosaic.Lib.Pipeline.ValueKit.Geometry

/-! The key-sum call over machine floats runs to the end, under the precondition that every slot is in range. -/

@[expose] public section

noncomputable section

namespace Cert.Proof.Zsum

open Cert.Zsum Cert.Zsum.Gen
open Idealize.ShloMosaic Idealize.ShloMosaic.TcCoe Idealize.ShloMosaic.Tactic
open Idealize.ShloMosaic.ValueIdx

/-- Every run of the key-sum call over machine floats ends, without a fault, with its arguments as they were. -/
theorem quiescent : Cert.quiescent_Zsum := by
  intro m g hpre
  refine call_frame m g fun c t h s => ?_
  have hs := Cert.Proof.slots_lt _ _ (hpre c)
  unfold iblk0
  blk_simp
  exact hs _

end Cert.Proof.Zsum

end
-- ==== Proof.ZsumIdealLoop.lean ====
module

public import proofs.«01_k».proof.Proof.Gen.ZsumIdeal.Launch
public import proofs.«01_k».proof.Proof.Gen.ZsumIdeal.Skeleton
public import proofs.«01_k».proof.Proof.Gen.ZsumIdeal.Loops
public import proofs.«01_k».proof.Proof.Gen.ZsumIdeal.Points
public import Idealize.ShloMosaic.Lib.Pipeline.FrameBody
public import Idealize.ShloMosaic.Lib.Tactic
public import Idealize.ShloMosaic.Lib.WritesUnit
public import Idealize.ShloMosaic.Lib.ValueIdx

@[expose] public section

set_option maxRecDepth 16384

noncomputable section

namespace Cert.Proof.ZsumIdeal

open Cert.ZsumIdeal Cert.ZsumIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What one scratch matrix holds after the first `k` steps of the accumulation: each step reads a row
of it, adds a row of keys and writes the sum back, at the offsets `off`. -/
def stOf (arg : Memref sig .tc .vmem S64x64 .f32) (off : Fin k0_t1_loop.trips → Fin 2 → ℕ)
    (inb : ∀ n a, off n a + S1x64.size a ≤ S64x64.size a) (row : Fin k0_t1_loop.trips → Vec F S1x1x64 .f32)
    (pay : Vec F S1x64 .f32 → Vec F S1x1x64 .f32 → FVec F S1x64 .f32)
    (f : BufTy.Contents (Elt F) arg.view.ty) : ℕ → BufTy.Contents (Elt F) arg.view.ty
  | 0 => f
  | n + 1 =>
    if hn : n < k0_t1_loop.trips then
      arg.view.writes (Elt F) (stOf arg off inb row pay f n)
        [⟨Rect.unit (s := S64x64) (off ⟨n, hn⟩) S1x64.size (inb ⟨n, hn⟩),
          pay (arg.view.readAt (Elt F) (Rect.unit (s := S64x64) (off ⟨n, hn⟩) S1x64.size (inb ⟨n, hn⟩)).toLoadRect
            (stOf arg off inb row pay f n)) (row ⟨n, hn⟩)⟩]
    else stOf arg off inb row pay f n

theorem stOf_succ (arg : Memref sig .tc .vmem S64x64 .f32) (off : Fin k0_t1_loop.trips → Fin 2 → ℕ)
    (inb : ∀ n a, off n a + S1x64.size a ≤ S64x64.size a) (row : Fin k0_t1_loop.trips → Vec F S1x1x64 .f32)
    (pay : Vec F S1x64 .f32 → Vec F S1x1x64 .f32 → FVec F S1x64 .f32)
    (f : BufTy.Contents (Elt F) arg.view.ty) (n : Fin k0_t1_loop.trips) :
    stOf arg off inb row pay f (n.val + 1)
      = arg.view.writes (Elt F) (stOf arg off inb row pay f n.val)
        [⟨Rect.unit (s := S64x64) (off n) S1x64.size (inb n),
          pay (arg.view.readAt (Elt F) (Rect.unit (s := S64x64) (off n) S1x64.size (inb n)).toLoadRect
            (stOf arg off inb row pay f n.val)) (row n)⟩] := by
  rw [stOf, dif_pos n.isLt]

set_option maxHeartbeats 8000000 in
/-- One step of the accumulation: every scratch matrix gets one row rewritten. -/
theorem trip (𝒱 : Variants) (c : Dev nD) (bd : Option 𝒱.V) (i : grid0.Coords) (arg1 : Memref sig .tc .smem S12x1x2048 .i32) (harg1 : arg1.IsWhole) (arg2 : Memref sig .tc .vmem S12x2048x64 .f32) (harg2 : arg2.IsWhole) (arg3 : Memref sig .tc .vmem S12x64x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S64x64 .f32) (harg13 : arg13.IsWhole) (arg14 : Memref sig .tc .vmem S64x64 .f32) (harg14 : arg14.IsWhole) (arg15 : Memref sig .tc .vmem S64x64 .f32) (harg15 : arg15.IsWhole) (v28 : FVec F S64x64 .f32)
    (X1 : BufTy.Contents (Elt F) arg1.view.ty) (X2 : BufTy.Contents (Elt F) arg2.view.ty)
    (k : Fin k0_t1_loop.trips) (k0_hw1 : k0_chk1 (arg1.view.readAt (Elt F) (Rect.unit (s := S12x1x2048) (k0_off1 k) S1x1x1.size (k0_off1_inb k)).toLoadRect X1 (Shape.Idx.first (numel1_S1x1x1.symm ▸ Nat.one_pos)))) (k0_hw2 : k0_chk2 (arg1.view.readAt (Elt F) (Rect.unit (s := S12x1x2048) (k0_off4 k) S1x1x1.size (k0_off4_inb k)).toLoadRect X1 (Shape.Idx.first (numel1_S1x1x1.symm ▸ Nat.one_pos)))) (k0_hw3 : k0_chk3 (arg1.view.readAt (Elt F) (Rect.unit (s := S12x1x2048) (k0_off7 k) S1x1x1.size (k0_off7_inb k)).toLoadRect X1 (Shape.Idx.first (numel1_S1x1x1.symm ▸ Nat.one_pos)))) (k0_hw4 : k0_chk4 (arg1.view.readAt (Elt F) (Rect.unit (s := S12x1x2048) (k0_off10 k) S1x1x1.size (k0_off10_inb k)).toLoadRect X1 (Shape.Idx.first (numel1_S1x1x1.symm ▸ Nat.one_pos)))) (k0_hw5 : k0_chk5 (arg1.view.readAt (Elt F) (Rect.unit (s := S12x1x2048) (k0_off13 k) S1x1x1.size (k0_off13_inb k)).toLoadRect X1 (Shape.Idx.first (numel1_S1x1x1.symm ▸ Nat.one_pos)))) (k0_hw6 : k0_chk6 (arg1.view.readAt (Elt F) (Rect.unit (s := S12x1x2048) (k0_off16 k) S1x1x1.size (k0_off16_inb k)).toLoadRect X1 (Shape.Idx.first (numel1_S1x1x1.symm ▸ Nat.one_pos)))) (k0_hw7 : k0_chk7 (arg1.view.readAt (Elt F) (Rect.unit (s := S12x1x2048) (k0_off19 k) S1x1x1.size (k0_off19_inb k)).toLoadRect X1 (Shape.Idx.first (numel1_S1x1x1.symm ▸ Nat.one_pos)))) (k0_hw8 : k0_chk8 (arg1.view.readAt (Elt F) (Rect.unit (s := S12x1x2048) (k0_off22 k) S1x1x1.size (k0_off22_inb k)).toLoadRect X1 (Shape.Idx.first (numel1_S1x1x1.symm ▸ Nat.one_pos)))) (k0_hw9 : k0_chk9 (arg1.view.readAt (Elt F) (Rect.unit (s := S12x1x2048) (k0_off25 k) S1x1x1.size (k0_off25_inb k)).toLoadRect X1 (Shape.Idx.first (numel1_S1x1x1.symm ▸ Nat.one_pos)))) (k0_hw10 : k0_chk10 (arg1.view.readAt (Elt F) (Rect.unit (s := S12x1x2048) (k0_off28 k) S1x1x1.size (k0_off28_inb k)).toLoadRect X1 (Shape.Idx.first (numel1_S1x1x1.symm ▸ Nat.one_pos)))) (k0_hw11 : k0_chk11 (arg1.view.readAt (Elt F) (Rect.unit (s := S12x1x2048) (k0_off31 k) S1x1x1.size (k0_off31_inb k)).toLoadRect X1 (Shape.Idx.first (numel1_S1x1x1.symm ▸ Nat.one_pos)))) (k0_hw12 : k0_chk12 (arg1.view.readAt (Elt F) (Rect.unit (s := S12x1x2048) (k0_off34 k) S1x1x1.size (k0_off34_inb k)).toLoadRect X1 (Shape.Idx.first (numel1_S1x1x1.symm ▸ Nat.one_pos)))) (E : Set ℕ)
    (f0 : BufTy.Contents (Elt F) arg4.view.ty) (f1 : BufTy.Contents (Elt F) arg5.view.ty) (f2 : BufTy.Contents (Elt F) arg6.view.ty) (f3 : BufTy.Contents (Elt F) arg7.view.ty) (f4 : BufTy.Contents (Elt F) arg8.view.ty) (f5 : BufTy.Contents (Elt F) arg9.view.ty) (f6 : BufTy.Contents (Elt F) arg10.view.ty) (f7 : BufTy.Contents (Elt F) arg11.view.ty) (f8 : BufTy.Contents (Elt F) arg12.view.ty) (f9 : BufTy.Contents (Elt F) arg13.view.ty) (f10 : BufTy.Contents (Elt F) arg14.view.ty) (f11 : BufTy.Contents (Elt F) arg15.view.ty) :
    (iprop((arg1.view.loc (c : Thread nD τ) ↦[arg1.view.set]{fullShare} X1) ∗ (arg2.view.loc (c : Thread nD τ) ↦[arg2.view.set]{fullShare} X2) ∗ (arg4.view.loc (c : Thread nD τ) ↦[arg4.view.set]{fullShare} f0) ∗ (arg5.view.loc (c : Thread nD τ) ↦[arg5.view.set]{fullShare} f1) ∗ (arg6.view.loc (c : Thread nD τ) ↦[arg6.view.set]{fullShare} f2) ∗ (arg7.view.loc (c : Thread nD τ) ↦[arg7.view.set]{fullShare} f3) ∗ (arg8.view.loc (c : Thread nD τ) ↦[arg8.view.set]{fullShare} f4) ∗ (arg9.view.loc (c : Thread nD τ) ↦[arg9.view.set]{fullShare} f5) ∗ (arg10.view.loc (c : Thread nD τ) ↦[arg10.view.set]{fullShare} f6) ∗ (arg11.view.loc (c : Thread nD τ) ↦[arg11.view.set]{fullShare} f7) ∗ (arg12.view.loc (c : Thread nD τ) ↦[arg12.view.set]{fullShare} f8) ∗ (arg13.view.loc (c : Thread nD τ) ↦[arg13.view.set]{fullShare} f9) ∗ (arg14.view.loc (c : Thread nD τ) ↦[arg14.view.set]{fullShare} f10) ∗ (arg15.view.loc (c : Thread nD τ) ↦[arg15.view.set]{fullShare} f11)) : sProp 𝕄)
    ⊢ wp frame (wpE (defs₀ (F := F)) 𝒱 (c : Thread nD τ) bd) E
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v28 k PUnit.unit)
        (fun _ => iprop((arg1.view.loc (c : Thread nD τ) ↦[arg1.view.set]{fullShare} X1) ∗ (arg2.view.loc (c : Thread nD τ) ↦[arg2.view.set]{fullShare} X2) ∗ (arg4.view.loc (c : Thread nD τ) ↦[arg4.view.set]{fullShare} (arg4.view.writes (Elt F) f0 [⟨(Rect.unit (s := S64x64) (k0_off2 (arg1.view.readAt (Elt F) (Rect.unit (s := S12x1x2048) (k0_off1 k) S1x1x1.size (k0_off1_inb k)).toLoadRect X1 (Shape.Idx.first (numel1_S1x1x1.symm ▸ Nat.one_pos)))) S1x64.size (k0_off2_inb (arg1.view.readAt (Elt F) (Rect.unit (s := S12x1x2048) (k0_off1 k) S1x1x1.size (k0_off1_inb k)).toLoadRect X1 (Shape.Idx.first (numel1_S1x1x1.symm ▸ Nat.one_pos))) k0_hw1)), k0_pay6 (arg4.view.readAt (Elt F) (Rect.unit (s := S64x64) (k0_off2 (arg1.view.readAt (Elt F) (Rect.unit (s := S12x1x2048) (k0_off1 k) S1x1x1.size (k0_off1_inb k)).toLoadRect X1 (Shape.Idx.first (numel1_S1x1x1.symm ▸ Nat.one_pos)))) S1x64.size (k0_off2_inb (arg1.view.readAt (Elt F) (Rect.unit (s := S12x1x2048) (k0_off1 k) S1x1x1.size (k0_off1_inb k)).toLoadRect X1 (Shape.Idx.first (numel1_S1x1x1.symm ▸ Nat.one_pos))) k0_hw1)).toLoadRect f0) (arg2.view.readAt (Elt F) (Rect.unit (s := S12x2048x64) (k0_off3 k) S1x1x64.size (k0_off3_inb k)).toLoadRect X2)⟩])) ∗ (arg5.view.loc (c : Thread nD τ) ↦[arg5.view.set]{fullShare} (arg5.view.writes (Elt F) f1 [⟨(Rect.unit (s := S64x64) (k0_off5 (arg1.view.readAt (Elt F) (Rect.unit (s := S12x1x2048) (k0_off4 k) S1x1x1.size (k0_off4_inb k)).toLoadRect X1 (Shape.Idx.first (numel1_S1x1x1.symm ▸ Nat.one_pos)))) S1x64.size (k0_off5_inb (arg1.view.readAt (Elt F) (Rect.unit (s := S12x1x2048) (k0_off4 k) S1x1x1.size (k0_off4_inb k)).toLoadRect X1 (Shape.Idx.first (numel1_S1x1x1.symm ▸ Nat.one_pos))) k0_hw2)), k0_pay7 (arg5.view.readAt (Elt F) (Rect.unit (s := S64x64) (k0_off5 (arg1.view.readAt (Elt F) (Rect.unit (s := S12x1x2048) (k0_off4 k) S1x1x1.size (k0_off4_inb k)).toLoadRect X1 (Shape.Idx.first (numel1_S1x1x1.symm ▸ Nat.one_pos)))) S1x64.size (k0_off5_inb (arg1.view.readAt (Elt F) (Rect.unit (s := S12x1x2048) (k0_off4 k) S1x1x1.size (k0_off4_inb k)).toLoadRect X1 (Shape.Idx.first (numel1_S1x1x1.symm ▸ Nat.one_pos))) k0_hw2)).toLoadRect f1) (arg2.view.readAt (Elt F) (Rect.unit (s := S12x2048x64) (k0_off6 k) S1x1x64.size (k0_off6_inb k)).toLoadRect X2)⟩])) ∗ (arg6.view.loc (c : Thread nD τ) ↦[arg6.view.set]{fullShare} (arg6.view.writes (Elt F) f2 [⟨(Rect.unit (s := S64x64) (k0_off8 (arg1.view.readAt (Elt F) (Rect.unit (s := S12x1x2048) (k0_off7 k) S1x1x1.size (k0_off7_inb k)).toLoadRect X1 (Shape.Idx.first (numel1_S1x1x1.symm ▸ Nat.one_pos)))) S1x64.size (k0_off8_inb (arg1.view.readAt (Elt F) (Rect.unit (s := S12x1x2048) (k0_off7 k) S1x1x1.size (k0_off7_inb k)).toLoadRect X1 (Shape.Idx.first (numel1_S1x1x1.symm ▸ Nat.one_pos))) k0_hw3)), k0_pay8 (arg6.view.readAt (Elt F) (Rect.unit (s := S64x64) (k0_off8 (arg1.view.readAt (Elt F) (Rect.unit (s := S12x1x2048) (k0_off7 k) S1x1x1.size (k0_off7_inb k)).toLoadRect X1 (Shape.Idx.first (numel1_S1x1x1.symm ▸ Nat.one_pos)))) S1x64.size (k0_off8_inb (arg1.view.readAt (Elt F) (Rect.unit (s := S12x1x2048) (k0_off7 k) S1x1x1.size (k0_off7_inb k)).toLoadRect X1 (Shape.Idx.first (numel1_S1x1x1.symm ▸ Nat.one_pos))) k0_hw3)).toLoadRect f2) (arg2.view.readAt (Elt F) (Rect.unit (s := S12x2048x64) (k0_off9 k) S1x1x64.size (k0_off9_inb k)).toLoadRect X2)⟩])) ∗ (arg7.view.loc (c : Thread nD τ) ↦[arg7.view.set]{fullShare} (arg7.view.writes (Elt F) f3 [⟨(Rect.unit (s := S64x64) (k0_off11 (arg1.view.readAt (Elt F) (Rect.unit (s := S12x1x2048) (k0_off10 k) S1x1x1.size (k0_off10_inb k)).toLoadRect X1 (Shape.Idx.first (numel1_S1x1x1.symm ▸ Nat.one_pos)))) S1x64.size (k0_off11_inb (arg1.view.readAt (Elt F) (Rect.unit (s := S12x1x2048) (k0_off10 k) S1x1x1.size (k0_off10_inb k)).toLoadRect X1 (Shape.Idx.first (numel1_S1x1x1.symm ▸ Nat.one_pos))) k0_hw4)), k0_pay9 (arg7.view.readAt (Elt F) (Rect.unit (s := S64x64) (k0_off11 (arg1.view.readAt (Elt F) (Rect.unit (s := S12x1x2048) (k0_off10 k) S1x1x1.size (k0_off10_inb k)).toLoadRect X1 (Shape.Idx.first (numel1_S1x1x1.symm ▸ Nat.one_pos)))) S1x64.size (k0_off11_inb (arg1.view.readAt (Elt F) (Rect.unit (s := S12x1x2048) (k0_off10 k) S1x1x1.size (k0_off10_inb k)).toLoadRect X1 (Shape.Idx.first (numel1_S1x1x1.symm ▸ Nat.one_pos))) k0_hw4)).toLoadRect f3) (arg2.view.readAt (Elt F) (Rect.unit (s := S12x2048x64) (k0_off12 k) S1x1x64.size (k0_off12_inb k)).toLoadRect X2)⟩])) ∗ (arg8.view.loc (c : Thread nD τ) ↦[arg8.view.set]{fullShare} (arg8.view.writes (Elt F) f4 [⟨(Rect.unit (s := S64x64) (k0_off14 (arg1.view.readAt (Elt F) (Rect.unit (s := S12x1x2048) (k0_off13 k) S1x1x1.size (k0_off13_inb k)).toLoadRect X1 (Shape.Idx.first (numel1_S1x1x1.symm ▸ Nat.one_pos)))) S1x64.size (k0_off14_inb (arg1.view.readAt (Elt F) (Rect.unit (s := S12x1x2048) (k0_off13 k) S1x1x1.size (k0_off13_inb k)).toLoadRect X1 (Shape.Idx.first (numel1_S1x1x1.symm ▸ Nat.one_pos))) k0_hw5)), k0_pay10 (arg8.view.readAt (Elt F) (Rect.unit (s := S64x64) (k0_off14 (arg1.view.readAt (Elt F) (Rect.unit (s := S12x1x2048) (k0_off13 k) S1x1x1.size (k0_off13_inb k)).toLoadRect X1 (Shape.Idx.first (numel1_S1x1x1.symm ▸ Nat.one_pos)))) S1x64.size (k0_off14_inb (arg1.view.readAt (Elt F) (Rect.unit (s := S12x1x2048) (k0_off13 k) S1x1x1.size (k0_off13_inb k)).toLoadRect X1 (Shape.Idx.first (numel1_S1x1x1.symm ▸ Nat.one_pos))) k0_hw5)).toLoadRect f4) (arg2.view.readAt (Elt F) (Rect.unit (s := S12x2048x64) (k0_off15 k) S1x1x64.size (k0_off15_inb k)).toLoadRect X2)⟩])) ∗ (arg9.view.loc (c : Thread nD τ) ↦[arg9.view.set]{fullShare} (arg9.view.writes (Elt F) f5 [⟨(Rect.unit (s := S64x64) (k0_off17 (arg1.view.readAt (Elt F) (Rect.unit (s := S12x1x2048) (k0_off16 k) S1x1x1.size (k0_off16_inb k)).toLoadRect X1 (Shape.Idx.first (numel1_S1x1x1.symm ▸ Nat.one_pos)))) S1x64.size (k0_off17_inb (arg1.view.readAt (Elt F) (Rect.unit (s := S12x1x2048) (k0_off16 k) S1x1x1.size (k0_off16_inb k)).toLoadRect X1 (Shape.Idx.first (numel1_S1x1x1.symm ▸ Nat.one_pos))) k0_hw6)), k0_pay11 (arg9.view.readAt (Elt F) (Rect.unit (s := S64x64) (k0_off17 (arg1.view.readAt (Elt F) (Rect.unit (s := S12x1x2048) (k0_off16 k) S1x1x1.size (k0_off16_inb k)).toLoadRect X1 (Shape.Idx.first (numel1_S1x1x1.symm ▸ Nat.one_pos)))) S1x64.size (k0_off17_inb (arg1.view.readAt (Elt F) (Rect.unit (s := S12x1x2048) (k0_off16 k) S1x1x1.size (k0_off16_inb k)).toLoadRect X1 (Shape.Idx.first (numel1_S1x1x1.symm ▸ Nat.one_pos))) k0_hw6)).toLoadRect f5) (arg2.view.readAt (Elt F) (Rect.unit (s := S12x2048x64) (k0_off18 k) S1x1x64.size (k0_off18_inb k)).toLoadRect X2)⟩])) ∗ (arg10.view.loc (c : Thread nD τ) ↦[arg10.view.set]{fullShare} (arg10.view.writes (Elt F) f6 [⟨(Rect.unit (s := S64x64) (k0_off20 (arg1.view.readAt (Elt F) (Rect.unit (s := S12x1x2048) (k0_off19 k) S1x1x1.size (k0_off19_inb k)).toLoadRect X1 (Shape.Idx.first (numel1_S1x1x1.symm ▸ Nat.one_pos)))) S1x64.size (k0_off20_inb (arg1.view.readAt (Elt F) (Rect.unit (s := S12x1x2048) (k0_off19 k) S1x1x1.size (k0_off19_inb k)).toLoadRect X1 (Shape.Idx.first (numel1_S1x1x1.symm ▸ Nat.one_pos))) k0_hw7)), k0_pay12 (arg10.view.readAt (Elt F) (Rect.unit (s := S64x64) (k0_off20 (arg1.view.readAt (Elt F) (Rect.unit (s := S12x1x2048) (k0_off19 k) S1x1x1.size (k0_off19_inb k)).toLoadRect X1 (Shape.Idx.first (numel1_S1x1x1.symm ▸ Nat.one_pos)))) S1x64.size (k0_off20_inb (arg1.view.readAt (Elt F) (Rect.unit (s := S12x1x2048) (k0_off19 k) S1x1x1.size (k0_off19_inb k)).toLoadRect X1 (Shape.Idx.first (numel1_S1x1x1.symm ▸ Nat.one_pos))) k0_hw7)).toLoadRect f6) (arg2.view.readAt (Elt F) (Rect.unit (s := S12x2048x64) (k0_off21 k) S1x1x64.size (k0_off21_inb k)).toLoadRect X2)⟩])) ∗ (arg11.view.loc (c : Thread nD τ) ↦[arg11.view.set]{fullShare} (arg11.view.writes (Elt F) f7 [⟨(Rect.unit (s := S64x64) (k0_off23 (arg1.view.readAt (Elt F) (Rect.unit (s := S12x1x2048) (k0_off22 k) S1x1x1.size (k0_off22_inb k)).toLoadRect X1 (Shape.Idx.first (numel1_S1x1x1.symm ▸ Nat.one_pos)))) S1x64.size (k0_off23_inb (arg1.view.readAt (Elt F) (Rect.unit (s := S12x1x2048) (k0_off22 k) S1x1x1.size (k0_off22_inb k)).toLoadRect X1 (Shape.Idx.first (numel1_S1x1x1.symm ▸ Nat.one_pos))) k0_hw8)), k0_pay13 (arg11.view.readAt (Elt F) (Rect.unit (s := S64x64) (k0_off23 (arg1.view.readAt (Elt F) (Rect.unit (s := S12x1x2048) (k0_off22 k) S1x1x1.size (k0_off22_inb k)).toLoadRect X1 (Shape.Idx.first (numel1_S1x1x1.symm ▸ Nat.one_pos)))) S1x64.size (k0_off23_inb (arg1.view.readAt (Elt F) (Rect.unit (s := S12x1x2048) (k0_off22 k) S1x1x1.size (k0_off22_inb k)).toLoadRect X1 (Shape.Idx.first (numel1_S1x1x1.symm ▸ Nat.one_pos))) k0_hw8)).toLoadRect f7) (arg2.view.readAt (Elt F) (Rect.unit (s := S12x2048x64) (k0_off24 k) S1x1x64.size (k0_off24_inb k)).toLoadRect X2)⟩])) ∗ (arg12.view.loc (c : Thread nD τ) ↦[arg12.view.set]{fullShare} (arg12.view.writes (Elt F) f8 [⟨(Rect.unit (s := S64x64) (k0_off26 (arg1.view.readAt (Elt F) (Rect.unit (s := S12x1x2048) (k0_off25 k) S1x1x1.size (k0_off25_inb k)).toLoadRect X1 (Shape.Idx.first (numel1_S1x1x1.symm ▸ Nat.one_pos)))) S1x64.size (k0_off26_inb (arg1.view.readAt (Elt F) (Rect.unit (s := S12x1x2048) (k0_off25 k) S1x1x1.size (k0_off25_inb k)).toLoadRect X1 (Shape.Idx.first (numel1_S1x1x1.symm ▸ Nat.one_pos))) k0_hw9)), k0_pay14 (arg12.view.readAt (Elt F) (Rect.unit (s := S64x64) (k0_off26 (arg1.view.readAt (Elt F) (Rect.unit (s := S12x1x2048) (k0_off25 k) S1x1x1.size (k0_off25_inb k)).toLoadRect X1 (Shape.Idx.first (numel1_S1x1x1.symm ▸ Nat.one_pos)))) S1x64.size (k0_off26_inb (arg1.view.readAt (Elt F) (Rect.unit (s := S12x1x2048) (k0_off25 k) S1x1x1.size (k0_off25_inb k)).toLoadRect X1 (Shape.Idx.first (numel1_S1x1x1.symm ▸ Nat.one_pos))) k0_hw9)).toLoadRect f8) (arg2.view.readAt (Elt F) (Rect.unit (s := S12x2048x64) (k0_off27 k) S1x1x64.size (k0_off27_inb k)).toLoadRect X2)⟩])) ∗ (arg13.view.loc (c : Thread nD τ) ↦[arg13.view.set]{fullShare} (arg13.view.writes (Elt F) f9 [⟨(Rect.unit (s := S64x64) (k0_off29 (arg1.view.readAt (Elt F) (Rect.unit (s := S12x1x2048) (k0_off28 k) S1x1x1.size (k0_off28_inb k)).toLoadRect X1 (Shape.Idx.first (numel1_S1x1x1.symm ▸ Nat.one_pos)))) S1x64.size (k0_off29_inb (arg1.view.readAt (Elt F) (Rect.unit (s := S12x1x2048) (k0_off28 k) S1x1x1.size (k0_off28_inb k)).toLoadRect X1 (Shape.Idx.first (numel1_S1x1x1.symm ▸ Nat.one_pos))) k0_hw10)), k0_pay15 (arg13.view.readAt (Elt F) (Rect.unit (s := S64x64) (k0_off29 (arg1.view.readAt (Elt F) (Rect.unit (s := S12x1x2048) (k0_off28 k) S1x1x1.size (k0_off28_inb k)).toLoadRect X1 (Shape.Idx.first (numel1_S1x1x1.symm ▸ Nat.one_pos)))) S1x64.size (k0_off29_inb (arg1.view.readAt (Elt F) (Rect.unit (s := S12x1x2048) (k0_off28 k) S1x1x1.size (k0_off28_inb k)).toLoadRect X1 (Shape.Idx.first (numel1_S1x1x1.symm ▸ Nat.one_pos))) k0_hw10)).toLoadRect f9) (arg2.view.readAt (Elt F) (Rect.unit (s := S12x2048x64) (k0_off30 k) S1x1x64.size (k0_off30_inb k)).toLoadRect X2)⟩])) ∗ (arg14.view.loc (c : Thread nD τ) ↦[arg14.view.set]{fullShare} (arg14.view.writes (Elt F) f10 [⟨(Rect.unit (s := S64x64) (k0_off32 (arg1.view.readAt (Elt F) (Rect.unit (s := S12x1x2048) (k0_off31 k) S1x1x1.size (k0_off31_inb k)).toLoadRect X1 (Shape.Idx.first (numel1_S1x1x1.symm ▸ Nat.one_pos)))) S1x64.size (k0_off32_inb (arg1.view.readAt (Elt F) (Rect.unit (s := S12x1x2048) (k0_off31 k) S1x1x1.size (k0_off31_inb k)).toLoadRect X1 (Shape.Idx.first (numel1_S1x1x1.symm ▸ Nat.one_pos))) k0_hw11)), k0_pay16 (arg14.view.readAt (Elt F) (Rect.unit (s := S64x64) (k0_off32 (arg1.view.readAt (Elt F) (Rect.unit (s := S12x1x2048) (k0_off31 k) S1x1x1.size (k0_off31_inb k)).toLoadRect X1 (Shape.Idx.first (numel1_S1x1x1.symm ▸ Nat.one_pos)))) S1x64.size (k0_off32_inb (arg1.view.readAt (Elt F) (Rect.unit (s := S12x1x2048) (k0_off31 k) S1x1x1.size (k0_off31_inb k)).toLoadRect X1 (Shape.Idx.first (numel1_S1x1x1.symm ▸ Nat.one_pos))) k0_hw11)).toLoadRect f10) (arg2.view.readAt (Elt F) (Rect.unit (s := S12x2048x64) (k0_off33 k) S1x1x64.size (k0_off33_inb k)).toLoadRect X2)⟩])) ∗ (arg15.view.loc (c : Thread nD τ) ↦[arg15.view.set]{fullShare} (arg15.view.writes (Elt F) f11 [⟨(Rect.unit (s := S64x64) (k0_off35 (arg1.view.readAt (Elt F) (Rect.unit (s := S12x1x2048) (k0_off34 k) S1x1x1.size (k0_off34_inb k)).toLoadRect X1 (Shape.Idx.first (numel1_S1x1x1.symm ▸ Nat.one_pos)))) S1x64.size (k0_off35_inb (arg1.view.readAt (Elt F) (Rect.unit (s := S12x1x2048) (k0_off34 k) S1x1x1.size (k0_off34_inb k)).toLoadRect X1 (Shape.Idx.first (numel1_S1x1x1.symm ▸ Nat.one_pos))) k0_hw12)), k0_pay17 (arg15.view.readAt (Elt F) (Rect.unit (s := S64x64) (k0_off35 (arg1.view.readAt (Elt F) (Rect.unit (s := S12x1x2048) (k0_off34 k) S1x1x1.size (k0_off34_inb k)).toLoadRect X1 (Shape.Idx.first (numel1_S1x1x1.symm ▸ Nat.one_pos)))) S1x64.size (k0_off35_inb (arg1.view.readAt (Elt F) (Rect.unit (s := S12x1x2048) (k0_off34 k) S1x1x1.size (k0_off34_inb k)).toLoadRect X1 (Shape.Idx.first (numel1_S1x1x1.symm ▸ Nat.one_pos))) k0_hw12)).toLoadRect f11) (arg2.view.readAt (Elt F) (Rect.unit (s := S12x2048x64) (k0_off36 k) S1x1x64.size (k0_off36_inb k)).toLoadRect X2)⟩])))) := by
  have hk : k.val < 2048 := Nat.lt_of_lt_of_le k.isLt k0_t1_abs.2.1
  unfold k0_t1_body
  simp only [k0_part1_eq_skeleton, k0_part2_eq_skeleton, k0_part3_eq_skeleton, k0_part4_eq_skeleton]
  iintro ⟨HR1, HR2, HW0, HW1, HW2, HW3, HW4, HW5, HW6, HW7, HW8, HW9, HW10, HW11⟩
  sl_exec
  sl_step
  sl_close

set_option maxHeartbeats 8000000 in
set_option warn.classDefReducibility false in
/-- The accumulation loop by its invariant: before step `k` every scratch matrix holds `stOf … k`. -/
@[sl_loop] def loopInv (𝒱 : Variants) (c : Dev nD) (bd : Option 𝒱.V) (E : Set ℕ) (i : grid0.Coords) (arg1 : Memref sig .tc .smem S12x1x2048 .i32) (harg1 : arg1.IsWhole) (arg2 : Memref sig .tc .vmem S12x2048x64 .f32) (harg2 : arg2.IsWhole) (arg3 : Memref sig .tc .vmem S12x64x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S64x64 .f32) (harg13 : arg13.IsWhole) (arg14 : Memref sig .tc .vmem S64x64 .f32) (harg14 : arg14.IsWhole) (arg15 : Memref sig .tc .vmem S64x64 .f32) (harg15 : arg15.IsWhole) (v28 : FVec F S64x64 .f32)
    (X1 : BufTy.Contents (Elt F) arg1.view.ty) (X2 : BufTy.Contents (Elt F) arg2.view.ty) (k0_hw1 : ∀ kq hkq, k0_chk1 (arg1.view.readAt (Elt F) (Rect.unit (s := S12x1x2048) (k0_off1 ⟨kq, hkq⟩) S1x1x1.size (k0_off1_inb ⟨kq, hkq⟩)).toLoadRect X1 (Shape.Idx.first (numel1_S1x1x1.symm ▸ Nat.one_pos)))) (k0_hw2 : ∀ kq hkq, k0_chk2 (arg1.view.readAt (Elt F) (Rect.unit (s := S12x1x2048) (k0_off4 ⟨kq, hkq⟩) S1x1x1.size (k0_off4_inb ⟨kq, hkq⟩)).toLoadRect X1 (Shape.Idx.first (numel1_S1x1x1.symm ▸ Nat.one_pos)))) (k0_hw3 : ∀ kq hkq, k0_chk3 (arg1.view.readAt (Elt F) (Rect.unit (s := S12x1x2048) (k0_off7 ⟨kq, hkq⟩) S1x1x1.size (k0_off7_inb ⟨kq, hkq⟩)).toLoadRect X1 (Shape.Idx.first (numel1_S1x1x1.symm ▸ Nat.one_pos)))) (k0_hw4 : ∀ kq hkq, k0_chk4 (arg1.view.readAt (Elt F) (Rect.unit (s := S12x1x2048) (k0_off10 ⟨kq, hkq⟩) S1x1x1.size (k0_off10_inb ⟨kq, hkq⟩)).toLoadRect X1 (Shape.Idx.first (numel1_S1x1x1.symm ▸ Nat.one_pos)))) (k0_hw5 : ∀ kq hkq, k0_chk5 (arg1.view.readAt (Elt F) (Rect.unit (s := S12x1x2048) (k0_off13 ⟨kq, hkq⟩) S1x1x1.size (k0_off13_inb ⟨kq, hkq⟩)).toLoadRect X1 (Shape.Idx.first (numel1_S1x1x1.symm ▸ Nat.one_pos)))) (k0_hw6 : ∀ kq hkq, k0_chk6 (arg1.view.readAt (Elt F) (Rect.unit (s := S12x1x2048) (k0_off16 ⟨kq, hkq⟩) S1x1x1.size (k0_off16_inb ⟨kq, hkq⟩)).toLoadRect X1 (Shape.Idx.first (numel1_S1x1x1.symm ▸ Nat.one_pos)))) (k0_hw7 : ∀ kq hkq, k0_chk7 (arg1.view.readAt (Elt F) (Rect.unit (s := S12x1x2048) (k0_off19 ⟨kq, hkq⟩) S1x1x1.size (k0_off19_inb ⟨kq, hkq⟩)).toLoadRect X1 (Shape.Idx.first (numel1_S1x1x1.symm ▸ Nat.one_pos)))) (k0_hw8 : ∀ kq hkq, k0_chk8 (arg1.view.readAt (Elt F) (Rect.unit (s := S12x1x2048) (k0_off22 ⟨kq, hkq⟩) S1x1x1.size (k0_off22_inb ⟨kq, hkq⟩)).toLoadRect X1 (Shape.Idx.first (numel1_S1x1x1.symm ▸ Nat.one_pos)))) (k0_hw9 : ∀ kq hkq, k0_chk9 (arg1.view.readAt (Elt F) (Rect.unit (s := S12x1x2048) (k0_off25 ⟨kq, hkq⟩) S1x1x1.size (k0_off25_inb ⟨kq, hkq⟩)).toLoadRect X1 (Shape.Idx.first (numel1_S1x1x1.symm ▸ Nat.one_pos)))) (k0_hw10 : ∀ kq hkq, k0_chk10 (arg1.view.readAt (Elt F) (Rect.unit (s := S12x1x2048) (k0_off28 ⟨kq, hkq⟩) S1x1x1.size (k0_off28_inb ⟨kq, hkq⟩)).toLoadRect X1 (Shape.Idx.first (numel1_S1x1x1.symm ▸ Nat.one_pos)))) (k0_hw11 : ∀ kq hkq, k0_chk11 (arg1.view.readAt (Elt F) (Rect.unit (s := S12x1x2048) (k0_off31 ⟨kq, hkq⟩) S1x1x1.size (k0_off31_inb ⟨kq, hkq⟩)).toLoadRect X1 (Shape.Idx.first (numel1_S1x1x1.symm ▸ Nat.one_pos)))) (k0_hw12 : ∀ kq hkq, k0_chk12 (arg1.view.readAt (Elt F) (Rect.unit (s := S12x1x2048) (k0_off34 ⟨kq, hkq⟩) S1x1x1.size (k0_off34_inb ⟨kq, hkq⟩)).toLoadRect X1 (Shape.Idx.first (numel1_S1x1x1.symm ▸ Nat.one_pos)))) (f0 : BufTy.Contents (Elt F) arg4.view.ty) (f1 : BufTy.Contents (Elt F) arg5.view.ty) (f2 : BufTy.Contents (Elt F) arg6.view.ty) (f3 : BufTy.Contents (Elt F) arg7.view.ty) (f4 : BufTy.Contents (Elt F) arg8.view.ty) (f5 : BufTy.Contents (Elt F) arg9.view.ty) (f6 : BufTy.Contents (Elt F) arg10.view.ty) (f7 : BufTy.Contents (Elt F) arg11.view.ty) (f8 : BufTy.Contents (Elt F) arg12.view.ty) (f9 : BufTy.Contents (Elt F) arg13.view.ty) (f10 : BufTy.Contents (Elt F) arg14.view.ty) (f11 : BufTy.Contents (Elt F) arg15.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v28 where
  inv k _ := iprop((arg1.view.loc (c : Thread nD τ) ↦[arg1.view.set]{fullShare} X1) ∗ (arg2.view.loc (c : Thread nD τ) ↦[arg2.view.set]{fullShare} X2) ∗ (arg4.view.loc (c : Thread nD τ) ↦[arg4.view.set]{fullShare} (stOf arg4 (fun n => k0_off2 (arg1.view.readAt (Elt F) (Rect.unit (s := S12x1x2048) (k0_off1 n) S1x1x1.size (k0_off1_inb n)).toLoadRect X1 (Shape.Idx.first (numel1_S1x1x1.symm ▸ Nat.one_pos)))) (fun n => k0_off2_inb (arg1.view.readAt (Elt F) (Rect.unit (s := S12x1x2048) (k0_off1 n) S1x1x1.size (k0_off1_inb n)).toLoadRect X1 (Shape.Idx.first (numel1_S1x1x1.symm ▸ Nat.one_pos))) (k0_hw1 n.val n.isLt)) (fun n => (arg2.view.readAt (Elt F) (Rect.unit (s := S12x2048x64) (k0_off3 n) S1x1x64.size (k0_off3_inb n)).toLoadRect X2)) k0_pay6 f0 k)) ∗ (arg5.view.loc (c : Thread nD τ) ↦[arg5.view.set]{fullShare} (stOf arg5 (fun n => k0_off5 (arg1.view.readAt (Elt F) (Rect.unit (s := S12x1x2048) (k0_off4 n) S1x1x1.size (k0_off4_inb n)).toLoadRect X1 (Shape.Idx.first (numel1_S1x1x1.symm ▸ Nat.one_pos)))) (fun n => k0_off5_inb (arg1.view.readAt (Elt F) (Rect.unit (s := S12x1x2048) (k0_off4 n) S1x1x1.size (k0_off4_inb n)).toLoadRect X1 (Shape.Idx.first (numel1_S1x1x1.symm ▸ Nat.one_pos))) (k0_hw2 n.val n.isLt)) (fun n => (arg2.view.readAt (Elt F) (Rect.unit (s := S12x2048x64) (k0_off6 n) S1x1x64.size (k0_off6_inb n)).toLoadRect X2)) k0_pay7 f1 k)) ∗ (arg6.view.loc (c : Thread nD τ) ↦[arg6.view.set]{fullShare} (stOf arg6 (fun n => k0_off8 (arg1.view.readAt (Elt F) (Rect.unit (s := S12x1x2048) (k0_off7 n) S1x1x1.size (k0_off7_inb n)).toLoadRect X1 (Shape.Idx.first (numel1_S1x1x1.symm ▸ Nat.one_pos)))) (fun n => k0_off8_inb (arg1.view.readAt (Elt F) (Rect.unit (s := S12x1x2048) (k0_off7 n) S1x1x1.size (k0_off7_inb n)).toLoadRect X1 (Shape.Idx.first (numel1_S1x1x1.symm ▸ Nat.one_pos))) (k0_hw3 n.val n.isLt)) (fun n => (arg2.view.readAt (Elt F) (Rect.unit (s := S12x2048x64) (k0_off9 n) S1x1x64.size (k0_off9_inb n)).toLoadRect X2)) k0_pay8 f2 k)) ∗ (arg7.view.loc (c : Thread nD τ) ↦[arg7.view.set]{fullShare} (stOf arg7 (fun n => k0_off11 (arg1.view.readAt (Elt F) (Rect.unit (s := S12x1x2048) (k0_off10 n) S1x1x1.size (k0_off10_inb n)).toLoadRect X1 (Shape.Idx.first (numel1_S1x1x1.symm ▸ Nat.one_pos)))) (fun n => k0_off11_inb (arg1.view.readAt (Elt F) (Rect.unit (s := S12x1x2048) (k0_off10 n) S1x1x1.size (k0_off10_inb n)).toLoadRect X1 (Shape.Idx.first (numel1_S1x1x1.symm ▸ Nat.one_pos))) (k0_hw4 n.val n.isLt)) (fun n => (arg2.view.readAt (Elt F) (Rect.unit (s := S12x2048x64) (k0_off12 n) S1x1x64.size (k0_off12_inb n)).toLoadRect X2)) k0_pay9 f3 k)) ∗ (arg8.view.loc (c : Thread nD τ) ↦[arg8.view.set]{fullShare} (stOf arg8 (fun n => k0_off14 (arg1.view.readAt (Elt F) (Rect.unit (s := S12x1x2048) (k0_off13 n) S1x1x1.size (k0_off13_inb n)).toLoadRect X1 (Shape.Idx.first (numel1_S1x1x1.symm ▸ Nat.one_pos)))) (fun n => k0_off14_inb (arg1.view.readAt (Elt F) (Rect.unit (s := S12x1x2048) (k0_off13 n) S1x1x1.size (k0_off13_inb n)).toLoadRect X1 (Shape.Idx.first (numel1_S1x1x1.symm ▸ Nat.one_pos))) (k0_hw5 n.val n.isLt)) (fun n => (arg2.view.readAt (Elt F) (Rect.unit (s := S12x2048x64) (k0_off15 n) S1x1x64.size (k0_off15_inb n)).toLoadRect X2)) k0_pay10 f4 k)) ∗ (arg9.view.loc (c : Thread nD τ) ↦[arg9.view.set]{fullShare} (stOf arg9 (fun n => k0_off17 (arg1.view.readAt (Elt F) (Rect.unit (s := S12x1x2048) (k0_off16 n) S1x1x1.size (k0_off16_inb n)).toLoadRect X1 (Shape.Idx.first (numel1_S1x1x1.symm ▸ Nat.one_pos)))) (fun n => k0_off17_inb (arg1.view.readAt (Elt F) (Rect.unit (s := S12x1x2048) (k0_off16 n) S1x1x1.size (k0_off16_inb n)).toLoadRect X1 (Shape.Idx.first (numel1_S1x1x1.symm ▸ Nat.one_pos))) (k0_hw6 n.val n.isLt)) (fun n => (arg2.view.readAt (Elt F) (Rect.unit (s := S12x2048x64) (k0_off18 n) S1x1x64.size (k0_off18_inb n)).toLoadRect X2)) k0_pay11 f5 k)) ∗ (arg10.view.loc (c : Thread nD τ) ↦[arg10.view.set]{fullShare} (stOf arg10 (fun n => k0_off20 (arg1.view.readAt (Elt F) (Rect.unit (s := S12x1x2048) (k0_off19 n) S1x1x1.size (k0_off19_inb n)).toLoadRect X1 (Shape.Idx.first (numel1_S1x1x1.symm ▸ Nat.one_pos)))) (fun n => k0_off20_inb (arg1.view.readAt (Elt F) (Rect.unit (s := S12x1x2048) (k0_off19 n) S1x1x1.size (k0_off19_inb n)).toLoadRect X1 (Shape.Idx.first (numel1_S1x1x1.symm ▸ Nat.one_pos))) (k0_hw7 n.val n.isLt)) (fun n => (arg2.view.readAt (Elt F) (Rect.unit (s := S12x2048x64) (k0_off21 n) S1x1x64.size (k0_off21_inb n)).toLoadRect X2)) k0_pay12 f6 k)) ∗ (arg11.view.loc (c : Thread nD τ) ↦[arg11.view.set]{fullShare} (stOf arg11 (fun n => k0_off23 (arg1.view.readAt (Elt F) (Rect.unit (s := S12x1x2048) (k0_off22 n) S1x1x1.size (k0_off22_inb n)).toLoadRect X1 (Shape.Idx.first (numel1_S1x1x1.symm ▸ Nat.one_pos)))) (fun n => k0_off23_inb (arg1.view.readAt (Elt F) (Rect.unit (s := S12x1x2048) (k0_off22 n) S1x1x1.size (k0_off22_inb n)).toLoadRect X1 (Shape.Idx.first (numel1_S1x1x1.symm ▸ Nat.one_pos))) (k0_hw8 n.val n.isLt)) (fun n => (arg2.view.readAt (Elt F) (Rect.unit (s := S12x2048x64) (k0_off24 n) S1x1x64.size (k0_off24_inb n)).toLoadRect X2)) k0_pay13 f7 k)) ∗ (arg12.view.loc (c : Thread nD τ) ↦[arg12.view.set]{fullShare} (stOf arg12 (fun n => k0_off26 (arg1.view.readAt (Elt F) (Rect.unit (s := S12x1x2048) (k0_off25 n) S1x1x1.size (k0_off25_inb n)).toLoadRect X1 (Shape.Idx.first (numel1_S1x1x1.symm ▸ Nat.one_pos)))) (fun n => k0_off26_inb (arg1.view.readAt (Elt F) (Rect.unit (s := S12x1x2048) (k0_off25 n) S1x1x1.size (k0_off25_inb n)).toLoadRect X1 (Shape.Idx.first (numel1_S1x1x1.symm ▸ Nat.one_pos))) (k0_hw9 n.val n.isLt)) (fun n => (arg2.view.readAt (Elt F) (Rect.unit (s := S12x2048x64) (k0_off27 n) S1x1x64.size (k0_off27_inb n)).toLoadRect X2)) k0_pay14 f8 k)) ∗ (arg13.view.loc (c : Thread nD τ) ↦[arg13.view.set]{fullShare} (stOf arg13 (fun n => k0_off29 (arg1.view.readAt (Elt F) (Rect.unit (s := S12x1x2048) (k0_off28 n) S1x1x1.size (k0_off28_inb n)).toLoadRect X1 (Shape.Idx.first (numel1_S1x1x1.symm ▸ Nat.one_pos)))) (fun n => k0_off29_inb (arg1.view.readAt (Elt F) (Rect.unit (s := S12x1x2048) (k0_off28 n) S1x1x1.size (k0_off28_inb n)).toLoadRect X1 (Shape.Idx.first (numel1_S1x1x1.symm ▸ Nat.one_pos))) (k0_hw10 n.val n.isLt)) (fun n => (arg2.view.readAt (Elt F) (Rect.unit (s := S12x2048x64) (k0_off30 n) S1x1x64.size (k0_off30_inb n)).toLoadRect X2)) k0_pay15 f9 k)) ∗ (arg14.view.loc (c : Thread nD τ) ↦[arg14.view.set]{fullShare} (stOf arg14 (fun n => k0_off32 (arg1.view.readAt (Elt F) (Rect.unit (s := S12x1x2048) (k0_off31 n) S1x1x1.size (k0_off31_inb n)).toLoadRect X1 (Shape.Idx.first (numel1_S1x1x1.symm ▸ Nat.one_pos)))) (fun n => k0_off32_inb (arg1.view.readAt (Elt F) (Rect.unit (s := S12x1x2048) (k0_off31 n) S1x1x1.size (k0_off31_inb n)).toLoadRect X1 (Shape.Idx.first (numel1_S1x1x1.symm ▸ Nat.one_pos))) (k0_hw11 n.val n.isLt)) (fun n => (arg2.view.readAt (Elt F) (Rect.unit (s := S12x2048x64) (k0_off33 n) S1x1x64.size (k0_off33_inb n)).toLoadRect X2)) k0_pay16 f10 k)) ∗ (arg15.view.loc (c : Thread nD τ) ↦[arg15.view.set]{fullShare} (stOf arg15 (fun n => k0_off35 (arg1.view.readAt (Elt F) (Rect.unit (s := S12x1x2048) (k0_off34 n) S1x1x1.size (k0_off34_inb n)).toLoadRect X1 (Shape.Idx.first (numel1_S1x1x1.symm ▸ Nat.one_pos)))) (fun n => k0_off35_inb (arg1.view.readAt (Elt F) (Rect.unit (s := S12x1x2048) (k0_off34 n) S1x1x1.size (k0_off34_inb n)).toLoadRect X1 (Shape.Idx.first (numel1_S1x1x1.symm ▸ Nat.one_pos))) (k0_hw12 n.val n.isLt)) (fun n => (arg2.view.readAt (Elt F) (Rect.unit (s := S12x2048x64) (k0_off36 n) S1x1x64.size (k0_off36_inb n)).toLoadRect X2)) k0_pay17 f11 k)))
  step k acc := by
    iintro ⟨HR1, HR2, HW0, HW1, HW2, HW3, HW4, HW5, HW6, HW7, HW8, HW9, HW10, HW11⟩
    iapply (wp_wand_r Idealize.ShloMosaic.frame (wpE (defs₀ (F := F)) 𝒱 (c : Thread nD τ) bd) E)
    isplitl [HR1 HR2 HW0 HW1 HW2 HW3 HW4 HW5 HW6 HW7 HW8 HW9 HW10 HW11]
    · iapply (trip 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v28 X1 X2 k (k0_hw1 k.val k.isLt) (k0_hw2 k.val k.isLt) (k0_hw3 k.val k.isLt) (k0_hw4 k.val k.isLt) (k0_hw5 k.val k.isLt) (k0_hw6 k.val k.isLt) (k0_hw7 k.val k.isLt) (k0_hw8 k.val k.isLt) (k0_hw9 k.val k.isLt) (k0_hw10 k.val k.isLt) (k0_hw11 k.val k.isLt) (k0_hw12 k.val k.isLt) E (stOf arg4 (fun n => k0_off2 (arg1.view.readAt (Elt F) (Rect.unit (s := S12x1x2048) (k0_off1 n) S1x1x1.size (k0_off1_inb n)).toLoadRect X1 (Shape.Idx.first (numel1_S1x1x1.symm ▸ Nat.one_pos)))) (fun n => k0_off2_inb (arg1.view.readAt (Elt F) (Rect.unit (s := S12x1x2048) (k0_off1 n) S1x1x1.size (k0_off1_inb n)).toLoadRect X1 (Shape.Idx.first (numel1_S1x1x1.symm ▸ Nat.one_pos))) (k0_hw1 n.val n.isLt)) (fun n => (arg2.view.readAt (Elt F) (Rect.unit (s := S12x2048x64) (k0_off3 n) S1x1x64.size (k0_off3_inb n)).toLoadRect X2)) k0_pay6 f0 k.val) (stOf arg5 (fun n => k0_off5 (arg1.view.readAt (Elt F) (Rect.unit (s := S12x1x2048) (k0_off4 n) S1x1x1.size (k0_off4_inb n)).toLoadRect X1 (Shape.Idx.first (numel1_S1x1x1.symm ▸ Nat.one_pos)))) (fun n => k0_off5_inb (arg1.view.readAt (Elt F) (Rect.unit (s := S12x1x2048) (k0_off4 n) S1x1x1.size (k0_off4_inb n)).toLoadRect X1 (Shape.Idx.first (numel1_S1x1x1.symm ▸ Nat.one_pos))) (k0_hw2 n.val n.isLt)) (fun n => (arg2.view.readAt (Elt F) (Rect.unit (s := S12x2048x64) (k0_off6 n) S1x1x64.size (k0_off6_inb n)).toLoadRect X2)) k0_pay7 f1 k.val) (stOf arg6 (fun n => k0_off8 (arg1.view.readAt (Elt F) (Rect.unit (s := S12x1x2048) (k0_off7 n) S1x1x1.size (k0_off7_inb n)).toLoadRect X1 (Shape.Idx.first (numel1_S1x1x1.symm ▸ Nat.one_pos)))) (fun n => k0_off8_inb (arg1.view.readAt (Elt F) (Rect.unit (s := S12x1x2048) (k0_off7 n) S1x1x1.size (k0_off7_inb n)).toLoadRect X1 (Shape.Idx.first (numel1_S1x1x1.symm ▸ Nat.one_pos))) (k0_hw3 n.val n.isLt)) (fun n => (arg2.view.readAt (Elt F) (Rect.unit (s := S12x2048x64) (k0_off9 n) S1x1x64.size (k0_off9_inb n)).toLoadRect X2)) k0_pay8 f2 k.val) (stOf arg7 (fun n => k0_off11 (arg1.view.readAt (Elt F) (Rect.unit (s := S12x1x2048) (k0_off10 n) S1x1x1.size (k0_off10_inb n)).toLoadRect X1 (Shape.Idx.first (numel1_S1x1x1.symm ▸ Nat.one_pos)))) (fun n => k0_off11_inb (arg1.view.readAt (Elt F) (Rect.unit (s := S12x1x2048) (k0_off10 n) S1x1x1.size (k0_off10_inb n)).toLoadRect X1 (Shape.Idx.first (numel1_S1x1x1.symm ▸ Nat.one_pos))) (k0_hw4 n.val n.isLt)) (fun n => (arg2.view.readAt (Elt F) (Rect.unit (s := S12x2048x64) (k0_off12 n) S1x1x64.size (k0_off12_inb n)).toLoadRect X2)) k0_pay9 f3 k.val) (stOf arg8 (fun n => k0_off14 (arg1.view.readAt (Elt F) (Rect.unit (s := S12x1x2048) (k0_off13 n) S1x1x1.size (k0_off13_inb n)).toLoadRect X1 (Shape.Idx.first (numel1_S1x1x1.symm ▸ Nat.one_pos)))) (fun n => k0_off14_inb (arg1.view.readAt (Elt F) (Rect.unit (s := S12x1x2048) (k0_off13 n) S1x1x1.size (k0_off13_inb n)).toLoadRect X1 (Shape.Idx.first (numel1_S1x1x1.symm ▸ Nat.one_pos))) (k0_hw5 n.val n.isLt)) (fun n => (arg2.view.readAt (Elt F) (Rect.unit (s := S12x2048x64) (k0_off15 n) S1x1x64.size (k0_off15_inb n)).toLoadRect X2)) k0_pay10 f4 k.val) (stOf arg9 (fun n => k0_off17 (arg1.view.readAt (Elt F) (Rect.unit (s := S12x1x2048) (k0_off16 n) S1x1x1.size (k0_off16_inb n)).toLoadRect X1 (Shape.Idx.first (numel1_S1x1x1.symm ▸ Nat.one_pos)))) (fun n => k0_off17_inb (arg1.view.readAt (Elt F) (Rect.unit (s := S12x1x2048) (k0_off16 n) S1x1x1.size (k0_off16_inb n)).toLoadRect X1 (Shape.Idx.first (numel1_S1x1x1.symm ▸ Nat.one_pos))) (k0_hw6 n.val n.isLt)) (fun n => (arg2.view.readAt (Elt F) (Rect.unit (s := S12x2048x64) (k0_off18 n) S1x1x64.size (k0_off18_inb n)).toLoadRect X2)) k0_pay11 f5 k.val) (stOf arg10 (fun n => k0_off20 (arg1.view.readAt (Elt F) (Rect.unit (s := S12x1x2048) (k0_off19 n) S1x1x1.size (k0_off19_inb n)).toLoadRect X1 (Shape.Idx.first (numel1_S1x1x1.symm ▸ Nat.one_pos)))) (fun n => k0_off20_inb (arg1.view.readAt (Elt F) (Rect.unit (s := S12x1x2048) (k0_off19 n) S1x1x1.size (k0_off19_inb n)).toLoadRect X1 (Shape.Idx.first (numel1_S1x1x1.symm ▸ Nat.one_pos))) (k0_hw7 n.val n.isLt)) (fun n => (arg2.view.readAt (Elt F) (Rect.unit (s := S12x2048x64) (k0_off21 n) S1x1x64.size (k0_off21_inb n)).toLoadRect X2)) k0_pay12 f6 k.val) (stOf arg11 (fun n => k0_off23 (arg1.view.readAt (Elt F) (Rect.unit (s := S12x1x2048) (k0_off22 n) S1x1x1.size (k0_off22_inb n)).toLoadRect X1 (Shape.Idx.first (numel1_S1x1x1.symm ▸ Nat.one_pos)))) (fun n => k0_off23_inb (arg1.view.readAt (Elt F) (Rect.unit (s := S12x1x2048) (k0_off22 n) S1x1x1.size (k0_off22_inb n)).toLoadRect X1 (Shape.Idx.first (numel1_S1x1x1.symm ▸ Nat.one_pos))) (k0_hw8 n.val n.isLt)) (fun n => (arg2.view.readAt (Elt F) (Rect.unit (s := S12x2048x64) (k0_off24 n) S1x1x64.size (k0_off24_inb n)).toLoadRect X2)) k0_pay13 f7 k.val) (stOf arg12 (fun n => k0_off26 (arg1.view.readAt (Elt F) (Rect.unit (s := S12x1x2048) (k0_off25 n) S1x1x1.size (k0_off25_inb n)).toLoadRect X1 (Shape.Idx.first (numel1_S1x1x1.symm ▸ Nat.one_pos)))) (fun n => k0_off26_inb (arg1.view.readAt (Elt F) (Rect.unit (s := S12x1x2048) (k0_off25 n) S1x1x1.size (k0_off25_inb n)).toLoadRect X1 (Shape.Idx.first (numel1_S1x1x1.symm ▸ Nat.one_pos))) (k0_hw9 n.val n.isLt)) (fun n => (arg2.view.readAt (Elt F) (Rect.unit (s := S12x2048x64) (k0_off27 n) S1x1x64.size (k0_off27_inb n)).toLoadRect X2)) k0_pay14 f8 k.val) (stOf arg13 (fun n => k0_off29 (arg1.view.readAt (Elt F) (Rect.unit (s := S12x1x2048) (k0_off28 n) S1x1x1.size (k0_off28_inb n)).toLoadRect X1 (Shape.Idx.first (numel1_S1x1x1.symm ▸ Nat.one_pos)))) (fun n => k0_off29_inb (arg1.view.readAt (Elt F) (Rect.unit (s := S12x1x2048) (k0_off28 n) S1x1x1.size (k0_off28_inb n)).toLoadRect X1 (Shape.Idx.first (numel1_S1x1x1.symm ▸ Nat.one_pos))) (k0_hw10 n.val n.isLt)) (fun n => (arg2.view.readAt (Elt F) (Rect.unit (s := S12x2048x64) (k0_off30 n) S1x1x64.size (k0_off30_inb n)).toLoadRect X2)) k0_pay15 f9 k.val) (stOf arg14 (fun n => k0_off32 (arg1.view.readAt (Elt F) (Rect.unit (s := S12x1x2048) (k0_off31 n) S1x1x1.size (k0_off31_inb n)).toLoadRect X1 (Shape.Idx.first (numel1_S1x1x1.symm ▸ Nat.one_pos)))) (fun n => k0_off32_inb (arg1.view.readAt (Elt F) (Rect.unit (s := S12x1x2048) (k0_off31 n) S1x1x1.size (k0_off31_inb n)).toLoadRect X1 (Shape.Idx.first (numel1_S1x1x1.symm ▸ Nat.one_pos))) (k0_hw11 n.val n.isLt)) (fun n => (arg2.view.readAt (Elt F) (Rect.unit (s := S12x2048x64) (k0_off33 n) S1x1x64.size (k0_off33_inb n)).toLoadRect X2)) k0_pay16 f10 k.val) (stOf arg15 (fun n => k0_off35 (arg1.view.readAt (Elt F) (Rect.unit (s := S12x1x2048) (k0_off34 n) S1x1x1.size (k0_off34_inb n)).toLoadRect X1 (Shape.Idx.first (numel1_S1x1x1.symm ▸ Nat.one_pos)))) (fun n => k0_off35_inb (arg1.view.readAt (Elt F) (Rect.unit (s := S12x1x2048) (k0_off34 n) S1x1x1.size (k0_off34_inb n)).toLoadRect X1 (Shape.Idx.first (numel1_S1x1x1.symm ▸ Nat.one_pos))) (k0_hw12 n.val n.isLt)) (fun n => (arg2.view.readAt (Elt F) (Rect.unit (s := S12x2048x64) (k0_off36 n) S1x1x64.size (k0_off36_inb n)).toLoadRect X2)) k0_pay17 f11 k.val))
      isplitl [HR1]; · iexact HR1
      isplitl [HR2]; · iexact HR2
      isplitl [HW0]; · iexact HW0
      isplitl [HW1]; · iexact HW1
      isplitl [HW2]; · iexact HW2
      isplitl [HW3]; · iexact HW3
      isplitl [HW4]; · iexact HW4
      isplitl [HW5]; · iexact HW5
      isplitl [HW6]; · iexact HW6
      isplitl [HW7]; · iexact HW7
      isplitl [HW8]; · iexact HW8
      isplitl [HW9]; · iexact HW9
      isplitl [HW10]; · iexact HW10
      iexact HW11
    · iintro %yld ⟨HR1, HR2, HW0, HW1, HW2, HW3, HW4, HW5, HW6, HW7, HW8, HW9, HW10, HW11⟩
      simp only [stOf_succ]
      isplitl [HR1]; · iexact HR1
      isplitl [HR2]; · iexact HR2
      isplitl [HW0]; · iexact HW0
      isplitl [HW1]; · iexact HW1
      isplitl [HW2]; · iexact HW2
      isplitl [HW3]; · iexact HW3
      isplitl [HW4]; · iexact HW4
      isplitl [HW5]; · iexact HW5
      isplitl [HW6]; · iexact HW6
      isplitl [HW7]; · iexact HW7
      isplitl [HW8]; · iexact HW8
      isplitl [HW9]; · iexact HW9
      isplitl [HW10]; · iexact HW10
      iexact HW11

end Cert.Proof.ZsumIdeal
-- ==== Proof.ZsumIdealValue.lean ====
module

public import proofs.«01_k».proof.Proof.Gen.ZsumIdeal.Launch
public import proofs.«01_k».proof.Proof.Gen.ZsumIdeal.Skeleton
public import proofs.«01_k».proof.Proof.Gen.ZsumIdeal.Loops
public import proofs.«01_k».proof.Proof.Gen.ZsumIdeal.Points
public import Idealize.ShloMosaic.Lib.Pipeline.FrameBody
public import Idealize.ShloMosaic.Lib.Tactic
public import Idealize.ShloMosaic.Lib.WritesUnit
public import Idealize.ShloMosaic.Lib.ValueIdx

public import proofs.«01_k».proof.Proof.ZsumIdealLoop

@[expose] public section

set_option maxRecDepth 16384

noncomputable section

namespace Cert.Proof.ZsumIdeal

open Cert.ZsumIdeal Cert.ZsumIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The running column sums of one head: after `n` keys, row `r` holds the sum of those of the first `n` keys
whose slot is `r`, added in order onto zero. -/
def sumAcc (A : Vec F S12x1x2048 .i32) (X : Vec F S12x2048x64 .f32) (h : Fin 12) : ℕ → Fin 64 → Fin 64 → F .f32
  | 0 => fun _ _ => Scalar.ofBits .f32 0x00000000#32
  | n + 1 => fun r e =>
    if r.val = (A (ix3 h 0 (Fin.ofNat 2048 n))).toNat then
      FloatOps.addf (sumAcc A X h n r e) (X (ix3 h (Fin.ofNat 2048 n) e))
    else sumAcc A X h n r e

/-- What the accumulation call leaves: for every head the sums over all 2048 keys. -/
def sumOut (A : Vec F S12x1x2048 .i32) (X : Vec F S12x2048x64 .f32) : Vec F S12x64x64 .f32 :=
  fun j => sumAcc A X (j 0) 2048 (j 1) (j 2)

theorem trips_eq : k0_t1_loop.trips = 2048 := by decide +kernel

/-- The contents of one scratch matrix, read, are the running sums. -/
theorem read_stOf (h : Fin 12) (A : Vec F S12x1x2048 .i32) (X : Vec F S12x2048x64 .f32)
    (arg : Memref sig .tc .vmem S64x64 .f32) (off : Fin k0_t1_loop.trips → Fin 2 → ℕ)
    (inb : ∀ n a, off n a + S1x64.size a ≤ S64x64.size a) (row : Fin k0_t1_loop.trips → Vec F S1x1x64 .f32)
    (pay : Vec F S1x64 .f32 → Vec F S1x1x64 .f32 → FVec F S1x64 .f32)
    (f : BufTy.Contents (Elt F) arg.view.ty)
    (hoff : ∀ n, off n = ![(A (ix3 h 0 (Fin.ofNat 2048 n.val))).toNat, 0])
    (hrow : ∀ n (e : Fin 64), row n (ix3 0 0 e) = X (ix3 h (Fin.ofNat 2048 n.val) e))
    (hpay : ∀ u v (e : Fin 64), pay u v (ix2 0 e) = FloatOps.addf (u (ix2 0 e)) (v (ix3 0 0 e)))
    (hf : ∀ r e : Fin 64, arg.view.read (Elt F) f (ix2 r e) = Scalar.ofBits .f32 0x00000000#32) :
    ∀ k, k ≤ k0_t1_loop.trips → ∀ r e : Fin 64,
      arg.view.read (Elt F) (stOf arg off inb row pay f k) (ix2 r e) = sumAcc A X h k r e
  | 0, _ => fun r e => hf r e
  | k + 1, hk => fun r e => by
    have ih := read_stOf h A X arg off inb row pay f hoff hrow hpay hf k (Nat.le_of_succ_le hk)
    have := stOf_succ arg off inb row pay f ⟨k, hk⟩
    rw [show k + 1 = (⟨k, hk⟩ : Fin k0_t1_loop.trips).val + 1 from rfl, this]
    simp only [sumAcc]
    by_cases hr : r.val = (A (ix3 h 0 (Fin.ofNat 2048 k))).toNat
    · rw [if_pos hr]
      rw [View.read_writes_cons_unit_of_mem arg.view _ (inb ⟨k, hk⟩) _ [] (ix2 r e) (ix2 0 e) (hoff ⟨k, hk⟩)
        (fun a => by
          match a with
          | ⟨0, _⟩ => simpa using hr
          | ⟨1, _⟩ => simp)]
      erw [hpay, hrow]
      congr 1
      rw [View.readAt_apply]
      have hidx : (Rect.unit (s := S64x64) (off ⟨k, hk⟩) S1x64.size (inb ⟨k, hk⟩)).toLoadRect.idx (ix2 0 e) = ix2 r e := by
        funext a
        apply Fin.ext
        match a with
        | ⟨0, _⟩ =>
          show off ⟨k, hk⟩ 0 + 1 * 0 = r.val
          rw [hoff]; simpa using hr.symm
        | ⟨1, _⟩ =>
          show off ⟨k, hk⟩ 1 + 1 * e.val = e.val
          rw [hoff]; simp
      rw [hidx]; exact ih r e
    · rw [if_neg hr]
      rw [View.read_writes_cons_unit_of_not_mem arg.view _ (inb ⟨k, hk⟩) _ [] (ix2 r e) (hoff ⟨k, hk⟩) 0
        (by
          show r.val < (A (ix3 h 0 (Fin.ofNat 2048 k))).toNat ∨ (A (ix3 h 0 (Fin.ofNat 2048 k))).toNat + 1 ≤ r.val
          omega)]
      exact ih r e

/-- A word read from the slot table, at closed offsets. -/
theorem word_read (h : Fin 12) (arg1 : Memref sig .tc .smem S12x1x2048 .i32) (harg1 : arg1.IsWhole)
    (A : Vec F S12x1x2048 .i32) (n : Fin k0_t1_loop.trips) (off : Fin 3 → ℕ) (inb : ∀ a, off a + S1x1x1.size a ≤ S12x1x2048.size a)
    (hoff : off = ![h.val, 0, n.val]) (hp : 0 < S1x1x1.numel) :
    arg1.view.readAt (Elt F) (Rect.unit (s := S12x1x2048) off S1x1x1.size inb).toLoadRect (harg1.unread A) (Shape.Idx.first hp)
      = A (ix3 h 0 (Fin.ofNat 2048 n.val)) := by
  have hn : n.val < 2048 := Nat.lt_of_lt_of_le n.isLt (le_of_eq trips_eq)
  rw [View.readAt_apply, harg1.read_unread]
  congr 1
  subst hoff
  funext a
  apply Fin.ext
  have h0 : ∀ a, ((Shape.Idx.first hp : S1x1x1.Idx) a).val = 0 := fun a => by
    have := ((Shape.Idx.first hp : S1x1x1.Idx) a).isLt
    match a with
    | ⟨0, _⟩ => exact Nat.lt_one_iff.mp this
    | ⟨1, _⟩ => exact Nat.lt_one_iff.mp this
    | ⟨2, _⟩ => exact Nat.lt_one_iff.mp this
  match a with
  | ⟨0, _⟩ => show h.val + 1 * _ = h.val; rw [h0]; rfl
  | ⟨1, _⟩ => show 0 + 1 * _ = 0; rw [h0]
  | ⟨2, _⟩ =>
    show n.val + 1 * _ = n.val % 2048
    rw [h0, Nat.mod_eq_of_lt hn]; rfl

/-- A key row read at closed offsets. -/
theorem row_read (h : Fin 12) (arg2 : Memref sig .tc .vmem S12x2048x64 .f32) (harg2 : arg2.IsWhole)
    (X : Vec F S12x2048x64 .f32) (n : Fin k0_t1_loop.trips) (off : Fin 3 → ℕ) (inb : ∀ a, off a + S1x1x64.size a ≤ S12x2048x64.size a)
    (hoff : off = ![h.val, n.val, 0]) (e : Fin 64) :
    arg2.view.readAt (Elt F) (Rect.unit (s := S12x2048x64) off S1x1x64.size inb).toLoadRect (harg2.unread X) (ix3 0 0 e)
      = X (ix3 h (Fin.ofNat 2048 n.val) e) := by
  have hn : n.val < 2048 := Nat.lt_of_lt_of_le n.isLt (le_of_eq trips_eq)
  rw [View.readAt_apply, harg2.read_unread]
  congr 1
  subst hoff
  funext a
  apply Fin.ext
  match a with
  | ⟨0, _⟩ => show h.val + 1 * 0 = h.val; omega
  | ⟨1, _⟩ => show n.val + 1 * 0 = n.val % 2048; rw [Nat.mod_eq_of_lt hn]; omega
  | ⟨2, _⟩ => show 0 + 1 * e.val = e.val; omega

/-- A scratch matrix filled with zeros and then accumulated into, read whole, is the sums over all keys. -/
theorem read_final (h : Fin 12) (A : Vec F S12x1x2048 .i32) (X : Vec F S12x2048x64 .f32)
    (arg : Memref sig .tc .vmem S64x64 .f32) (off : Fin k0_t1_loop.trips → Fin 2 → ℕ)
    (inb : ∀ n a, off n a + S1x64.size a ≤ S64x64.size a) (row : Fin k0_t1_loop.trips → Vec F S1x1x64 .f32)
    (pay : Vec F S1x64 .f32 → Vec F S1x1x64 .f32 → FVec F S1x64 .f32) (z : Vec F S64x64 .f32)
    (f : BufTy.Contents (Elt F) arg.view.ty) (inb0 inb1 : ∀ a, (![0, 0] : Fin 2 → ℕ) a + S64x64.size a ≤ S64x64.size a)
    (hoff : ∀ n, off n = ![(A (ix3 h 0 (Fin.ofNat 2048 n.val))).toNat, 0])
    (hrow : ∀ n (e : Fin 64), row n (ix3 0 0 e) = X (ix3 h (Fin.ofNat 2048 n.val) e))
    (hpay : ∀ u v (e : Fin 64), pay u v (ix2 0 e) = FloatOps.addf (u (ix2 0 e)) (v (ix3 0 0 e)))
    (hz : ∀ r e : Fin 64, z (ix2 r e) = Scalar.ofBits .f32 0x00000000#32) (r e : Fin 64) :
    arg.view.readAt (Elt F) (Rect.unit (s := S64x64) ![0, 0] S64x64.size inb1).toLoadRect
      (stOf arg off inb row pay (arg.view.writes (Elt F) f [⟨Rect.unit (s := S64x64) ![0, 0] S64x64.size inb0, z⟩])
        (Scf.trips k0_t1_loop.lb k0_t1_loop.ub k0_t1_loop.st)) (ix2 r e)
      = sumAcc A X h 2048 r e := by
  rw [View.readAt_apply]
  have hidx : (Rect.unit (s := S64x64) ![0, 0] S64x64.size inb1).toLoadRect.idx (ix2 r e) = ix2 r e := by
    funext a
    apply Fin.ext
    match a with
    | ⟨0, _⟩ => show 0 + 1 * r.val = r.val; omega
    | ⟨1, _⟩ => show 0 + 1 * e.val = e.val; omega
  rw [hidx]
  have ht : Scf.trips k0_t1_loop.lb k0_t1_loop.ub k0_t1_loop.st = 2048 := trips_eq
  rw [ht]
  refine read_stOf h A X arg off inb row pay _ hoff hrow hpay (fun r e => ?_) 2048 (le_of_eq trips_eq.symm) r e
  rw [View.read_writes_cons_unit_of_mem arg.view _ inb0 z [] (ix2 r e) (ix2 r e) rfl
    (fun a => by
      match a with
      | ⟨0, _⟩ => simp
      | ⟨1, _⟩ => simp)]
  exact hz r e

/-- One head's slab of the result, written over whatever the earlier stores left, is read at its own head. -/
theorem slab_read (arg3 : Memref sig .tc .vmem S12x64x64 .f32) (f : BufTy.Contents (Elt F) arg3.view.ty) (h a : Fin 12)
    (off : Fin 3 → ℕ) (hoff : off = ![h.val, 0, 0])
    (inb : ∀ a, off a + S1x64x64.size a ≤ S12x64x64.size a) (w : Vec F S1x64x64 .f32)
    (L : List (View.Piece (Elt F) S12x64x64 .f32)) (r e : Fin 64) (y : F .f32)
    (hhit : a = h → w (ix3 0 r e) = y) (hmiss : a ≠ h → arg3.view.read (Elt F) (arg3.view.writes (Elt F) f L) (ix3 a r e) = y) :
    arg3.view.read (Elt F) (arg3.view.writes (Elt F) f (⟨Rect.unit (s := S12x64x64) off S1x64x64.size inb, w⟩ :: L)) (ix3 a r e) = y := by
  by_cases hah : a = h
  · subst hah
    rw [View.read_writes_cons_unit_of_mem arg3.view f inb w L (ix3 a r e) (ix3 0 r e) hoff
      (fun d => by
        match d with
        | ⟨0, _⟩ => simp
        | ⟨1, _⟩ => simp
        | ⟨2, _⟩ => simp)]
    exact hhit rfl
  · rw [View.read_writes_cons_unit_of_not_mem arg3.view f inb w L (ix3 a r e) hoff 0
      (by
        show a.val < h.val ∨ h.val + 1 ≤ a.val
        have : a.val ≠ h.val := fun hh => hah (Fin.ext hh)
        omega)]
    exact hmiss hah

end Cert.Proof.ZsumIdeal
-- ==== Proof.ZsumIdealRun.lean ====
module

public import proofs.«01_k».proof.Proof.Gen.ZsumIdeal.Launch
public import proofs.«01_k».proof.Proof.Gen.ZsumIdeal.Skeleton
public import proofs.«01_k».proof.Proof.Gen.ZsumIdeal.Loops
public import proofs.«01_k».proof.Proof.Gen.ZsumIdeal.Points
public import Idealize.ShloMosaic.Lib.Pipeline.FrameBody
public import Idealize.ShloMosaic.Lib.Tactic
public import Idealize.ShloMosaic.Lib.WritesUnit
public import Idealize.ShloMosaic.Lib.ValueIdx
public import Idealize.ShloMosaic.Lib.ValueLayout
public import Idealize.ShloMosaic.Lib.Pipeline.Value

public import proofs.«01_k».proof.Proof.ZsumIdealLoop
public import proofs.«01_k».proof.Proof.ZsumIdealValue

@[expose] public section

set_option maxRecDepth 16384

noncomputable section

namespace Cert.Proof.ZsumIdeal

open Cert.ZsumIdeal Cert.ZsumIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A row plus a key row, at a column. -/
theorem addRow_apply (u : Vec F S1x64 .f32) (v : Vec F S1x1x64 .f32) (e : Fin 64) :
    k0_pay6 u v (ix2 0 e) = FloatOps.addf (u (ix2 0 e)) (v (ix3 0 0 e)) := by
  unfold k0_pay6
  simp only [shapeCast_self]
  show FloatOps.addf (u (ix2 0 e)) (shapeCast S1x64 v shapeCasts_S1x1x64_S1x64 (ix2 0 e)) = _
  rw [shapeCast_1ab_ab_apply]

/-- A matrix stored as a slab, at a row and a column. -/
theorem slab_apply (y : Vec F S64x64 .f32) (r e : Fin 64) : k0_pay31 y (ix3 0 r e) = y (ix2 r e) := by
  unfold k0_pay31
  exact shapeCast_ab_1ab_apply _ _ _ _ _

set_option maxHeartbeats 16000000 in
/-- The accumulation call on one core: from the slot table and the keys it leaves `sumOut` of them. -/
theorem sum_run (c : Dev nD) (i : grid0.Coords) (arg1 : Memref sig .tc .smem S12x1x2048 .i32) (harg1 : arg1.IsWhole) (arg2 : Memref sig .tc .vmem S12x2048x64 .f32) (harg2 : arg2.IsWhole) (arg3 : Memref sig .tc .vmem S12x64x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S64x64 .f32) (harg13 : arg13.IsWhole) (arg14 : Memref sig .tc .vmem S64x64 .f32) (harg14 : arg14.IsWhole) (arg15 : Memref sig .tc .vmem S64x64 .f32) (harg15 : arg15.IsWhole)
    (x0 : Vec F S12x1x2048 .i32) (x1 : Vec F S12x2048x64 .f32) (k0_hw1L : ∀ kq hkq, k0_chk1 (arg1.view.readAt (Elt F) (Rect.unit (s := S12x1x2048) (k0_off1 ⟨kq, hkq⟩) S1x1x1.size (k0_off1_inb ⟨kq, hkq⟩)).toLoadRect (harg1.unread x0) (Shape.Idx.first (numel1_S1x1x1.symm ▸ Nat.one_pos)))) (k0_hw2L : ∀ kq hkq, k0_chk2 (arg1.view.readAt (Elt F) (Rect.unit (s := S12x1x2048) (k0_off4 ⟨kq, hkq⟩) S1x1x1.size (k0_off4_inb ⟨kq, hkq⟩)).toLoadRect (harg1.unread x0) (Shape.Idx.first (numel1_S1x1x1.symm ▸ Nat.one_pos)))) (k0_hw3L : ∀ kq hkq, k0_chk3 (arg1.view.readAt (Elt F) (Rect.unit (s := S12x1x2048) (k0_off7 ⟨kq, hkq⟩) S1x1x1.size (k0_off7_inb ⟨kq, hkq⟩)).toLoadRect (harg1.unread x0) (Shape.Idx.first (numel1_S1x1x1.symm ▸ Nat.one_pos)))) (k0_hw4L : ∀ kq hkq, k0_chk4 (arg1.view.readAt (Elt F) (Rect.unit (s := S12x1x2048) (k0_off10 ⟨kq, hkq⟩) S1x1x1.size (k0_off10_inb ⟨kq, hkq⟩)).toLoadRect (harg1.unread x0) (Shape.Idx.first (numel1_S1x1x1.symm ▸ Nat.one_pos)))) (k0_hw5L : ∀ kq hkq, k0_chk5 (arg1.view.readAt (Elt F) (Rect.unit (s := S12x1x2048) (k0_off13 ⟨kq, hkq⟩) S1x1x1.size (k0_off13_inb ⟨kq, hkq⟩)).toLoadRect (harg1.unread x0) (Shape.Idx.first (numel1_S1x1x1.symm ▸ Nat.one_pos)))) (k0_hw6L : ∀ kq hkq, k0_chk6 (arg1.view.readAt (Elt F) (Rect.unit (s := S12x1x2048) (k0_off16 ⟨kq, hkq⟩) S1x1x1.size (k0_off16_inb ⟨kq, hkq⟩)).toLoadRect (harg1.unread x0) (Shape.Idx.first (numel1_S1x1x1.symm ▸ Nat.one_pos)))) (k0_hw7L : ∀ kq hkq, k0_chk7 (arg1.view.readAt (Elt F) (Rect.unit (s := S12x1x2048) (k0_off19 ⟨kq, hkq⟩) S1x1x1.size (k0_off19_inb ⟨kq, hkq⟩)).toLoadRect (harg1.unread x0) (Shape.Idx.first (numel1_S1x1x1.symm ▸ Nat.one_pos)))) (k0_hw8L : ∀ kq hkq, k0_chk8 (arg1.view.readAt (Elt F) (Rect.unit (s := S12x1x2048) (k0_off22 ⟨kq, hkq⟩) S1x1x1.size (k0_off22_inb ⟨kq, hkq⟩)).toLoadRect (harg1.unread x0) (Shape.Idx.first (numel1_S1x1x1.symm ▸ Nat.one_pos)))) (k0_hw9L : ∀ kq hkq, k0_chk9 (arg1.view.readAt (Elt F) (Rect.unit (s := S12x1x2048) (k0_off25 ⟨kq, hkq⟩) S1x1x1.size (k0_off25_inb ⟨kq, hkq⟩)).toLoadRect (harg1.unread x0) (Shape.Idx.first (numel1_S1x1x1.symm ▸ Nat.one_pos)))) (k0_hw10L : ∀ kq hkq, k0_chk10 (arg1.view.readAt (Elt F) (Rect.unit (s := S12x1x2048) (k0_off28 ⟨kq, hkq⟩) S1x1x1.size (k0_off28_inb ⟨kq, hkq⟩)).toLoadRect (harg1.unread x0) (Shape.Idx.first (numel1_S1x1x1.symm ▸ Nat.one_pos)))) (k0_hw11L : ∀ kq hkq, k0_chk11 (arg1.view.readAt (Elt F) (Rect.unit (s := S12x1x2048) (k0_off31 ⟨kq, hkq⟩) S1x1x1.size (k0_off31_inb ⟨kq, hkq⟩)).toLoadRect (harg1.unread x0) (Shape.Idx.first (numel1_S1x1x1.symm ▸ Nat.one_pos)))) (k0_hw12L : ∀ kq hkq, k0_chk12 (arg1.view.readAt (Elt F) (Rect.unit (s := S12x1x2048) (k0_off34 ⟨kq, hkq⟩) S1x1x1.size (k0_off34_inb ⟨kq, hkq⟩)).toLoadRect (harg1.unread x0) (Shape.Idx.first (numel1_S1x1x1.symm ▸ Nat.one_pos)))) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare (sumOut x0 x1) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0__z_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__z_body_eq_skeleton]; unfold cc0__z_body_skel
  simp only [k0_part5_eq_skeleton, k0_part6_eq_skeleton, k0_part7_eq_skeleton]
  unfold owns
  iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine funext fun j => ?_
    rw [eq_ix3 j]
    show _ = sumAcc x0 x1 (j 0) 2048 (j 1) (j 2)
    refine slab_read arg3 _ 11 (j 0) _ (by rfl) _ _ _ (j 1) (j 2) _ (fun hj => ?_) (fun h11 => ?_)
    · rw [hj]
      refine Eq.trans (?_ : _ = (sum_run.sl.v93 c arg1 harg1 arg2 harg2 arg15 x0 x1 k0_hw12L) (ix2 (j 1) (j 2))) ?_
      · exact slab_apply _ _ _
      · unfold sum_run.sl.v93
        exact read_final 11 x0 x1 _ _ _ _ _ _ _ _ _ (fun n => by rw [word_read 11 arg1 harg1 x0 n _ _ (k0_off34_eq n)]; rfl) (fun n e => row_read 11 arg2 harg2 x1 n _ _ (k0_off36_eq n) e) (fun u v e => addRow_apply u v e) (fun _ _ => rfl) (j 1) (j 2)
    refine slab_read arg3 _ 10 (j 0) _ (by rfl) _ _ _ (j 1) (j 2) _ (fun hj => ?_) (fun h10 => ?_)
    · rw [hj]
      refine Eq.trans (?_ : _ = (sum_run.sl.v89 c arg1 harg1 arg2 harg2 arg14 x0 x1 k0_hw11L) (ix2 (j 1) (j 2))) ?_
      · exact slab_apply _ _ _
      · unfold sum_run.sl.v89
        exact read_final 10 x0 x1 _ _ _ _ _ _ _ _ _ (fun n => by rw [word_read 10 arg1 harg1 x0 n _ _ (k0_off31_eq n)]; rfl) (fun n e => row_read 10 arg2 harg2 x1 n _ _ (k0_off33_eq n) e) (fun u v e => addRow_apply u v e) (fun _ _ => rfl) (j 1) (j 2)
    refine slab_read arg3 _ 9 (j 0) _ (by rfl) _ _ _ (j 1) (j 2) _ (fun hj => ?_) (fun h9 => ?_)
    · rw [hj]
      refine Eq.trans (?_ : _ = (sum_run.sl.v85 c arg1 harg1 arg2 harg2 arg13 x0 x1 k0_hw10L) (ix2 (j 1) (j 2))) ?_
      · exact slab_apply _ _ _
      · unfold sum_run.sl.v85
        exact read_final 9 x0 x1 _ _ _ _ _ _ _ _ _ (fun n => by rw [word_read 9 arg1 harg1 x0 n _ _ (k0_off28_eq n)]; rfl) (fun n e => row_read 9 arg2 harg2 x1 n _ _ (k0_off30_eq n) e) (fun u v e => addRow_apply u v e) (fun _ _ => rfl) (j 1) (j 2)
    refine slab_read arg3 _ 8 (j 0) _ (by rfl) _ _ _ (j 1) (j 2) _ (fun hj => ?_) (fun h8 => ?_)
    · rw [hj]
      refine Eq.trans (?_ : _ = (sum_run.sl.v81 c arg1 harg1 arg2 harg2 arg12 x0 x1 k0_hw9L) (ix2 (j 1) (j 2))) ?_
      · exact slab_apply _ _ _
      · unfold sum_run.sl.v81
        exact read_final 8 x0 x1 _ _ _ _ _ _ _ _ _ (fun n => by rw [word_read 8 arg1 harg1 x0 n _ _ (k0_off25_eq n)]; rfl) (fun n e => row_read 8 arg2 harg2 x1 n _ _ (k0_off27_eq n) e) (fun u v e => addRow_apply u v e) (fun _ _ => rfl) (j 1) (j 2)
    refine slab_read arg3 _ 7 (j 0) _ (by rfl) _ _ _ (j 1) (j 2) _ (fun hj => ?_) (fun h7 => ?_)
    · rw [hj]
      refine Eq.trans (?_ : _ = (sum_run.sl.v77 c arg1 harg1 arg2 harg2 arg11 x0 x1 k0_hw8L) (ix2 (j 1) (j 2))) ?_
      · exact slab_apply _ _ _
      · unfold sum_run.sl.v77
        exact read_final 7 x0 x1 _ _ _ _ _ _ _ _ _ (fun n => by rw [word_read 7 arg1 harg1 x0 n _ _ (k0_off22_eq n)]; rfl) (fun n e => row_read 7 arg2 harg2 x1 n _ _ (k0_off24_eq n) e) (fun u v e => addRow_apply u v e) (fun _ _ => rfl) (j 1) (j 2)
    refine slab_read arg3 _ 6 (j 0) _ (by rfl) _ _ _ (j 1) (j 2) _ (fun hj => ?_) (fun h6 => ?_)
    · rw [hj]
      refine Eq.trans (?_ : _ = (sum_run.sl.v73 c arg1 harg1 arg2 harg2 arg10 x0 x1 k0_hw7L) (ix2 (j 1) (j 2))) ?_
      · exact slab_apply _ _ _
      · unfold sum_run.sl.v73
        exact read_final 6 x0 x1 _ _ _ _ _ _ _ _ _ (fun n => by rw [word_read 6 arg1 harg1 x0 n _ _ (k0_off19_eq n)]; rfl) (fun n e => row_read 6 arg2 harg2 x1 n _ _ (k0_off21_eq n) e) (fun u v e => addRow_apply u v e) (fun _ _ => rfl) (j 1) (j 2)
    refine slab_read arg3 _ 5 (j 0) _ (by rfl) _ _ _ (j 1) (j 2) _ (fun hj => ?_) (fun h5 => ?_)
    · rw [hj]
      refine Eq.trans (?_ : _ = (sum_run.sl.v69 c arg1 harg1 arg2 harg2 arg9 x0 x1 k0_hw6L) (ix2 (j 1) (j 2))) ?_
      · exact slab_apply _ _ _
      · unfold sum_run.sl.v69
        exact read_final 5 x0 x1 _ _ _ _ _ _ _ _ _ (fun n => by rw [word_read 5 arg1 harg1 x0 n _ _ (k0_off16_eq n)]; rfl) (fun n e => row_read 5 arg2 harg2 x1 n _ _ (k0_off18_eq n) e) (fun u v e => addRow_apply u v e) (fun _ _ => rfl) (j 1) (j 2)
    refine slab_read arg3 _ 4 (j 0) _ (by rfl) _ _ _ (j 1) (j 2) _ (fun hj => ?_) (fun h4 => ?_)
    · rw [hj]
      refine Eq.trans (?_ : _ = (sum_run.sl.v65 c arg1 harg1 arg2 harg2 arg8 x0 x1 k0_hw5L) (ix2 (j 1) (j 2))) ?_
      · exact slab_apply _ _ _
      · unfold sum_run.sl.v65
        exact read_final 4 x0 x1 _ _ _ _ _ _ _ _ _ (fun n => by rw [word_read 4 arg1 harg1 x0 n _ _ (k0_off13_eq n)]; rfl) (fun n e => row_read 4 arg2 harg2 x1 n _ _ (k0_off15_eq n) e) (fun u v e => addRow_apply u v e) (fun _ _ => rfl) (j 1) (j 2)
    refine slab_read arg3 _ 3 (j 0) _ (by rfl) _ _ _ (j 1) (j 2) _ (fun hj => ?_) (fun h3 => ?_)
    · rw [hj]
      refine Eq.trans (?_ : _ = (sum_run.sl.v61 c arg1 harg1 arg2 harg2 arg7 x0 x1 k0_hw4L) (ix2 (j 1) (j 2))) ?_
      · exact slab_apply _ _ _
      · unfold sum_run.sl.v61
        exact read_final 3 x0 x1 _ _ _ _ _ _ _ _ _ (fun n => by rw [word_read 3 arg1 harg1 x0 n _ _ (k0_off10_eq n)]; rfl) (fun n e => row_read 3 arg2 harg2 x1 n _ _ (k0_off12_eq n) e) (fun u v e => addRow_apply u v e) (fun _ _ => rfl) (j 1) (j 2)
    refine slab_read arg3 _ 2 (j 0) _ (by rfl) _ _ _ (j 1) (j 2) _ (fun hj => ?_) (fun h2 => ?_)
    · rw [hj]
      refine Eq.trans (?_ : _ = (sum_run.sl.v57 c arg1 harg1 arg2 harg2 arg6 x0 x1 k0_hw3L) (ix2 (j 1) (j 2))) ?_
      · exact slab_apply _ _ _
      · unfold sum_run.sl.v57
        exact read_final 2 x0 x1 _ _ _ _ _ _ _ _ _ (fun n => by rw [word_read 2 arg1 harg1 x0 n _ _ (k0_off7_eq n)]; rfl) (fun n e => row_read 2 arg2 harg2 x1 n _ _ (k0_off9_eq n) e) (fun u v e => addRow_apply u v e) (fun _ _ => rfl) (j 1) (j 2)
    refine slab_read arg3 _ 1 (j 0) _ (by rfl) _ _ _ (j 1) (j 2) _ (fun hj => ?_) (fun h1 => ?_)
    · rw [hj]
      refine Eq.trans (?_ : _ = (sum_run.sl.v53 c arg1 harg1 arg2 harg2 arg5 x0 x1 k0_hw2L) (ix2 (j 1) (j 2))) ?_
      · exact slab_apply _ _ _
      · unfold sum_run.sl.v53
        exact read_final 1 x0 x1 _ _ _ _ _ _ _ _ _ (fun n => by rw [word_read 1 arg1 harg1 x0 n _ _ (k0_off4_eq n)]; rfl) (fun n e => row_read 1 arg2 harg2 x1 n _ _ (k0_off6_eq n) e) (fun u v e => addRow_apply u v e) (fun _ _ => rfl) (j 1) (j 2)
    refine slab_read arg3 _ 0 (j 0) _ (by rfl) _ _ _ (j 1) (j 2) _ (fun hj => ?_) (fun h0 => ?_)
    · rw [hj]
      refine Eq.trans (?_ : _ = (sum_run.sl.v49 c arg1 harg1 arg2 harg2 arg4 x0 x1 k0_hw1L) (ix2 (j 1) (j 2))) ?_
      · exact slab_apply _ _ _
      · unfold sum_run.sl.v49
        exact read_final 0 x0 x1 _ _ _ _ _ _ _ _ _ (fun n => by rw [word_read 0 arg1 harg1 x0 n _ _ (k0_off1_eq n)]; rfl) (fun n e => row_read 0 arg2 harg2 x1 n _ _ (k0_off3_eq n) e) (fun u v e => addRow_apply u v e) (fun _ _ => rfl) (j 1) (j 2)
    exfalso
    have : ∀ a : Fin 12, a ≠ 11 → a ≠ 10 → a ≠ 9 → a ≠ 8 → a ≠ 7 → a ≠ 6 → a ≠ 5 → a ≠ 4 → a ≠ 3 → a ≠ 2 → a ≠ 1 → a ≠ 0 → False := by intro a; fin_cases a <;> simp
    exact this (j 0) h11 h10 h9 h8 h7 h6 h5 h4 h3 h2 h1 h0
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [HS9]
  · iexists _, _; isplitr; swap; · iexact HS9
    ipureintro; rfl
  isplitl [HS10]
  · iexists _, _; isplitr; swap; · iexact HS10
    ipureintro; rfl
  iexists _, _; isplitr; swap; · iexact HS11
  ipureintro; rfl

end Cert.Proof.ZsumIdeal
-- ==== Proof.ZsumIdealRegion.lean ====
module

public import proofs.«01_k».proof.Proof.ZsumIdealRun
public import proofs.«01_k».proof.Proof.Gen.ZsumIdeal.Points
public import Idealize.ShloMosaic.Lib.Pipeline.FrameBody
public import Idealize.ShloMosaic.Lib.Tactic
public import Idealize.ShloMosaic.Lib.ValueIdx

/-! The key-sum call alone: its blocks at its one point, when every slot is below 64. -/

@[expose] public section

set_option maxRecDepth 16384

noncomputable section

namespace Cert.Proof.ZsumIdeal

open Cert.ZsumIdeal Cert.ZsumIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off its array's contents when the call starts. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The run's scratch and generator register, taken apart. -/
theorem phi0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d)) ∗ (∃ r, prngReg c r)) := by
  unfold Pipeline.ΦA; rw [scopedRest0_eq]; simp only [owns_whole]; try rfl

theorem slot_chk1 (v : BitVec 32) (h : v.toNat < 64) : k0_chk1 v := by
  intro a
  match a with
  | ⟨0, _⟩ => show v.toNat + 1 ≤ 64; omega
  | ⟨1, _⟩ => show 0 + 64 ≤ 64; omega
theorem slot_chk2 (v : BitVec 32) (h : v.toNat < 64) : k0_chk2 v := by
  intro a
  match a with
  | ⟨0, _⟩ => show v.toNat + 1 ≤ 64; omega
  | ⟨1, _⟩ => show 0 + 64 ≤ 64; omega
theorem slot_chk3 (v : BitVec 32) (h : v.toNat < 64) : k0_chk3 v := by
  intro a
  match a with
  | ⟨0, _⟩ => show v.toNat + 1 ≤ 64; omega
  | ⟨1, _⟩ => show 0 + 64 ≤ 64; omega
theorem slot_chk4 (v : BitVec 32) (h : v.toNat < 64) : k0_chk4 v := by
  intro a
  match a with
  | ⟨0, _⟩ => show v.toNat + 1 ≤ 64; omega
  | ⟨1, _⟩ => show 0 + 64 ≤ 64; omega
theorem slot_chk5 (v : BitVec 32) (h : v.toNat < 64) : k0_chk5 v := by
  intro a
  match a with
  | ⟨0, _⟩ => show v.toNat + 1 ≤ 64; omega
  | ⟨1, _⟩ => show 0 + 64 ≤ 64; omega
theorem slot_chk6 (v : BitVec 32) (h : v.toNat < 64) : k0_chk6 v := by
  intro a
  match a with
  | ⟨0, _⟩ => show v.toNat + 1 ≤ 64; omega
  | ⟨1, _⟩ => show 0 + 64 ≤ 64; omega
theorem slot_chk7 (v : BitVec 32) (h : v.toNat < 64) : k0_chk7 v := by
  intro a
  match a with
  | ⟨0, _⟩ => show v.toNat + 1 ≤ 64; omega
  | ⟨1, _⟩ => show 0 + 64 ≤ 64; omega
theorem slot_chk8 (v : BitVec 32) (h : v.toNat < 64) : k0_chk8 v := by
  intro a
  match a with
  | ⟨0, _⟩ => show v.toNat + 1 ≤ 64; omega
  | ⟨1, _⟩ => show 0 + 64 ≤ 64; omega
theorem slot_chk9 (v : BitVec 32) (h : v.toNat < 64) : k0_chk9 v := by
  intro a
  match a with
  | ⟨0, _⟩ => show v.toNat + 1 ≤ 64; omega
  | ⟨1, _⟩ => show 0 + 64 ≤ 64; omega
theorem slot_chk10 (v : BitVec 32) (h : v.toNat < 64) : k0_chk10 v := by
  intro a
  match a with
  | ⟨0, _⟩ => show v.toNat + 1 ≤ 64; omega
  | ⟨1, _⟩ => show 0 + 64 ≤ 64; omega
theorem slot_chk11 (v : BitVec 32) (h : v.toNat < 64) : k0_chk11 v := by
  intro a
  match a with
  | ⟨0, _⟩ => show v.toNat + 1 ≤ 64; omega
  | ⟨1, _⟩ => show 0 + 64 ≤ 64; omega
theorem slot_chk12 (v : BitVec 32) (h : v.toNat < 64) : k0_chk12 v := by
  intro a
  match a with
  | ⟨0, _⟩ => show v.toNat + 1 ≤ 64; omega
  | ⟨1, _⟩ => show 0 + 64 ≤ 64; omega
/-- What the call's body leaves in each block at each point: the inputs as they were, the output at the body's value. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => iblk0 W c 1 t
    | ⟨2, _⟩ => sumOut (iblk0 W c 0 t) (iblk0 W c 1 t)
  Φ _ := Pipeline.ΦA spec0 c
  q _ := fullShare
  owed _ := 0

theorem A_eq0 (c : Dev nD) (w : Fin cfg0.W) : (dat0 W c).A w = W c (Proc.devRef .tc (Pipeline.arrRef spec0 w)) := by dsimp only [dat0]
theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = sumOut (iblk0 W c 0 t) (iblk0 W c 1 t) := by dsimp only [dat0]
/-- Input 0 holds its block whenever the body runs. -/
theorem before0_0 (c : Dev nD) (t : Fin cfg0.N) (d) : (dat0 W c).before 0 t d = iblk0 W c 0 t :=
  ((dat0 W c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- Input 1 holds its block whenever the body runs. -/
theorem before0_1 (c : Dev nD) (t : Fin cfg0.N) (d) : (dat0 W c).before 1 t d = iblk0 W c 1 t :=
  ((dat0 W c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- What the body starts from at point `t`. -/
def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d)))

/-- What the body ends with. -/
def bodyPost0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t))

/-- The body at any point. -/
theorem sound_body0 (hlt : ∀ (c : Dev nD) (t : Fin cfg0.N) (h : Fin 12) (s : Fin 2048), (iblk0 W c 0 t (ix3 h 0 s) : BitVec 32).toNat < 64) (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1]
  rw [show (dat0 W c).Φ t.succ = (dat0 W c).Φ t.castSucc from rfl,
    show (dat0 W c).owesAt () t.succ = (dat0 W c).owesAt () t.castSucc from rfl,
    after0_0, after0_1, after0_2]
  rw [show (dat0 W c).Φ t.castSucc = Pipeline.ΦA spec0 c from rfl, phi0_eq]
  iintro ⟨⟨⟨S0, S1, S2, S3, S4, S5, S6, S7, S8, S9, S10, S11⟩, Hg⟩, Ho, ⟨%d0, H0⟩, ⟨%d1, H1⟩, ⟨%d2, H2⟩⟩
  iapply (sum_run c (grid0.coords t) _ _ _ _ _ _ _ _ _ _ _ _ _ _ _ _ _ _ _ _ _ _ _ _ _ _ _ _ _ _ (iblk0 W c 0 t) (iblk0 W c 1 t) (fun kq hkq => slot_chk1 _ (by rw [word_read 0 _ _ _ ⟨kq, hkq⟩ _ _ (k0_off1_eq ⟨kq, hkq⟩) _]; exact hlt c t _ _))
    (fun kq hkq => slot_chk2 _ (by rw [word_read 1 _ _ _ ⟨kq, hkq⟩ _ _ (k0_off4_eq ⟨kq, hkq⟩) _]; exact hlt c t _ _))
    (fun kq hkq => slot_chk3 _ (by rw [word_read 2 _ _ _ ⟨kq, hkq⟩ _ _ (k0_off7_eq ⟨kq, hkq⟩) _]; exact hlt c t _ _))
    (fun kq hkq => slot_chk4 _ (by rw [word_read 3 _ _ _ ⟨kq, hkq⟩ _ _ (k0_off10_eq ⟨kq, hkq⟩) _]; exact hlt c t _ _))
    (fun kq hkq => slot_chk5 _ (by rw [word_read 4 _ _ _ ⟨kq, hkq⟩ _ _ (k0_off13_eq ⟨kq, hkq⟩) _]; exact hlt c t _ _))
    (fun kq hkq => slot_chk6 _ (by rw [word_read 5 _ _ _ ⟨kq, hkq⟩ _ _ (k0_off16_eq ⟨kq, hkq⟩) _]; exact hlt c t _ _))
    (fun kq hkq => slot_chk7 _ (by rw [word_read 6 _ _ _ ⟨kq, hkq⟩ _ _ (k0_off19_eq ⟨kq, hkq⟩) _]; exact hlt c t _ _))
    (fun kq hkq => slot_chk8 _ (by rw [word_read 7 _ _ _ ⟨kq, hkq⟩ _ _ (k0_off22_eq ⟨kq, hkq⟩) _]; exact hlt c t _ _))
    (fun kq hkq => slot_chk9 _ (by rw [word_read 8 _ _ _ ⟨kq, hkq⟩ _ _ (k0_off25_eq ⟨kq, hkq⟩) _]; exact hlt c t _ _))
    (fun kq hkq => slot_chk10 _ (by rw [word_read 9 _ _ _ ⟨kq, hkq⟩ _ _ (k0_off28_eq ⟨kq, hkq⟩) _]; exact hlt c t _ _))
    (fun kq hkq => slot_chk11 _ (by rw [word_read 10 _ _ _ ⟨kq, hkq⟩ _ _ (k0_off31_eq ⟨kq, hkq⟩) _]; exact hlt c t _ _))
    (fun kq hkq => slot_chk12 _ (by rw [word_read 11 _ _ _ ⟨kq, hkq⟩ _ _ (k0_off34_eq ⟨kq, hkq⟩) _]; exact hlt c t _ _))
    Set.univ _)
  isplitl [H0]; · iexact H0
  isplitl [H1]; · iexact H1
  isplitl [H2]; · iexists _; iexact H2
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  iintro ⟨H0, H1, H2, S0, S1, S2, S3, S4, S5, S6, S7, S8, S9, S10, S11⟩
  isplitl [S0 S1 S2 S3 S4 S5 S6 S7 S8 S9 S10 S11 Hg]
  · isplitl [S0 S1 S2 S3 S4 S5 S6 S7 S8 S9 S10 S11]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11
    iexact Hg
  isplitl [Ho]; · iexact Ho
  isplitl [H0]; · iexact H0
  isplitl [H1]; · iexact H1
  iexact H2

theorem defs_row0 (t : Fin cfg0.N) : defs₀ (F := F) .tc cfg0.body (cfg0.bodyArgs t (cfg0.slots t)) = bodyAt0 t := by
  unfold defs₀; rw [Defs.onTc_tc]

/-- The body's obligation at every point. -/
theorem obligation0 (hlt : ∀ (c : Dev nD) (t : Fin cfg0.N) (h : Fin 12) (s : Fin 2048), (iblk0 W c 0 t (ix3 h 0 s) : BitVec 32).toNat < 64) (c : Dev nD) : BodyObligation (dat0 (F := F) W c) (defs₀ (F := F)) Variants.none () Set.univ := fun t => by
  rw [bigSep_W0, bigSep_W0, defs_row0]
  exact triple_restated (sound_body0 W hlt c t) rfl .rfl fun _ => .rfl

variable (m : (ℓ : Loc nD τ sig) → Buf (Elt F) ℓ) (ρ : Dev nD → PrngReg)

/-- The arrays as launched. -/
abbrev entry (c : Dev nD) : Valuation τ sig (Elt F) := fun b => m (c, b)

/-- The one call's proof data. -/
def dats (_ : Fin 1) (c : Dev nD) : Dat τ (Elt F) Unit ℕ (UR sig nD τ) ℕ cfg0 c := dat0 (entry m) c

set_option backward.isDefEq.respectTransparency.types false in
/-- Every run of the call ends with the arguments unchanged and every counter at zero, when every slot is below 64. -/
theorem call_frame (hlt : ∀ (c : Dev nD) (t : Fin cfg0.N) (h : Fin 12) (s : Fin 2048), (iblk0 (entry m) c 0 t (ix3 h 0 s) : BitVec 32).toNat < 64) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  have hrun : θ_run defs (onTc (τ := τ) (main (F := F))) (s₀ m ρ) (fun r => (Pipeline.FramePost cfgs (dats m) 0 (fun c b => m ((c : Thread nD τ).loc b))) r ∧ r.2.sem = fun _ => 0) :=
    Pipeline.θ_run_frame (Q' := _) cfgs (dats m) (0 : Fin 1) launch0 defs₀ Variants.none m ρ main
      (hbody := fun c => (obligation0 (entry m) hlt c).loose) (hshare := fun c => (dat0 (entry m) c).share_full fun _ => rfl)
      (howed := fun _ _ => rfl) (V := fun c b => m ((c : Thread nD τ).loc b))
      (hmain := Pipeline.hmain_region cfgs 0 defs₀ Variants.none m main fun c => (main_chain c).trans rfl)
      (hA := fun c w => A_eq0 (entry m) c w) (hΦ := fun _ _ => rfl)
  refine (θ_run defs _ _).mono (fun r h => ⟨fun c => ⟨?_, ?_⟩, h.2⟩) hrun
  · exact ((h.1 c).1 0).trans (((dat0 (entry m) c).arrAt_in 0 rfl _).trans (A_eq0 (entry m) c 0))
  · exact ((h.1 c).1 1).trans (((dat0 (entry m) c).arrAt_in 1 rfl _).trans (A_eq0 (entry m) c 1))

end Cert.Proof.ZsumIdeal
-- ==== Proof.ZsumIdealFrame.lean ====
module

public import proofs.«01_k».proof.Proof.Slots
public import proofs.«01_k».proof.Proof.ZsumIdealRegion
public import Idealize.ShloMosaic.Lib.Pipeline.ValueKit.Geometry

/-! The key-sum call over the extended reals runs to the end, under the precondition that every slot is in range. -/

@[expose] public section

noncomputable section

namespace Cert.Proof.ZsumIdeal

open Cert.ZsumIdeal Cert.ZsumIdeal.Gen
open Idealize.ShloMosaic Idealize.ShloMosaic.TcCoe Idealize.ShloMosaic.Tactic
open Idealize.ShloMosaic.ValueIdx

/-- Every run of the key-sum call over the extended reals ends, without a fault, with its arguments as they were. -/
theorem quiescent : Cert.quiescent_ZsumIdeal := by
  intro m g hpre
  refine call_frame m g fun c t h s => ?_
  have hs := Cert.Proof.slots_lt _ _ (hpre c)
  unfold iblk0
  blk_simp
  exact hs _

end Cert.Proof.ZsumIdeal

end
-- ==== Proof.Whole.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WritesUnit
public import Idealize.ShloMosaic.Lib.VecWindow
public import Idealize.ShloMosaic.Lib.ValueIdx

/-! Loads of whole blocks. -/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load of a whole block of three axes reads the block. -/
theorem whole_read {s : Shape} (h3 : s.rank = 3) (arg : Memref sig .tc .vmem s .f32) (harg : arg.IsWhole) (x : Vec F s .f32)
    (off : Fin s.rank → ℕ) (h0 : ∀ a, off a = 0) (hin : ∀ a, off a + s.size a ≤ s.size a) :
    arg.view.readAt (Elt F) (Rect.unit (s := s) off s.size hin).toLoadRect (harg.unread x) = x := by
  funext j
  rw [View.readAt_apply, harg.read_unread]
  congr 1
  funext a
  apply Fin.ext
  show off a + 1 * (j a).val = (j a).val
  rw [h0]; omega

end Cert.Proof.KernelIdeal
-- ==== Proof.AssignRun.lean ====
module

public import proofs.«01_k».proof.Proof.Whole
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WritesUnit
public import Idealize.ShloMosaic.Lib.VecWindow
public import Idealize.ShloMosaic.Lib.ValueIdx

/-! One head of the assignment call: what its body leaves in the output block. -/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The slot of each of a head's keys, as the body computes it. -/
def assignBlk (x0 : Vec F S1x2048x64 .f32) : Vec F S1x1x2048 .i32 := k0_pay1 x0

/-- The body, on whole blocks: it reads the head's keys and leaves their slots in the output. -/
theorem assign_run (c : Dev nD) (i : grid0.Coords) (arg1 : Memref sig .tc .vmem S1x2048x64 .f32) (harg1 : arg1.IsWhole)
    (arg2 : Memref sig .tc .vmem S1x1x2048 .i32) (harg2 : arg2.IsWhole) (E : Set ℕ) (x0 : Vec F S1x2048x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (assignBlk x0)) -∗ K ⟨⟩))
      ⊢ wp frame (wpE (defs₀ (F := F)) Variants.none c none) E (cc0__assign_body i arg1 harg1 arg2 harg2) K := by
  simp only [cc0__assign_body_eq_skeleton]; unfold cc0__assign_body_skel
  unfold owns
  iintro ⟨⟨%f0, %hf0, H0⟩, ⟨%d1, %f1, -, H1⟩, Hk⟩
  obtain rfl := harg1.eq_unread hf0
  sl_exec
  sl_step
  iapply Hk
  isplitl [H0]
  · iexists _; isplitr; · ipureintro; exact harg1.read_unread _
    iexact H0
  iexists _; isplitr
  swap; · iexact H1
  ipureintro
  rw [View.read_writes_full]
  exact congrArg k0_pay1 (whole_read (F := F) rfl arg1 harg1 x0 ![0, 0, 0] (by decide) inb_S1x2048x64_S1x2048x64_0_0_0)

end Cert.Proof.KernelIdeal
-- ==== Proof.Region0.lean ====
module

public import proofs.«01_k».proof.Proof.AssignRun
public import proofs.«01_k».proof.Proof.Gen.KernelIdeal.Points
public import Idealize.ShloMosaic.Lib.Pipeline.FrameBody
public import Idealize.ShloMosaic.Lib.Tactic
public import Idealize.ShloMosaic.Lib.ValueIdx

/-! The assignment call: its blocks at every point. -/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off its array's contents when the call starts. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- What the call's body leaves in each block at each point: the inputs as they were, the output at the body's value. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => assignBlk (iblk0 W c 0 t)
  Φ _ := Pipeline.ΦA spec0 c
  q _ := fullShare
  owed _ := 0

theorem A_eq0 (c : Dev nD) (w : Fin cfg0.W) : (dat0 W c).A w = W c (Proc.devRef .tc (Pipeline.arrRef spec0 w)) := by dsimp only [dat0]
theorem after0_0 (c : Dev nD) (t : Fin cfg0.N) : (dat0 W c).after 0 t = iblk0 W c 0 t := by dsimp only [dat0]
theorem after0_1 (c : Dev nD) (t : Fin cfg0.N) : (dat0 W c).after 1 t = assignBlk (iblk0 W c 0 t) := by dsimp only [dat0]
/-- Input 0 holds its block whenever the body runs. -/
theorem before0_0 (c : Dev nD) (t : Fin cfg0.N) (d) : (dat0 W c).before 0 t d = iblk0 W c 0 t :=
  ((dat0 W c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- What the body starts from at point `t`. -/
def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d)))

/-- What the body ends with. -/
def bodyPost0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t))

/-- The body at any point. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0]
  rw [show (dat0 W c).Φ t.succ = (dat0 W c).Φ t.castSucc from rfl,
    show (dat0 W c).owesAt () t.succ = (dat0 W c).owesAt () t.castSucc from rfl,
    after0_0, after0_1]
  iintro ⟨HΦ, Ho, ⟨%d0, H0⟩, ⟨%d1, H1⟩⟩
  iapply (assign_run c (grid0.coords t) _ _ _ _ Set.univ (iblk0 W c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs_row0 (t : Fin cfg0.N) : defs₀ (F := F) .tc cfg0.body (cfg0.bodyArgs t (cfg0.slots t)) = bodyAt0 t := by
  unfold defs₀; rw [Defs.onTc_tc]

/-- The body's obligation at every point. -/
theorem obligation0 (c : Dev nD) : BodyObligation (dat0 (F := F) W c) (defs₀ (F := F)) Variants.none () Set.univ := fun t => by
  rw [bigSep_W0, bigSep_W0, defs_row0]
  exact triple_restated (sound_body0 W c t) rfl .rfl fun _ => .rfl

end Cert.Proof.KernelIdeal
-- ==== Proof.SumLoop.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WritesUnit
public import Idealize.ShloMosaic.Lib.ValueIdx

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What one scratch matrix holds after the first `k` steps of the accumulation: each step reads a row
of it, adds a row of keys and writes the sum back, at the offsets `off`. -/
def stOf (arg : Memref sig .tc .vmem S64x64 .f32) (off : Fin k1_t1_loop.trips → Fin 2 → ℕ)
    (inb : ∀ n a, off n a + S1x64.size a ≤ S64x64.size a) (row : Fin k1_t1_loop.trips → Vec F S1x1x64 .f32)
    (pay : Vec F S1x64 .f32 → Vec F S1x1x64 .f32 → FVec F S1x64 .f32)
    (f : BufTy.Contents (Elt F) arg.view.ty) : ℕ → BufTy.Contents (Elt F) arg.view.ty
  | 0 => f
  | n + 1 =>
    if hn : n < k1_t1_loop.trips then
      arg.view.writes (Elt F) (stOf arg off inb row pay f n)
        [⟨Rect.unit (s := S64x64) (off ⟨n, hn⟩) S1x64.size (inb ⟨n, hn⟩),
          pay (arg.view.readAt (Elt F) (Rect.unit (s := S64x64) (off ⟨n, hn⟩) S1x64.size (inb ⟨n, hn⟩)).toLoadRect
            (stOf arg off inb row pay f n)) (row ⟨n, hn⟩)⟩]
    else stOf arg off inb row pay f n

theorem stOf_succ (arg : Memref sig .tc .vmem S64x64 .f32) (off : Fin k1_t1_loop.trips → Fin 2 → ℕ)
    (inb : ∀ n a, off n a + S1x64.size a ≤ S64x64.size a) (row : Fin k1_t1_loop.trips → Vec F S1x1x64 .f32)
    (pay : Vec F S1x64 .f32 → Vec F S1x1x64 .f32 → FVec F S1x64 .f32)
    (f : BufTy.Contents (Elt F) arg.view.ty) (n : Fin k1_t1_loop.trips) :
    stOf arg off inb row pay f (n.val + 1)
      = arg.view.writes (Elt F) (stOf arg off inb row pay f n.val)
        [⟨Rect.unit (s := S64x64) (off n) S1x64.size (inb n),
          pay (arg.view.readAt (Elt F) (Rect.unit (s := S64x64) (off n) S1x64.size (inb n)).toLoadRect
            (stOf arg off inb row pay f n.val)) (row n)⟩] := by
  rw [stOf, dif_pos n.isLt]

set_option maxHeartbeats 8000000 in
/-- One step of the accumulation: every scratch matrix gets one row rewritten. -/
theorem trip (𝒱 : Variants) (c : Dev nD) (bd : Option 𝒱.V) (i : grid1.Coords) (arg1 : Memref sig .tc .smem S12x1x2048 .i32) (harg1 : arg1.IsWhole) (arg2 : Memref sig .tc .vmem S12x2048x64 .f32) (harg2 : arg2.IsWhole) (arg3 : Memref sig .tc .vmem S12x64x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S64x64 .f32) (harg13 : arg13.IsWhole) (arg14 : Memref sig .tc .vmem S64x64 .f32) (harg14 : arg14.IsWhole) (arg15 : Memref sig .tc .vmem S64x64 .f32) (harg15 : arg15.IsWhole) (v28 : FVec F S64x64 .f32)
    (X1 : BufTy.Contents (Elt F) arg1.view.ty) (X2 : BufTy.Contents (Elt F) arg2.view.ty)
    (k : Fin k1_t1_loop.trips) (k1_hw1 : k1_chk1 (arg1.view.readAt (Elt F) (Rect.unit (s := S12x1x2048) (k1_off1 k) S1x1x1.size (k1_off1_inb k)).toLoadRect X1 (Shape.Idx.first (numel1_S1x1x1.symm ▸ Nat.one_pos)))) (k1_hw2 : k1_chk2 (arg1.view.readAt (Elt F) (Rect.unit (s := S12x1x2048) (k1_off4 k) S1x1x1.size (k1_off4_inb k)).toLoadRect X1 (Shape.Idx.first (numel1_S1x1x1.symm ▸ Nat.one_pos)))) (k1_hw3 : k1_chk3 (arg1.view.readAt (Elt F) (Rect.unit (s := S12x1x2048) (k1_off7 k) S1x1x1.size (k1_off7_inb k)).toLoadRect X1 (Shape.Idx.first (numel1_S1x1x1.symm ▸ Nat.one_pos)))) (k1_hw4 : k1_chk4 (arg1.view.readAt (Elt F) (Rect.unit (s := S12x1x2048) (k1_off10 k) S1x1x1.size (k1_off10_inb k)).toLoadRect X1 (Shape.Idx.first (numel1_S1x1x1.symm ▸ Nat.one_pos)))) (k1_hw5 : k1_chk5 (arg1.view.readAt (Elt F) (Rect.unit (s := S12x1x2048) (k1_off13 k) S1x1x1.size (k1_off13_inb k)).toLoadRect X1 (Shape.Idx.first (numel1_S1x1x1.symm ▸ Nat.one_pos)))) (k1_hw6 : k1_chk6 (arg1.view.readAt (Elt F) (Rect.unit (s := S12x1x2048) (k1_off16 k) S1x1x1.size (k1_off16_inb k)).toLoadRect X1 (Shape.Idx.first (numel1_S1x1x1.symm ▸ Nat.one_pos)))) (k1_hw7 : k1_chk7 (arg1.view.readAt (Elt F) (Rect.unit (s := S12x1x2048) (k1_off19 k) S1x1x1.size (k1_off19_inb k)).toLoadRect X1 (Shape.Idx.first (numel1_S1x1x1.symm ▸ Nat.one_pos)))) (k1_hw8 : k1_chk8 (arg1.view.readAt (Elt F) (Rect.unit (s := S12x1x2048) (k1_off22 k) S1x1x1.size (k1_off22_inb k)).toLoadRect X1 (Shape.Idx.first (numel1_S1x1x1.symm ▸ Nat.one_pos)))) (k1_hw9 : k1_chk9 (arg1.view.readAt (Elt F) (Rect.unit (s := S12x1x2048) (k1_off25 k) S1x1x1.size (k1_off25_inb k)).toLoadRect X1 (Shape.Idx.first (numel1_S1x1x1.symm ▸ Nat.one_pos)))) (k1_hw10 : k1_chk10 (arg1.view.readAt (Elt F) (Rect.unit (s := S12x1x2048) (k1_off28 k) S1x1x1.size (k1_off28_inb k)).toLoadRect X1 (Shape.Idx.first (numel1_S1x1x1.symm ▸ Nat.one_pos)))) (k1_hw11 : k1_chk11 (arg1.view.readAt (Elt F) (Rect.unit (s := S12x1x2048) (k1_off31 k) S1x1x1.size (k1_off31_inb k)).toLoadRect X1 (Shape.Idx.first (numel1_S1x1x1.symm ▸ Nat.one_pos)))) (k1_hw12 : k1_chk12 (arg1.view.readAt (Elt F) (Rect.unit (s := S12x1x2048) (k1_off34 k) S1x1x1.size (k1_off34_inb k)).toLoadRect X1 (Shape.Idx.first (numel1_S1x1x1.symm ▸ Nat.one_pos)))) (E : Set ℕ)
    (f0 : BufTy.Contents (Elt F) arg4.view.ty) (f1 : BufTy.Contents (Elt F) arg5.view.ty) (f2 : BufTy.Contents (Elt F) arg6.view.ty) (f3 : BufTy.Contents (Elt F) arg7.view.ty) (f4 : BufTy.Contents (Elt F) arg8.view.ty) (f5 : BufTy.Contents (Elt F) arg9.view.ty) (f6 : BufTy.Contents (Elt F) arg10.view.ty) (f7 : BufTy.Contents (Elt F) arg11.view.ty) (f8 : BufTy.Contents (Elt F) arg12.view.ty) (f9 : BufTy.Contents (Elt F) arg13.view.ty) (f10 : BufTy.Contents (Elt F) arg14.view.ty) (f11 : BufTy.Contents (Elt F) arg15.view.ty) :
    (iprop((arg1.view.loc (c : Thread nD τ) ↦[arg1.view.set]{fullShare} X1) ∗ (arg2.view.loc (c : Thread nD τ) ↦[arg2.view.set]{fullShare} X2) ∗ (arg4.view.loc (c : Thread nD τ) ↦[arg4.view.set]{fullShare} f0) ∗ (arg5.view.loc (c : Thread nD τ) ↦[arg5.view.set]{fullShare} f1) ∗ (arg6.view.loc (c : Thread nD τ) ↦[arg6.view.set]{fullShare} f2) ∗ (arg7.view.loc (c : Thread nD τ) ↦[arg7.view.set]{fullShare} f3) ∗ (arg8.view.loc (c : Thread nD τ) ↦[arg8.view.set]{fullShare} f4) ∗ (arg9.view.loc (c : Thread nD τ) ↦[arg9.view.set]{fullShare} f5) ∗ (arg10.view.loc (c : Thread nD τ) ↦[arg10.view.set]{fullShare} f6) ∗ (arg11.view.loc (c : Thread nD τ) ↦[arg11.view.set]{fullShare} f7) ∗ (arg12.view.loc (c : Thread nD τ) ↦[arg12.view.set]{fullShare} f8) ∗ (arg13.view.loc (c : Thread nD τ) ↦[arg13.view.set]{fullShare} f9) ∗ (arg14.view.loc (c : Thread nD τ) ↦[arg14.view.set]{fullShare} f10) ∗ (arg15.view.loc (c : Thread nD τ) ↦[arg15.view.set]{fullShare} f11)) : sProp 𝕄)
    ⊢ wp frame (wpE (defs₀ (F := F)) 𝒱 (c : Thread nD τ) bd) E
        (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v28 k PUnit.unit)
        (fun _ => iprop((arg1.view.loc (c : Thread nD τ) ↦[arg1.view.set]{fullShare} X1) ∗ (arg2.view.loc (c : Thread nD τ) ↦[arg2.view.set]{fullShare} X2) ∗ (arg4.view.loc (c : Thread nD τ) ↦[arg4.view.set]{fullShare} (arg4.view.writes (Elt F) f0 [⟨(Rect.unit (s := S64x64) (k1_off2 (arg1.view.readAt (Elt F) (Rect.unit (s := S12x1x2048) (k1_off1 k) S1x1x1.size (k1_off1_inb k)).toLoadRect X1 (Shape.Idx.first (numel1_S1x1x1.symm ▸ Nat.one_pos)))) S1x64.size (k1_off2_inb (arg1.view.readAt (Elt F) (Rect.unit (s := S12x1x2048) (k1_off1 k) S1x1x1.size (k1_off1_inb k)).toLoadRect X1 (Shape.Idx.first (numel1_S1x1x1.symm ▸ Nat.one_pos))) k1_hw1)), k1_pay6 (arg4.view.readAt (Elt F) (Rect.unit (s := S64x64) (k1_off2 (arg1.view.readAt (Elt F) (Rect.unit (s := S12x1x2048) (k1_off1 k) S1x1x1.size (k1_off1_inb k)).toLoadRect X1 (Shape.Idx.first (numel1_S1x1x1.symm ▸ Nat.one_pos)))) S1x64.size (k1_off2_inb (arg1.view.readAt (Elt F) (Rect.unit (s := S12x1x2048) (k1_off1 k) S1x1x1.size (k1_off1_inb k)).toLoadRect X1 (Shape.Idx.first (numel1_S1x1x1.symm ▸ Nat.one_pos))) k1_hw1)).toLoadRect f0) (arg2.view.readAt (Elt F) (Rect.unit (s := S12x2048x64) (k1_off3 k) S1x1x64.size (k1_off3_inb k)).toLoadRect X2)⟩])) ∗ (arg5.view.loc (c : Thread nD τ) ↦[arg5.view.set]{fullShare} (arg5.view.writes (Elt F) f1 [⟨(Rect.unit (s := S64x64) (k1_off5 (arg1.view.readAt (Elt F) (Rect.unit (s := S12x1x2048) (k1_off4 k) S1x1x1.size (k1_off4_inb k)).toLoadRect X1 (Shape.Idx.first (numel1_S1x1x1.symm ▸ Nat.one_pos)))) S1x64.size (k1_off5_inb (arg1.view.readAt (Elt F) (Rect.unit (s := S12x1x2048) (k1_off4 k) S1x1x1.size (k1_off4_inb k)).toLoadRect X1 (Shape.Idx.first (numel1_S1x1x1.symm ▸ Nat.one_pos))) k1_hw2)), k1_pay7 (arg5.view.readAt (Elt F) (Rect.unit (s := S64x64) (k1_off5 (arg1.view.readAt (Elt F) (Rect.unit (s := S12x1x2048) (k1_off4 k) S1x1x1.size (k1_off4_inb k)).toLoadRect X1 (Shape.Idx.first (numel1_S1x1x1.symm ▸ Nat.one_pos)))) S1x64.size (k1_off5_inb (arg1.view.readAt (Elt F) (Rect.unit (s := S12x1x2048) (k1_off4 k) S1x1x1.size (k1_off4_inb k)).toLoadRect X1 (Shape.Idx.first (numel1_S1x1x1.symm ▸ Nat.one_pos))) k1_hw2)).toLoadRect f1) (arg2.view.readAt (Elt F) (Rect.unit (s := S12x2048x64) (k1_off6 k) S1x1x64.size (k1_off6_inb k)).toLoadRect X2)⟩])) ∗ (arg6.view.loc (c : Thread nD τ) ↦[arg6.view.set]{fullShare} (arg6.view.writes (Elt F) f2 [⟨(Rect.unit (s := S64x64) (k1_off8 (arg1.view.readAt (Elt F) (Rect.unit (s := S12x1x2048) (k1_off7 k) S1x1x1.size (k1_off7_inb k)).toLoadRect X1 (Shape.Idx.first (numel1_S1x1x1.symm ▸ Nat.one_pos)))) S1x64.size (k1_off8_inb (arg1.view.readAt (Elt F) (Rect.unit (s := S12x1x2048) (k1_off7 k) S1x1x1.size (k1_off7_inb k)).toLoadRect X1 (Shape.Idx.first (numel1_S1x1x1.symm ▸ Nat.one_pos))) k1_hw3)), k1_pay8 (arg6.view.readAt (Elt F) (Rect.unit (s := S64x64) (k1_off8 (arg1.view.readAt (Elt F) (Rect.unit (s := S12x1x2048) (k1_off7 k) S1x1x1.size (k1_off7_inb k)).toLoadRect X1 (Shape.Idx.first (numel1_S1x1x1.symm ▸ Nat.one_pos)))) S1x64.size (k1_off8_inb (arg1.view.readAt (Elt F) (Rect.unit (s := S12x1x2048) (k1_off7 k) S1x1x1.size (k1_off7_inb k)).toLoadRect X1 (Shape.Idx.first (numel1_S1x1x1.symm ▸ Nat.one_pos))) k1_hw3)).toLoadRect f2) (arg2.view.readAt (Elt F) (Rect.unit (s := S12x2048x64) (k1_off9 k) S1x1x64.size (k1_off9_inb k)).toLoadRect X2)⟩])) ∗ (arg7.view.loc (c : Thread nD τ) ↦[arg7.view.set]{fullShare} (arg7.view.writes (Elt F) f3 [⟨(Rect.unit (s := S64x64) (k1_off11 (arg1.view.readAt (Elt F) (Rect.unit (s := S12x1x2048) (k1_off10 k) S1x1x1.size (k1_off10_inb k)).toLoadRect X1 (Shape.Idx.first (numel1_S1x1x1.symm ▸ Nat.one_pos)))) S1x64.size (k1_off11_inb (arg1.view.readAt (Elt F) (Rect.unit (s := S12x1x2048) (k1_off10 k) S1x1x1.size (k1_off10_inb k)).toLoadRect X1 (Shape.Idx.first (numel1_S1x1x1.symm ▸ Nat.one_pos))) k1_hw4)), k1_pay9 (arg7.view.readAt (Elt F) (Rect.unit (s := S64x64) (k1_off11 (arg1.view.readAt (Elt F) (Rect.unit (s := S12x1x2048) (k1_off10 k) S1x1x1.size (k1_off10_inb k)).toLoadRect X1 (Shape.Idx.first (numel1_S1x1x1.symm ▸ Nat.one_pos)))) S1x64.size (k1_off11_inb (arg1.view.readAt (Elt F) (Rect.unit (s := S12x1x2048) (k1_off10 k) S1x1x1.size (k1_off10_inb k)).toLoadRect X1 (Shape.Idx.first (numel1_S1x1x1.symm ▸ Nat.one_pos))) k1_hw4)).toLoadRect f3) (arg2.view.readAt (Elt F) (Rect.unit (s := S12x2048x64) (k1_off12 k) S1x1x64.size (k1_off12_inb k)).toLoadRect X2)⟩])) ∗ (arg8.view.loc (c : Thread nD τ) ↦[arg8.view.set]{fullShare} (arg8.view.writes (Elt F) f4 [⟨(Rect.unit (s := S64x64) (k1_off14 (arg1.view.readAt (Elt F) (Rect.unit (s := S12x1x2048) (k1_off13 k) S1x1x1.size (k1_off13_inb k)).toLoadRect X1 (Shape.Idx.first (numel1_S1x1x1.symm ▸ Nat.one_pos)))) S1x64.size (k1_off14_inb (arg1.view.readAt (Elt F) (Rect.unit (s := S12x1x2048) (k1_off13 k) S1x1x1.size (k1_off13_inb k)).toLoadRect X1 (Shape.Idx.first (numel1_S1x1x1.symm ▸ Nat.one_pos))) k1_hw5)), k1_pay10 (arg8.view.readAt (Elt F) (Rect.unit (s := S64x64) (k1_off14 (arg1.view.readAt (Elt F) (Rect.unit (s := S12x1x2048) (k1_off13 k) S1x1x1.size (k1_off13_inb k)).toLoadRect X1 (Shape.Idx.first (numel1_S1x1x1.symm ▸ Nat.one_pos)))) S1x64.size (k1_off14_inb (arg1.view.readAt (Elt F) (Rect.unit (s := S12x1x2048) (k1_off13 k) S1x1x1.size (k1_off13_inb k)).toLoadRect X1 (Shape.Idx.first (numel1_S1x1x1.symm ▸ Nat.one_pos))) k1_hw5)).toLoadRect f4) (arg2.view.readAt (Elt F) (Rect.unit (s := S12x2048x64) (k1_off15 k) S1x1x64.size (k1_off15_inb k)).toLoadRect X2)⟩])) ∗ (arg9.view.loc (c : Thread nD τ) ↦[arg9.view.set]{fullShare} (arg9.view.writes (Elt F) f5 [⟨(Rect.unit (s := S64x64) (k1_off17 (arg1.view.readAt (Elt F) (Rect.unit (s := S12x1x2048) (k1_off16 k) S1x1x1.size (k1_off16_inb k)).toLoadRect X1 (Shape.Idx.first (numel1_S1x1x1.symm ▸ Nat.one_pos)))) S1x64.size (k1_off17_inb (arg1.view.readAt (Elt F) (Rect.unit (s := S12x1x2048) (k1_off16 k) S1x1x1.size (k1_off16_inb k)).toLoadRect X1 (Shape.Idx.first (numel1_S1x1x1.symm ▸ Nat.one_pos))) k1_hw6)), k1_pay11 (arg9.view.readAt (Elt F) (Rect.unit (s := S64x64) (k1_off17 (arg1.view.readAt (Elt F) (Rect.unit (s := S12x1x2048) (k1_off16 k) S1x1x1.size (k1_off16_inb k)).toLoadRect X1 (Shape.Idx.first (numel1_S1x1x1.symm ▸ Nat.one_pos)))) S1x64.size (k1_off17_inb (arg1.view.readAt (Elt F) (Rect.unit (s := S12x1x2048) (k1_off16 k) S1x1x1.size (k1_off16_inb k)).toLoadRect X1 (Shape.Idx.first (numel1_S1x1x1.symm ▸ Nat.one_pos))) k1_hw6)).toLoadRect f5) (arg2.view.readAt (Elt F) (Rect.unit (s := S12x2048x64) (k1_off18 k) S1x1x64.size (k1_off18_inb k)).toLoadRect X2)⟩])) ∗ (arg10.view.loc (c : Thread nD τ) ↦[arg10.view.set]{fullShare} (arg10.view.writes (Elt F) f6 [⟨(Rect.unit (s := S64x64) (k1_off20 (arg1.view.readAt (Elt F) (Rect.unit (s := S12x1x2048) (k1_off19 k) S1x1x1.size (k1_off19_inb k)).toLoadRect X1 (Shape.Idx.first (numel1_S1x1x1.symm ▸ Nat.one_pos)))) S1x64.size (k1_off20_inb (arg1.view.readAt (Elt F) (Rect.unit (s := S12x1x2048) (k1_off19 k) S1x1x1.size (k1_off19_inb k)).toLoadRect X1 (Shape.Idx.first (numel1_S1x1x1.symm ▸ Nat.one_pos))) k1_hw7)), k1_pay12 (arg10.view.readAt (Elt F) (Rect.unit (s := S64x64) (k1_off20 (arg1.view.readAt (Elt F) (Rect.unit (s := S12x1x2048) (k1_off19 k) S1x1x1.size (k1_off19_inb k)).toLoadRect X1 (Shape.Idx.first (numel1_S1x1x1.symm ▸ Nat.one_pos)))) S1x64.size (k1_off20_inb (arg1.view.readAt (Elt F) (Rect.unit (s := S12x1x2048) (k1_off19 k) S1x1x1.size (k1_off19_inb k)).toLoadRect X1 (Shape.Idx.first (numel1_S1x1x1.symm ▸ Nat.one_pos))) k1_hw7)).toLoadRect f6) (arg2.view.readAt (Elt F) (Rect.unit (s := S12x2048x64) (k1_off21 k) S1x1x64.size (k1_off21_inb k)).toLoadRect X2)⟩])) ∗ (arg11.view.loc (c : Thread nD τ) ↦[arg11.view.set]{fullShare} (arg11.view.writes (Elt F) f7 [⟨(Rect.unit (s := S64x64) (k1_off23 (arg1.view.readAt (Elt F) (Rect.unit (s := S12x1x2048) (k1_off22 k) S1x1x1.size (k1_off22_inb k)).toLoadRect X1 (Shape.Idx.first (numel1_S1x1x1.symm ▸ Nat.one_pos)))) S1x64.size (k1_off23_inb (arg1.view.readAt (Elt F) (Rect.unit (s := S12x1x2048) (k1_off22 k) S1x1x1.size (k1_off22_inb k)).toLoadRect X1 (Shape.Idx.first (numel1_S1x1x1.symm ▸ Nat.one_pos))) k1_hw8)), k1_pay13 (arg11.view.readAt (Elt F) (Rect.unit (s := S64x64) (k1_off23 (arg1.view.readAt (Elt F) (Rect.unit (s := S12x1x2048) (k1_off22 k) S1x1x1.size (k1_off22_inb k)).toLoadRect X1 (Shape.Idx.first (numel1_S1x1x1.symm ▸ Nat.one_pos)))) S1x64.size (k1_off23_inb (arg1.view.readAt (Elt F) (Rect.unit (s := S12x1x2048) (k1_off22 k) S1x1x1.size (k1_off22_inb k)).toLoadRect X1 (Shape.Idx.first (numel1_S1x1x1.symm ▸ Nat.one_pos))) k1_hw8)).toLoadRect f7) (arg2.view.readAt (Elt F) (Rect.unit (s := S12x2048x64) (k1_off24 k) S1x1x64.size (k1_off24_inb k)).toLoadRect X2)⟩])) ∗ (arg12.view.loc (c : Thread nD τ) ↦[arg12.view.set]{fullShare} (arg12.view.writes (Elt F) f8 [⟨(Rect.unit (s := S64x64) (k1_off26 (arg1.view.readAt (Elt F) (Rect.unit (s := S12x1x2048) (k1_off25 k) S1x1x1.size (k1_off25_inb k)).toLoadRect X1 (Shape.Idx.first (numel1_S1x1x1.symm ▸ Nat.one_pos)))) S1x64.size (k1_off26_inb (arg1.view.readAt (Elt F) (Rect.unit (s := S12x1x2048) (k1_off25 k) S1x1x1.size (k1_off25_inb k)).toLoadRect X1 (Shape.Idx.first (numel1_S1x1x1.symm ▸ Nat.one_pos))) k1_hw9)), k1_pay14 (arg12.view.readAt (Elt F) (Rect.unit (s := S64x64) (k1_off26 (arg1.view.readAt (Elt F) (Rect.unit (s := S12x1x2048) (k1_off25 k) S1x1x1.size (k1_off25_inb k)).toLoadRect X1 (Shape.Idx.first (numel1_S1x1x1.symm ▸ Nat.one_pos)))) S1x64.size (k1_off26_inb (arg1.view.readAt (Elt F) (Rect.unit (s := S12x1x2048) (k1_off25 k) S1x1x1.size (k1_off25_inb k)).toLoadRect X1 (Shape.Idx.first (numel1_S1x1x1.symm ▸ Nat.one_pos))) k1_hw9)).toLoadRect f8) (arg2.view.readAt (Elt F) (Rect.unit (s := S12x2048x64) (k1_off27 k) S1x1x64.size (k1_off27_inb k)).toLoadRect X2)⟩])) ∗ (arg13.view.loc (c : Thread nD τ) ↦[arg13.view.set]{fullShare} (arg13.view.writes (Elt F) f9 [⟨(Rect.unit (s := S64x64) (k1_off29 (arg1.view.readAt (Elt F) (Rect.unit (s := S12x1x2048) (k1_off28 k) S1x1x1.size (k1_off28_inb k)).toLoadRect X1 (Shape.Idx.first (numel1_S1x1x1.symm ▸ Nat.one_pos)))) S1x64.size (k1_off29_inb (arg1.view.readAt (Elt F) (Rect.unit (s := S12x1x2048) (k1_off28 k) S1x1x1.size (k1_off28_inb k)).toLoadRect X1 (Shape.Idx.first (numel1_S1x1x1.symm ▸ Nat.one_pos))) k1_hw10)), k1_pay15 (arg13.view.readAt (Elt F) (Rect.unit (s := S64x64) (k1_off29 (arg1.view.readAt (Elt F) (Rect.unit (s := S12x1x2048) (k1_off28 k) S1x1x1.size (k1_off28_inb k)).toLoadRect X1 (Shape.Idx.first (numel1_S1x1x1.symm ▸ Nat.one_pos)))) S1x64.size (k1_off29_inb (arg1.view.readAt (Elt F) (Rect.unit (s := S12x1x2048) (k1_off28 k) S1x1x1.size (k1_off28_inb k)).toLoadRect X1 (Shape.Idx.first (numel1_S1x1x1.symm ▸ Nat.one_pos))) k1_hw10)).toLoadRect f9) (arg2.view.readAt (Elt F) (Rect.unit (s := S12x2048x64) (k1_off30 k) S1x1x64.size (k1_off30_inb k)).toLoadRect X2)⟩])) ∗ (arg14.view.loc (c : Thread nD τ) ↦[arg14.view.set]{fullShare} (arg14.view.writes (Elt F) f10 [⟨(Rect.unit (s := S64x64) (k1_off32 (arg1.view.readAt (Elt F) (Rect.unit (s := S12x1x2048) (k1_off31 k) S1x1x1.size (k1_off31_inb k)).toLoadRect X1 (Shape.Idx.first (numel1_S1x1x1.symm ▸ Nat.one_pos)))) S1x64.size (k1_off32_inb (arg1.view.readAt (Elt F) (Rect.unit (s := S12x1x2048) (k1_off31 k) S1x1x1.size (k1_off31_inb k)).toLoadRect X1 (Shape.Idx.first (numel1_S1x1x1.symm ▸ Nat.one_pos))) k1_hw11)), k1_pay16 (arg14.view.readAt (Elt F) (Rect.unit (s := S64x64) (k1_off32 (arg1.view.readAt (Elt F) (Rect.unit (s := S12x1x2048) (k1_off31 k) S1x1x1.size (k1_off31_inb k)).toLoadRect X1 (Shape.Idx.first (numel1_S1x1x1.symm ▸ Nat.one_pos)))) S1x64.size (k1_off32_inb (arg1.view.readAt (Elt F) (Rect.unit (s := S12x1x2048) (k1_off31 k) S1x1x1.size (k1_off31_inb k)).toLoadRect X1 (Shape.Idx.first (numel1_S1x1x1.symm ▸ Nat.one_pos))) k1_hw11)).toLoadRect f10) (arg2.view.readAt (Elt F) (Rect.unit (s := S12x2048x64) (k1_off33 k) S1x1x64.size (k1_off33_inb k)).toLoadRect X2)⟩])) ∗ (arg15.view.loc (c : Thread nD τ) ↦[arg15.view.set]{fullShare} (arg15.view.writes (Elt F) f11 [⟨(Rect.unit (s := S64x64) (k1_off35 (arg1.view.readAt (Elt F) (Rect.unit (s := S12x1x2048) (k1_off34 k) S1x1x1.size (k1_off34_inb k)).toLoadRect X1 (Shape.Idx.first (numel1_S1x1x1.symm ▸ Nat.one_pos)))) S1x64.size (k1_off35_inb (arg1.view.readAt (Elt F) (Rect.unit (s := S12x1x2048) (k1_off34 k) S1x1x1.size (k1_off34_inb k)).toLoadRect X1 (Shape.Idx.first (numel1_S1x1x1.symm ▸ Nat.one_pos))) k1_hw12)), k1_pay17 (arg15.view.readAt (Elt F) (Rect.unit (s := S64x64) (k1_off35 (arg1.view.readAt (Elt F) (Rect.unit (s := S12x1x2048) (k1_off34 k) S1x1x1.size (k1_off34_inb k)).toLoadRect X1 (Shape.Idx.first (numel1_S1x1x1.symm ▸ Nat.one_pos)))) S1x64.size (k1_off35_inb (arg1.view.readAt (Elt F) (Rect.unit (s := S12x1x2048) (k1_off34 k) S1x1x1.size (k1_off34_inb k)).toLoadRect X1 (Shape.Idx.first (numel1_S1x1x1.symm ▸ Nat.one_pos))) k1_hw12)).toLoadRect f11) (arg2.view.readAt (Elt F) (Rect.unit (s := S12x2048x64) (k1_off36 k) S1x1x64.size (k1_off36_inb k)).toLoadRect X2)⟩])))) := by
  have hk : k.val < 2048 := Nat.lt_of_lt_of_le k.isLt k1_t1_abs.2.1
  unfold k1_t1_body
  simp only [k1_part1_eq_skeleton, k1_part2_eq_skeleton, k1_part3_eq_skeleton, k1_part4_eq_skeleton]
  iintro ⟨HR1, HR2, HW0, HW1, HW2, HW3, HW4, HW5, HW6, HW7, HW8, HW9, HW10, HW11⟩
  sl_exec
  sl_step
  sl_close

set_option maxHeartbeats 8000000 in
set_option warn.classDefReducibility false in
/-- The accumulation loop by its invariant: before step `k` every scratch matrix holds `stOf … k`. -/
@[sl_loop] def loopInv (𝒱 : Variants) (c : Dev nD) (bd : Option 𝒱.V) (E : Set ℕ) (i : grid1.Coords) (arg1 : Memref sig .tc .smem S12x1x2048 .i32) (harg1 : arg1.IsWhole) (arg2 : Memref sig .tc .vmem S12x2048x64 .f32) (harg2 : arg2.IsWhole) (arg3 : Memref sig .tc .vmem S12x64x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S64x64 .f32) (harg13 : arg13.IsWhole) (arg14 : Memref sig .tc .vmem S64x64 .f32) (harg14 : arg14.IsWhole) (arg15 : Memref sig .tc .vmem S64x64 .f32) (harg15 : arg15.IsWhole) (v28 : FVec F S64x64 .f32)
    (X1 : BufTy.Contents (Elt F) arg1.view.ty) (X2 : BufTy.Contents (Elt F) arg2.view.ty) (k1_hw1 : ∀ kq hkq, k1_chk1 (arg1.view.readAt (Elt F) (Rect.unit (s := S12x1x2048) (k1_off1 ⟨kq, hkq⟩) S1x1x1.size (k1_off1_inb ⟨kq, hkq⟩)).toLoadRect X1 (Shape.Idx.first (numel1_S1x1x1.symm ▸ Nat.one_pos)))) (k1_hw2 : ∀ kq hkq, k1_chk2 (arg1.view.readAt (Elt F) (Rect.unit (s := S12x1x2048) (k1_off4 ⟨kq, hkq⟩) S1x1x1.size (k1_off4_inb ⟨kq, hkq⟩)).toLoadRect X1 (Shape.Idx.first (numel1_S1x1x1.symm ▸ Nat.one_pos)))) (k1_hw3 : ∀ kq hkq, k1_chk3 (arg1.view.readAt (Elt F) (Rect.unit (s := S12x1x2048) (k1_off7 ⟨kq, hkq⟩) S1x1x1.size (k1_off7_inb ⟨kq, hkq⟩)).toLoadRect X1 (Shape.Idx.first (numel1_S1x1x1.symm ▸ Nat.one_pos)))) (k1_hw4 : ∀ kq hkq, k1_chk4 (arg1.view.readAt (Elt F) (Rect.unit (s := S12x1x2048) (k1_off10 ⟨kq, hkq⟩) S1x1x1.size (k1_off10_inb ⟨kq, hkq⟩)).toLoadRect X1 (Shape.Idx.first (numel1_S1x1x1.symm ▸ Nat.one_pos)))) (k1_hw5 : ∀ kq hkq, k1_chk5 (arg1.view.readAt (Elt F) (Rect.unit (s := S12x1x2048) (k1_off13 ⟨kq, hkq⟩) S1x1x1.size (k1_off13_inb ⟨kq, hkq⟩)).toLoadRect X1 (Shape.Idx.first (numel1_S1x1x1.symm ▸ Nat.one_pos)))) (k1_hw6 : ∀ kq hkq, k1_chk6 (arg1.view.readAt (Elt F) (Rect.unit (s := S12x1x2048) (k1_off16 ⟨kq, hkq⟩) S1x1x1.size (k1_off16_inb ⟨kq, hkq⟩)).toLoadRect X1 (Shape.Idx.first (numel1_S1x1x1.symm ▸ Nat.one_pos)))) (k1_hw7 : ∀ kq hkq, k1_chk7 (arg1.view.readAt (Elt F) (Rect.unit (s := S12x1x2048) (k1_off19 ⟨kq, hkq⟩) S1x1x1.size (k1_off19_inb ⟨kq, hkq⟩)).toLoadRect X1 (Shape.Idx.first (numel1_S1x1x1.symm ▸ Nat.one_pos)))) (k1_hw8 : ∀ kq hkq, k1_chk8 (arg1.view.readAt (Elt F) (Rect.unit (s := S12x1x2048) (k1_off22 ⟨kq, hkq⟩) S1x1x1.size (k1_off22_inb ⟨kq, hkq⟩)).toLoadRect X1 (Shape.Idx.first (numel1_S1x1x1.symm ▸ Nat.one_pos)))) (k1_hw9 : ∀ kq hkq, k1_chk9 (arg1.view.readAt (Elt F) (Rect.unit (s := S12x1x2048) (k1_off25 ⟨kq, hkq⟩) S1x1x1.size (k1_off25_inb ⟨kq, hkq⟩)).toLoadRect X1 (Shape.Idx.first (numel1_S1x1x1.symm ▸ Nat.one_pos)))) (k1_hw10 : ∀ kq hkq, k1_chk10 (arg1.view.readAt (Elt F) (Rect.unit (s := S12x1x2048) (k1_off28 ⟨kq, hkq⟩) S1x1x1.size (k1_off28_inb ⟨kq, hkq⟩)).toLoadRect X1 (Shape.Idx.first (numel1_S1x1x1.symm ▸ Nat.one_pos)))) (k1_hw11 : ∀ kq hkq, k1_chk11 (arg1.view.readAt (Elt F) (Rect.unit (s := S12x1x2048) (k1_off31 ⟨kq, hkq⟩) S1x1x1.size (k1_off31_inb ⟨kq, hkq⟩)).toLoadRect X1 (Shape.Idx.first (numel1_S1x1x1.symm ▸ Nat.one_pos)))) (k1_hw12 : ∀ kq hkq, k1_chk12 (arg1.view.readAt (Elt F) (Rect.unit (s := S12x1x2048) (k1_off34 ⟨kq, hkq⟩) S1x1x1.size (k1_off34_inb ⟨kq, hkq⟩)).toLoadRect X1 (Shape.Idx.first (numel1_S1x1x1.symm ▸ Nat.one_pos)))) (f0 : BufTy.Contents (Elt F) arg4.view.ty) (f1 : BufTy.Contents (Elt F) arg5.view.ty) (f2 : BufTy.Contents (Elt F) arg6.view.ty) (f3 : BufTy.Contents (Elt F) arg7.view.ty) (f4 : BufTy.Contents (Elt F) arg8.view.ty) (f5 : BufTy.Contents (Elt F) arg9.view.ty) (f6 : BufTy.Contents (Elt F) arg10.view.ty) (f7 : BufTy.Contents (Elt F) arg11.view.ty) (f8 : BufTy.Contents (Elt F) arg12.view.ty) (f9 : BufTy.Contents (Elt F) arg13.view.ty) (f10 : BufTy.Contents (Elt F) arg14.view.ty) (f11 : BufTy.Contents (Elt F) arg15.view.ty) :
    LoopInvTy_k1_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v28 where
  inv k _ := iprop((arg1.view.loc (c : Thread nD τ) ↦[arg1.view.set]{fullShare} X1) ∗ (arg2.view.loc (c : Thread nD τ) ↦[arg2.view.set]{fullShare} X2) ∗ (arg4.view.loc (c : Thread nD τ) ↦[arg4.view.set]{fullShare} (stOf arg4 (fun n => k1_off2 (arg1.view.readAt (Elt F) (Rect.unit (s := S12x1x2048) (k1_off1 n) S1x1x1.size (k1_off1_inb n)).toLoadRect X1 (Shape.Idx.first (numel1_S1x1x1.symm ▸ Nat.one_pos)))) (fun n => k1_off2_inb (arg1.view.readAt (Elt F) (Rect.unit (s := S12x1x2048) (k1_off1 n) S1x1x1.size (k1_off1_inb n)).toLoadRect X1 (Shape.Idx.first (numel1_S1x1x1.symm ▸ Nat.one_pos))) (k1_hw1 n.val n.isLt)) (fun n => (arg2.view.readAt (Elt F) (Rect.unit (s := S12x2048x64) (k1_off3 n) S1x1x64.size (k1_off3_inb n)).toLoadRect X2)) k1_pay6 f0 k)) ∗ (arg5.view.loc (c : Thread nD τ) ↦[arg5.view.set]{fullShare} (stOf arg5 (fun n => k1_off5 (arg1.view.readAt (Elt F) (Rect.unit (s := S12x1x2048) (k1_off4 n) S1x1x1.size (k1_off4_inb n)).toLoadRect X1 (Shape.Idx.first (numel1_S1x1x1.symm ▸ Nat.one_pos)))) (fun n => k1_off5_inb (arg1.view.readAt (Elt F) (Rect.unit (s := S12x1x2048) (k1_off4 n) S1x1x1.size (k1_off4_inb n)).toLoadRect X1 (Shape.Idx.first (numel1_S1x1x1.symm ▸ Nat.one_pos))) (k1_hw2 n.val n.isLt)) (fun n => (arg2.view.readAt (Elt F) (Rect.unit (s := S12x2048x64) (k1_off6 n) S1x1x64.size (k1_off6_inb n)).toLoadRect X2)) k1_pay7 f1 k)) ∗ (arg6.view.loc (c : Thread nD τ) ↦[arg6.view.set]{fullShare} (stOf arg6 (fun n => k1_off8 (arg1.view.readAt (Elt F) (Rect.unit (s := S12x1x2048) (k1_off7 n) S1x1x1.size (k1_off7_inb n)).toLoadRect X1 (Shape.Idx.first (numel1_S1x1x1.symm ▸ Nat.one_pos)))) (fun n => k1_off8_inb (arg1.view.readAt (Elt F) (Rect.unit (s := S12x1x2048) (k1_off7 n) S1x1x1.size (k1_off7_inb n)).toLoadRect X1 (Shape.Idx.first (numel1_S1x1x1.symm ▸ Nat.one_pos))) (k1_hw3 n.val n.isLt)) (fun n => (arg2.view.readAt (Elt F) (Rect.unit (s := S12x2048x64) (k1_off9 n) S1x1x64.size (k1_off9_inb n)).toLoadRect X2)) k1_pay8 f2 k)) ∗ (arg7.view.loc (c : Thread nD τ) ↦[arg7.view.set]{fullShare} (stOf arg7 (fun n => k1_off11 (arg1.view.readAt (Elt F) (Rect.unit (s := S12x1x2048) (k1_off10 n) S1x1x1.size (k1_off10_inb n)).toLoadRect X1 (Shape.Idx.first (numel1_S1x1x1.symm ▸ Nat.one_pos)))) (fun n => k1_off11_inb (arg1.view.readAt (Elt F) (Rect.unit (s := S12x1x2048) (k1_off10 n) S1x1x1.size (k1_off10_inb n)).toLoadRect X1 (Shape.Idx.first (numel1_S1x1x1.symm ▸ Nat.one_pos))) (k1_hw4 n.val n.isLt)) (fun n => (arg2.view.readAt (Elt F) (Rect.unit (s := S12x2048x64) (k1_off12 n) S1x1x64.size (k1_off12_inb n)).toLoadRect X2)) k1_pay9 f3 k)) ∗ (arg8.view.loc (c : Thread nD τ) ↦[arg8.view.set]{fullShare} (stOf arg8 (fun n => k1_off14 (arg1.view.readAt (Elt F) (Rect.unit (s := S12x1x2048) (k1_off13 n) S1x1x1.size (k1_off13_inb n)).toLoadRect X1 (Shape.Idx.first (numel1_S1x1x1.symm ▸ Nat.one_pos)))) (fun n => k1_off14_inb (arg1.view.readAt (Elt F) (Rect.unit (s := S12x1x2048) (k1_off13 n) S1x1x1.size (k1_off13_inb n)).toLoadRect X1 (Shape.Idx.first (numel1_S1x1x1.symm ▸ Nat.one_pos))) (k1_hw5 n.val n.isLt)) (fun n => (arg2.view.readAt (Elt F) (Rect.unit (s := S12x2048x64) (k1_off15 n) S1x1x64.size (k1_off15_inb n)).toLoadRect X2)) k1_pay10 f4 k)) ∗ (arg9.view.loc (c : Thread nD τ) ↦[arg9.view.set]{fullShare} (stOf arg9 (fun n => k1_off17 (arg1.view.readAt (Elt F) (Rect.unit (s := S12x1x2048) (k1_off16 n) S1x1x1.size (k1_off16_inb n)).toLoadRect X1 (Shape.Idx.first (numel1_S1x1x1.symm ▸ Nat.one_pos)))) (fun n => k1_off17_inb (arg1.view.readAt (Elt F) (Rect.unit (s := S12x1x2048) (k1_off16 n) S1x1x1.size (k1_off16_inb n)).toLoadRect X1 (Shape.Idx.first (numel1_S1x1x1.symm ▸ Nat.one_pos))) (k1_hw6 n.val n.isLt)) (fun n => (arg2.view.readAt (Elt F) (Rect.unit (s := S12x2048x64) (k1_off18 n) S1x1x64.size (k1_off18_inb n)).toLoadRect X2)) k1_pay11 f5 k)) ∗ (arg10.view.loc (c : Thread nD τ) ↦[arg10.view.set]{fullShare} (stOf arg10 (fun n => k1_off20 (arg1.view.readAt (Elt F) (Rect.unit (s := S12x1x2048) (k1_off19 n) S1x1x1.size (k1_off19_inb n)).toLoadRect X1 (Shape.Idx.first (numel1_S1x1x1.symm ▸ Nat.one_pos)))) (fun n => k1_off20_inb (arg1.view.readAt (Elt F) (Rect.unit (s := S12x1x2048) (k1_off19 n) S1x1x1.size (k1_off19_inb n)).toLoadRect X1 (Shape.Idx.first (numel1_S1x1x1.symm ▸ Nat.one_pos))) (k1_hw7 n.val n.isLt)) (fun n => (arg2.view.readAt (Elt F) (Rect.unit (s := S12x2048x64) (k1_off21 n) S1x1x64.size (k1_off21_inb n)).toLoadRect X2)) k1_pay12 f6 k)) ∗ (arg11.view.loc (c : Thread nD τ) ↦[arg11.view.set]{fullShare} (stOf arg11 (fun n => k1_off23 (arg1.view.readAt (Elt F) (Rect.unit (s := S12x1x2048) (k1_off22 n) S1x1x1.size (k1_off22_inb n)).toLoadRect X1 (Shape.Idx.first (numel1_S1x1x1.symm ▸ Nat.one_pos)))) (fun n => k1_off23_inb (arg1.view.readAt (Elt F) (Rect.unit (s := S12x1x2048) (k1_off22 n) S1x1x1.size (k1_off22_inb n)).toLoadRect X1 (Shape.Idx.first (numel1_S1x1x1.symm ▸ Nat.one_pos))) (k1_hw8 n.val n.isLt)) (fun n => (arg2.view.readAt (Elt F) (Rect.unit (s := S12x2048x64) (k1_off24 n) S1x1x64.size (k1_off24_inb n)).toLoadRect X2)) k1_pay13 f7 k)) ∗ (arg12.view.loc (c : Thread nD τ) ↦[arg12.view.set]{fullShare} (stOf arg12 (fun n => k1_off26 (arg1.view.readAt (Elt F) (Rect.unit (s := S12x1x2048) (k1_off25 n) S1x1x1.size (k1_off25_inb n)).toLoadRect X1 (Shape.Idx.first (numel1_S1x1x1.symm ▸ Nat.one_pos)))) (fun n => k1_off26_inb (arg1.view.readAt (Elt F) (Rect.unit (s := S12x1x2048) (k1_off25 n) S1x1x1.size (k1_off25_inb n)).toLoadRect X1 (Shape.Idx.first (numel1_S1x1x1.symm ▸ Nat.one_pos))) (k1_hw9 n.val n.isLt)) (fun n => (arg2.view.readAt (Elt F) (Rect.unit (s := S12x2048x64) (k1_off27 n) S1x1x64.size (k1_off27_inb n)).toLoadRect X2)) k1_pay14 f8 k)) ∗ (arg13.view.loc (c : Thread nD τ) ↦[arg13.view.set]{fullShare} (stOf arg13 (fun n => k1_off29 (arg1.view.readAt (Elt F) (Rect.unit (s := S12x1x2048) (k1_off28 n) S1x1x1.size (k1_off28_inb n)).toLoadRect X1 (Shape.Idx.first (numel1_S1x1x1.symm ▸ Nat.one_pos)))) (fun n => k1_off29_inb (arg1.view.readAt (Elt F) (Rect.unit (s := S12x1x2048) (k1_off28 n) S1x1x1.size (k1_off28_inb n)).toLoadRect X1 (Shape.Idx.first (numel1_S1x1x1.symm ▸ Nat.one_pos))) (k1_hw10 n.val n.isLt)) (fun n => (arg2.view.readAt (Elt F) (Rect.unit (s := S12x2048x64) (k1_off30 n) S1x1x64.size (k1_off30_inb n)).toLoadRect X2)) k1_pay15 f9 k)) ∗ (arg14.view.loc (c : Thread nD τ) ↦[arg14.view.set]{fullShare} (stOf arg14 (fun n => k1_off32 (arg1.view.readAt (Elt F) (Rect.unit (s := S12x1x2048) (k1_off31 n) S1x1x1.size (k1_off31_inb n)).toLoadRect X1 (Shape.Idx.first (numel1_S1x1x1.symm ▸ Nat.one_pos)))) (fun n => k1_off32_inb (arg1.view.readAt (Elt F) (Rect.unit (s := S12x1x2048) (k1_off31 n) S1x1x1.size (k1_off31_inb n)).toLoadRect X1 (Shape.Idx.first (numel1_S1x1x1.symm ▸ Nat.one_pos))) (k1_hw11 n.val n.isLt)) (fun n => (arg2.view.readAt (Elt F) (Rect.unit (s := S12x2048x64) (k1_off33 n) S1x1x64.size (k1_off33_inb n)).toLoadRect X2)) k1_pay16 f10 k)) ∗ (arg15.view.loc (c : Thread nD τ) ↦[arg15.view.set]{fullShare} (stOf arg15 (fun n => k1_off35 (arg1.view.readAt (Elt F) (Rect.unit (s := S12x1x2048) (k1_off34 n) S1x1x1.size (k1_off34_inb n)).toLoadRect X1 (Shape.Idx.first (numel1_S1x1x1.symm ▸ Nat.one_pos)))) (fun n => k1_off35_inb (arg1.view.readAt (Elt F) (Rect.unit (s := S12x1x2048) (k1_off34 n) S1x1x1.size (k1_off34_inb n)).toLoadRect X1 (Shape.Idx.first (numel1_S1x1x1.symm ▸ Nat.one_pos))) (k1_hw12 n.val n.isLt)) (fun n => (arg2.view.readAt (Elt F) (Rect.unit (s := S12x2048x64) (k1_off36 n) S1x1x64.size (k1_off36_inb n)).toLoadRect X2)) k1_pay17 f11 k)))
  step k acc := by
    iintro ⟨HR1, HR2, HW0, HW1, HW2, HW3, HW4, HW5, HW6, HW7, HW8, HW9, HW10, HW11⟩
    iapply (wp_wand_r Idealize.ShloMosaic.frame (wpE (defs₀ (F := F)) 𝒱 (c : Thread nD τ) bd) E)
    isplitl [HR1 HR2 HW0 HW1 HW2 HW3 HW4 HW5 HW6 HW7 HW8 HW9 HW10 HW11]
    · iapply (trip 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v28 X1 X2 k (k1_hw1 k.val k.isLt) (k1_hw2 k.val k.isLt) (k1_hw3 k.val k.isLt) (k1_hw4 k.val k.isLt) (k1_hw5 k.val k.isLt) (k1_hw6 k.val k.isLt) (k1_hw7 k.val k.isLt) (k1_hw8 k.val k.isLt) (k1_hw9 k.val k.isLt) (k1_hw10 k.val k.isLt) (k1_hw11 k.val k.isLt) (k1_hw12 k.val k.isLt) E (stOf arg4 (fun n => k1_off2 (arg1.view.readAt (Elt F) (Rect.unit (s := S12x1x2048) (k1_off1 n) S1x1x1.size (k1_off1_inb n)).toLoadRect X1 (Shape.Idx.first (numel1_S1x1x1.symm ▸ Nat.one_pos)))) (fun n => k1_off2_inb (arg1.view.readAt (Elt F) (Rect.unit (s := S12x1x2048) (k1_off1 n) S1x1x1.size (k1_off1_inb n)).toLoadRect X1 (Shape.Idx.first (numel1_S1x1x1.symm ▸ Nat.one_pos))) (k1_hw1 n.val n.isLt)) (fun n => (arg2.view.readAt (Elt F) (Rect.unit (s := S12x2048x64) (k1_off3 n) S1x1x64.size (k1_off3_inb n)).toLoadRect X2)) k1_pay6 f0 k.val) (stOf arg5 (fun n => k1_off5 (arg1.view.readAt (Elt F) (Rect.unit (s := S12x1x2048) (k1_off4 n) S1x1x1.size (k1_off4_inb n)).toLoadRect X1 (Shape.Idx.first (numel1_S1x1x1.symm ▸ Nat.one_pos)))) (fun n => k1_off5_inb (arg1.view.readAt (Elt F) (Rect.unit (s := S12x1x2048) (k1_off4 n) S1x1x1.size (k1_off4_inb n)).toLoadRect X1 (Shape.Idx.first (numel1_S1x1x1.symm ▸ Nat.one_pos))) (k1_hw2 n.val n.isLt)) (fun n => (arg2.view.readAt (Elt F) (Rect.unit (s := S12x2048x64) (k1_off6 n) S1x1x64.size (k1_off6_inb n)).toLoadRect X2)) k1_pay7 f1 k.val) (stOf arg6 (fun n => k1_off8 (arg1.view.readAt (Elt F) (Rect.unit (s := S12x1x2048) (k1_off7 n) S1x1x1.size (k1_off7_inb n)).toLoadRect X1 (Shape.Idx.first (numel1_S1x1x1.symm ▸ Nat.one_pos)))) (fun n => k1_off8_inb (arg1.view.readAt (Elt F) (Rect.unit (s := S12x1x2048) (k1_off7 n) S1x1x1.size (k1_off7_inb n)).toLoadRect X1 (Shape.Idx.first (numel1_S1x1x1.symm ▸ Nat.one_pos))) (k1_hw3 n.val n.isLt)) (fun n => (arg2.view.readAt (Elt F) (Rect.unit (s := S12x2048x64) (k1_off9 n) S1x1x64.size (k1_off9_inb n)).toLoadRect X2)) k1_pay8 f2 k.val) (stOf arg7 (fun n => k1_off11 (arg1.view.readAt (Elt F) (Rect.unit (s := S12x1x2048) (k1_off10 n) S1x1x1.size (k1_off10_inb n)).toLoadRect X1 (Shape.Idx.first (numel1_S1x1x1.symm ▸ Nat.one_pos)))) (fun n => k1_off11_inb (arg1.view.readAt (Elt F) (Rect.unit (s := S12x1x2048) (k1_off10 n) S1x1x1.size (k1_off10_inb n)).toLoadRect X1 (Shape.Idx.first (numel1_S1x1x1.symm ▸ Nat.one_pos))) (k1_hw4 n.val n.isLt)) (fun n => (arg2.view.readAt (Elt F) (Rect.unit (s := S12x2048x64) (k1_off12 n) S1x1x64.size (k1_off12_inb n)).toLoadRect X2)) k1_pay9 f3 k.val) (stOf arg8 (fun n => k1_off14 (arg1.view.readAt (Elt F) (Rect.unit (s := S12x1x2048) (k1_off13 n) S1x1x1.size (k1_off13_inb n)).toLoadRect X1 (Shape.Idx.first (numel1_S1x1x1.symm ▸ Nat.one_pos)))) (fun n => k1_off14_inb (arg1.view.readAt (Elt F) (Rect.unit (s := S12x1x2048) (k1_off13 n) S1x1x1.size (k1_off13_inb n)).toLoadRect X1 (Shape.Idx.first (numel1_S1x1x1.symm ▸ Nat.one_pos))) (k1_hw5 n.val n.isLt)) (fun n => (arg2.view.readAt (Elt F) (Rect.unit (s := S12x2048x64) (k1_off15 n) S1x1x64.size (k1_off15_inb n)).toLoadRect X2)) k1_pay10 f4 k.val) (stOf arg9 (fun n => k1_off17 (arg1.view.readAt (Elt F) (Rect.unit (s := S12x1x2048) (k1_off16 n) S1x1x1.size (k1_off16_inb n)).toLoadRect X1 (Shape.Idx.first (numel1_S1x1x1.symm ▸ Nat.one_pos)))) (fun n => k1_off17_inb (arg1.view.readAt (Elt F) (Rect.unit (s := S12x1x2048) (k1_off16 n) S1x1x1.size (k1_off16_inb n)).toLoadRect X1 (Shape.Idx.first (numel1_S1x1x1.symm ▸ Nat.one_pos))) (k1_hw6 n.val n.isLt)) (fun n => (arg2.view.readAt (Elt F) (Rect.unit (s := S12x2048x64) (k1_off18 n) S1x1x64.size (k1_off18_inb n)).toLoadRect X2)) k1_pay11 f5 k.val) (stOf arg10 (fun n => k1_off20 (arg1.view.readAt (Elt F) (Rect.unit (s := S12x1x2048) (k1_off19 n) S1x1x1.size (k1_off19_inb n)).toLoadRect X1 (Shape.Idx.first (numel1_S1x1x1.symm ▸ Nat.one_pos)))) (fun n => k1_off20_inb (arg1.view.readAt (Elt F) (Rect.unit (s := S12x1x2048) (k1_off19 n) S1x1x1.size (k1_off19_inb n)).toLoadRect X1 (Shape.Idx.first (numel1_S1x1x1.symm ▸ Nat.one_pos))) (k1_hw7 n.val n.isLt)) (fun n => (arg2.view.readAt (Elt F) (Rect.unit (s := S12x2048x64) (k1_off21 n) S1x1x64.size (k1_off21_inb n)).toLoadRect X2)) k1_pay12 f6 k.val) (stOf arg11 (fun n => k1_off23 (arg1.view.readAt (Elt F) (Rect.unit (s := S12x1x2048) (k1_off22 n) S1x1x1.size (k1_off22_inb n)).toLoadRect X1 (Shape.Idx.first (numel1_S1x1x1.symm ▸ Nat.one_pos)))) (fun n => k1_off23_inb (arg1.view.readAt (Elt F) (Rect.unit (s := S12x1x2048) (k1_off22 n) S1x1x1.size (k1_off22_inb n)).toLoadRect X1 (Shape.Idx.first (numel1_S1x1x1.symm ▸ Nat.one_pos))) (k1_hw8 n.val n.isLt)) (fun n => (arg2.view.readAt (Elt F) (Rect.unit (s := S12x2048x64) (k1_off24 n) S1x1x64.size (k1_off24_inb n)).toLoadRect X2)) k1_pay13 f7 k.val) (stOf arg12 (fun n => k1_off26 (arg1.view.readAt (Elt F) (Rect.unit (s := S12x1x2048) (k1_off25 n) S1x1x1.size (k1_off25_inb n)).toLoadRect X1 (Shape.Idx.first (numel1_S1x1x1.symm ▸ Nat.one_pos)))) (fun n => k1_off26_inb (arg1.view.readAt (Elt F) (Rect.unit (s := S12x1x2048) (k1_off25 n) S1x1x1.size (k1_off25_inb n)).toLoadRect X1 (Shape.Idx.first (numel1_S1x1x1.symm ▸ Nat.one_pos))) (k1_hw9 n.val n.isLt)) (fun n => (arg2.view.readAt (Elt F) (Rect.unit (s := S12x2048x64) (k1_off27 n) S1x1x64.size (k1_off27_inb n)).toLoadRect X2)) k1_pay14 f8 k.val) (stOf arg13 (fun n => k1_off29 (arg1.view.readAt (Elt F) (Rect.unit (s := S12x1x2048) (k1_off28 n) S1x1x1.size (k1_off28_inb n)).toLoadRect X1 (Shape.Idx.first (numel1_S1x1x1.symm ▸ Nat.one_pos)))) (fun n => k1_off29_inb (arg1.view.readAt (Elt F) (Rect.unit (s := S12x1x2048) (k1_off28 n) S1x1x1.size (k1_off28_inb n)).toLoadRect X1 (Shape.Idx.first (numel1_S1x1x1.symm ▸ Nat.one_pos))) (k1_hw10 n.val n.isLt)) (fun n => (arg2.view.readAt (Elt F) (Rect.unit (s := S12x2048x64) (k1_off30 n) S1x1x64.size (k1_off30_inb n)).toLoadRect X2)) k1_pay15 f9 k.val) (stOf arg14 (fun n => k1_off32 (arg1.view.readAt (Elt F) (Rect.unit (s := S12x1x2048) (k1_off31 n) S1x1x1.size (k1_off31_inb n)).toLoadRect X1 (Shape.Idx.first (numel1_S1x1x1.symm ▸ Nat.one_pos)))) (fun n => k1_off32_inb (arg1.view.readAt (Elt F) (Rect.unit (s := S12x1x2048) (k1_off31 n) S1x1x1.size (k1_off31_inb n)).toLoadRect X1 (Shape.Idx.first (numel1_S1x1x1.symm ▸ Nat.one_pos))) (k1_hw11 n.val n.isLt)) (fun n => (arg2.view.readAt (Elt F) (Rect.unit (s := S12x2048x64) (k1_off33 n) S1x1x64.size (k1_off33_inb n)).toLoadRect X2)) k1_pay16 f10 k.val) (stOf arg15 (fun n => k1_off35 (arg1.view.readAt (Elt F) (Rect.unit (s := S12x1x2048) (k1_off34 n) S1x1x1.size (k1_off34_inb n)).toLoadRect X1 (Shape.Idx.first (numel1_S1x1x1.symm ▸ Nat.one_pos)))) (fun n => k1_off35_inb (arg1.view.readAt (Elt F) (Rect.unit (s := S12x1x2048) (k1_off34 n) S1x1x1.size (k1_off34_inb n)).toLoadRect X1 (Shape.Idx.first (numel1_S1x1x1.symm ▸ Nat.one_pos))) (k1_hw12 n.val n.isLt)) (fun n => (arg2.view.readAt (Elt F) (Rect.unit (s := S12x2048x64) (k1_off36 n) S1x1x64.size (k1_off36_inb n)).toLoadRect X2)) k1_pay17 f11 k.val))
      isplitl [HR1]; · iexact HR1
      isplitl [HR2]; · iexact HR2
      isplitl [HW0]; · iexact HW0
      isplitl [HW1]; · iexact HW1
      isplitl [HW2]; · iexact HW2
      isplitl [HW3]; · iexact HW3
      isplitl [HW4]; · iexact HW4
      isplitl [HW5]; · iexact HW5
      isplitl [HW6]; · iexact HW6
      isplitl [HW7]; · iexact HW7
      isplitl [HW8]; · iexact HW8
      isplitl [HW9]; · iexact HW9
      isplitl [HW10]; · iexact HW10
      iexact HW11
    · iintro %yld ⟨HR1, HR2, HW0, HW1, HW2, HW3, HW4, HW5, HW6, HW7, HW8, HW9, HW10, HW11⟩
      simp only [stOf_succ]
      isplitl [HR1]; · iexact HR1
      isplitl [HR2]; · iexact HR2
      isplitl [HW0]; · iexact HW0
      isplitl [HW1]; · iexact HW1
      isplitl [HW2]; · iexact HW2
      isplitl [HW3]; · iexact HW3
      isplitl [HW4]; · iexact HW4
      isplitl [HW5]; · iexact HW5
      isplitl [HW6]; · iexact HW6
      isplitl [HW7]; · iexact HW7
      isplitl [HW8]; · iexact HW8
      isplitl [HW9]; · iexact HW9
      isplitl [HW10]; · iexact HW10
      iexact HW11

end Cert.Proof.KernelIdeal
-- ==== Proof.SumValue.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WritesUnit
public import Idealize.ShloMosaic.Lib.ValueIdx

public import proofs.«01_k».proof.Proof.SumLoop

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The running column sums of one head: after `n` keys, row `r` holds the sum of those of the first `n` keys
whose slot is `r`, added in order onto zero. -/
def sumAcc (A : Vec F S12x1x2048 .i32) (X : Vec F S12x2048x64 .f32) (h : Fin 12) : ℕ → Fin 64 → Fin 64 → F .f32
  | 0 => fun _ _ => Scalar.ofBits .f32 0x00000000#32
  | n + 1 => fun r e =>
    if r.val = (A (ix3 h 0 (Fin.ofNat 2048 n))).toNat then
      FloatOps.addf (sumAcc A X h n r e) (X (ix3 h (Fin.ofNat 2048 n) e))
    else sumAcc A X h n r e

/-- What the accumulation call leaves: for every head the sums over all 2048 keys. -/
def sumOut (A : Vec F S12x1x2048 .i32) (X : Vec F S12x2048x64 .f32) : Vec F S12x64x64 .f32 :=
  fun j => sumAcc A X (j 0) 2048 (j 1) (j 2)

theorem trips_eq : k1_t1_loop.trips = 2048 := by decide +kernel

/-- The contents of one scratch matrix, read, are the running sums. -/
theorem read_stOf (h : Fin 12) (A : Vec F S12x1x2048 .i32) (X : Vec F S12x2048x64 .f32)
    (arg : Memref sig .tc .vmem S64x64 .f32) (off : Fin k1_t1_loop.trips → Fin 2 → ℕ)
    (inb : ∀ n a, off n a + S1x64.size a ≤ S64x64.size a) (row : Fin k1_t1_loop.trips → Vec F S1x1x64 .f32)
    (pay : Vec F S1x64 .f32 → Vec F S1x1x64 .f32 → FVec F S1x64 .f32)
    (f : BufTy.Contents (Elt F) arg.view.ty)
    (hoff : ∀ n, off n = ![(A (ix3 h 0 (Fin.ofNat 2048 n.val))).toNat, 0])
    (hrow : ∀ n (e : Fin 64), row n (ix3 0 0 e) = X (ix3 h (Fin.ofNat 2048 n.val) e))
    (hpay : ∀ u v (e : Fin 64), pay u v (ix2 0 e) = FloatOps.addf (u (ix2 0 e)) (v (ix3 0 0 e)))
    (hf : ∀ r e : Fin 64, arg.view.read (Elt F) f (ix2 r e) = Scalar.ofBits .f32 0x00000000#32) :
    ∀ k, k ≤ k1_t1_loop.trips → ∀ r e : Fin 64,
      arg.view.read (Elt F) (stOf arg off inb row pay f k) (ix2 r e) = sumAcc A X h k r e
  | 0, _ => fun r e => hf r e
  | k + 1, hk => fun r e => by
    have ih := read_stOf h A X arg off inb row pay f hoff hrow hpay hf k (Nat.le_of_succ_le hk)
    have := stOf_succ arg off inb row pay f ⟨k, hk⟩
    rw [show k + 1 = (⟨k, hk⟩ : Fin k1_t1_loop.trips).val + 1 from rfl, this]
    simp only [sumAcc]
    by_cases hr : r.val = (A (ix3 h 0 (Fin.ofNat 2048 k))).toNat
    · rw [if_pos hr]
      rw [View.read_writes_cons_unit_of_mem arg.view _ (inb ⟨k, hk⟩) _ [] (ix2 r e) (ix2 0 e) (hoff ⟨k, hk⟩)
        (fun a => by
          match a with
          | ⟨0, _⟩ => simpa using hr
          | ⟨1, _⟩ => simp)]
      erw [hpay, hrow]
      congr 1
      rw [View.readAt_apply]
      have hidx : (Rect.unit (s := S64x64) (off ⟨k, hk⟩) S1x64.size (inb ⟨k, hk⟩)).toLoadRect.idx (ix2 0 e) = ix2 r e := by
        funext a
        apply Fin.ext
        match a with
        | ⟨0, _⟩ =>
          show off ⟨k, hk⟩ 0 + 1 * 0 = r.val
          rw [hoff]; simpa using hr.symm
        | ⟨1, _⟩ =>
          show off ⟨k, hk⟩ 1 + 1 * e.val = e.val
          rw [hoff]; simp
      rw [hidx]; exact ih r e
    · rw [if_neg hr]
      rw [View.read_writes_cons_unit_of_not_mem arg.view _ (inb ⟨k, hk⟩) _ [] (ix2 r e) (hoff ⟨k, hk⟩) 0
        (by
          show r.val < (A (ix3 h 0 (Fin.ofNat 2048 k))).toNat ∨ (A (ix3 h 0 (Fin.ofNat 2048 k))).toNat + 1 ≤ r.val
          omega)]
      exact ih r e

/-- A word read from the slot table, at closed offsets. -/
theorem word_read (h : Fin 12) (arg1 : Memref sig .tc .smem S12x1x2048 .i32) (harg1 : arg1.IsWhole)
    (A : Vec F S12x1x2048 .i32) (n : Fin k1_t1_loop.trips) (off : Fin 3 → ℕ) (inb : ∀ a, off a + S1x1x1.size a ≤ S12x1x2048.size a)
    (hoff : off = ![h.val, 0, n.val]) (hp : 0 < S1x1x1.numel) :
    arg1.view.readAt (Elt F) (Rect.unit (s := S12x1x2048) off S1x1x1.size inb).toLoadRect (harg1.unread A) (Shape.Idx.first hp)
      = A (ix3 h 0 (Fin.ofNat 2048 n.val)) := by
  have hn : n.val < 2048 := Nat.lt_of_lt_of_le n.isLt (le_of_eq trips_eq)
  rw [View.readAt_apply, harg1.read_unread]
  congr 1
  subst hoff
  funext a
  apply Fin.ext
  have h0 : ∀ a, ((Shape.Idx.first hp : S1x1x1.Idx) a).val = 0 := fun a => by
    have := ((Shape.Idx.first hp : S1x1x1.Idx) a).isLt
    match a with
    | ⟨0, _⟩ => exact Nat.lt_one_iff.mp this
    | ⟨1, _⟩ => exact Nat.lt_one_iff.mp this
    | ⟨2, _⟩ => exact Nat.lt_one_iff.mp this
  match a with
  | ⟨0, _⟩ => show h.val + 1 * _ = h.val; rw [h0]; rfl
  | ⟨1, _⟩ => show 0 + 1 * _ = 0; rw [h0]
  | ⟨2, _⟩ =>
    show n.val + 1 * _ = n.val % 2048
    rw [h0, Nat.mod_eq_of_lt hn]; rfl

/-- A key row read at closed offsets. -/
theorem row_read (h : Fin 12) (arg2 : Memref sig .tc .vmem S12x2048x64 .f32) (harg2 : arg2.IsWhole)
    (X : Vec F S12x2048x64 .f32) (n : Fin k1_t1_loop.trips) (off : Fin 3 → ℕ) (inb : ∀ a, off a + S1x1x64.size a ≤ S12x2048x64.size a)
    (hoff : off = ![h.val, n.val, 0]) (e : Fin 64) :
    arg2.view.readAt (Elt F) (Rect.unit (s := S12x2048x64) off S1x1x64.size inb).toLoadRect (harg2.unread X) (ix3 0 0 e)
      = X (ix3 h (Fin.ofNat 2048 n.val) e) := by
  have hn : n.val < 2048 := Nat.lt_of_lt_of_le n.isLt (le_of_eq trips_eq)
  rw [View.readAt_apply, harg2.read_unread]
  congr 1
  subst hoff
  funext a
  apply Fin.ext
  match a with
  | ⟨0, _⟩ => show h.val + 1 * 0 = h.val; omega
  | ⟨1, _⟩ => show n.val + 1 * 0 = n.val % 2048; rw [Nat.mod_eq_of_lt hn]; omega
  | ⟨2, _⟩ => show 0 + 1 * e.val = e.val; omega

/-- A scratch matrix filled with zeros and then accumulated into, read whole, is the sums over all keys. -/
theorem read_final (h : Fin 12) (A : Vec F S12x1x2048 .i32) (X : Vec F S12x2048x64 .f32)
    (arg : Memref sig .tc .vmem S64x64 .f32) (off : Fin k1_t1_loop.trips → Fin 2 → ℕ)
    (inb : ∀ n a, off n a + S1x64.size a ≤ S64x64.size a) (row : Fin k1_t1_loop.trips → Vec F S1x1x64 .f32)
    (pay : Vec F S1x64 .f32 → Vec F S1x1x64 .f32 → FVec F S1x64 .f32) (z : Vec F S64x64 .f32)
    (f : BufTy.Contents (Elt F) arg.view.ty) (inb0 inb1 : ∀ a, (![0, 0] : Fin 2 → ℕ) a + S64x64.size a ≤ S64x64.size a)
    (hoff : ∀ n, off n = ![(A (ix3 h 0 (Fin.ofNat 2048 n.val))).toNat, 0])
    (hrow : ∀ n (e : Fin 64), row n (ix3 0 0 e) = X (ix3 h (Fin.ofNat 2048 n.val) e))
    (hpay : ∀ u v (e : Fin 64), pay u v (ix2 0 e) = FloatOps.addf (u (ix2 0 e)) (v (ix3 0 0 e)))
    (hz : ∀ r e : Fin 64, z (ix2 r e) = Scalar.ofBits .f32 0x00000000#32) (r e : Fin 64) :
    arg.view.readAt (Elt F) (Rect.unit (s := S64x64) ![0, 0] S64x64.size inb1).toLoadRect
      (stOf arg off inb row pay (arg.view.writes (Elt F) f [⟨Rect.unit (s := S64x64) ![0, 0] S64x64.size inb0, z⟩])
        (Scf.trips k1_t1_loop.lb k1_t1_loop.ub k1_t1_loop.st)) (ix2 r e)
      = sumAcc A X h 2048 r e := by
  rw [View.readAt_apply]
  have hidx : (Rect.unit (s := S64x64) ![0, 0] S64x64.size inb1).toLoadRect.idx (ix2 r e) = ix2 r e := by
    funext a
    apply Fin.ext
    match a with
    | ⟨0, _⟩ => show 0 + 1 * r.val = r.val; omega
    | ⟨1, _⟩ => show 0 + 1 * e.val = e.val; omega
  rw [hidx]
  have ht : Scf.trips k1_t1_loop.lb k1_t1_loop.ub k1_t1_loop.st = 2048 := trips_eq
  rw [ht]
  refine read_stOf h A X arg off inb row pay _ hoff hrow hpay (fun r e => ?_) 2048 (le_of_eq trips_eq.symm) r e
  rw [View.read_writes_cons_unit_of_mem arg.view _ inb0 z [] (ix2 r e) (ix2 r e) rfl
    (fun a => by
      match a with
      | ⟨0, _⟩ => simp
      | ⟨1, _⟩ => simp)]
  exact hz r e

/-- One head's slab of the result, written over whatever the earlier stores left, is read at its own head. -/
theorem slab_read (arg3 : Memref sig .tc .vmem S12x64x64 .f32) (f : BufTy.Contents (Elt F) arg3.view.ty) (h a : Fin 12)
    (off : Fin 3 → ℕ) (hoff : off = ![h.val, 0, 0])
    (inb : ∀ a, off a + S1x64x64.size a ≤ S12x64x64.size a) (w : Vec F S1x64x64 .f32)
    (L : List (View.Piece (Elt F) S12x64x64 .f32)) (r e : Fin 64) (y : F .f32)
    (hhit : a = h → w (ix3 0 r e) = y) (hmiss : a ≠ h → arg3.view.read (Elt F) (arg3.view.writes (Elt F) f L) (ix3 a r e) = y) :
    arg3.view.read (Elt F) (arg3.view.writes (Elt F) f (⟨Rect.unit (s := S12x64x64) off S1x64x64.size inb, w⟩ :: L)) (ix3 a r e) = y := by
  by_cases hah : a = h
  · subst hah
    rw [View.read_writes_cons_unit_of_mem arg3.view f inb w L (ix3 a r e) (ix3 0 r e) hoff
      (fun d => by
        match d with
        | ⟨0, _⟩ => simp
        | ⟨1, _⟩ => simp
        | ⟨2, _⟩ => simp)]
    exact hhit rfl
  · rw [View.read_writes_cons_unit_of_not_mem arg3.view f inb w L (ix3 a r e) hoff 0
      (by
        show a.val < h.val ∨ h.val + 1 ≤ a.val
        have : a.val ≠ h.val := fun hh => hah (Fin.ext hh)
        omega)]
    exact hmiss hah

end Cert.Proof.KernelIdeal
-- ==== Proof.SumRun.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WritesUnit
public import Idealize.ShloMosaic.Lib.ValueIdx
public import Idealize.ShloMosaic.Lib.ValueLayout
public import Idealize.ShloMosaic.Lib.Pipeline.Value

public import proofs.«01_k».proof.Proof.SumLoop
public import proofs.«01_k».proof.Proof.SumValue

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A row plus a key row, at a column. -/
theorem addRow_apply (u : Vec F S1x64 .f32) (v : Vec F S1x1x64 .f32) (e : Fin 64) :
    k1_pay6 u v (ix2 0 e) = FloatOps.addf (u (ix2 0 e)) (v (ix3 0 0 e)) := by
  unfold k1_pay6
  simp only [shapeCast_self]
  show FloatOps.addf (u (ix2 0 e)) (shapeCast S1x64 v shapeCasts_S1x1x64_S1x64 (ix2 0 e)) = _
  rw [shapeCast_1ab_ab_apply]

/-- A matrix stored as a slab, at a row and a column. -/
theorem slab_apply (y : Vec F S64x64 .f32) (r e : Fin 64) : k1_pay31 y (ix3 0 r e) = y (ix2 r e) := by
  unfold k1_pay31
  exact shapeCast_ab_1ab_apply _ _ _ _ _

set_option maxHeartbeats 16000000 in
/-- The accumulation call on one core: from the slot table and the keys it leaves `sumOut` of them. -/
theorem sum_run (c : Dev nD) (i : grid1.Coords) (arg1 : Memref sig .tc .smem S12x1x2048 .i32) (harg1 : arg1.IsWhole) (arg2 : Memref sig .tc .vmem S12x2048x64 .f32) (harg2 : arg2.IsWhole) (arg3 : Memref sig .tc .vmem S12x64x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S64x64 .f32) (harg13 : arg13.IsWhole) (arg14 : Memref sig .tc .vmem S64x64 .f32) (harg14 : arg14.IsWhole) (arg15 : Memref sig .tc .vmem S64x64 .f32) (harg15 : arg15.IsWhole)
    (x0 : Vec F S12x1x2048 .i32) (x1 : Vec F S12x2048x64 .f32) (k1_hw1L : ∀ kq hkq, k1_chk1 (arg1.view.readAt (Elt F) (Rect.unit (s := S12x1x2048) (k1_off1 ⟨kq, hkq⟩) S1x1x1.size (k1_off1_inb ⟨kq, hkq⟩)).toLoadRect (harg1.unread x0) (Shape.Idx.first (numel1_S1x1x1.symm ▸ Nat.one_pos)))) (k1_hw2L : ∀ kq hkq, k1_chk2 (arg1.view.readAt (Elt F) (Rect.unit (s := S12x1x2048) (k1_off4 ⟨kq, hkq⟩) S1x1x1.size (k1_off4_inb ⟨kq, hkq⟩)).toLoadRect (harg1.unread x0) (Shape.Idx.first (numel1_S1x1x1.symm ▸ Nat.one_pos)))) (k1_hw3L : ∀ kq hkq, k1_chk3 (arg1.view.readAt (Elt F) (Rect.unit (s := S12x1x2048) (k1_off7 ⟨kq, hkq⟩) S1x1x1.size (k1_off7_inb ⟨kq, hkq⟩)).toLoadRect (harg1.unread x0) (Shape.Idx.first (numel1_S1x1x1.symm ▸ Nat.one_pos)))) (k1_hw4L : ∀ kq hkq, k1_chk4 (arg1.view.readAt (Elt F) (Rect.unit (s := S12x1x2048) (k1_off10 ⟨kq, hkq⟩) S1x1x1.size (k1_off10_inb ⟨kq, hkq⟩)).toLoadRect (harg1.unread x0) (Shape.Idx.first (numel1_S1x1x1.symm ▸ Nat.one_pos)))) (k1_hw5L : ∀ kq hkq, k1_chk5 (arg1.view.readAt (Elt F) (Rect.unit (s := S12x1x2048) (k1_off13 ⟨kq, hkq⟩) S1x1x1.size (k1_off13_inb ⟨kq, hkq⟩)).toLoadRect (harg1.unread x0) (Shape.Idx.first (numel1_S1x1x1.symm ▸ Nat.one_pos)))) (k1_hw6L : ∀ kq hkq, k1_chk6 (arg1.view.readAt (Elt F) (Rect.unit (s := S12x1x2048) (k1_off16 ⟨kq, hkq⟩) S1x1x1.size (k1_off16_inb ⟨kq, hkq⟩)).toLoadRect (harg1.unread x0) (Shape.Idx.first (numel1_S1x1x1.symm ▸ Nat.one_pos)))) (k1_hw7L : ∀ kq hkq, k1_chk7 (arg1.view.readAt (Elt F) (Rect.unit (s := S12x1x2048) (k1_off19 ⟨kq, hkq⟩) S1x1x1.size (k1_off19_inb ⟨kq, hkq⟩)).toLoadRect (harg1.unread x0) (Shape.Idx.first (numel1_S1x1x1.symm ▸ Nat.one_pos)))) (k1_hw8L : ∀ kq hkq, k1_chk8 (arg1.view.readAt (Elt F) (Rect.unit (s := S12x1x2048) (k1_off22 ⟨kq, hkq⟩) S1x1x1.size (k1_off22_inb ⟨kq, hkq⟩)).toLoadRect (harg1.unread x0) (Shape.Idx.first (numel1_S1x1x1.symm ▸ Nat.one_pos)))) (k1_hw9L : ∀ kq hkq, k1_chk9 (arg1.view.readAt (Elt F) (Rect.unit (s := S12x1x2048) (k1_off25 ⟨kq, hkq⟩) S1x1x1.size (k1_off25_inb ⟨kq, hkq⟩)).toLoadRect (harg1.unread x0) (Shape.Idx.first (numel1_S1x1x1.symm ▸ Nat.one_pos)))) (k1_hw10L : ∀ kq hkq, k1_chk10 (arg1.view.readAt (Elt F) (Rect.unit (s := S12x1x2048) (k1_off28 ⟨kq, hkq⟩) S1x1x1.size (k1_off28_inb ⟨kq, hkq⟩)).toLoadRect (harg1.unread x0) (Shape.Idx.first (numel1_S1x1x1.symm ▸ Nat.one_pos)))) (k1_hw11L : ∀ kq hkq, k1_chk11 (arg1.view.readAt (Elt F) (Rect.unit (s := S12x1x2048) (k1_off31 ⟨kq, hkq⟩) S1x1x1.size (k1_off31_inb ⟨kq, hkq⟩)).toLoadRect (harg1.unread x0) (Shape.Idx.first (numel1_S1x1x1.symm ▸ Nat.one_pos)))) (k1_hw12L : ∀ kq hkq, k1_chk12 (arg1.view.readAt (Elt F) (Rect.unit (s := S12x1x2048) (k1_off34 ⟨kq, hkq⟩) S1x1x1.size (k1_off34_inb ⟨kq, hkq⟩)).toLoadRect (harg1.unread x0) (Shape.Idx.first (numel1_S1x1x1.symm ▸ Nat.one_pos)))) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare (sumOut x0 x1) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc1__z_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__z_body_eq_skeleton]; unfold cc1__z_body_skel
  simp only [k1_part5_eq_skeleton, k1_part6_eq_skeleton, k1_part7_eq_skeleton]
  unfold owns
  iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine funext fun j => ?_
    rw [eq_ix3 j]
    show _ = sumAcc x0 x1 (j 0) 2048 (j 1) (j 2)
    refine slab_read arg3 _ 11 (j 0) _ (by rfl) _ _ _ (j 1) (j 2) _ (fun hj => ?_) (fun h11 => ?_)
    · rw [hj]
      refine Eq.trans (?_ : _ = (sum_run.sl.v93 c arg1 harg1 arg2 harg2 arg15 x0 x1 k1_hw12L) (ix2 (j 1) (j 2))) ?_
      · exact slab_apply _ _ _
      · unfold sum_run.sl.v93
        exact read_final 11 x0 x1 _ _ _ _ _ _ _ _ _ (fun n => by rw [word_read 11 arg1 harg1 x0 n _ _ (k1_off34_eq n)]; rfl) (fun n e => row_read 11 arg2 harg2 x1 n _ _ (k1_off36_eq n) e) (fun u v e => addRow_apply u v e) (fun _ _ => rfl) (j 1) (j 2)
    refine slab_read arg3 _ 10 (j 0) _ (by rfl) _ _ _ (j 1) (j 2) _ (fun hj => ?_) (fun h10 => ?_)
    · rw [hj]
      refine Eq.trans (?_ : _ = (sum_run.sl.v89 c arg1 harg1 arg2 harg2 arg14 x0 x1 k1_hw11L) (ix2 (j 1) (j 2))) ?_
      · exact slab_apply _ _ _
      · unfold sum_run.sl.v89
        exact read_final 10 x0 x1 _ _ _ _ _ _ _ _ _ (fun n => by rw [word_read 10 arg1 harg1 x0 n _ _ (k1_off31_eq n)]; rfl) (fun n e => row_read 10 arg2 harg2 x1 n _ _ (k1_off33_eq n) e) (fun u v e => addRow_apply u v e) (fun _ _ => rfl) (j 1) (j 2)
    refine slab_read arg3 _ 9 (j 0) _ (by rfl) _ _ _ (j 1) (j 2) _ (fun hj => ?_) (fun h9 => ?_)
    · rw [hj]
      refine Eq.trans (?_ : _ = (sum_run.sl.v85 c arg1 harg1 arg2 harg2 arg13 x0 x1 k1_hw10L) (ix2 (j 1) (j 2))) ?_
      · exact slab_apply _ _ _
      · unfold sum_run.sl.v85
        exact read_final 9 x0 x1 _ _ _ _ _ _ _ _ _ (fun n => by rw [word_read 9 arg1 harg1 x0 n _ _ (k1_off28_eq n)]; rfl) (fun n e => row_read 9 arg2 harg2 x1 n _ _ (k1_off30_eq n) e) (fun u v e => addRow_apply u v e) (fun _ _ => rfl) (j 1) (j 2)
    refine slab_read arg3 _ 8 (j 0) _ (by rfl) _ _ _ (j 1) (j 2) _ (fun hj => ?_) (fun h8 => ?_)
    · rw [hj]
      refine Eq.trans (?_ : _ = (sum_run.sl.v81 c arg1 harg1 arg2 harg2 arg12 x0 x1 k1_hw9L) (ix2 (j 1) (j 2))) ?_
      · exact slab_apply _ _ _
      · unfold sum_run.sl.v81
        exact read_final 8 x0 x1 _ _ _ _ _ _ _ _ _ (fun n => by rw [word_read 8 arg1 harg1 x0 n _ _ (k1_off25_eq n)]; rfl) (fun n e => row_read 8 arg2 harg2 x1 n _ _ (k1_off27_eq n) e) (fun u v e => addRow_apply u v e) (fun _ _ => rfl) (j 1) (j 2)
    refine slab_read arg3 _ 7 (j 0) _ (by rfl) _ _ _ (j 1) (j 2) _ (fun hj => ?_) (fun h7 => ?_)
    · rw [hj]
      refine Eq.trans (?_ : _ = (sum_run.sl.v77 c arg1 harg1 arg2 harg2 arg11 x0 x1 k1_hw8L) (ix2 (j 1) (j 2))) ?_
      · exact slab_apply _ _ _
      · unfold sum_run.sl.v77
        exact read_final 7 x0 x1 _ _ _ _ _ _ _ _ _ (fun n => by rw [word_read 7 arg1 harg1 x0 n _ _ (k1_off22_eq n)]; rfl) (fun n e => row_read 7 arg2 harg2 x1 n _ _ (k1_off24_eq n) e) (fun u v e => addRow_apply u v e) (fun _ _ => rfl) (j 1) (j 2)
    refine slab_read arg3 _ 6 (j 0) _ (by rfl) _ _ _ (j 1) (j 2) _ (fun hj => ?_) (fun h6 => ?_)
    · rw [hj]
      refine Eq.trans (?_ : _ = (sum_run.sl.v73 c arg1 harg1 arg2 harg2 arg10 x0 x1 k1_hw7L) (ix2 (j 1) (j 2))) ?_
      · exact slab_apply _ _ _
      · unfold sum_run.sl.v73
        exact read_final 6 x0 x1 _ _ _ _ _ _ _ _ _ (fun n => by rw [word_read 6 arg1 harg1 x0 n _ _ (k1_off19_eq n)]; rfl) (fun n e => row_read 6 arg2 harg2 x1 n _ _ (k1_off21_eq n) e) (fun u v e => addRow_apply u v e) (fun _ _ => rfl) (j 1) (j 2)
    refine slab_read arg3 _ 5 (j 0) _ (by rfl) _ _ _ (j 1) (j 2) _ (fun hj => ?_) (fun h5 => ?_)
    · rw [hj]
      refine Eq.trans (?_ : _ = (sum_run.sl.v69 c arg1 harg1 arg2 harg2 arg9 x0 x1 k1_hw6L) (ix2 (j 1) (j 2))) ?_
      · exact slab_apply _ _ _
      · unfold sum_run.sl.v69
        exact read_final 5 x0 x1 _ _ _ _ _ _ _ _ _ (fun n => by rw [word_read 5 arg1 harg1 x0 n _ _ (k1_off16_eq n)]; rfl) (fun n e => row_read 5 arg2 harg2 x1 n _ _ (k1_off18_eq n) e) (fun u v e => addRow_apply u v e) (fun _ _ => rfl) (j 1) (j 2)
    refine slab_read arg3 _ 4 (j 0) _ (by rfl) _ _ _ (j 1) (j 2) _ (fun hj => ?_) (fun h4 => ?_)
    · rw [hj]
      refine Eq.trans (?_ : _ = (sum_run.sl.v65 c arg1 harg1 arg2 harg2 arg8 x0 x1 k1_hw5L) (ix2 (j 1) (j 2))) ?_
      · exact slab_apply _ _ _
      · unfold sum_run.sl.v65
        exact read_final 4 x0 x1 _ _ _ _ _ _ _ _ _ (fun n => by rw [word_read 4 arg1 harg1 x0 n _ _ (k1_off13_eq n)]; rfl) (fun n e => row_read 4 arg2 harg2 x1 n _ _ (k1_off15_eq n) e) (fun u v e => addRow_apply u v e) (fun _ _ => rfl) (j 1) (j 2)
    refine slab_read arg3 _ 3 (j 0) _ (by rfl) _ _ _ (j 1) (j 2) _ (fun hj => ?_) (fun h3 => ?_)
    · rw [hj]
      refine Eq.trans (?_ : _ = (sum_run.sl.v61 c arg1 harg1 arg2 harg2 arg7 x0 x1 k1_hw4L) (ix2 (j 1) (j 2))) ?_
      · exact slab_apply _ _ _
      · unfold sum_run.sl.v61
        exact read_final 3 x0 x1 _ _ _ _ _ _ _ _ _ (fun n => by rw [word_read 3 arg1 harg1 x0 n _ _ (k1_off10_eq n)]; rfl) (fun n e => row_read 3 arg2 harg2 x1 n _ _ (k1_off12_eq n) e) (fun u v e => addRow_apply u v e) (fun _ _ => rfl) (j 1) (j 2)
    refine slab_read arg3 _ 2 (j 0) _ (by rfl) _ _ _ (j 1) (j 2) _ (fun hj => ?_) (fun h2 => ?_)
    · rw [hj]
      refine Eq.trans (?_ : _ = (sum_run.sl.v57 c arg1 harg1 arg2 harg2 arg6 x0 x1 k1_hw3L) (ix2 (j 1) (j 2))) ?_
      · exact slab_apply _ _ _
      · unfold sum_run.sl.v57
        exact read_final 2 x0 x1 _ _ _ _ _ _ _ _ _ (fun n => by rw [word_read 2 arg1 harg1 x0 n _ _ (k1_off7_eq n)]; rfl) (fun n e => row_read 2 arg2 harg2 x1 n _ _ (k1_off9_eq n) e) (fun u v e => addRow_apply u v e) (fun _ _ => rfl) (j 1) (j 2)
    refine slab_read arg3 _ 1 (j 0) _ (by rfl) _ _ _ (j 1) (j 2) _ (fun hj => ?_) (fun h1 => ?_)
    · rw [hj]
      refine Eq.trans (?_ : _ = (sum_run.sl.v53 c arg1 harg1 arg2 harg2 arg5 x0 x1 k1_hw2L) (ix2 (j 1) (j 2))) ?_
      · exact slab_apply _ _ _
      · unfold sum_run.sl.v53
        exact read_final 1 x0 x1 _ _ _ _ _ _ _ _ _ (fun n => by rw [word_read 1 arg1 harg1 x0 n _ _ (k1_off4_eq n)]; rfl) (fun n e => row_read 1 arg2 harg2 x1 n _ _ (k1_off6_eq n) e) (fun u v e => addRow_apply u v e) (fun _ _ => rfl) (j 1) (j 2)
    refine slab_read arg3 _ 0 (j 0) _ (by rfl) _ _ _ (j 1) (j 2) _ (fun hj => ?_) (fun h0 => ?_)
    · rw [hj]
      refine Eq.trans (?_ : _ = (sum_run.sl.v49 c arg1 harg1 arg2 harg2 arg4 x0 x1 k1_hw1L) (ix2 (j 1) (j 2))) ?_
      · exact slab_apply _ _ _
      · unfold sum_run.sl.v49
        exact read_final 0 x0 x1 _ _ _ _ _ _ _ _ _ (fun n => by rw [word_read 0 arg1 harg1 x0 n _ _ (k1_off1_eq n)]; rfl) (fun n e => row_read 0 arg2 harg2 x1 n _ _ (k1_off3_eq n) e) (fun u v e => addRow_apply u v e) (fun _ _ => rfl) (j 1) (j 2)
    exfalso
    have : ∀ a : Fin 12, a ≠ 11 → a ≠ 10 → a ≠ 9 → a ≠ 8 → a ≠ 7 → a ≠ 6 → a ≠ 5 → a ≠ 4 → a ≠ 3 → a ≠ 2 → a ≠ 1 → a ≠ 0 → False := by intro a; fin_cases a <;> simp
    exact this (j 0) h11 h10 h9 h8 h7 h6 h5 h4 h3 h2 h1 h0
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [HS9]
  · iexists _, _; isplitr; swap; · iexact HS9
    ipureintro; rfl
  isplitl [HS10]
  · iexists _, _; isplitr; swap; · iexact HS10
    ipureintro; rfl
  iexists _, _; isplitr; swap; · iexact HS11
  ipureintro; rfl

end Cert.Proof.KernelIdeal
-- ==== Proof.Region1.lean ====
module

public import proofs.«01_k».proof.Proof.SumRun
public import proofs.«01_k».proof.Proof.Gen.KernelIdeal.Points
public import Idealize.ShloMosaic.Lib.Pipeline.FrameBody
public import Idealize.ShloMosaic.Lib.Tactic
public import Idealize.ShloMosaic.Lib.ValueIdx

/-! The key-sum call: its blocks at its one point, when every slot is below 64. -/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off its array's contents when the call starts. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The run's scratch and generator register, taken apart. -/
theorem phi1_eq (c : Dev nD) :
    (Pipeline.ΦA spec1 c : sProp 𝕄)
      = iprop(iprop(iprop((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d) ∗ (∃ d, owns (c : Thread nD τ) (Memref.whole cc1_scratch4) fullShare d) ∗ (∃ d, owns (c : Thread nD τ) (Memref.whole cc1_scratch5) fullShare d) ∗ (∃ d, owns (c : Thread nD τ) (Memref.whole cc1_scratch6) fullShare d) ∗ (∃ d, owns (c : Thread nD τ) (Memref.whole cc1_scratch7) fullShare d) ∗ (∃ d, owns (c : Thread nD τ) (Memref.whole cc1_scratch8) fullShare d) ∗ (∃ d, owns (c : Thread nD τ) (Memref.whole cc1_scratch9) fullShare d) ∗ (∃ d, owns (c : Thread nD τ) (Memref.whole cc1_scratch10) fullShare d) ∗ (∃ d, owns (c : Thread nD τ) (Memref.whole cc1_scratch11) fullShare d))
          ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5, cc1_scratch6, cc1_scratch7, cc1_scratch8, cc1_scratch9, cc1_scratch10, cc1_scratch11]) ∗ (∃ r, prngReg c r)) := by
  unfold Pipeline.ΦA; rw [scopedRest1_split]; simp only [owns_whole]; try rfl

theorem slot_chk1 (v : BitVec 32) (h : v.toNat < 64) : k1_chk1 v := by
  intro a
  match a with
  | ⟨0, _⟩ => show v.toNat + 1 ≤ 64; omega
  | ⟨1, _⟩ => show 0 + 64 ≤ 64; omega
theorem slot_chk2 (v : BitVec 32) (h : v.toNat < 64) : k1_chk2 v := by
  intro a
  match a with
  | ⟨0, _⟩ => show v.toNat + 1 ≤ 64; omega
  | ⟨1, _⟩ => show 0 + 64 ≤ 64; omega
theorem slot_chk3 (v : BitVec 32) (h : v.toNat < 64) : k1_chk3 v := by
  intro a
  match a with
  | ⟨0, _⟩ => show v.toNat + 1 ≤ 64; omega
  | ⟨1, _⟩ => show 0 + 64 ≤ 64; omega
theorem slot_chk4 (v : BitVec 32) (h : v.toNat < 64) : k1_chk4 v := by
  intro a
  match a with
  | ⟨0, _⟩ => show v.toNat + 1 ≤ 64; omega
  | ⟨1, _⟩ => show 0 + 64 ≤ 64; omega
theorem slot_chk5 (v : BitVec 32) (h : v.toNat < 64) : k1_chk5 v := by
  intro a
  match a with
  | ⟨0, _⟩ => show v.toNat + 1 ≤ 64; omega
  | ⟨1, _⟩ => show 0 + 64 ≤ 64; omega
theorem slot_chk6 (v : BitVec 32) (h : v.toNat < 64) : k1_chk6 v := by
  intro a
  match a with
  | ⟨0, _⟩ => show v.toNat + 1 ≤ 64; omega
  | ⟨1, _⟩ => show 0 + 64 ≤ 64; omega
theorem slot_chk7 (v : BitVec 32) (h : v.toNat < 64) : k1_chk7 v := by
  intro a
  match a with
  | ⟨0, _⟩ => show v.toNat + 1 ≤ 64; omega
  | ⟨1, _⟩ => show 0 + 64 ≤ 64; omega
theorem slot_chk8 (v : BitVec 32) (h : v.toNat < 64) : k1_chk8 v := by
  intro a
  match a with
  | ⟨0, _⟩ => show v.toNat + 1 ≤ 64; omega
  | ⟨1, _⟩ => show 0 + 64 ≤ 64; omega
theorem slot_chk9 (v : BitVec 32) (h : v.toNat < 64) : k1_chk9 v := by
  intro a
  match a with
  | ⟨0, _⟩ => show v.toNat + 1 ≤ 64; omega
  | ⟨1, _⟩ => show 0 + 64 ≤ 64; omega
theorem slot_chk10 (v : BitVec 32) (h : v.toNat < 64) : k1_chk10 v := by
  intro a
  match a with
  | ⟨0, _⟩ => show v.toNat + 1 ≤ 64; omega
  | ⟨1, _⟩ => show 0 + 64 ≤ 64; omega
theorem slot_chk11 (v : BitVec 32) (h : v.toNat < 64) : k1_chk11 v := by
  intro a
  match a with
  | ⟨0, _⟩ => show v.toNat + 1 ≤ 64; omega
  | ⟨1, _⟩ => show 0 + 64 ≤ 64; omega
theorem slot_chk12 (v : BitVec 32) (h : v.toNat < 64) : k1_chk12 v := by
  intro a
  match a with
  | ⟨0, _⟩ => show v.toNat + 1 ≤ 64; omega
  | ⟨1, _⟩ => show 0 + 64 ≤ 64; omega
/-- What the call's body leaves in each block at each point: the inputs as they were, the output at the body's value. -/
def dat1 (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => iblk1 W c 1 t
    | ⟨2, _⟩ => sumOut (iblk1 W c 0 t) (iblk1 W c 1 t)
  Φ _ := Pipeline.ΦA spec1 c
  q _ := fullShare
  owed _ := 0

theorem A_eq1 (c : Dev nD) (w : Fin cfg1.W) : (dat1 W c).A w = W c (Proc.devRef .tc (Pipeline.arrRef spec1 w)) := by dsimp only [dat1]
theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = sumOut (iblk1 W c 0 t) (iblk1 W c 1 t) := by dsimp only [dat1]
/-- Input 0 holds its block whenever the body runs. -/
theorem before1_0 (c : Dev nD) (t : Fin cfg1.N) (d) : (dat1 W c).before 0 t d = iblk1 W c 0 t :=
  ((dat1 W c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
/-- Input 1 holds its block whenever the body runs. -/
theorem before1_1 (c : Dev nD) (t : Fin cfg1.N) (d) : (dat1 W c).before 1 t d = iblk1 W c 1 t :=
  ((dat1 W c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- What the body starts from at point `t`. -/
def bodyPre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d)))

/-- What the body ends with. -/
def bodyPost1 (c : Dev nD) (t : Fin cfg1.N) : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t))

/-- The body at any point. -/
theorem sound_body1 (hlt : ∀ (c : Dev nD) (t : Fin cfg1.N) (h : Fin 12) (s : Fin 2048), (iblk1 W c 0 t (ix3 h 0 s) : BitVec 32).toNat < 64) (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1]
  rw [show (dat1 W c).Φ t.succ = (dat1 W c).Φ t.castSucc from rfl,
    show (dat1 W c).owesAt () t.succ = (dat1 W c).owesAt () t.castSucc from rfl,
    after1_0, after1_1, after1_2]
  rw [show (dat1 W c).Φ t.castSucc = Pipeline.ΦA spec1 c from rfl, phi1_eq]
  iintro ⟨⟨⟨⟨S0, S1, S2, S3, S4, S5, S6, S7, S8, S9, S10, S11⟩, HB⟩, Hg⟩, Ho, ⟨%d0, H0⟩, ⟨%d1, H1⟩, ⟨%d2, H2⟩⟩
  iapply (sum_run c (grid1.coords t) _ _ _ _ _ _ _ _ _ _ _ _ _ _ _ _ _ _ _ _ _ _ _ _ _ _ _ _ _ _ (iblk1 W c 0 t) (iblk1 W c 1 t) (fun kq hkq => slot_chk1 _ (by rw [word_read 0 _ _ _ ⟨kq, hkq⟩ _ _ (k1_off1_eq ⟨kq, hkq⟩) _]; exact hlt c t _ _))
    (fun kq hkq => slot_chk2 _ (by rw [word_read 1 _ _ _ ⟨kq, hkq⟩ _ _ (k1_off4_eq ⟨kq, hkq⟩) _]; exact hlt c t _ _))
    (fun kq hkq => slot_chk3 _ (by rw [word_read 2 _ _ _ ⟨kq, hkq⟩ _ _ (k1_off7_eq ⟨kq, hkq⟩) _]; exact hlt c t _ _))
    (fun kq hkq => slot_chk4 _ (by rw [word_read 3 _ _ _ ⟨kq, hkq⟩ _ _ (k1_off10_eq ⟨kq, hkq⟩) _]; exact hlt c t _ _))
    (fun kq hkq => slot_chk5 _ (by rw [word_read 4 _ _ _ ⟨kq, hkq⟩ _ _ (k1_off13_eq ⟨kq, hkq⟩) _]; exact hlt c t _ _))
    (fun kq hkq => slot_chk6 _ (by rw [word_read 5 _ _ _ ⟨kq, hkq⟩ _ _ (k1_off16_eq ⟨kq, hkq⟩) _]; exact hlt c t _ _))
    (fun kq hkq => slot_chk7 _ (by rw [word_read 6 _ _ _ ⟨kq, hkq⟩ _ _ (k1_off19_eq ⟨kq, hkq⟩) _]; exact hlt c t _ _))
    (fun kq hkq => slot_chk8 _ (by rw [word_read 7 _ _ _ ⟨kq, hkq⟩ _ _ (k1_off22_eq ⟨kq, hkq⟩) _]; exact hlt c t _ _))
    (fun kq hkq => slot_chk9 _ (by rw [word_read 8 _ _ _ ⟨kq, hkq⟩ _ _ (k1_off25_eq ⟨kq, hkq⟩) _]; exact hlt c t _ _))
    (fun kq hkq => slot_chk10 _ (by rw [word_read 9 _ _ _ ⟨kq, hkq⟩ _ _ (k1_off28_eq ⟨kq, hkq⟩) _]; exact hlt c t _ _))
    (fun kq hkq => slot_chk11 _ (by rw [word_read 10 _ _ _ ⟨kq, hkq⟩ _ _ (k1_off31_eq ⟨kq, hkq⟩) _]; exact hlt c t _ _))
    (fun kq hkq => slot_chk12 _ (by rw [word_read 11 _ _ _ ⟨kq, hkq⟩ _ _ (k1_off34_eq ⟨kq, hkq⟩) _]; exact hlt c t _ _))
    Set.univ _)
  isplitl [H0]; · iexact H0
  isplitl [H1]; · iexact H1
  isplitl [H2]; · iexists _; iexact H2
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  iintro ⟨H0, H1, H2, S0, S1, S2, S3, S4, S5, S6, S7, S8, S9, S10, S11⟩
  isplitl [S0 S1 S2 S3 S4 S5 S6 S7 S8 S9 S10 S11 HB Hg]
  · isplitl [S0 S1 S2 S3 S4 S5 S6 S7 S8 S9 S10 S11 HB]
    · isplitl [S0 S1 S2 S3 S4 S5 S6 S7 S8 S9 S10 S11]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        iexact S11
      iexact HB
    iexact Hg
  isplitl [Ho]; · iexact Ho
  isplitl [H0]; · iexact H0
  isplitl [H1]; · iexact H1
  iexact H2

theorem defs_row1 (t : Fin cfg1.N) : defs₀ (F := F) .tc cfg1.body (cfg1.bodyArgs t (cfg1.slots t)) = bodyAt1 t := by
  unfold defs₀; rw [Defs.onTc_tc]

/-- The body's obligation at every point. -/
theorem obligation1 (hlt : ∀ (c : Dev nD) (t : Fin cfg1.N) (h : Fin 12) (s : Fin 2048), (iblk1 W c 0 t (ix3 h 0 s) : BitVec 32).toNat < 64) (c : Dev nD) : BodyObligation (dat1 (F := F) W c) (defs₀ (F := F)) Variants.none () Set.univ := fun t => by
  rw [bigSep_W1, bigSep_W1, defs_row1]
  exact triple_restated (sound_body1 W hlt c t) rfl .rfl fun _ => .rfl

end Cert.Proof.KernelIdeal
-- ==== Proof.AttendRun.lean ====
module

public import proofs.«01_k».proof.Proof.Whole
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WritesUnit
public import Idealize.ShloMosaic.Lib.VecWindow
public import Idealize.ShloMosaic.Lib.ValueIdx

/-! One block of the attention call: what its body leaves in the output block, from the blocks of queries, keys, values
    and key sums that it reads. -/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Rows `512 n` to `512 n + 511` of a head's keys or values. -/
def rows (x : Vec F S1x2048x64 .f32) (n : ℕ) : Vec F S1x512x64 .f32 :=
  fun j => x (ix3 0 (Fin.ofNat 2048 (512 * n + (j 1).val)) (j 2))

/-- The weight of each slot for each query of the block, from the queries and the key sums. -/
def attnWeight (x0 : Vec F S1x256x64 .f32) (x3 : Vec F S1x64x64 .f32) : FVec F S256x64 .f32 :=
  k2_pay13 (k2_pay3 x0) (k2_pay7 x0) (k2_pay8 x0) (k2_pay9 x3) (k2_pay10 x0 x3) (k2_pay11 x0 x3) (k2_pay12 x0 x3)

/-- The sum over the first `n` groups of 512 keys. -/
def attnSum (x0 : Vec F S1x256x64 .f32) (x1 x2 : Vec F S1x2048x64 .f32) (x3 : Vec F S1x64x64 .f32) : ℕ → FVec F S256x64 .f32
  | 0 => k2_pay14
  | n + 1 => k2_pay1 (k2_pay3 x0) (k2_pay4 (F := F)) (attnWeight x0 x3) (attnSum x0 x1 x2 x3 n) (rows x1 n) (rows x2 n)

/-- What the body leaves in the output block. -/
def attnBlk (x0 : Vec F S1x256x64 .f32) (x1 x2 : Vec F S1x2048x64 .f32) (x3 : Vec F S1x64x64 .f32) : Vec F S1x256x64 .f32 :=
  k2_pay2 (attnSum x0 x1 x2 x3 4)

/-- The loop runs four times. -/
theorem attn_trips : k2_t1_loop.trips = 4 := by decide

/-- The loop's load reads the rows of its trip. -/
theorem rows_read (arg : Memref sig .tc .vmem S1x2048x64 .f32) (harg : arg.IsWhole) (x : Vec F S1x2048x64 .f32)
    (k : Fin k2_t1_loop.trips) :
    arg.view.readAt (Elt F) (Rect.unit (s := S1x2048x64) (k2_off1 k) S1x512x64.size (k2_off1_inb k)).toLoadRect (harg.unread x)
      = rows x k.val := by
  have hk : k.val < 4 := Nat.lt_of_lt_of_le k.isLt (le_of_eq attn_trips)
  have hoff : k2_off1 k = ![0, 512 * k.val, 0] := by
    have : ∀ k : Fin k2_t1_loop.trips, k2_off1 k = ![0, 512 * k.val, 0] := by decide
    exact this k
  funext j
  rw [View.readAt_apply, harg.read_unread]
  unfold rows
  congr 1
  funext a
  apply Fin.ext
  have hj := (j 1).isLt
  have hj' : (j 1).val < 512 := hj
  have e0 : (k2_off1 k) 0 = 0 := congrFun hoff 0
  have e1 : (k2_off1 k) 1 = 512 * k.val := congrFun hoff 1
  have e2 : (k2_off1 k) 2 = 0 := congrFun hoff 2
  match a with
  | ⟨0, _⟩ =>
    have h0 : (j 0).val < 1 := (j 0).isLt
    show (k2_off1 k) 0 + 1 * (j 0).val = 0
    omega
  | ⟨1, _⟩ =>
    show (k2_off1 k) 1 + 1 * (j 1).val = (512 * k.val + (j 1).val) % 2048
    rw [Nat.mod_eq_of_lt (by omega)]; omega
  | ⟨2, _⟩ =>
    show (k2_off1 k) 2 + 1 * (j 2).val = (j 2).val
    omega

section
variable (c : Dev nD) (i : grid2.Coords) (arg2 : Memref sig .tc .vmem S1x256x64 .f32) (harg2 : arg2.IsWhole)
  (arg3 : Memref sig .tc .vmem S1x2048x64 .f32) (harg3 : arg3.IsWhole) (arg4 : Memref sig .tc .vmem S1x2048x64 .f32) (harg4 : arg4.IsWhole)
  (arg5 : Memref sig .tc .vmem S1x64x64 .f32) (harg5 : arg5.IsWhole) (arg6 : Memref sig .tc .vmem S1x256x64 .f32) (harg6 : arg6.IsWhole)

/-- The carried value before each trip is the sum so far. -/
theorem st_eq (x0 : Vec F S1x256x64 .f32) (x1 x2 : Vec F S1x2048x64 .f32) (x3 : Vec F S1x64x64 .f32) (n : ℕ) (hn : n ≤ k2_t1_loop.trips) :
    st_k2_t1 (F := F) Variants.none c none i arg2 harg2 arg3 harg3 arg4 harg4 arg5 harg5 arg6 harg6 (k2_pay3 x0) (k2_pay4 (F := F))
      (attnWeight x0 x3) (harg3.unread x1) (harg4.unread x2) (k2_pay14 (F := F)) n = attnSum x0 x1 x2 x3 n := by
  induction n with
  | zero => rfl
  | succ n ih =>
    have hs := st_k2_t1_succ (F := F) Variants.none c none i arg2 harg2 arg3 harg3 arg4 harg4 arg5 harg5 arg6 harg6 (k2_pay3 x0)
      (k2_pay4 (F := F)) (attnWeight x0 x3) (harg3.unread x1) (harg4.unread x2) (k2_pay14 (F := F)) ⟨n, hn⟩
    refine hs.trans ?_
    rw [show (⟨n, hn⟩ : Fin k2_t1_loop.trips).val = n from rfl, ih (Nat.le_of_succ_le hn)]
    unfold tripR_k2_t1 trip_k2_t1
    show k2_pay1 _ _ _ _ _ _ = k2_pay1 _ _ _ _ _ _
    rw [rows_read, rows_read]

set_option maxHeartbeats 1000000 in
/-- The body, on whole blocks: it reads its four inputs and leaves `attnBlk` of them in the output. -/
theorem attn_run (E : Set ℕ) (x0 : Vec F S1x256x64 .f32) (x1 x2 : Vec F S1x2048x64 .f32) (x3 : Vec F S1x64x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare (attnBlk x0 x1 x2 x3)) -∗ K ⟨⟩))
      ⊢ wp frame (wpE (defs₀ (F := F)) Variants.none c none) E (cc2__attn_body i arg2 harg2 arg3 harg3 arg4 harg4 arg5 harg5 arg6 harg6) K := by
  simp only [cc2__attn_body_eq_skeleton]; unfold cc2__attn_body_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  have e0 : attn_run.sl.r c arg2 harg2 x0 = k2_pay3 x0 := by
    delta attn_run.sl.r
    exact congrArg k2_pay3 (whole_read rfl arg2 harg2 x0 _ (by decide) _)
  have e7 : attn_run.sl.r_7 c arg2 harg2 arg5 harg5 x0 x3 = attnWeight x0 x3 := by
    have h0 := whole_read (F := F) rfl arg2 harg2 x0 ![0, 0, 0] (by decide) inb_S1x256x64_S1x256x64_0_0_0
    have h3 := whole_read (F := F) rfl arg5 harg5 x3 ![0, 0, 0] (by decide) inb_S1x64x64_S1x64x64_0_0_0
    unfold attnWeight
    delta attn_run.sl.r_7 attn_run.sl.r_6 attn_run.sl.r_5 attn_run.sl.r_4 attn_run.sl.r_3 attn_run.sl.r_2 attn_run.sl.r_1 attn_run.sl.r
    beta_reduce
    rw [h0, h3]
  rw [e0, e7, st_eq c i arg2 harg2 arg3 harg3 arg4 harg4 arg5 harg5 arg6 harg6 x0 x1 x2 x3 _ (le_refl _)]
  rw [View.read_writes_full]
  exact congrArg (fun n => k2_pay2 (attnSum x0 x1 x2 x3 n)) attn_trips

end

end Cert.Proof.KernelIdeal
-- ==== Proof.Region2.lean ====
module

public import proofs.«01_k».proof.Proof.AttendRun
public import proofs.«01_k».proof.Proof.Gen.KernelIdeal.Points
public import Idealize.ShloMosaic.Lib.Pipeline.FrameBody
public import Idealize.ShloMosaic.Lib.Tactic
public import Idealize.ShloMosaic.Lib.ValueIdx

/-! The attention call: its blocks at every point. -/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off its array's contents when the call starts. -/
def iblk2 (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- What the call's body leaves in each block at each point: the inputs as they were, the output at the body's value. -/
def dat2 (c : Dev nD) : Dat τ (Elt F) Unit ℕ (UR sig nD τ) ℕ cfg2 c where
  A w := W c (Proc.devRef .tc (Pipeline.arrRef spec2 w))
  after w t := match w with
    | ⟨0, _⟩ => iblk2 W c 0 t
    | ⟨1, _⟩ => iblk2 W c 1 t
    | ⟨2, _⟩ => iblk2 W c 2 t
    | ⟨3, _⟩ => iblk2 W c 3 t
    | ⟨4, _⟩ => attnBlk (iblk2 W c 0 t) (iblk2 W c 1 t) (iblk2 W c 2 t) (iblk2 W c 3 t)
  Φ _ := Pipeline.ΦA spec2 c
  q _ := fullShare
  owed _ := 0

theorem A_eq2 (c : Dev nD) (w : Fin cfg2.W) : (dat2 W c).A w = W c (Proc.devRef .tc (Pipeline.arrRef spec2 w)) := by dsimp only [dat2]
theorem after2_0 (c : Dev nD) (t : Fin cfg2.N) : (dat2 W c).after 0 t = iblk2 W c 0 t := by dsimp only [dat2]
theorem after2_1 (c : Dev nD) (t : Fin cfg2.N) : (dat2 W c).after 1 t = iblk2 W c 1 t := by dsimp only [dat2]
theorem after2_2 (c : Dev nD) (t : Fin cfg2.N) : (dat2 W c).after 2 t = iblk2 W c 2 t := by dsimp only [dat2]
theorem after2_3 (c : Dev nD) (t : Fin cfg2.N) : (dat2 W c).after 3 t = iblk2 W c 3 t := by dsimp only [dat2]
theorem after2_4 (c : Dev nD) (t : Fin cfg2.N) : (dat2 W c).after 4 t = attnBlk (iblk2 W c 0 t) (iblk2 W c 1 t) (iblk2 W c 2 t) (iblk2 W c 3 t) := by dsimp only [dat2]
/-- Input 0 holds its block whenever the body runs. -/
theorem before2_0 (c : Dev nD) (t : Fin cfg2.N) (d) : (dat2 W c).before 0 t d = iblk2 W c 0 t :=
  ((dat2 W c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
/-- Input 1 holds its block whenever the body runs. -/
theorem before2_1 (c : Dev nD) (t : Fin cfg2.N) (d) : (dat2 W c).before 1 t d = iblk2 W c 1 t :=
  ((dat2 W c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
/-- Input 2 holds its block whenever the body runs. -/
theorem before2_2 (c : Dev nD) (t : Fin cfg2.N) (d) : (dat2 W c).before 2 t d = iblk2 W c 2 t :=
  ((dat2 W c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
/-- Input 3 holds its block whenever the body runs. -/
theorem before2_3 (c : Dev nD) (t : Fin cfg2.N) (d) : (dat2 W c).before 3 t d = iblk2 W c 3 t :=
  ((dat2 W c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- What the body starts from at point `t`. -/
def bodyPre2 (c : Dev nD) (t : Fin cfg2.N) : sProp 𝕄 :=
  iprop((dat2 W c).Φ t.castSucc ∗ (dat2 W c).owesAt () t.castSucc
    ∗ (∃ d, owns (c : Thread nD τ) (st2_0 t) fullShare ((dat2 W c).before 0 t d))
    ∗ (∃ d, owns (c : Thread nD τ) (st2_1 t) fullShare ((dat2 W c).before 1 t d))
    ∗ (∃ d, owns (c : Thread nD τ) (st2_2 t) fullShare ((dat2 W c).before 2 t d))
    ∗ (∃ d, owns (c : Thread nD τ) (st2_3 t) fullShare ((dat2 W c).before 3 t d))
    ∗ (∃ d, owns (c : Thread nD τ) (st2_4 t) fullShare ((dat2 W c).before 4 t d)))

/-- What the body ends with. -/
def bodyPost2 (c : Dev nD) (t : Fin cfg2.N) : sProp 𝕄 :=
  iprop((dat2 W c).Φ t.succ ∗ (dat2 W c).owesAt () t.succ
    ∗ owns (c : Thread nD τ) (st2_0 t) fullShare ((dat2 W c).after 0 t)
    ∗ owns (c : Thread nD τ) (st2_1 t) fullShare ((dat2 W c).after 1 t)
    ∗ owns (c : Thread nD τ) (st2_2 t) fullShare ((dat2 W c).after 2 t)
    ∗ owns (c : Thread nD τ) (st2_3 t) fullShare ((dat2 W c).after 3 t)
    ∗ owns (c : Thread nD τ) (st2_4 t) fullShare ((dat2 W c).after 4 t))

/-- The body at any point. -/
theorem sound_body2 (c : Dev nD) (t : Fin cfg2.N) :
    bodyPre2 W c t ⊢ wp frame (wpE (defs₀ (F := F)) Variants.none c none) Set.univ (bodyAt2 t) (fun _ => bodyPost2 W c t) := by
  unfold bodyPre2 bodyPost2 bodyAt2
  simp only [before2_0, before2_1, before2_2, before2_3]
  rw [show (dat2 W c).Φ t.succ = (dat2 W c).Φ t.castSucc from rfl,
    show (dat2 W c).owesAt () t.succ = (dat2 W c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (attn_run c (grid2.coords t) _ _ _ _ _ _ _ _ _ _ Set.univ (iblk2 W c 0 t) (iblk2 W c 1 t) (iblk2 W c 2 t) (iblk2 W c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs_row2 (t : Fin cfg2.N) : defs₀ (F := F) .tc cfg2.body (cfg2.bodyArgs t (cfg2.slots t)) = bodyAt2 t := by
  unfold defs₀; rw [Defs.onTc_tc]

/-- The body's obligation at every point. -/
theorem obligation2 (c : Dev nD) : BodyObligation (dat2 (F := F) W c) (defs₀ (F := F)) Variants.none () Set.univ := fun t => by
  rw [bigSep_W2, bigSep_W2, defs_row2]
  exact triple_restated (sound_body2 W c t) rfl .rfl fun _ => .rfl

end Cert.Proof.KernelIdeal
-- ==== Proof.KernelRun.lean ====
module

public import proofs.«01_k».proof.Proof.Region0
public import proofs.«01_k».proof.Proof.Region1
public import proofs.«01_k».proof.Proof.Region2
public import proofs.«01_k».proof.Proof.Gen.KernelIdeal.Regions
public import Idealize.ShloMosaic.Lib.Pipeline.Regions
public import Idealize.ShloMosaic.Lib.Pipeline.RegionArraysS

/-! The whole kernel: the three calls one after another between the reshapes, and what the result's array holds at the
    end. -/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers after the assignment call. -/
def X2 (c : Dev nD) : Valuation τ sig (Elt F) := Pipeline.afterRegion (dat0 (V1 m) c) (V1 m c)
/-- The buffers after the key-sum call. -/
def X3 (c : Dev nD) : Valuation τ sig (Elt F) := Pipeline.afterRegion (dat1 (X2 m) c) (X2 m c)
/-- The buffers after the attention call. -/
def X4 (c : Dev nD) : Valuation τ sig (Elt F) := Pipeline.afterRegion (dat2 (X3 m) c) (X3 m c)
/-- The buffers at the end. -/
def X5 (c : Dev nD) : Valuation τ sig (Elt F) := StableHlo.after hostOps3 (X4 m c)

/-- The proof data of the three calls. -/
def pdats : (p : Fin 3) → (c : Dev nD) → Dat τ (Elt F) Unit ℕ (UR sig nD τ) ℕ (cfgs p) c
  | ⟨0, _⟩ => fun c => dat0 (V1 m) c
  | ⟨1, _⟩ => fun c => dat1 (X2 m) c
  | ⟨2, _⟩ => fun c => dat2 (X3 m) c

/-- The waits' index is assigned on every tensor core's cells. -/
def lvL : GSem nD τ sig → Finset Unit := fun g => if g.1.2 = .tc then {()} else ∅
def lvV : GSem nD τ sig → Unit → ℕ := fun _ _ => 0

/-- What rides along between the items: nothing owed, the generator's register. -/
def rest (c : Dev nD) : sProp 𝕄 :=
  iprop((∃ Wd, owes (c : Thread nD τ) (0 : CellTallies nD τ sig Unit) Wd) ∗ (∃ r, prngReg c r) ∗ emp)

theorem cut (p : Fin 3) : Pipeline.LevelCut (nD := nD) (τ := τ) (pcfgs (F := F)) adm () lvL lvV p (fun _ => 0) (fun _ => 0) where
  hι c w s := by unfold lvL; rw [if_pos rfl]; exact Finset.mem_singleton_self _
  hιb c w s := le_refl _
  hD c g i h := absurd h (lt_irrefl _)

/-- Every slot the assignment call leaves is below 64. -/
def SlotsBelow : Prop := ∀ (c : Dev nD) (t : Fin cfg1.N) (h : Fin 12) (s : Fin 2048), (iblk1 (X2 m) c 0 t (ix3 h 0 s) : BitVec 32).toNat < 64

set_option backward.isDefEq.respectTransparency.types false in
/-- The assignment call as an item of the run. -/
def reg0 : RegionSeg (pcfgs (F := F)) adm (pdats m) () defs₀ Variants.none lvL lvV 0 :=
  RegionSeg.ofHeldIn (pcfgs (F := F)) adm (pdats m) () defs₀ Variants.none lvL lvV 0 (fun _ => 0) (Pipeline.ucRefs τ sig)
    (fun c => iprop(∃ r, prngReg c r)) (fun c => iprop(∃ r, prngReg c r)) (launch0.toP (Val := Elt F)) rfl
    (fun c => (obligation0 (V1 m) c).loose) (fun _ _ => rfl) (fun _ => rfl) (fun c => (dat0 (V1 m) c).share_full fun _ => rfl)
    (fun c => .rfl) (fun c => .rfl) (fun _ => 0) (cut 0) (fun _ => iprop(emp)) (V1 m) (fun c w => A_eq0 (V1 m) c w)

set_option backward.isDefEq.respectTransparency.types false in
/-- The key-sum call as an item of the run. -/
def reg1 (hlt : SlotsBelow m) : RegionSeg (pcfgs (F := F)) adm (pdats m) () defs₀ Variants.none lvL lvV 1 :=
  RegionSeg.ofHeldIn (pcfgs (F := F)) adm (pdats m) () defs₀ Variants.none lvL lvV 1 (fun _ => 0) (Pipeline.ucRefs τ sig)
    (fun c => iprop(∃ r, prngReg c r)) (fun c => iprop(∃ r, prngReg c r)) (launch1.toP (Val := Elt F)) rfl
    (fun c => (obligation1 (X2 m) hlt c).loose) (fun _ _ => rfl) (fun _ => rfl) (fun c => (dat1 (X2 m) c).share_full fun _ => rfl)
    (fun c => .rfl) (fun c => .rfl) (fun _ => 0) (cut 1) (fun _ => iprop(emp)) (X2 m) (fun c w => A_eq1 (X2 m) c w)

set_option backward.isDefEq.respectTransparency.types false in
/-- The attention call as an item of the run. -/
def reg2 : RegionSeg (pcfgs (F := F)) adm (pdats m) () defs₀ Variants.none lvL lvV 2 :=
  RegionSeg.ofHeldIn (pcfgs (F := F)) adm (pdats m) () defs₀ Variants.none lvL lvV 2 (fun _ => 0) (Pipeline.ucRefs τ sig)
    (fun c => iprop(∃ r, prngReg c r)) (fun c => iprop(∃ r, prngReg c r)) (launch2.toP (Val := Elt F)) rfl
    (fun c => (obligation2 (X3 m) c).loose) (fun _ _ => rfl) (fun _ => rfl) (fun c => (dat2 (X3 m) c).share_full fun _ => rfl)
    (fun c => .rfl) (fun c => .rfl) (fun _ => 0) (cut 2) (fun _ => iprop(emp)) (X3 m) (fun c w => A_eq2 (X3 m) c w)

theorem arr_sub0 : Pipeline.arrRefs spec0 ⊆ Pipeline.ucRefs τ sig := by decide
theorem arr_sub1 : Pipeline.arrRefs spec1 ⊆ Pipeline.ucRefs τ sig := by decide
theorem arr_sub2 : Pipeline.arrRefs spec2 ⊆ Pipeline.ucRefs τ sig := by decide

set_option backward.isDefEq.respectTransparency.types false in
theorem enter0 (c : Dev nD) :
    iprop(StableHlo.held (c : Thread nD τ) (Pipeline.ucRefs τ sig) (V1 m c) ∗ rest c) ⊢ (reg0 m).pre c := by
  unfold rest reg0
  exact RegionSeg.ofHeldIn_pre (D := fun _ => 0) (S := Pipeline.ucRefs τ sig) (Y := fun c => iprop(∃ r, prngReg c r)) (X := fun c => iprop(∃ r, prngReg c r)) (R := fun _ => iprop(emp)) (W := V1 m) arr_sub0 c
set_option backward.isDefEq.respectTransparency.types false in
theorem leave0 (c : Dev nD) :
    (reg0 m).post c ⊢ iprop(StableHlo.held (c : Thread nD τ) (Pipeline.ucRefs τ sig) (X2 m c) ∗ rest c) := by
  unfold rest reg0 X2
  exact RegionSeg.ofHeldIn_post (S := Pipeline.ucRefs τ sig) (Y := fun c => iprop(∃ r, prngReg c r)) (R := fun _ => iprop(emp)) (W := V1 m) arr_sub0 c
set_option backward.isDefEq.respectTransparency.types false in
theorem enter1 (hlt : SlotsBelow m) (c : Dev nD) :
    iprop(StableHlo.held (c : Thread nD τ) (Pipeline.ucRefs τ sig) (X2 m c) ∗ rest c) ⊢ (reg1 m hlt).pre c := by
  unfold rest reg1
  exact RegionSeg.ofHeldIn_pre (D := fun _ => 0) (S := Pipeline.ucRefs τ sig) (Y := fun c => iprop(∃ r, prngReg c r)) (X := fun c => iprop(∃ r, prngReg c r)) (R := fun _ => iprop(emp)) (W := X2 m) arr_sub1 c
set_option backward.isDefEq.respectTransparency.types false in
theorem leave1 (hlt : SlotsBelow m) (c : Dev nD) :
    (reg1 m hlt).post c ⊢ iprop(StableHlo.held (c : Thread nD τ) (Pipeline.ucRefs τ sig) (X3 m c) ∗ rest c) := by
  unfold rest reg1 X3
  exact RegionSeg.ofHeldIn_post (S := Pipeline.ucRefs τ sig) (Y := fun c => iprop(∃ r, prngReg c r)) (R := fun _ => iprop(emp)) (W := X2 m) arr_sub1 c
set_option backward.isDefEq.respectTransparency.types false in
theorem enter2 (c : Dev nD) :
    iprop(StableHlo.held (c : Thread nD τ) (Pipeline.ucRefs τ sig) (X3 m c) ∗ rest c) ⊢ (reg2 m).pre c := by
  unfold rest reg2
  exact RegionSeg.ofHeldIn_pre (D := fun _ => 0) (S := Pipeline.ucRefs τ sig) (Y := fun c => iprop(∃ r, prngReg c r)) (X := fun c => iprop(∃ r, prngReg c r)) (R := fun _ => iprop(emp)) (W := X3 m) arr_sub2 c
set_option backward.isDefEq.respectTransparency.types false in
theorem leave2 (c : Dev nD) :
    (reg2 m).post c ⊢ iprop(StableHlo.held (c : Thread nD τ) (Pipeline.ucRefs τ sig) (X4 m c) ∗ rest c) := by
  unfold rest reg2 X4
  exact RegionSeg.ofHeldIn_post (S := Pipeline.ucRefs τ sig) (Y := fun c => iprop(∃ r, prngReg c r)) (R := fun _ => iprop(emp)) (W := X3 m) arr_sub2 c
theorem rest_end (c : Dev nD) : rest (F := F) c ⊢ (iprop(∃ Wd, owes (c : Thread nD τ) (0 : CellTallies nD τ sig Unit) Wd) : sProp 𝕄) := by
  unfold rest; iintro ⟨HO, -⟩; iexact HO

/-- The items of the kernel, in order. -/
abbrev items (hlt : SlotsBelow m) : Dev nD → List (Seg (pcfgs (F := F)) adm (pdats m) () defs₀ Variants.none lvL lvV) := fun _ =>
  [.host (HostSeg.ofOps _ _ _ _ _ (Pipeline.ucRefs τ sig) hostOps0
      (fun op h => Pipeline.sub_ucRefs op ((List.forall_iff_forall_mem.mp hostOps0_sub) op h))
      (fun op h => (List.forall_iff_forall_mem.mp hostOps0_fresh) op h) (V0 m) rest),
    .region (reg0 m), .region (reg1 m hlt), .region (reg2 m),
    .host (HostSeg.ofOps _ _ _ _ _ (Pipeline.ucRefs τ sig) hostOps3
      (fun op h => Pipeline.sub_ucRefs op ((List.forall_iff_forall_mem.mp hostOps3_sub) op h))
      (fun op h => (List.forall_iff_forall_mem.mp hostOps3_fresh) op h) (X4 m) rest)]

theorem X2_of (c : Dev nD) (r : Ref sig .tc) (h : ∀ w, Pipeline.arrRef spec0 w = r → (cfg0.win w).isOut = false) : X2 m c r = V1 m c r :=
  Pipeline.afterRegion_keeps (dat0 (V1 m) c) (V1 m c) winFacts0.arr_inj (A_eq0 (V1 m) c) r h
theorem X3_of (c : Dev nD) (r : Ref sig .tc) (h : ∀ w, Pipeline.arrRef spec1 w = r → (cfg1.win w).isOut = false) : X3 m c r = X2 m c r :=
  Pipeline.afterRegion_keeps (dat1 (X2 m) c) (X2 m c) winFacts1.arr_inj (A_eq1 (X2 m) c) r h
theorem X4_of (c : Dev nD) (r : Ref sig .tc) (h : ∀ w, Pipeline.arrRef spec2 w = r → (cfg2.win w).isOut = false) : X4 m c r = X3 m c r :=
  Pipeline.afterRegion_keeps (dat2 (X3 m) c) (X3 m c) winFacts2.arr_inj (A_eq2 (X3 m) c) r h
theorem X5_of (c : Dev nD) (r : Ref sig .tc) (h : r ∉ hostOps3_W) : X5 m c r = X4 m c r :=
  StableHlo.after_of_writes_sub hostOps3 _ hostOps3_writes h

theorem X5_arg0 (c : Dev nD) : X5 m c main_arg0 = m ((c : Thread nD τ).loc main_arg0) :=
  (X5_of m c main_arg0 (by decide)).trans <| (X4_of m c main_arg0 (by decide)).trans <| (X3_of m c main_arg0 (by decide)).trans <|
    (X2_of m c main_arg0 (by decide)).trans <| (V1_of m c main_arg0 (by decide)).trans rfl
theorem X5_arg1 (c : Dev nD) : X5 m c main_arg1 = m ((c : Thread nD τ).loc main_arg1) :=
  (X5_of m c main_arg1 (by decide)).trans <| (X4_of m c main_arg1 (by decide)).trans <| (X3_of m c main_arg1 (by decide)).trans <|
    (X2_of m c main_arg1 (by decide)).trans <| (V1_of m c main_arg1 (by decide)).trans rfl
theorem X5_arg2 (c : Dev nD) : X5 m c main_arg2 = m ((c : Thread nD τ).loc main_arg2) :=
  (X5_of m c main_arg2 (by decide)).trans <| (X4_of m c main_arg2 (by decide)).trans <| (X3_of m c main_arg2 (by decide)).trans <|
    (X2_of m c main_arg2 (by decide)).trans <| (V1_of m c main_arg2 (by decide)).trans rfl

set_option backward.isDefEq.respectTransparency.types false in
set_option maxHeartbeats 1000000 in
/-- Every run of the kernel ends, with the arguments as they were, the result's array at `X5`, and every counter at zero. -/
theorem kernel_run (hlt : SlotsBelow m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v6) = X5 m c main_v6)
      ∧ r.2.sem = fun _ => 0) := by
  refine Pipeline.θ_run_regions_kit_dev_sems (pcfgs (F := F)) adm (pdats m) () cellOf_inj emb₁ defs₀ Variants.none lvL lvV m ρ main
    (items m hlt)
    (fun c Q => by
      rewrite [main_chain c, Seg.run_eq_chain,
        show (items m hlt c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [items, Seg.pipes_host, Seg.pipes_region, Seg.pipes_nil]; decide) 0 (fun g hg => by unfold lvL; exact if_neg hg)
    (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (X5 m c))
    (hch := fun c => ⟨.rfl, enter0 m c, (leave0 m c).trans (enter1 m hlt c), (leave1 m hlt c).trans (enter2 m c), leave2 m c,
      sep_mono .rfl (rest_end c)⟩)
    (hinit := by
      refine Pipeline.initEach lvL lvV fun c => ?_
      rw [show unscopedBufs c (fun b => m ((c : Thread nD τ).loc b)) = StableHlo.held (c : Thread nD τ) (Pipeline.ucRefs τ sig) (V0 m c) from Pipeline.unscopedBufs_held c (V0 m c)]
      unfold rest
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_v6) = X5 m c main_v6)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (X5 m c) s') $$ [Hh HSI]
  · isplitl [Hh] <;> iassumption
  icases Hr with ⟨%h, HSI⟩
  imodintro
  isplitr
  · ipureintro
    exact ⟨(h (Proc.devRef .tc main_arg0) (Finset.mem_filter.mpr ⟨StableHlo.devRef_mem_tcRefs main_arg0, by decide⟩)).trans (X5_arg0 m c),
      (h (Proc.devRef .tc main_arg1) (Finset.mem_filter.mpr ⟨StableHlo.devRef_mem_tcRefs main_arg1, by decide⟩)).trans (X5_arg1 m c),
      (h (Proc.devRef .tc main_arg2) (Finset.mem_filter.mpr ⟨StableHlo.devRef_mem_tcRefs main_arg2, by decide⟩)).trans (X5_arg2 m c),
      h (Proc.devRef .tc main_v6) (Finset.mem_filter.mpr ⟨StableHlo.devRef_mem_tcRefs main_v6, by decide⟩)⟩
  · iexact HSI

end Cert.Proof.KernelIdeal
-- ==== Proof.Arrays.lean ====
module

public import proofs.«01_k».proof.Proof.KernelRun
public import Idealize.ShloMosaic.Lib.StableHlo.RunRead
public import Idealize.ShloMosaic.Lib.ValueLayout
public import Idealize.ShloMosaic.Lib.Pipeline.ValueKit.Geometry

/-! The arrays the three calls leave, element by element: each element is read off the block that holds it. -/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

/-- One head of an array of keys or values. -/
def headOf (x : Vec F S12x2048x64 .f32) (h : Fin 12) : Vec F S1x2048x64 .f32 := fun j => x (ix3 h (j 1) (j 2))
/-- One block of 256 queries of a head. -/
def queryOf (x : Vec F S12x2048x64 .f32) (h : Fin 12) (b : ℕ) : Vec F S1x256x64 .f32 :=
  fun j => x (ix3 h (Fin.ofNat 2048 (256 * b + (j 1).val)) (j 2))
/-- One head of the key sums. -/
def sumOf (x : Vec F S12x64x64 .f32) (h : Fin 12) : Vec F S1x64x64 .f32 := fun j => x (ix3 h (j 1) (j 2))

/-- The slots of all keys. -/
def assignArr (k : Vec F S12x2048x64 .f32) : Vec F S12x1x2048 .i32 :=
  fun i => assignBlk (headOf k (i 0)) (ix3 0 0 (i 2))
/-- The attention output of all heads. -/
def attnArr (q k v : Vec F S12x2048x64 .f32) (z : Vec F S12x64x64 .f32) : Vec F S12x2048x64 .f32 :=
  fun i => attnBlk (queryOf q (i 0) ((i 1).val / 256)) (headOf k (i 0)) (headOf v (i 0)) (sumOf z (i 0)) (ix3 0 (Fin.ofNat 256 (i 1).val) (i 2))

variable (W : Dev nD → Valuation τ sig (Elt F))

theorem emb0_0 (t : Fin cfg0.N) (y : ((cfg0.win 0).xblock (cfg0.grid.coords t)).Idx) (a : Fin 3) :
    (((win0_0.blk t).view.emb y) a).val = (win0_0.index t a) * S1x2048x64.size a + (y a).val := by
  blk_simp
theorem index0_0 : ∀ t : Fin cfg0.N, win0_0.index t = ![t.val, 0, 0] :=
  (by decide +kernel : ∀ t : Fin grid0.N, win0_0.index t = ![t.val, 0, 0])
theorem emb0_1 (t : Fin cfg0.N) (y : ((cfg0.win 1).xblock (cfg0.grid.coords t)).Idx) (a : Fin 3) :
    (((win0_1.blk t).view.emb y) a).val = (win0_1.index t a) * S1x1x2048.size a + (y a).val := by
  blk_simp
theorem index0_1 : ∀ t : Fin cfg0.N, win0_1.index t = ![t.val, 0, 0] :=
  (by decide +kernel : ∀ t : Fin grid0.N, win0_1.index t = ![t.val, 0, 0])
theorem emb1_0 (t : Fin cfg1.N) (y : ((cfg1.win 0).xblock (cfg1.grid.coords t)).Idx) (a : Fin 3) :
    (((win1_0.blk t).view.emb y) a).val = (win1_0.index t a) * S12x1x2048.size a + (y a).val := by
  blk_simp
theorem index1_0 : ∀ t : Fin cfg1.N, win1_0.index t = ![0, 0, 0] :=
  (by decide +kernel : ∀ t : Fin grid1.N, win1_0.index t = ![0, 0, 0])
theorem emb1_1 (t : Fin cfg1.N) (y : ((cfg1.win 1).xblock (cfg1.grid.coords t)).Idx) (a : Fin 3) :
    (((win1_1.blk t).view.emb y) a).val = (win1_1.index t a) * S12x2048x64.size a + (y a).val := by
  blk_simp
theorem index1_1 : ∀ t : Fin cfg1.N, win1_1.index t = ![0, 0, 0] :=
  (by decide +kernel : ∀ t : Fin grid1.N, win1_1.index t = ![0, 0, 0])
theorem emb1_2 (t : Fin cfg1.N) (y : ((cfg1.win 2).xblock (cfg1.grid.coords t)).Idx) (a : Fin 3) :
    (((win1_2.blk t).view.emb y) a).val = (win1_2.index t a) * S12x64x64.size a + (y a).val := by
  blk_simp
theorem index1_2 : ∀ t : Fin cfg1.N, win1_2.index t = ![0, 0, 0] :=
  (by decide +kernel : ∀ t : Fin grid1.N, win1_2.index t = ![0, 0, 0])
theorem emb2_0 (t : Fin cfg2.N) (y : ((cfg2.win 0).xblock (cfg2.grid.coords t)).Idx) (a : Fin 3) :
    (((win2_0.blk t).view.emb y) a).val = (win2_0.index t a) * S1x256x64.size a + (y a).val := by
  blk_simp
theorem index2_0 : ∀ t : Fin cfg2.N, win2_0.index t = ![t.val / 8, t.val % 8, 0] :=
  (by decide +kernel : ∀ t : Fin grid2.N, win2_0.index t = ![t.val / 8, t.val % 8, 0])
theorem emb2_1 (t : Fin cfg2.N) (y : ((cfg2.win 1).xblock (cfg2.grid.coords t)).Idx) (a : Fin 3) :
    (((win2_1.blk t).view.emb y) a).val = (win2_1.index t a) * S1x2048x64.size a + (y a).val := by
  blk_simp
theorem index2_1 : ∀ t : Fin cfg2.N, win2_1.index t = ![t.val / 8, 0, 0] :=
  (by decide +kernel : ∀ t : Fin grid2.N, win2_1.index t = ![t.val / 8, 0, 0])
theorem emb2_2 (t : Fin cfg2.N) (y : ((cfg2.win 2).xblock (cfg2.grid.coords t)).Idx) (a : Fin 3) :
    (((win2_2.blk t).view.emb y) a).val = (win2_2.index t a) * S1x2048x64.size a + (y a).val := by
  blk_simp
theorem index2_2 : ∀ t : Fin cfg2.N, win2_2.index t = ![t.val / 8, 0, 0] :=
  (by decide +kernel : ∀ t : Fin grid2.N, win2_2.index t = ![t.val / 8, 0, 0])
theorem emb2_3 (t : Fin cfg2.N) (y : ((cfg2.win 3).xblock (cfg2.grid.coords t)).Idx) (a : Fin 3) :
    (((win2_3.blk t).view.emb y) a).val = (win2_3.index t a) * S1x64x64.size a + (y a).val := by
  blk_simp
theorem index2_3 : ∀ t : Fin cfg2.N, win2_3.index t = ![t.val / 8, 0, 0] :=
  (by decide +kernel : ∀ t : Fin grid2.N, win2_3.index t = ![t.val / 8, 0, 0])
theorem emb2_4 (t : Fin cfg2.N) (y : ((cfg2.win 4).xblock (cfg2.grid.coords t)).Idx) (a : Fin 3) :
    (((win2_4.blk t).view.emb y) a).val = (win2_4.index t a) * S1x256x64.size a + (y a).val := by
  blk_simp
theorem index2_4 : ∀ t : Fin cfg2.N, win2_4.index t = ![t.val / 8, t.val % 8, 0] :=
  (by decide +kernel : ∀ t : Fin grid2.N, win2_4.index t = ![t.val / 8, t.val % 8, 0])
theorem blk0_0 (c : Dev nD) (t : Fin cfg0.N) : iblk0 W c 0 t = headOf (W c main_v1) (Fin.ofNat 12 t.val) := by
  have ht : t.val < 12 := t.isLt
  funext j
  unfold iblk0 headOf
  blk_simp
  congr 1
  funext a
  apply Fin.ext
  have hi := index0_0 t
  have h0 : (win0_0.index t) 0 = _ := congrFun hi 0
  have h1 : (win0_0.index t) 1 = _ := congrFun hi 1
  have h2 : (win0_0.index t) 2 = _ := congrFun hi 2
  have j0 := (j 0).isLt
  have j1 := (j 1).isLt
  match a with
  | ⟨0, _⟩ =>
    refine (emb0_0 t j 0).trans ?_
    rw [h0]
    have h : (j 0).val < 1 := j0; show t.val * 1 + (j 0).val = t.val % 12; omega
  | ⟨1, _⟩ =>
    refine (emb0_0 t j 1).trans ?_
    rw [h1]
    show 0 * 2048 + (j 1).val = (j 1).val; omega
  | ⟨2, _⟩ =>
    refine (emb0_0 t j 2).trans ?_
    rw [h2]
    show 0 * 64 + (j 2).val = (j 2).val; omega
theorem blk1_0 (c : Dev nD) (t : Fin cfg1.N) : iblk1 W c 0 t = W c main_v3 := by
  have ht : t.val < 1 := t.isLt
  funext j
  unfold iblk1
  blk_simp
  congr 1
  funext a
  apply Fin.ext
  have hi := index1_0 t
  have h0 : (win1_0.index t) 0 = _ := congrFun hi 0
  have h1 : (win1_0.index t) 1 = _ := congrFun hi 1
  have h2 : (win1_0.index t) 2 = _ := congrFun hi 2
  have j0 := (j 0).isLt
  have j1 := (j 1).isLt
  match a with
  | ⟨0, _⟩ =>
    refine (emb1_0 t j 0).trans ?_
    rw [h0]
    show 0 * 12 + (j 0).val = (j 0).val; omega
  | ⟨1, _⟩ =>
    refine (emb1_0 t j 1).trans ?_
    rw [h1]
    show 0 * 1 + (j 1).val = (j 1).val; omega
  | ⟨2, _⟩ =>
    refine (emb1_0 t j 2).trans ?_
    rw [h2]
    show 0 * 2048 + (j 2).val = (j 2).val; omega
theorem blk1_1 (c : Dev nD) (t : Fin cfg1.N) : iblk1 W c 1 t = W c main_v1 := by
  have ht : t.val < 1 := t.isLt
  funext j
  unfold iblk1
  blk_simp
  congr 1
  funext a
  apply Fin.ext
  have hi := index1_1 t
  have h0 : (win1_1.index t) 0 = _ := congrFun hi 0
  have h1 : (win1_1.index t) 1 = _ := congrFun hi 1
  have h2 : (win1_1.index t) 2 = _ := congrFun hi 2
  have j0 := (j 0).isLt
  have j1 := (j 1).isLt
  match a with
  | ⟨0, _⟩ =>
    refine (emb1_1 t j 0).trans ?_
    rw [h0]
    show 0 * 12 + (j 0).val = (j 0).val; omega
  | ⟨1, _⟩ =>
    refine (emb1_1 t j 1).trans ?_
    rw [h1]
    show 0 * 2048 + (j 1).val = (j 1).val; omega
  | ⟨2, _⟩ =>
    refine (emb1_1 t j 2).trans ?_
    rw [h2]
    show 0 * 64 + (j 2).val = (j 2).val; omega
theorem blk2_0 (c : Dev nD) (t : Fin cfg2.N) : iblk2 W c 0 t = queryOf (W c main_v0) (Fin.ofNat 12 (t.val / 8)) (t.val % 8) := by
  have ht : t.val < 96 := t.isLt
  funext j
  unfold iblk2 queryOf
  blk_simp
  congr 1
  funext a
  apply Fin.ext
  have hi := index2_0 t
  have h0 : (win2_0.index t) 0 = _ := congrFun hi 0
  have h1 : (win2_0.index t) 1 = _ := congrFun hi 1
  have h2 : (win2_0.index t) 2 = _ := congrFun hi 2
  have j0 := (j 0).isLt
  have j1 := (j 1).isLt
  match a with
  | ⟨0, _⟩ =>
    refine (emb2_0 t j 0).trans ?_
    rw [h0]
    have h : (j 0).val < 1 := j0; show t.val / 8 * 1 + (j 0).val = (t.val / 8) % 12; omega
  | ⟨1, _⟩ =>
    refine (emb2_0 t j 1).trans ?_
    rw [h1]
    have h : (j 1).val < 256 := j1; show t.val % 8 * 256 + (j 1).val = (256 * (t.val % 8) + (j 1).val) % 2048; omega
  | ⟨2, _⟩ =>
    refine (emb2_0 t j 2).trans ?_
    rw [h2]
    show 0 * 64 + (j 2).val = (j 2).val; omega
theorem blk2_1 (c : Dev nD) (t : Fin cfg2.N) : iblk2 W c 1 t = headOf (W c main_v1) (Fin.ofNat 12 (t.val / 8)) := by
  have ht : t.val < 96 := t.isLt
  funext j
  unfold iblk2 headOf
  blk_simp
  congr 1
  funext a
  apply Fin.ext
  have hi := index2_1 t
  have h0 : (win2_1.index t) 0 = _ := congrFun hi 0
  have h1 : (win2_1.index t) 1 = _ := congrFun hi 1
  have h2 : (win2_1.index t) 2 = _ := congrFun hi 2
  have j0 := (j 0).isLt
  have j1 := (j 1).isLt
  match a with
  | ⟨0, _⟩ =>
    refine (emb2_1 t j 0).trans ?_
    rw [h0]
    have h : (j 0).val < 1 := j0; show t.val / 8 * 1 + (j 0).val = (t.val / 8) % 12; omega
  | ⟨1, _⟩ =>
    refine (emb2_1 t j 1).trans ?_
    rw [h1]
    show 0 * 2048 + (j 1).val = (j 1).val; omega
  | ⟨2, _⟩ =>
    refine (emb2_1 t j 2).trans ?_
    rw [h2]
    show 0 * 64 + (j 2).val = (j 2).val; omega
theorem blk2_2 (c : Dev nD) (t : Fin cfg2.N) : iblk2 W c 2 t = headOf (W c main_v2) (Fin.ofNat 12 (t.val / 8)) := by
  have ht : t.val < 96 := t.isLt
  funext j
  unfold iblk2 headOf
  blk_simp
  congr 1
  funext a
  apply Fin.ext
  have hi := index2_2 t
  have h0 : (win2_2.index t) 0 = _ := congrFun hi 0
  have h1 : (win2_2.index t) 1 = _ := congrFun hi 1
  have h2 : (win2_2.index t) 2 = _ := congrFun hi 2
  have j0 := (j 0).isLt
  have j1 := (j 1).isLt
  match a with
  | ⟨0, _⟩ =>
    refine (emb2_2 t j 0).trans ?_
    rw [h0]
    have h : (j 0).val < 1 := j0; show t.val / 8 * 1 + (j 0).val = (t.val / 8) % 12; omega
  | ⟨1, _⟩ =>
    refine (emb2_2 t j 1).trans ?_
    rw [h1]
    show 0 * 2048 + (j 1).val = (j 1).val; omega
  | ⟨2, _⟩ =>
    refine (emb2_2 t j 2).trans ?_
    rw [h2]
    show 0 * 64 + (j 2).val = (j 2).val; omega
theorem blk2_3 (c : Dev nD) (t : Fin cfg2.N) : iblk2 W c 3 t = sumOf (W c main_v4) (Fin.ofNat 12 (t.val / 8)) := by
  have ht : t.val < 96 := t.isLt
  funext j
  unfold iblk2 sumOf
  blk_simp
  congr 1
  funext a
  apply Fin.ext
  have hi := index2_3 t
  have h0 : (win2_3.index t) 0 = _ := congrFun hi 0
  have h1 : (win2_3.index t) 1 = _ := congrFun hi 1
  have h2 : (win2_3.index t) 2 = _ := congrFun hi 2
  have j0 := (j 0).isLt
  have j1 := (j 1).isLt
  match a with
  | ⟨0, _⟩ =>
    refine (emb2_3 t j 0).trans ?_
    rw [h0]
    have h : (j 0).val < 1 := j0; show t.val / 8 * 1 + (j 0).val = (t.val / 8) % 12; omega
  | ⟨1, _⟩ =>
    refine (emb2_3 t j 1).trans ?_
    rw [h1]
    show 0 * 64 + (j 1).val = (j 1).val; omega
  | ⟨2, _⟩ =>
    refine (emb2_3 t j 2).trans ?_
    rw [h2]
    show 0 * 64 + (j 2).val = (j 2).val; omega

/-- What the assignment call leaves. -/
theorem assign_arr (c : Dev nD) : (dat0 W c).arrAt 1 cfg0.N = assignArr (W c main_v1) := by
  refine (dat0 W c).arrAt_eq_of_covers 1 _ (by decide +kernel) fun t hf y => ?_
  blk_simp
  rw [after0_1, blk0_0]
  have ht : t.val < 12 := t.isLt
  have y0 : (y 0).val < 1 := (y 0).isLt
  have y1 : (y 1).val < 1 := (y 1).isLt
  have hi := index0_1 t
  have e0 : ((win0_1.blk t).view.emb y) 0 = Fin.ofNat 12 t.val := Fin.ext ((emb0_1 t y 0).trans (by
    rw [show (win0_1.index t) 0 = t.val from congrFun hi 0]; show t.val * 1 + (y 0).val = t.val % 12; omega))
  have e2 : ((win0_1.blk t).view.emb y) 2 = y 2 := Fin.ext ((emb0_1 t y 2).trans (by
    rw [show (win0_1.index t) 2 = 0 from congrFun hi 2]; show 0 * 2048 + (y 2).val = _; omega))
  unfold assignArr
  rw [e0, e2]
  congr 1
  refine (eq_ix3 y).trans ?_
  rw [show y 0 = (0 : Fin 1) from Fin.ext (by show (y 0).val = 0; omega), show y 1 = (0 : Fin 1) from Fin.ext (by show (y 1).val = 0; omega)]
  rfl

/-- What the key-sum call leaves. -/
theorem sum_arr (c : Dev nD) : (dat1 W c).arrAt 2 cfg1.N = sumOut (W c main_v3) (W c main_v1) := by
  refine (dat1 W c).arrAt_eq_of_covers 2 _ (by decide +kernel) fun t hf y => ?_
  blk_simp
  rw [after1_2, blk1_0, blk1_1]
  congr 1
  have hi := index1_2 t
  funext a
  apply Fin.ext
  match a with
  | ⟨0, _⟩ => refine Eq.trans ?_ (emb1_2 t y 0).symm; rw [show (win1_2.index t) 0 = 0 from congrFun hi 0]; show (y 0).val = 0 * 12 + (y 0).val; omega
  | ⟨1, _⟩ => refine Eq.trans ?_ (emb1_2 t y 1).symm; rw [show (win1_2.index t) 1 = 0 from congrFun hi 1]; show (y 1).val = 0 * 64 + (y 1).val; omega
  | ⟨2, _⟩ => refine Eq.trans ?_ (emb1_2 t y 2).symm; rw [show (win1_2.index t) 2 = 0 from congrFun hi 2]; show (y 2).val = 0 * 64 + (y 2).val; omega

/-- What the attention call leaves. -/
theorem attn_arr (c : Dev nD) : (dat2 W c).arrAt 4 cfg2.N = attnArr (W c main_v0) (W c main_v1) (W c main_v2) (W c main_v4) := by
  refine (dat2 W c).arrAt_eq_of_covers 4 _ (by decide +kernel) fun t hf y => ?_
  blk_simp
  rw [after2_4, blk2_0, blk2_1, blk2_2, blk2_3]
  have ht : t.val < 96 := t.isLt
  have y0 : (y 0).val < 1 := (y 0).isLt
  have y1 : (y 1).val < 256 := (y 1).isLt
  have hi := index2_4 t
  have e0 : ((win2_4.blk t).view.emb y) 0 = Fin.ofNat 12 (t.val / 8) := Fin.ext ((emb2_4 t y 0).trans (by
    rw [show (win2_4.index t) 0 = t.val / 8 from congrFun hi 0]; show t.val / 8 * 1 + (y 0).val = (t.val / 8) % 12; omega))
  have e1 : (((win2_4.blk t).view.emb y) 1).val = 256 * (t.val % 8) + (y 1).val := (emb2_4 t y 1).trans (by
    rw [show (win2_4.index t) 1 = t.val % 8 from congrFun hi 1]; show t.val % 8 * 256 + (y 1).val = _; omega)
  have e2 : ((win2_4.blk t).view.emb y) 2 = y 2 := Fin.ext ((emb2_4 t y 2).trans (by
    rw [show (win2_4.index t) 2 = 0 from congrFun hi 2]; show 0 * 64 + (y 2).val = _; omega))
  unfold attnArr
  rw [e0, e1, e2, show (256 * (t.val % 8) + (y 1).val) / 256 = t.val % 8 from by omega]
  congr 1
  refine (eq_ix3 y).trans ?_
  exact congrArg₂ (fun u w => ix3 u w (y 2)) (show y 0 = (0 : Fin 1) from Fin.ext (by show (y 0).val = 0; omega))
    (show y 1 = Fin.ofNat 256 (256 * (t.val % 8) + (y 1).val) from Fin.ext (by show (y 1).val = (256 * (t.val % 8) + (y 1).val) % 256; omega))

variable (m : (ℓ : Loc nD τ sig) → Buf (Elt F) ℓ)

/-- One array of the program's arguments without its batch axis. -/
def flat (x : Vec F S1x12x2048x64 .f32) : Vec F S12x2048x64 .f32 := fun j => x (ix4 0 (j 0) (j 1) (j 2))

/-- The kernel's result from its arguments. -/
def kernelOut (q k v : Vec F S1x12x2048x64 .f32) : Vec F S1x12x2048x64 .f32 :=
  fun j => attnArr (flat q) (flat k) (flat v) (sumOut (assignArr (flat k)) (flat k)) (ix3 (j 1) (j 2) (j 3))

theorem flat_eq (x : Vec F S1x12x2048x64 .f32) (h : S1x12x2048x64.ShapeCasts S12x2048x64) : shapeCast S12x2048x64 x h = flat x := by
  funext j
  rw [eq_ix3 j]
  exact shapeCast_1abc_abc_apply x h _ _ _

theorem batch_eq (x : Vec F S12x2048x64 .f32) (h : S12x2048x64.ShapeCasts S1x12x2048x64) :
    shapeCast S1x12x2048x64 x h = fun j => x (ix3 (j 1) (j 2) (j 3)) := by
  funext j
  rw [eq_ix4 j]
  exact shapeCast_abc_1abc_apply x h _ _ _ _

theorem V1_v0 (c : Dev nD) : V1 m c main_v0 = flat (m ((c : Thread nD τ).loc main_arg0)) := by
  refine Eq.trans (b := shapeCast S12x2048x64 (m ((c : Thread nD τ).loc main_arg0)) shapeCasts_S1x12x2048x64_S12x2048x64) ?_ (flat_eq _ _)
  unfold V1
  after_results
  rfl
theorem V1_v1 (c : Dev nD) : V1 m c main_v1 = flat (m ((c : Thread nD τ).loc main_arg1)) := by
  refine Eq.trans (b := shapeCast S12x2048x64 (m ((c : Thread nD τ).loc main_arg1)) shapeCasts_S1x12x2048x64_S12x2048x64) ?_ (flat_eq _ _)
  unfold V1
  after_results
  rfl
theorem V1_v2 (c : Dev nD) : V1 m c main_v2 = flat (m ((c : Thread nD τ).loc main_arg2)) := by
  refine Eq.trans (b := shapeCast S12x2048x64 (m ((c : Thread nD τ).loc main_arg2)) shapeCasts_S1x12x2048x64_S12x2048x64) ?_ (flat_eq _ _)
  unfold V1
  after_results
  rfl

theorem X2_v3 (c : Dev nD) : X2 m c main_v3 = assignArr (flat (m ((c : Thread nD τ).loc main_arg1))) :=
  (Pipeline.afterRegion_arr (dat0 (V1 m) c) (V1 m c) winFacts0.arr_inj 1).trans ((assign_arr (V1 m) c).trans (by rw [V1_v1]))
theorem X2_v1 (c : Dev nD) : X2 m c main_v1 = flat (m ((c : Thread nD τ).loc main_arg1)) :=
  (X2_of m c main_v1 (by decide)).trans (V1_v1 m c)
theorem X3_v4 (c : Dev nD) : X3 m c main_v4 = sumOut (assignArr (flat (m ((c : Thread nD τ).loc main_arg1)))) (flat (m ((c : Thread nD τ).loc main_arg1))) :=
  (Pipeline.afterRegion_arr (dat1 (X2 m) c) (X2 m c) winFacts1.arr_inj 2).trans ((sum_arr (X2 m) c).trans (by rw [X2_v3, X2_v1]))
theorem X4_v5 (c : Dev nD) : X4 m c main_v5 = attnArr (flat (m ((c : Thread nD τ).loc main_arg0))) (flat (m ((c : Thread nD τ).loc main_arg1)))
    (flat (m ((c : Thread nD τ).loc main_arg2))) (sumOut (assignArr (flat (m ((c : Thread nD τ).loc main_arg1)))) (flat (m ((c : Thread nD τ).loc main_arg1)))) :=
  (Pipeline.afterRegion_arr (dat2 (X3 m) c) (X3 m c) winFacts2.arr_inj 4).trans ((attn_arr (X3 m) c).trans (by
    rw [X3_v4, (X3_of m c main_v0 (by decide)).trans ((X2_of m c main_v0 (by decide)).trans (V1_v0 m c)),
      (X3_of m c main_v1 (by decide)).trans (X2_v1 m c),
      (X3_of m c main_v2 (by decide)).trans ((X2_of m c main_v2 (by decide)).trans (V1_v2 m c))]))

/-- The result's array at the end of the run. -/
theorem X5_v6 (c : Dev nD) : X5 m c main_v6 = kernelOut (m ((c : Thread nD τ).loc main_arg0)) (m ((c : Thread nD τ).loc main_arg1)) (m ((c : Thread nD τ).loc main_arg2)) := by
  refine Eq.trans (b := shapeCast S1x12x2048x64 (X4 m c main_v5) shapeCasts_S12x2048x64_S1x12x2048x64) ?_ ?_
  · unfold X5
    after_results
    rfl
  · rw [batch_eq, X4_v5]; rfl

/-- The slots are below 64 when the assignment body's are. -/
theorem slots_below (h : ∀ (x : Vec F S1x2048x64 .f32) (s : Fin 2048), (assignBlk x (ix3 0 0 s) : BitVec 32).toNat < 64) : SlotsBelow m := by
  intro c t hd s
  rw [blk1_0, X2_v3]
  exact h _ _

end Cert.Proof.KernelIdeal
-- ==== Proof.FirstMax.lean ====
module

public import Idealize.ShloMosaic.PureOps.Ideal
public import Mathlib.Data.Fintype.Lattice
public import Mathlib.Data.EReal.Operations
public import Mathlib.Algebra.Order.BigOperators.Group.Finset

/-! The largest entries of a row of 64 extended reals, in order: the first of them, the second, and the 0/1 marks of them. -/

@[expose] public section

noncomputable section

namespace Cert.Proof

open scoped Classical

/-- One where `p` holds, zero elsewhere. -/
def flag (p : Prop) : EReal := if p then 1 else 0
/-- `f e` is a largest entry of the row. -/
def AtMax {n : ℕ} (f : Fin n → EReal) (e : Fin n) : Prop := ∀ j, f j ≤ f e
/-- How many largest entries there are up to `e`. -/
def rank {n : ℕ} (f : Fin n → EReal) (e : Fin n) : ℕ := (Finset.univ.filter fun j => AtMax f j ∧ j ≤ e).card
/-- `f e` is the `k`-th largest entry, counted from 1 in the order of the row. -/
def Nth {n : ℕ} (f : Fin n → EReal) (k : ℕ) (e : Fin n) : Prop := AtMax f e ∧ rank f e = k

theorem flag_mul (p q : Prop) : flag p * flag q = flag (p ∧ q) := by
  unfold flag; by_cases hp : p <;> by_cases hq : q <;> simp [hp, hq]
theorem flag_true {p : Prop} (h : p) : flag p = 1 := if_pos h
theorem flag_false {p : Prop} (h : ¬p) : flag p = 0 := if_neg h
theorem flag_congr {p q : Prop} (h : p ↔ q) : flag p = flag q := by rw [propext h]

/-- A sum of flags is a count. -/
theorem sum_flag {n : ℕ} (p : Fin n → Prop) : ∑ j, flag (p j) = ((Finset.univ.filter p).card : EReal) := by
  unfold flag; rw [Finset.sum_boole]

/-- A sum against a flag that holds at one place alone is the term there. -/
theorem sum_flag_mul {n : ℕ} (p : Fin n → Prop) (g : Fin n → EReal) (i : Fin n) (h : ∀ j, p j ↔ j = i) :
    ∑ j, flag (p j) * g j = g i := by
  rw [Finset.sum_eq_single i (fun j _ hj => by rw [flag_false (fun hp => hj ((h j).1 hp)), zero_mul]) (by simp),
    flag_true ((h i).2 rfl), one_mul]
/-- The same with the flag on the right. -/
theorem sum_mul_flag {n : ℕ} (p : Fin n → Prop) (g : Fin n → EReal) (i : Fin n) (h : ∀ j, p j ↔ j = i) :
    ∑ j, g j * flag (p j) = g i := by
  rw [← sum_flag_mul p g i h]; exact Finset.sum_congr rfl fun j _ => mul_comm _ _

/-- An entry equals the fold of `max` exactly when it is a largest one. -/
theorem eq_fold_max_iff {n : ℕ} (f : Fin n → EReal) (e : Fin n) :
    f e = (Finset.univ : Finset (Fin n)).fold max ⊥ f ↔ AtMax f e := by
  constructor
  · intro h j
    rw [h]; exact Finset.le_fold_max _ |>.2 (.inr ⟨j, Finset.mem_univ _, le_rfl⟩)
  · intro h
    refine le_antisymm (Finset.le_fold_max _ |>.2 (.inr ⟨e, Finset.mem_univ _, le_rfl⟩)) ?_
    exact Finset.fold_max_le _ |>.2 ⟨bot_le, fun j _ => h j⟩

/-- A row has a largest entry. -/
theorem exists_atMax {n : ℕ} [NeZero n] (f : Fin n → EReal) : ∃ e, AtMax f e := by
  obtain ⟨e, _, he⟩ := Finset.exists_max_image Finset.univ f ⟨0, Finset.mem_univ _⟩
  exact ⟨e, fun j => he j (Finset.mem_univ _)⟩

/-- The count at a later largest entry is larger. -/
theorem rank_lt {n : ℕ} (f : Fin n → EReal) {i j : Fin n} (hj : AtMax f j) (h : i < j) : rank f i < rank f j := by
  unfold rank
  refine Finset.card_lt_card ⟨fun x hx => ?_, fun hs => ?_⟩
  · simp only [Finset.mem_filter, Finset.mem_univ, true_and] at hx ⊢
    exact ⟨hx.1, hx.2.trans h.le⟩
  · have := hs (Finset.mem_filter.2 ⟨Finset.mem_univ j, hj, le_rfl⟩)
    simp only [Finset.mem_filter, Finset.mem_univ, true_and] at this
    exact absurd h (not_lt.2 this.2)

/-- There is at most one `k`-th largest entry. -/
theorem Nth.unique {n : ℕ} {f : Fin n → EReal} {k : ℕ} {i j : Fin n} (hi : Nth f k i) (hj : Nth f k j) : i = j := by
  rcases lt_trichotomy i j with h | h | h
  · exact absurd (hi.2.trans hj.2.symm) (rank_lt f hj.1 h).ne
  · exact h
  · exact absurd (hj.2.trans hi.2.symm) (rank_lt f hi.1 h).ne

/-- The first largest entry has count 1. -/
theorem nth_one_iff {n : ℕ} (f : Fin n → EReal) (e : Fin n) : Nth f 1 e ↔ AtMax f e ∧ ∀ j, AtMax f j → e ≤ j := by
  unfold Nth rank
  refine and_congr_right fun he => ?_
  rw [Finset.card_eq_one]
  constructor
  · rintro ⟨a, ha⟩ j hj
    by_contra hlt
    have h1 : e ∈ ({a} : Finset (Fin n)) := ha ▸ Finset.mem_filter.2 ⟨Finset.mem_univ _, he, le_rfl⟩
    have h2 : j ∈ ({a} : Finset (Fin n)) := ha ▸ Finset.mem_filter.2 ⟨Finset.mem_univ _, hj, (not_le.1 hlt).le⟩
    rw [Finset.mem_singleton] at h1 h2
    exact hlt (h1.trans h2.symm).le
  · intro h
    refine ⟨e, Finset.ext fun j => ?_⟩
    simp only [Finset.mem_filter, Finset.mem_univ, true_and, Finset.mem_singleton]
    exact ⟨fun hj => le_antisymm hj.2 (h j hj.1), fun hj => by subst hj; exact ⟨he, le_rfl⟩⟩

/-- The first largest entry exists. -/
theorem exists_first {n : ℕ} [NeZero n] (f : Fin n → EReal) : ∃ e, Nth f 1 e := by
  have hne : (Finset.univ.filter (AtMax f)).Nonempty := by
    obtain ⟨e, he⟩ := exists_atMax f
    exact ⟨e, Finset.mem_filter.2 ⟨Finset.mem_univ _, he⟩⟩
  refine ⟨(Finset.univ.filter (AtMax f)).min' hne, (nth_one_iff f _).2 ⟨?_, fun j hj => ?_⟩⟩
  · exact (Finset.mem_filter.1 (Finset.min'_mem _ hne)).2
  · exact Finset.min'_le _ _ (Finset.mem_filter.2 ⟨Finset.mem_univ _, hj⟩)

/-- The place of the first largest entry. -/
def first {n : ℕ} [NeZero n] (f : Fin n → EReal) : Fin n := (exists_first f).choose
theorem first_spec {n : ℕ} [NeZero n] (f : Fin n → EReal) : Nth f 1 (first f) := (exists_first f).choose_spec
theorem first_iff {n : ℕ} [NeZero n] (f : Fin n → EReal) (e : Fin n) : Nth f 1 e ↔ e = first f :=
  ⟨fun h => h.unique (first_spec f), fun h => h ▸ first_spec f⟩

end Cert.Proof

end
-- ==== Proof.Marks.lean ====
module

public import proofs.«01_k».proof.Proof.FirstMax
public import proofs.«01_k».proof.Proof.Gen.KernelIdeal.Skeleton
public import Idealize.ShloMosaic.PureOps.Ideal.Laws
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.WordCmp

/-! The 0/1 marks the kernel makes of a row of 64 numbers, read at an entry: the mark of a largest magnitude, the count of
    the marks up to an entry, and the mark of the largest magnitude with a given count. -/

@[expose] public section

noncomputable section

namespace Cert.Proof

open Idealize.ShloMosaic Idealize.ShloMosaic.ValueIdx
open scoped Classical

/-- The magnitude of an extended real. -/
def mag (x : EReal) : EReal := max x (-x)

/-- A one-bit word widened and read as a number is the flag of its proposition. -/
theorem bit_flag (p : Prop) [Decidable p] : Scalar.sitofp (F := Ideal) .f32 (((BitVec.ofBool (decide p)).setWidth 32 : BitVec 32)) = flag p := by
  rw [Ideal.scalar_sitofp_def]
  by_cases h : p <;> simp [flag, h]

theorem ofBits_one : Ideal.ofBits .f32 0x3F800000#32 = ((1 : ℕ) : EReal) := by
  simp [Ideal.ofBits, Ideal.ieee]; rw [← EReal.coe_mul]; norm_num
theorem ofBits_two : Ideal.ofBits .f32 0x40000000#32 = ((2 : ℕ) : EReal) := by
  simp [Ideal.ofBits, Ideal.ieee]; rw [← EReal.coe_mul]; norm_num; rfl
theorem ofBits_bot : Ideal.ofBits .f32 0xFF800000#32 = ⊥ := by simp [Ideal.ofBits, Ideal.ieee]

/-- The mark of a largest magnitude of a row. -/
theorem hot_row {n : ℕ} (x : FVec Ideal ⟨2, ![n, 64]⟩ .f32) (hr : Shape.Reduces ⟨2, ![n, 64]⟩ [1] ⟨1, ![n]⟩)
    (hφ : FKind.Formats .f32) (hacc) (hs : Shape.ShapeCasts ⟨1, ![n]⟩ ⟨2, ![n, 1]⟩) (hb : Shape.Broadcasts ⟨2, ![n, 1]⟩ ⟨2, ![n, 64]⟩)
    (hw : 1 < 32) (r : Fin n) (e : Fin 64) :
    sitofp (F := Ideal) .f32 (extui 32 (cmpf .oeq (absf x) (broadcastTo ⟨2, ![n, 64]⟩ (shapeCast ⟨2, ![n, 1]⟩
      (multiReduction .maximumf [1] ⟨1, ![n]⟩ (absf x) 0xFF800000#32 hr hφ hacc) hs) hb)) hw) (ix2 r e)
      = flag (AtMax (fun j => mag (x (ix2 r j))) e) := by
  have hbc : ∀ y : FVec Ideal ⟨2, ![n, 1]⟩ .f32, broadcastTo ⟨2, ![n, 64]⟩ y hb (ix2 r e) = y (ix2 r 0) := by
    intro y
    unfold broadcastTo
    congr 1
    funext a
    apply Fin.ext
    match a with
    | ⟨0, _⟩ =>
      have := r.isLt
      by_cases h1 : n = 1
      · subst h1; simp
      · simp [h1]
    | ⟨1, _⟩ => simp
  have hmax : broadcastTo ⟨2, ![n, 64]⟩ (shapeCast ⟨2, ![n, 1]⟩ (multiReduction .maximumf [1] ⟨1, ![n]⟩ (absf x) 0xFF800000#32 hr hφ hacc) hs) hb (ix2 r e)
      = (Finset.univ : Finset (Fin 64)).fold max ⊥ (fun j => mag (x (ix2 r j))) := by
    rw [hbc, shapeCast_a_a1_apply, Ideal.multiReduction_maximumf_single]
    have hbot : FloatOps.ofBits (F := Ideal) .f32 0xFF800000#32 = (⊥ : EReal) := ofBits_bot
    rw [hbot]
    refine congrArg (Finset.fold max ⊥ · Finset.univ) (funext fun j => ?_)
    show mag (x (hr.lift (ix1 r) j)) = _
    congr 2
    funext a
    apply Fin.ext
    match a with
    | ⟨0, _⟩ => rfl
    | ⟨1, _⟩ => rfl
  show Scalar.sitofp (F := Ideal) .f32 ((BitVec.ofBool (decide (mag (x (ix2 r e)) = _))).setWidth 32) = _
  rw [bit_flag, hmax]
  exact flag_congr (eq_fold_max_iff (fun j => mag (x (ix2 r j))) e)

/-- The triangle: one on and above the diagonal. -/
theorem tri_apply (h0 h1) (hw : 1 < 32) (i j : Fin 64) :
    sitofp (F := Ideal) .f32 (extui 32 (cmpi .sle (iota .tc ⟨2, ![64, 64]⟩ 32 [0] h0) (iota .tc ⟨2, ![64, 64]⟩ 32 [1] h1)) hw) (ix2 i j)
      = flag (i ≤ j) := by
  have h : IntOp.cmpi .sle (BitVec.ofNat 32 (0 * 64 + i.val)) (BitVec.ofNat 32 (0 * 64 + j.val)) = BitVec.ofBool (decide (i ≤ j)) := by
    have hi := i.isLt
    have hj := j.isLt
    show BitVec.ofBool (BitVec.sle _ _) = _
    congr 1
    rw [BitVec.sle_eq_decide]
    refine decide_eq_decide.2 ?_
    rw [BitVec.toInt_eq_toNat_of_lt (by simp; omega), BitVec.toInt_eq_toNat_of_lt (by simp; omega)]
    simp only [BitVec.toNat_ofNat, zero_mul, zero_add, Nat.cast_le, Fin.le_def]
    omega
  show Scalar.sitofp (F := Ideal) .f32 ((IntOp.cmpi .sle (BitVec.ofNat 32 (0 * 64 + i.val)) (BitVec.ofNat 32 (0 * 64 + j.val))).setWidth 32) = _
  rw [h, bit_flag]

/-- The marks of a row against the triangle: how many there are up to an entry. -/
theorem count_row {n : ℕ} (H : FVec Ideal ⟨2, ![n, 64]⟩ .f32) (T : FVec Ideal ⟨2, ![64, 64]⟩ .f32) (p) (r : Fin n) (f : Fin 64 → EReal)
    (hH : ∀ e, H (ix2 r e) = flag (AtMax f e)) (hT : ∀ i j, T (ix2 i j) = flag (i ≤ j)) (e : Fin 64) :
    matmul (DotDims.plain n 64 64) p H T (constant ⟨2, ![n, 64]⟩ .f32 0x00000000#32) (ix2 r e) = ((rank f e : ℕ) : EReal) := by
  rw [show matmul (DotDims.plain n 64 64) p H T (constant ⟨2, ![n, 64]⟩ .f32 0x00000000#32) (ix2 r e) = _ from Ideal.matmul_plain_apply _ _ _ _ _ _]
  rw [show (constant (F := Ideal) ⟨2, ![n, 64]⟩ .f32 0x00000000#32) (ix2 r e) = (0 : EReal) from Ideal.ofBits_zero_f32, zero_add]
  unfold rank
  refine Eq.trans (Finset.sum_congr rfl fun j _ => ?_) ((sum_flag fun j => AtMax f j ∧ j ≤ e).trans (by congr))
  rw [hH, hT, flag_mul]

/-- The mark of the largest magnitude whose count is `k`. -/
theorem nth_row {n : ℕ} (H C : FVec Ideal ⟨2, ![n, 64]⟩ .f32) (b : BitVec 32) (k : ℕ) (hb : Ideal.ofBits .f32 b = ((k : ℕ) : EReal))
    (r : Fin n) (f : Fin 64 → EReal) (hw : 1 < 32)
    (hH : ∀ e, H (ix2 r e) = flag (AtMax f e)) (hC : ∀ e, C (ix2 r e) = ((rank f e : ℕ) : EReal)) (e : Fin 64) :
    mulf (F := Ideal) H (sitofp (F := Ideal) .f32 (extui 32 (cmpf .oeq C (broadcast ⟨2, ![n, 64]⟩ (Scalar.ofBits (F := Ideal) .f32 b))) hw)) (ix2 r e)
      = flag (Nth f k e) := by
  have h : sitofp (F := Ideal) .f32 (extui 32 (cmpf .oeq C (broadcast ⟨2, ![n, 64]⟩ (Scalar.ofBits (F := Ideal) .f32 b))) hw) (ix2 r e)
      = flag (rank f e = k) := by
    show Scalar.sitofp (F := Ideal) .f32 ((BitVec.ofBool (decide (C (ix2 r e) = Ideal.ofBits .f32 b))).setWidth 32) = _
    rw [bit_flag, hC, hb]
    exact flag_congr (by norm_cast)
  show H (ix2 r e) * _ = _
  rw [h, hH, flag_mul]
  rfl

end Cert.Proof

end
-- ==== Proof.AssignValue.lean ====
module

public import proofs.«01_k».proof.Proof.Marks
public import proofs.«01_k».proof.Proof.AssignRun

/-! What the assignment body computes over the extended reals: for each key the place of its first largest magnitude. -/

@[expose] public section

set_option maxRecDepth 16384

noncomputable section

namespace Cert.Proof.KernelIdeal

open Cert.KernelIdeal Cert.KernelIdeal.Gen
open Idealize.ShloMosaic Idealize.ShloMosaic.ValueIdx
open scoped Classical

/-- A small natural number, taken as an extended real, rounds to itself as a word. -/
theorem fptosi_nat (n : ℕ) (h : n < 64) : Ideal.fptosi 32 (((n : ℝ) : EReal)) = BitVec.ofNat 32 n := by
  have h0 : (0 : ℝ) ≤ (n : ℝ) := Nat.cast_nonneg n
  show BitVec.ofInt 32 (max (-((2 ^ (32 - 1) : ℕ) : ℤ)) (min (((2 ^ (32 - 1) : ℕ) : ℤ) - 1)
    (if (0 : ℝ) ≤ (n : ℝ) then ⌊(n : ℝ)⌋ else ⌈(n : ℝ)⌉))) = _
  rw [if_pos h0, Int.floor_natCast]
  have : max (-((2 ^ (32 - 1) : ℕ) : ℤ)) (min (((2 ^ (32 - 1) : ℕ) : ℤ) - 1) (n : ℤ)) = (n : ℤ) := by
    norm_num; omega
  rw [this, BitVec.ofInt_natCast]

/-- The assignment body's slot of a key is the place of its first largest magnitude. -/
theorem assign_value (x : Vec Ideal S1x2048x64 .f32) (s : Fin 2048) :
    (assignBlk x (ix3 0 0 s) : BitVec 32) = BitVec.ofNat 32 (first fun e => mag (x (ix3 0 s e))).val := by
  unfold assignBlk k0_pay1
  refine (shapeCast_ab_1ab_apply _ _ 0 0 s).trans ?_
  show Ideal.fptosi 32 _ = _
  rw [← fptosi_nat _ (first fun e => mag (x (ix3 0 s e))).isLt]
  congr 1
  refine (Ideal.matmul_transposedRhs_apply (M := 1) (K := 64) (N := 2048) _ _ _ _ 0 s).trans ?_
  rw [show (constant (F := Ideal) ⟨2, ![1, 2048]⟩ .f32 0x00000000#32) (ix2 0 s) = (0 : EReal) from Ideal.ofBits_zero_f32, zero_add]
  refine Eq.trans (Finset.sum_congr rfl fun k _ => congrArg₂ (· * ·) (?_ : _ = (((k.val : ℝ)) : EReal))
    (nth_row _ _ _ 1 ofBits_one s (fun e => mag (x (ix3 0 s e))) _ (fun e => ?_) (fun e => ?_) k))
    (sum_mul_flag _ (fun k : Fin 64 => (((k.val : ℝ)) : EReal)) _ (first_iff _))
  · refine (shapeCast_apply _ _ _ (ix2 k 0) (by rw [Shape.rowMajor_val_two, Shape.rowMajor_val_two]; simp)).trans ?_
    show Scalar.sitofp (F := Ideal) .f32 (BitVec.ofNat 32 (0 * 64 + k.val)) = _
    rw [Ideal.scalar_sitofp_def, BitVec.toInt_eq_toNat_of_lt (by have := k.isLt; simp; omega)]
    have := k.isLt
    simp [Nat.mod_eq_of_lt (show k.val < 4294967296 by omega)]
  · refine (hot_row _ _ _ _ _ _ _ s e).trans (flag_congr ?_)
    rw [show (fun j => mag (shapeCast S2048x64 x shapeCasts_S1x2048x64_S2048x64 (ix2 s j))) = fun e => mag (x (ix3 0 s e)) from
      funext fun j => congrArg mag (shapeCast_1ab_ab_apply _ _ s j)]
  · refine count_row _ _ _ s _ (fun e => ?_) (fun i j => tri_apply _ _ _ i j) e
    refine (hot_row _ _ _ _ _ _ _ s e).trans (flag_congr ?_)
    rw [show (fun j => mag (shapeCast S2048x64 x shapeCasts_S1x2048x64_S2048x64 (ix2 s j))) = fun e => mag (x (ix3 0 s e)) from
      funext fun j => congrArg mag (shapeCast_1ab_ab_apply _ _ s j)]

/-- So the slot is below 64. -/
theorem assign_lt (x : Vec Ideal S1x2048x64 .f32) (s : Fin 2048) : (assignBlk x (ix3 0 0 s) : BitVec 32).toNat < 64 := by
  rw [assign_value, BitVec.toNat_ofNat]
  have := (first fun e => mag (x (ix3 0 s e))).isLt
  omega

end Cert.Proof.KernelIdeal

end
-- ==== Proof.KernelFrame.lean ====
module

public import proofs.«01_k».proof.Defs
public import proofs.«01_k».proof.Proof.Arrays
public import proofs.«01_k».proof.Proof.AssignValue

/-! The whole kernel over the extended reals: it runs to the end from every memory, and what it leaves. -/

@[expose] public section

noncomputable section

namespace Cert.Proof.KernelIdeal

open Cert.KernelIdeal Cert.KernelIdeal.Gen
open Idealize.ShloMosaic Idealize.ShloMosaic.TcCoe

/-- Every run of the kernel over the extended reals ends, without a fault, with its arguments as they were, every counter
    at zero, and the result that `kernelOut` names. -/
theorem kernel_value (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v6)
        = kernelOut (m ((c.tc : Thread nD τ).loc main_arg0)) (m ((c.tc : Thread nD τ).loc main_arg1)) (m ((c.tc : Thread nD τ).loc main_arg2)))
      ∧ r.2.sem = fun _ => 0) := by
  refine (θ_run defs _ _).mono (fun r h => ⟨fun c => ?_, h.2⟩) (kernel_run m g (slots_below m assign_lt))
  obtain ⟨h0, h1, h2, h6⟩ := h.1 c
  exact ⟨h0, h1, h2, h6.trans (X5_v6 m c)⟩

/-- Every run of the kernel over the extended reals ends, without a fault, with its arguments as they were. -/
theorem quiescent : Cert.quiescent_KernelIdeal := by
  intro m g _
  refine (θ_run defs _ _).mono (fun r h => ⟨fun c => ?_, h.2⟩) (kernel_value m g)
  obtain ⟨h0, h1, h2, _⟩ := h.1 c
  exact ⟨h0, h1, h2⟩

end Cert.Proof.KernelIdeal

end
-- ==== Proof.RefValue.lean ====
module

public import proofs.«01_k».proof.Defs
public import proofs.«01_k».proof.Proof.Gen.ReferenceIdeal
public import Idealize.ShloMosaic.Lib.Claim
public import Idealize.ShloMosaic.Lib.Quiescent

/-! What the reference computes, stage by stage, as functions of its three arguments over the extended reals, and its
    run: it leaves its arguments alone and its result holds the last stage. -/

@[expose] public section

set_option maxRecDepth 16384

noncomputable section

namespace Cert.Proof.Reference

open Cert.ReferenceIdeal Cert.ReferenceIdeal.Facts₀
open Idealize.ShloMosaic

/-- An argument of the reference, or its result: one batch, 12 heads, 2048 positions, 64 coordinates. -/
abbrev Arr := FVec Ideal S1x12x2048x64 .f32

/-- The absolute values of a row repeated twelve times along its last axis. -/
def tile (x : Arr) : FVec Ideal S1x12x2048x768 .f32 :=
  Host.absf (shapeCast S1x12x2048x768
    (broadcastInDim S1x1x1x12x1x2048x12x64 ![0, 1, 2, 3, 4, 5, 6, 7]
      bcast_S1x1x1x12x1x2048x1x64_S1x1x1x12x1x2048x12x64_0_1_2_3_4_5_6_7
      (shapeCast S1x1x1x12x1x2048x1x64 x shapeCasts_S1x12x2048x64_S1x1x1x12x1x2048x1x64))
    shapeCasts_S1x1x1x12x1x2048x12x64_S1x12x2048x768)

/-- The slot each key is written to: the first index of the largest entry of its repeated row. -/
def slot (k : Arr) : IVec S1x12x2048 32 := fun j =>
  (Host.argReduce reducer_argmax_f32_i32 (tile k) (iotaInDim S1x12x2048x768 32 3) (constant (F := Ideal) S_ .f32 0xFF800000#32)
    (constantI S_ 32 0#32) reducesTo_S1x12x2048x768_S1x12x2048_d3 h_S_ j).2

/-- A negative index counts from the end: `n` is added to it. -/
def wrap (S : Shape) (h : S_.BroadcastsInDim S ![]) (n : BitVec 32) (x : IVec S 32) : IVec S 32 :=
  select (cmpi .slt x (broadcastInDim S ![] h (constantI S_ 32 0#32))) (addi x (broadcastInDim S ![] h (constantI S_ 32 n))) x

/-- The batch number. -/
def batchNo : IVec S1x1x1 32 := broadcastInDim S1x1x1 ![0] bcast_S1_S1x1x1_0 (iotaInDim S1 32 0)

/-- The head number. -/
def headNo : IVec S1x12x1 32 := broadcastInDim S1x12x1 ![1] bcast_S12_S1x12x1_1 (iotaInDim S12 32 0)

/-- The batch, the head and the slot of each position side by side. -/
def addAtOf (b : IVec S1x1x1 32) (h : IVec S1x12x1 32) (s : IVec S1x12x2048 32) : IVec S1x12x2048x3 32 :=
  concatenate S1x12x2048x3 3
    [⟨S1x12x2048x1, broadcastInDim S1x12x2048x1 ![0, 1, 2] bcast_S1x12x2048_S1x12x2048x1_0_1_2
        (broadcastInDim S1x12x2048 ![0, 1, 2] bcast_S1x1x1_S1x12x2048_0_1_2 (wrap S1x1x1 bcast_S_S1x1x1 1#32 b))⟩,
     ⟨S1x12x2048x1, broadcastInDim S1x12x2048x1 ![0, 1, 2] bcast_S1x12x2048_S1x12x2048x1_0_1_2
        (broadcastInDim S1x12x2048 ![0, 1, 2] bcast_S1x12x1_S1x12x2048_0_1_2 (wrap S1x12x1 bcast_S_S1x12x1 12#32 h))⟩,
     ⟨S1x12x2048x1, broadcastInDim S1x12x2048x1 ![0, 1, 2] bcast_S1x12x2048_S1x12x2048x1_0_1_2
        (wrap S1x12x2048 bcast_S_S1x12x2048 768#32 s)⟩]
    concatenates_S1x12x2048x1_S1x12x2048x1_S1x12x2048x1_S1x12x2048x3_d3

/-- Where each key is added: its batch, its head and its slot. -/
def addAt (k : Arr) : IVec S1x12x2048x3 32 := addAtOf batchNo headNo (slot k)

/-- The outer product of each value with its key. -/
def outer (k v : Arr) : FVec Ideal S1x12x2048x64x64 .f32 :=
  mulf (broadcastInDim S1x12x2048x64x64 ![0, 1, 2, 3, 4] bcast_S1x12x2048x64x1_S1x12x2048x64x64_0_1_2_3_4
      (broadcastInDim S1x12x2048x64x1 ![0, 1, 2, 3] bcast_S1x12x2048x64_S1x12x2048x64x1_0_1_2_3 v))
    (broadcastInDim S1x12x2048x64x64 ![0, 1, 2, 3, 4] bcast_S1x12x2048x1x64_S1x12x2048x64x64_0_1_2_3_4
      (broadcastInDim S1x12x2048x1x64 ![0, 1, 2, 4] bcast_S1x12x2048x64_S1x12x2048x1x64_0_1_2_4 k))

/-- The memory: in each slot the sum of the outer products written to it. -/
def memory (k v : Arr) : FVec Ideal S1x12x768x64x64 .f32 :=
  Host.scatterAdd scatter_S1x12x768x64x64_S1x12x2048x3_S1x12x2048x64x64_34_012_012_3
    (broadcastInDim S1x12x768x64x64 ![] bcast_S_S1x12x768x64x64 (constant (F := Ideal) S_ .f32 0x00000000#32)) (addAt k) (outer k v)

/-- The normalizer: in each slot the sum of the keys written to it. -/
def keySum (k : Arr) : FVec Ideal S1x12x768x64 .f32 :=
  Host.scatterAdd scatter_S1x12x768x64_S1x12x2048x3_S1x12x2048x64_3_012_012_3
    (broadcastInDim S1x12x768x64 ![] bcast_S_S1x12x768x64 (constant (F := Ideal) S_ .f32 0x00000000#32)) (addAt k) k

/-- The eight largest scores of a query. -/
def topVal (q : Arr) : FVec Ideal S1x12x2048x8 .f32 :=
  (Host.topK S1x12x2048x8 3 (FloatOps.cmpfTotal .gt) (tile q) sliceFits_S1x12x2048x768_S1x12x2048x8).1

/-- Their slots. -/
def topIdx (q : Arr) : IVec S1x12x2048x8 32 :=
  (Host.topK S1x12x2048x8 3 (FloatOps.cmpfTotal .gt) (tile q) sliceFits_S1x12x2048x768_S1x12x2048x8).2

/-- The exponentials of eight scores less the largest of them. -/
def expoOf (t : FVec Ideal S1x12x2048x8 .f32) : FVec Ideal S1x12x2048x8 .f32 :=
  Host.exp (subf t (broadcastInDim S1x12x2048x8 ![0, 1, 2, 3] bcast_S1x12x2048x1_S1x12x2048x8_0_1_2_3
    (broadcastInDim S1x12x2048x1 ![0, 1, 2] bcast_S1x12x2048_S1x12x2048x1_0_1_2
      (maximumf (broadcastInDim S1x12x2048 ![] bcast_S_S1x12x2048 (constant (F := Ideal) S_ .f32 0xFF800000#32))
        (Host.reduce FloatOps.maximumf t (constant (F := Ideal) S_ .f32 0xFF800000#32) reducesTo_S1x12x2048x8_S1x12x2048_d3 h_S_)))))

/-- The softmax of eight scores. -/
def weightOf (t : FVec Ideal S1x12x2048x8 .f32) : FVec Ideal S1x12x2048x8 .f32 :=
  Host.divf (expoOf t) (broadcastInDim S1x12x2048x8 ![0, 1, 2, 3] bcast_S1x12x2048x1_S1x12x2048x8_0_1_2_3
    (broadcastInDim S1x12x2048x1 ![0, 1, 2] bcast_S1x12x2048_S1x12x2048x1_0_1_2
      (Host.reduceAdd (expoOf t) (constant (F := Ideal) S_ .f32 0x00000000#32) reducesTo_S1x12x2048x8_S1x12x2048_d3 h_S_)))

/-- The weights: the softmax of the eight scores. -/
def weight (q : Arr) : FVec Ideal S1x12x2048x8 .f32 := weightOf (topVal q)

/-- The batch, the head and the eight slots of each position side by side. -/
def readAtOf (b : IVec S1x1x1 32) (h : IVec S1x12x1 32) (t : IVec S1x12x2048x8 32) : IVec S1x12x2048x8x3 32 :=
  concatenate S1x12x2048x8x3 4
    [⟨S1x12x2048x8x1, broadcastInDim S1x12x2048x8x1 ![0, 1, 2, 3] bcast_S1x12x2048x8_S1x12x2048x8x1_0_1_2_3
        (broadcastInDim S1x12x2048x8 ![0, 1, 2, 3] bcast_S1x1x1x1_S1x12x2048x8_0_1_2_3
          (wrap S1x1x1x1 bcast_S_S1x1x1x1 1#32 (broadcastInDim S1x1x1x1 ![0, 1, 2] bcast_S1x1x1_S1x1x1x1_0_1_2 b)))⟩,
     ⟨S1x12x2048x8x1, broadcastInDim S1x12x2048x8x1 ![0, 1, 2, 3] bcast_S1x12x2048x8_S1x12x2048x8x1_0_1_2_3
        (broadcastInDim S1x12x2048x8 ![0, 1, 2, 3] bcast_S1x12x1x1_S1x12x2048x8_0_1_2_3
          (wrap S1x12x1x1 bcast_S_S1x12x1x1 12#32 (broadcastInDim S1x12x1x1 ![0, 1, 2] bcast_S1x12x1_S1x12x1x1_0_1_2 h)))⟩,
     ⟨S1x12x2048x8x1, broadcastInDim S1x12x2048x8x1 ![0, 1, 2, 3] bcast_S1x12x2048x8_S1x12x2048x8x1_0_1_2_3
        (wrap S1x12x2048x8 bcast_S_S1x12x2048x8 768#32 t)⟩]
    concatenates_S1x12x2048x8x1_S1x12x2048x8x1_S1x12x2048x8x1_S1x12x2048x8x3_d4

/-- What each query reads: its batch, its head and its eight slots. -/
def readAt (q : Arr) : IVec S1x12x2048x8x3 32 := readAtOf batchNo headNo (topIdx q)

/-- The memories a query reads. -/
def memRead (q k v : Arr) : FVec Ideal S1x12x2048x8x64x64 .f32 :=
  Host.gather gather_S1x12x768x64x64_S1x12x2048x8x3_S1x12x2048x8x64x64_45_012_n_n_012_4_1116464 (memory k v) (readAt q)

/-- The normalizers a query reads. -/
def keyRead (q k : Arr) : FVec Ideal S1x12x2048x8x64 .f32 :=
  Host.gather gather_S1x12x768x64_S1x12x2048x8x3_S1x12x2048x8x64_4_012_n_n_012_4_11164 (keySum k) (readAt q)

/-- What is retrieved from each of a query's slots: the memory applied to the query over the normalizer times the query
    plus a small number. -/
def retrievedOf (q : Arr) (M : FVec Ideal S1x12x2048x8x64x64 .f32) (z : FVec Ideal S1x12x2048x8x64 .f32) : FVec Ideal S1x12x2048x8x64 .f32 :=
  Host.divf (Host.dotGeneral (φ₁ := .f32) (φ₂ := .f32) dot_S1x12x2048x8x64x64_S1x12x2048x64_S1x12x2048x8x64_5_3_34_n_012_012 none M q)
    (broadcastInDim S1x12x2048x8x64 ![0, 1, 2, 3, 4] bcast_S1x12x2048x8x1_S1x12x2048x8x64_0_1_2_3_4
      (addf (broadcastInDim S1x12x2048x8x1 ![0, 1, 2, 3] bcast_S1x12x2048x8_S1x12x2048x8x1_0_1_2_3
          (Host.dotGeneral (φ₁ := .f32) (φ₂ := .f32) dot_S1x12x2048x8x64_S1x12x2048x64_S1x12x2048x8_4_3_3_n_012_012 none z q))
        (broadcastInDim S1x12x2048x8x1 ![] bcast_S_S1x12x2048x8x1 (constant (F := Ideal) S_ .f32 0x358637BD#32))))

/-- The weighted sum of what is retrieved. -/
def outOf (w : FVec Ideal S1x12x2048x8 .f32) (r : FVec Ideal S1x12x2048x8x64 .f32) : Arr :=
  Host.reduceAdd (mulf (broadcastInDim S1x12x2048x8x64 ![0, 1, 2, 3, 4] bcast_S1x12x2048x8x1_S1x12x2048x8x64_0_1_2_3_4
      (broadcastInDim S1x12x2048x8x1 ![0, 1, 2, 3] bcast_S1x12x2048x8_S1x12x2048x8x1_0_1_2_3 w)) r)
    (constant (F := Ideal) S_ .f32 0x00000000#32) reducesTo_S1x12x2048x8x64_S1x12x2048x64_d3 h_S_

/-- The reference's result. -/
def refOut (q k v : Arr) : Arr := outOf (weight q) (retrievedOf q (memRead q k v) (keyRead q k))

/-- The reference has no semaphore, so all of them read zero. -/
theorem ref_sems (s : MemSt nD τ sig (Elt Ideal)) : s.sem = fun _ => 0 := sem_eq_zero_of_no_sems (by decide) s

/-- The reference runs to the end, without a fault, and leaves its arguments as they were. -/
theorem ref_frame : Cert.quiescent_ReferenceIdeal := by
  intro m g _
  hlo_run
  · exact fun _ => ⟨trivial, trivial, trivial⟩
  · exact ref_sems _

end Cert.Proof.Reference
-- ==== Proof.PreFacts.lean ====
module

public import proofs.«01_k».proof.Defs
public import Idealize.ShloMosaic.Lib.Decide
public import Idealize.ShloMosaic.Lib.Affine

/-! The shapes the precondition's operations take fit together. -/

@[expose] public section

namespace Cert.Proof.Pre

open Cert.Pre_pre Idealize.ShloMosaic

/-- The products' axes pair up. -/
theorem keys_wf : DotDims.WF S1x12x2048x64 S1x12x2048x64 S1x12x64x64 [2] [2] [3] [3] [0, 1] [0, 1] := by decide
theorem queries_wf : DotDims.WF S1x12x2048x64 S1x12x64x64 S1x12x2048x64 [3] [3] [2] [2] [0, 1] [0, 1] := by decide

/-- The side conditions of the precondition. -/
instance facts : Cert.Pre_pre.Facts where
  reducesTo_S1x12x2048x64_S1x12x2048_d3 := by decide
  h_S_ := by decide
  bcast_S1x12x2048_S1x12x2048x1_0_1_2 := by decide
  bcast_S1x12x2048x1_S1x12x2048x64_0_1_2_3 := by decide
  bcast_S1x1x1x64_S1x12x2048x64_0_1_2_3 := by decide
  bcast_S_S1x12x2048x64 := by decide
  reducesTo_S1x12x2048x64_S_d0_1_2_3 := by decide
  natLt_1_32 := by decide
  bcast_S_S1x12x2048 := by decide
  reducesTo_S1x12x2048_S_d0_1_2 := by decide
  dot_S1x12x2048x64_S1x12x2048x64_S1x12x64x64_2_2_3_3_01_01_wf := keys_wf
  dot_S1x12x2048x64_S1x12x64x64_S1x12x2048x64_3_3_2_2_01_01_wf := queries_wf

end Cert.Proof.Pre
-- ==== Proof.RefRun.lean ====
module

public import proofs.«01_k».proof.Proof.RefValue
public import Idealize.ShloMosaic.Lib.StableHlo.RunRead

/-! The reference's run: its operations in eleven stretches, what each stretch leaves in the buffers that later ones read,
    and the result of the whole. -/

@[expose] public section

set_option maxRecDepth 16384

noncomputable section

namespace Cert.Proof.Reference

open Cert.ReferenceIdeal Cert.ReferenceIdeal.Facts₀
open Idealize.ShloMosaic Idealize.ShloMosaic.StableHlo

/-- What one device's buffers hold. -/
abbrev Val := Valuation τ sig (Elt Ideal)

/-- The contents of a buffer. -/
abbrev at_ (V : Val) (b : Ref sig .tc) := V (Proc.devRef .tc b)

section

variable {F : FTy → Type} [FloatOps F] [Cert.ReferenceIdeal.Facts]

/-- Operations 0 to 8 of the reference. -/
def opsSlot : List (HloOp τ sig (Elt F)) :=
  [reshape main_arg1 main_v0 (rfl : (.f32 : EltTy) = .f32) shapeCasts_S1x12x2048x64_S1x1x1x12x1x2048x1x64,
   unary main_v0 main_v1 (broadcastInDim S1x1x1x12x1x2048x12x64 ![0, 1, 2, 3, 4, 5, 6, 7] bcast_S1x1x1x12x1x2048x1x64_S1x1x1x12x1x2048x12x64_0_1_2_3_4_5_6_7 : (⟨S1x1x1x12x1x2048x1x64, .f32⟩ : BufTy).Contents (Elt F) → (⟨S1x1x1x12x1x2048x12x64, .f32⟩ : BufTy).Contents (Elt F)),
   reshape main_v1 main_v2 (rfl : (.f32 : EltTy) = .f32) shapeCasts_S1x1x1x12x1x2048x12x64_S1x12x2048x768,
   unary main_v2 main_v3 (Host.absf : (⟨S1x12x2048x768, .f32⟩ : BufTy).Contents (Elt F) → (⟨S1x12x2048x768, .f32⟩ : BufTy).Contents (Elt F)),
   (main_call0.v0).nullary (iotaInDim S1x12x2048x768 32 3),
   (main_call0.cst).nullary (constant S_ .f32 0xFF800000#32),
   (main_call0.c).nullary (constantI S_ 32 0#32),
   (TRef.of main_v3 : TRef sig ⟨S1x12x2048x768, .f32⟩).quaternary main_call0.v0 main_call0.cst main_call0.c main_call0.v1_0 (fun x y u v j => (Host.argReduce reducer_argmax_f32_i32 x y u v reducesTo_S1x12x2048x768_S1x12x2048_d3 h_S_ j).1),
   (TRef.of main_v3 : TRef sig ⟨S1x12x2048x768, .f32⟩).quaternary main_call0.v0 main_call0.cst main_call0.c main_call0.v1_1 (fun x y u v j => (Host.argReduce reducer_argmax_f32_i32 x y u v reducesTo_S1x12x2048x768_S1x12x2048_d3 h_S_ j).2)]

/-- Operations 9 to 19 of the reference. -/
def opsOuter : List (HloOp τ sig (Elt F)) :=
  [unary main_arg2 main_v5 (broadcastInDim S1x12x2048x64x1 ![0, 1, 2, 3] bcast_S1x12x2048x64_S1x12x2048x64x1_0_1_2_3 : (⟨S1x12x2048x64, .f32⟩ : BufTy).Contents (Elt F) → (⟨S1x12x2048x64x1, .f32⟩ : BufTy).Contents (Elt F)),
   unary main_arg1 main_v6 (broadcastInDim S1x12x2048x1x64 ![0, 1, 2, 4] bcast_S1x12x2048x64_S1x12x2048x1x64_0_1_2_4 : (⟨S1x12x2048x64, .f32⟩ : BufTy).Contents (Elt F) → (⟨S1x12x2048x1x64, .f32⟩ : BufTy).Contents (Elt F)),
   unary main_v5 main_v7 (broadcastInDim S1x12x2048x64x64 ![0, 1, 2, 3, 4] bcast_S1x12x2048x64x1_S1x12x2048x64x64_0_1_2_3_4 : (⟨S1x12x2048x64x1, .f32⟩ : BufTy).Contents (Elt F) → (⟨S1x12x2048x64x64, .f32⟩ : BufTy).Contents (Elt F)),
   unary main_v6 main_v8 (broadcastInDim S1x12x2048x64x64 ![0, 1, 2, 3, 4] bcast_S1x12x2048x1x64_S1x12x2048x64x64_0_1_2_3_4 : (⟨S1x12x2048x1x64, .f32⟩ : BufTy).Contents (Elt F) → (⟨S1x12x2048x64x64, .f32⟩ : BufTy).Contents (Elt F)),
   binary main_v7 main_v8 main_v9 (mulf : (⟨S1x12x2048x64x64, .f32⟩ : BufTy).Contents (Elt F) → (⟨S1x12x2048x64x64, .f32⟩ : BufTy).Contents (Elt F) → (⟨S1x12x2048x64x64, .f32⟩ : BufTy).Contents (Elt F)),
   nullary main_v10 (iotaInDim S1 32 0),
   unary main_v10 main_v11 (broadcastInDim S1x1x1 ![0] bcast_S1_S1x1x1_0 : (⟨S1, .i32⟩ : BufTy).Contents (Elt F) → (⟨S1x1x1, .i32⟩ : BufTy).Contents (Elt F)),
   nullary main_v12 (iotaInDim S12 32 0),
   unary main_v12 main_v13 (broadcastInDim S1x12x1 ![1] bcast_S12_S1x12x1_1 : (⟨S12, .i32⟩ : BufTy).Contents (Elt F) → (⟨S1x12x1, .i32⟩ : BufTy).Contents (Elt F)),
   nullary main_cst (constant S_ .f32 0x00000000#32),
   unary main_cst main_v14 (broadcastInDim S1x12x768x64x64 ![] bcast_S_S1x12x768x64x64 : (⟨S_, .f32⟩ : BufTy).Contents (Elt F) → (⟨S1x12x768x64x64, .f32⟩ : BufTy).Contents (Elt F))]

/-- Operations 20 to 46 of the reference. -/
def opsAddA : List (HloOp τ sig (Elt F)) :=
  [nullary main_c (constantI S_ 32 0#32),
   unary main_c main_v15 (broadcastInDim S1x1x1 ![] bcast_S_S1x1x1 : (⟨S_, .i32⟩ : BufTy).Contents (Elt F) → (⟨S1x1x1, .i32⟩ : BufTy).Contents (Elt F)),
   binary main_v11 main_v15 main_v16 (cmpi .slt : (⟨S1x1x1, .i32⟩ : BufTy).Contents (Elt F) → (⟨S1x1x1, .i32⟩ : BufTy).Contents (Elt F) → (⟨S1x1x1, .i1⟩ : BufTy).Contents (Elt F)),
   nullary main_c_0 (constantI S_ 32 1#32),
   unary main_c_0 main_v17 (broadcastInDim S1x1x1 ![] bcast_S_S1x1x1 : (⟨S_, .i32⟩ : BufTy).Contents (Elt F) → (⟨S1x1x1, .i32⟩ : BufTy).Contents (Elt F)),
   binary main_v11 main_v17 main_v18 (addi : (⟨S1x1x1, .i32⟩ : BufTy).Contents (Elt F) → (⟨S1x1x1, .i32⟩ : BufTy).Contents (Elt F) → (⟨S1x1x1, .i32⟩ : BufTy).Contents (Elt F)),
   ternary main_v16 main_v18 main_v11 main_v19 (select : (⟨S1x1x1, .i1⟩ : BufTy).Contents (Elt F) → (⟨S1x1x1, .i32⟩ : BufTy).Contents (Elt F) → (⟨S1x1x1, .i32⟩ : BufTy).Contents (Elt F) → (⟨S1x1x1, .i32⟩ : BufTy).Contents (Elt F)),
   nullary main_c_1 (constantI S_ 32 0#32),
   unary main_c_1 main_v20 (broadcastInDim S1x12x1 ![] bcast_S_S1x12x1 : (⟨S_, .i32⟩ : BufTy).Contents (Elt F) → (⟨S1x12x1, .i32⟩ : BufTy).Contents (Elt F)),
   binary main_v13 main_v20 main_v21 (cmpi .slt : (⟨S1x12x1, .i32⟩ : BufTy).Contents (Elt F) → (⟨S1x12x1, .i32⟩ : BufTy).Contents (Elt F) → (⟨S1x12x1, .i1⟩ : BufTy).Contents (Elt F)),
   nullary main_c_2 (constantI S_ 32 12#32),
   unary main_c_2 main_v22 (broadcastInDim S1x12x1 ![] bcast_S_S1x12x1 : (⟨S_, .i32⟩ : BufTy).Contents (Elt F) → (⟨S1x12x1, .i32⟩ : BufTy).Contents (Elt F)),
   binary main_v13 main_v22 main_v23 (addi : (⟨S1x12x1, .i32⟩ : BufTy).Contents (Elt F) → (⟨S1x12x1, .i32⟩ : BufTy).Contents (Elt F) → (⟨S1x12x1, .i32⟩ : BufTy).Contents (Elt F)),
   ternary main_v21 main_v23 main_v13 main_v24 (select : (⟨S1x12x1, .i1⟩ : BufTy).Contents (Elt F) → (⟨S1x12x1, .i32⟩ : BufTy).Contents (Elt F) → (⟨S1x12x1, .i32⟩ : BufTy).Contents (Elt F) → (⟨S1x12x1, .i32⟩ : BufTy).Contents (Elt F)),
   nullary main_c_3 (constantI S_ 32 0#32),
   unary main_c_3 main_v25 (broadcastInDim S1x12x2048 ![] bcast_S_S1x12x2048 : (⟨S_, .i32⟩ : BufTy).Contents (Elt F) → (⟨S1x12x2048, .i32⟩ : BufTy).Contents (Elt F)),
   binary main_v4 main_v25 main_v26 (cmpi .slt : (⟨S1x12x2048, .i32⟩ : BufTy).Contents (Elt F) → (⟨S1x12x2048, .i32⟩ : BufTy).Contents (Elt F) → (⟨S1x12x2048, .i1⟩ : BufTy).Contents (Elt F)),
   nullary main_c_4 (constantI S_ 32 768#32),
   unary main_c_4 main_v27 (broadcastInDim S1x12x2048 ![] bcast_S_S1x12x2048 : (⟨S_, .i32⟩ : BufTy).Contents (Elt F) → (⟨S1x12x2048, .i32⟩ : BufTy).Contents (Elt F)),
   binary main_v4 main_v27 main_v28 (addi : (⟨S1x12x2048, .i32⟩ : BufTy).Contents (Elt F) → (⟨S1x12x2048, .i32⟩ : BufTy).Contents (Elt F) → (⟨S1x12x2048, .i32⟩ : BufTy).Contents (Elt F)),
   ternary main_v26 main_v28 main_v4 main_v29 (select : (⟨S1x12x2048, .i1⟩ : BufTy).Contents (Elt F) → (⟨S1x12x2048, .i32⟩ : BufTy).Contents (Elt F) → (⟨S1x12x2048, .i32⟩ : BufTy).Contents (Elt F) → (⟨S1x12x2048, .i32⟩ : BufTy).Contents (Elt F)),
   unary main_v19 main_v30 (broadcastInDim S1x12x2048 ![0, 1, 2] bcast_S1x1x1_S1x12x2048_0_1_2 : (⟨S1x1x1, .i32⟩ : BufTy).Contents (Elt F) → (⟨S1x12x2048, .i32⟩ : BufTy).Contents (Elt F)),
   unary main_v24 main_v31 (broadcastInDim S1x12x2048 ![0, 1, 2] bcast_S1x12x1_S1x12x2048_0_1_2 : (⟨S1x12x1, .i32⟩ : BufTy).Contents (Elt F) → (⟨S1x12x2048, .i32⟩ : BufTy).Contents (Elt F)),
   unary main_v30 main_v32 (broadcastInDim S1x12x2048x1 ![0, 1, 2] bcast_S1x12x2048_S1x12x2048x1_0_1_2 : (⟨S1x12x2048, .i32⟩ : BufTy).Contents (Elt F) → (⟨S1x12x2048x1, .i32⟩ : BufTy).Contents (Elt F)),
   unary main_v31 main_v33 (broadcastInDim S1x12x2048x1 ![0, 1, 2] bcast_S1x12x2048_S1x12x2048x1_0_1_2 : (⟨S1x12x2048, .i32⟩ : BufTy).Contents (Elt F) → (⟨S1x12x2048x1, .i32⟩ : BufTy).Contents (Elt F)),
   unary main_v29 main_v34 (broadcastInDim S1x12x2048x1 ![0, 1, 2] bcast_S1x12x2048_S1x12x2048x1_0_1_2 : (⟨S1x12x2048, .i32⟩ : BufTy).Contents (Elt F) → (⟨S1x12x2048x1, .i32⟩ : BufTy).Contents (Elt F)),
   nary ![main_v32, main_v33, main_v34] main_v35 (fun u => (concatenate S1x12x2048x3 3 [⟨S1x12x2048x1, (u 0 : (⟨S1x12x2048x1, .i32⟩ : BufTy).Contents (Elt F))⟩, ⟨S1x12x2048x1, (u 1 : (⟨S1x12x2048x1, .i32⟩ : BufTy).Contents (Elt F))⟩, ⟨S1x12x2048x1, (u 2 : (⟨S1x12x2048x1, .i32⟩ : BufTy).Contents (Elt F))⟩] concatenates_S1x12x2048x1_S1x12x2048x1_S1x12x2048x1_S1x12x2048x3_d3 : (⟨S1x12x2048x3, .i32⟩ : BufTy).Contents (Elt F)))]

/-- Operations 47 to 47 of the reference. -/
def opsMem : List (HloOp τ sig (Elt F)) :=
  [ternary main_v14 main_v35 main_v9 main_v36 ((fun x i u => Host.scatterAdd scatter_S1x12x768x64x64_S1x12x2048x3_S1x12x2048x64x64_34_012_012_3 x i u) : (⟨S1x12x768x64x64, .f32⟩ : BufTy).Contents (Elt F) → (⟨S1x12x2048x3, .i32⟩ : BufTy).Contents (Elt F) → (⟨S1x12x2048x64x64, .f32⟩ : BufTy).Contents (Elt F) → (⟨S1x12x768x64x64, .f32⟩ : BufTy).Contents (Elt F))]

/-- Operations 48 to 76 of the reference. -/
def opsAddB : List (HloOp τ sig (Elt F)) :=
  [nullary main_cst_5 (constant S_ .f32 0x00000000#32),
   unary main_cst_5 main_v37 (broadcastInDim S1x12x768x64 ![] bcast_S_S1x12x768x64 : (⟨S_, .f32⟩ : BufTy).Contents (Elt F) → (⟨S1x12x768x64, .f32⟩ : BufTy).Contents (Elt F)),
   nullary main_c_6 (constantI S_ 32 0#32),
   unary main_c_6 main_v38 (broadcastInDim S1x1x1 ![] bcast_S_S1x1x1 : (⟨S_, .i32⟩ : BufTy).Contents (Elt F) → (⟨S1x1x1, .i32⟩ : BufTy).Contents (Elt F)),
   binary main_v11 main_v38 main_v39 (cmpi .slt : (⟨S1x1x1, .i32⟩ : BufTy).Contents (Elt F) → (⟨S1x1x1, .i32⟩ : BufTy).Contents (Elt F) → (⟨S1x1x1, .i1⟩ : BufTy).Contents (Elt F)),
   nullary main_c_7 (constantI S_ 32 1#32),
   unary main_c_7 main_v40 (broadcastInDim S1x1x1 ![] bcast_S_S1x1x1 : (⟨S_, .i32⟩ : BufTy).Contents (Elt F) → (⟨S1x1x1, .i32⟩ : BufTy).Contents (Elt F)),
   binary main_v11 main_v40 main_v41 (addi : (⟨S1x1x1, .i32⟩ : BufTy).Contents (Elt F) → (⟨S1x1x1, .i32⟩ : BufTy).Contents (Elt F) → (⟨S1x1x1, .i32⟩ : BufTy).Contents (Elt F)),
   ternary main_v39 main_v41 main_v11 main_v42 (select : (⟨S1x1x1, .i1⟩ : BufTy).Contents (Elt F) → (⟨S1x1x1, .i32⟩ : BufTy).Contents (Elt F) → (⟨S1x1x1, .i32⟩ : BufTy).Contents (Elt F) → (⟨S1x1x1, .i32⟩ : BufTy).Contents (Elt F)),
   nullary main_c_8 (constantI S_ 32 0#32),
   unary main_c_8 main_v43 (broadcastInDim S1x12x1 ![] bcast_S_S1x12x1 : (⟨S_, .i32⟩ : BufTy).Contents (Elt F) → (⟨S1x12x1, .i32⟩ : BufTy).Contents (Elt F)),
   binary main_v13 main_v43 main_v44 (cmpi .slt : (⟨S1x12x1, .i32⟩ : BufTy).Contents (Elt F) → (⟨S1x12x1, .i32⟩ : BufTy).Contents (Elt F) → (⟨S1x12x1, .i1⟩ : BufTy).Contents (Elt F)),
   nullary main_c_9 (constantI S_ 32 12#32),
   unary main_c_9 main_v45 (broadcastInDim S1x12x1 ![] bcast_S_S1x12x1 : (⟨S_, .i32⟩ : BufTy).Contents (Elt F) → (⟨S1x12x1, .i32⟩ : BufTy).Contents (Elt F)),
   binary main_v13 main_v45 main_v46 (addi : (⟨S1x12x1, .i32⟩ : BufTy).Contents (Elt F) → (⟨S1x12x1, .i32⟩ : BufTy).Contents (Elt F) → (⟨S1x12x1, .i32⟩ : BufTy).Contents (Elt F)),
   ternary main_v44 main_v46 main_v13 main_v47 (select : (⟨S1x12x1, .i1⟩ : BufTy).Contents (Elt F) → (⟨S1x12x1, .i32⟩ : BufTy).Contents (Elt F) → (⟨S1x12x1, .i32⟩ : BufTy).Contents (Elt F) → (⟨S1x12x1, .i32⟩ : BufTy).Contents (Elt F)),
   nullary main_c_10 (constantI S_ 32 0#32),
   unary main_c_10 main_v48 (broadcastInDim S1x12x2048 ![] bcast_S_S1x12x2048 : (⟨S_, .i32⟩ : BufTy).Contents (Elt F) → (⟨S1x12x2048, .i32⟩ : BufTy).Contents (Elt F)),
   binary main_v4 main_v48 main_v49 (cmpi .slt : (⟨S1x12x2048, .i32⟩ : BufTy).Contents (Elt F) → (⟨S1x12x2048, .i32⟩ : BufTy).Contents (Elt F) → (⟨S1x12x2048, .i1⟩ : BufTy).Contents (Elt F)),
   nullary main_c_11 (constantI S_ 32 768#32),
   unary main_c_11 main_v50 (broadcastInDim S1x12x2048 ![] bcast_S_S1x12x2048 : (⟨S_, .i32⟩ : BufTy).Contents (Elt F) → (⟨S1x12x2048, .i32⟩ : BufTy).Contents (Elt F)),
   binary main_v4 main_v50 main_v51 (addi : (⟨S1x12x2048, .i32⟩ : BufTy).Contents (Elt F) → (⟨S1x12x2048, .i32⟩ : BufTy).Contents (Elt F) → (⟨S1x12x2048, .i32⟩ : BufTy).Contents (Elt F)),
   ternary main_v49 main_v51 main_v4 main_v52 (select : (⟨S1x12x2048, .i1⟩ : BufTy).Contents (Elt F) → (⟨S1x12x2048, .i32⟩ : BufTy).Contents (Elt F) → (⟨S1x12x2048, .i32⟩ : BufTy).Contents (Elt F) → (⟨S1x12x2048, .i32⟩ : BufTy).Contents (Elt F)),
   unary main_v42 main_v53 (broadcastInDim S1x12x2048 ![0, 1, 2] bcast_S1x1x1_S1x12x2048_0_1_2 : (⟨S1x1x1, .i32⟩ : BufTy).Contents (Elt F) → (⟨S1x12x2048, .i32⟩ : BufTy).Contents (Elt F)),
   unary main_v47 main_v54 (broadcastInDim S1x12x2048 ![0, 1, 2] bcast_S1x12x1_S1x12x2048_0_1_2 : (⟨S1x12x1, .i32⟩ : BufTy).Contents (Elt F) → (⟨S1x12x2048, .i32⟩ : BufTy).Contents (Elt F)),
   unary main_v53 main_v55 (broadcastInDim S1x12x2048x1 ![0, 1, 2] bcast_S1x12x2048_S1x12x2048x1_0_1_2 : (⟨S1x12x2048, .i32⟩ : BufTy).Contents (Elt F) → (⟨S1x12x2048x1, .i32⟩ : BufTy).Contents (Elt F)),
   unary main_v54 main_v56 (broadcastInDim S1x12x2048x1 ![0, 1, 2] bcast_S1x12x2048_S1x12x2048x1_0_1_2 : (⟨S1x12x2048, .i32⟩ : BufTy).Contents (Elt F) → (⟨S1x12x2048x1, .i32⟩ : BufTy).Contents (Elt F)),
   unary main_v52 main_v57 (broadcastInDim S1x12x2048x1 ![0, 1, 2] bcast_S1x12x2048_S1x12x2048x1_0_1_2 : (⟨S1x12x2048, .i32⟩ : BufTy).Contents (Elt F) → (⟨S1x12x2048x1, .i32⟩ : BufTy).Contents (Elt F)),
   nary ![main_v55, main_v56, main_v57] main_v58 (fun u => (concatenate S1x12x2048x3 3 [⟨S1x12x2048x1, (u 0 : (⟨S1x12x2048x1, .i32⟩ : BufTy).Contents (Elt F))⟩, ⟨S1x12x2048x1, (u 1 : (⟨S1x12x2048x1, .i32⟩ : BufTy).Contents (Elt F))⟩, ⟨S1x12x2048x1, (u 2 : (⟨S1x12x2048x1, .i32⟩ : BufTy).Contents (Elt F))⟩] concatenates_S1x12x2048x1_S1x12x2048x1_S1x12x2048x1_S1x12x2048x3_d3 : (⟨S1x12x2048x3, .i32⟩ : BufTy).Contents (Elt F)))]

/-- Operations 77 to 77 of the reference. -/
def opsSum : List (HloOp τ sig (Elt F)) :=
  [ternary main_v37 main_v58 main_arg1 main_v59 ((fun x i u => Host.scatterAdd scatter_S1x12x768x64_S1x12x2048x3_S1x12x2048x64_3_012_012_3 x i u) : (⟨S1x12x768x64, .f32⟩ : BufTy).Contents (Elt F) → (⟨S1x12x2048x3, .i32⟩ : BufTy).Contents (Elt F) → (⟨S1x12x2048x64, .f32⟩ : BufTy).Contents (Elt F) → (⟨S1x12x768x64, .f32⟩ : BufTy).Contents (Elt F))]

/-- Operations 78 to 97 of the reference. -/
def opsTop : List (HloOp τ sig (Elt F)) :=
  [reshape main_arg0 main_v60 (rfl : (.f32 : EltTy) = .f32) shapeCasts_S1x12x2048x64_S1x1x1x12x1x2048x1x64,
   unary main_v60 main_v61 (broadcastInDim S1x1x1x12x1x2048x12x64 ![0, 1, 2, 3, 4, 5, 6, 7] bcast_S1x1x1x12x1x2048x1x64_S1x1x1x12x1x2048x12x64_0_1_2_3_4_5_6_7 : (⟨S1x1x1x12x1x2048x1x64, .f32⟩ : BufTy).Contents (Elt F) → (⟨S1x1x1x12x1x2048x12x64, .f32⟩ : BufTy).Contents (Elt F)),
   reshape main_v61 main_v62 (rfl : (.f32 : EltTy) = .f32) shapeCasts_S1x1x1x12x1x2048x12x64_S1x12x2048x768,
   unary main_v62 main_v63 (Host.absf : (⟨S1x12x2048x768, .f32⟩ : BufTy).Contents (Elt F) → (⟨S1x12x2048x768, .f32⟩ : BufTy).Contents (Elt F)),
   unary main_v63 main_values ((fun x => (Host.topK S1x12x2048x8 3 (FloatOps.cmpfTotal .gt) x sliceFits_S1x12x2048x768_S1x12x2048x8).1) : (⟨S1x12x2048x768, .f32⟩ : BufTy).Contents (Elt F) → (⟨S1x12x2048x8, .f32⟩ : BufTy).Contents (Elt F)),
   unary main_v63 main_indices ((fun x => (Host.topK S1x12x2048x8 3 (FloatOps.cmpfTotal .gt) x sliceFits_S1x12x2048x768_S1x12x2048x8).2) : (⟨S1x12x2048x768, .f32⟩ : BufTy).Contents (Elt F) → (⟨S1x12x2048x8, .i32⟩ : BufTy).Contents (Elt F)),
   nullary main_cst_12 (constant S_ .f32 0xFF800000#32),
   binary main_values main_cst_12 main_v64 ((fun x v => Host.reduce FloatOps.maximumf x v reducesTo_S1x12x2048x8_S1x12x2048_d3 h_S_) : (⟨S1x12x2048x8, .f32⟩ : BufTy).Contents (Elt F) → (⟨S_, .f32⟩ : BufTy).Contents (Elt F) → (⟨S1x12x2048, .f32⟩ : BufTy).Contents (Elt F)),
   nullary main_cst_13 (constant S_ .f32 0xFF800000#32),
   unary main_cst_13 main_v65 (broadcastInDim S1x12x2048 ![] bcast_S_S1x12x2048 : (⟨S_, .f32⟩ : BufTy).Contents (Elt F) → (⟨S1x12x2048, .f32⟩ : BufTy).Contents (Elt F)),
   binary main_v65 main_v64 main_v66 (maximumf : (⟨S1x12x2048, .f32⟩ : BufTy).Contents (Elt F) → (⟨S1x12x2048, .f32⟩ : BufTy).Contents (Elt F) → (⟨S1x12x2048, .f32⟩ : BufTy).Contents (Elt F)),
   unary main_v66 main_v67 (broadcastInDim S1x12x2048x1 ![0, 1, 2] bcast_S1x12x2048_S1x12x2048x1_0_1_2 : (⟨S1x12x2048, .f32⟩ : BufTy).Contents (Elt F) → (⟨S1x12x2048x1, .f32⟩ : BufTy).Contents (Elt F)),
   unary main_v67 main_v68 (broadcastInDim S1x12x2048x8 ![0, 1, 2, 3] bcast_S1x12x2048x1_S1x12x2048x8_0_1_2_3 : (⟨S1x12x2048x1, .f32⟩ : BufTy).Contents (Elt F) → (⟨S1x12x2048x8, .f32⟩ : BufTy).Contents (Elt F)),
   binary main_values main_v68 main_v69 (subf : (⟨S1x12x2048x8, .f32⟩ : BufTy).Contents (Elt F) → (⟨S1x12x2048x8, .f32⟩ : BufTy).Contents (Elt F) → (⟨S1x12x2048x8, .f32⟩ : BufTy).Contents (Elt F)),
   unary main_v69 main_v70 (Host.exp : (⟨S1x12x2048x8, .f32⟩ : BufTy).Contents (Elt F) → (⟨S1x12x2048x8, .f32⟩ : BufTy).Contents (Elt F)),
   nullary main_cst_14 (constant S_ .f32 0x00000000#32),
   binary main_v70 main_cst_14 main_v71 ((fun x v => Host.reduceAdd x v reducesTo_S1x12x2048x8_S1x12x2048_d3 h_S_) : (⟨S1x12x2048x8, .f32⟩ : BufTy).Contents (Elt F) → (⟨S_, .f32⟩ : BufTy).Contents (Elt F) → (⟨S1x12x2048, .f32⟩ : BufTy).Contents (Elt F)),
   unary main_v71 main_v72 (broadcastInDim S1x12x2048x1 ![0, 1, 2] bcast_S1x12x2048_S1x12x2048x1_0_1_2 : (⟨S1x12x2048, .f32⟩ : BufTy).Contents (Elt F) → (⟨S1x12x2048x1, .f32⟩ : BufTy).Contents (Elt F)),
   unary main_v72 main_v73 (broadcastInDim S1x12x2048x8 ![0, 1, 2, 3] bcast_S1x12x2048x1_S1x12x2048x8_0_1_2_3 : (⟨S1x12x2048x1, .f32⟩ : BufTy).Contents (Elt F) → (⟨S1x12x2048x8, .f32⟩ : BufTy).Contents (Elt F)),
   binary main_v70 main_v73 main_v74 (Host.divf : (⟨S1x12x2048x8, .f32⟩ : BufTy).Contents (Elt F) → (⟨S1x12x2048x8, .f32⟩ : BufTy).Contents (Elt F) → (⟨S1x12x2048x8, .f32⟩ : BufTy).Contents (Elt F))]

/-- Operations 98 to 126 of the reference. -/
def opsReadA : List (HloOp τ sig (Elt F)) :=
  [unary main_v11 main_v75 (broadcastInDim S1x1x1x1 ![0, 1, 2] bcast_S1x1x1_S1x1x1x1_0_1_2 : (⟨S1x1x1, .i32⟩ : BufTy).Contents (Elt F) → (⟨S1x1x1x1, .i32⟩ : BufTy).Contents (Elt F)),
   unary main_v13 main_v76 (broadcastInDim S1x12x1x1 ![0, 1, 2] bcast_S1x12x1_S1x12x1x1_0_1_2 : (⟨S1x12x1, .i32⟩ : BufTy).Contents (Elt F) → (⟨S1x12x1x1, .i32⟩ : BufTy).Contents (Elt F)),
   nullary main_c_15 (constantI S_ 32 0#32),
   unary main_c_15 main_v77 (broadcastInDim S1x1x1x1 ![] bcast_S_S1x1x1x1 : (⟨S_, .i32⟩ : BufTy).Contents (Elt F) → (⟨S1x1x1x1, .i32⟩ : BufTy).Contents (Elt F)),
   binary main_v75 main_v77 main_v78 (cmpi .slt : (⟨S1x1x1x1, .i32⟩ : BufTy).Contents (Elt F) → (⟨S1x1x1x1, .i32⟩ : BufTy).Contents (Elt F) → (⟨S1x1x1x1, .i1⟩ : BufTy).Contents (Elt F)),
   nullary main_c_16 (constantI S_ 32 1#32),
   unary main_c_16 main_v79 (broadcastInDim S1x1x1x1 ![] bcast_S_S1x1x1x1 : (⟨S_, .i32⟩ : BufTy).Contents (Elt F) → (⟨S1x1x1x1, .i32⟩ : BufTy).Contents (Elt F)),
   binary main_v75 main_v79 main_v80 (addi : (⟨S1x1x1x1, .i32⟩ : BufTy).Contents (Elt F) → (⟨S1x1x1x1, .i32⟩ : BufTy).Contents (Elt F) → (⟨S1x1x1x1, .i32⟩ : BufTy).Contents (Elt F)),
   ternary main_v78 main_v80 main_v75 main_v81 (select : (⟨S1x1x1x1, .i1⟩ : BufTy).Contents (Elt F) → (⟨S1x1x1x1, .i32⟩ : BufTy).Contents (Elt F) → (⟨S1x1x1x1, .i32⟩ : BufTy).Contents (Elt F) → (⟨S1x1x1x1, .i32⟩ : BufTy).Contents (Elt F)),
   nullary main_c_17 (constantI S_ 32 0#32),
   unary main_c_17 main_v82 (broadcastInDim S1x12x1x1 ![] bcast_S_S1x12x1x1 : (⟨S_, .i32⟩ : BufTy).Contents (Elt F) → (⟨S1x12x1x1, .i32⟩ : BufTy).Contents (Elt F)),
   binary main_v76 main_v82 main_v83 (cmpi .slt : (⟨S1x12x1x1, .i32⟩ : BufTy).Contents (Elt F) → (⟨S1x12x1x1, .i32⟩ : BufTy).Contents (Elt F) → (⟨S1x12x1x1, .i1⟩ : BufTy).Contents (Elt F)),
   nullary main_c_18 (constantI S_ 32 12#32),
   unary main_c_18 main_v84 (broadcastInDim S1x12x1x1 ![] bcast_S_S1x12x1x1 : (⟨S_, .i32⟩ : BufTy).Contents (Elt F) → (⟨S1x12x1x1, .i32⟩ : BufTy).Contents (Elt F)),
   binary main_v76 main_v84 main_v85 (addi : (⟨S1x12x1x1, .i32⟩ : BufTy).Contents (Elt F) → (⟨S1x12x1x1, .i32⟩ : BufTy).Contents (Elt F) → (⟨S1x12x1x1, .i32⟩ : BufTy).Contents (Elt F)),
   ternary main_v83 main_v85 main_v76 main_v86 (select : (⟨S1x12x1x1, .i1⟩ : BufTy).Contents (Elt F) → (⟨S1x12x1x1, .i32⟩ : BufTy).Contents (Elt F) → (⟨S1x12x1x1, .i32⟩ : BufTy).Contents (Elt F) → (⟨S1x12x1x1, .i32⟩ : BufTy).Contents (Elt F)),
   nullary main_c_19 (constantI S_ 32 0#32),
   unary main_c_19 main_v87 (broadcastInDim S1x12x2048x8 ![] bcast_S_S1x12x2048x8 : (⟨S_, .i32⟩ : BufTy).Contents (Elt F) → (⟨S1x12x2048x8, .i32⟩ : BufTy).Contents (Elt F)),
   binary main_indices main_v87 main_v88 (cmpi .slt : (⟨S1x12x2048x8, .i32⟩ : BufTy).Contents (Elt F) → (⟨S1x12x2048x8, .i32⟩ : BufTy).Contents (Elt F) → (⟨S1x12x2048x8, .i1⟩ : BufTy).Contents (Elt F)),
   nullary main_c_20 (constantI S_ 32 768#32),
   unary main_c_20 main_v89 (broadcastInDim S1x12x2048x8 ![] bcast_S_S1x12x2048x8 : (⟨S_, .i32⟩ : BufTy).Contents (Elt F) → (⟨S1x12x2048x8, .i32⟩ : BufTy).Contents (Elt F)),
   binary main_indices main_v89 main_v90 (addi : (⟨S1x12x2048x8, .i32⟩ : BufTy).Contents (Elt F) → (⟨S1x12x2048x8, .i32⟩ : BufTy).Contents (Elt F) → (⟨S1x12x2048x8, .i32⟩ : BufTy).Contents (Elt F)),
   ternary main_v88 main_v90 main_indices main_v91 (select : (⟨S1x12x2048x8, .i1⟩ : BufTy).Contents (Elt F) → (⟨S1x12x2048x8, .i32⟩ : BufTy).Contents (Elt F) → (⟨S1x12x2048x8, .i32⟩ : BufTy).Contents (Elt F) → (⟨S1x12x2048x8, .i32⟩ : BufTy).Contents (Elt F)),
   unary main_v81 main_v92 (broadcastInDim S1x12x2048x8 ![0, 1, 2, 3] bcast_S1x1x1x1_S1x12x2048x8_0_1_2_3 : (⟨S1x1x1x1, .i32⟩ : BufTy).Contents (Elt F) → (⟨S1x12x2048x8, .i32⟩ : BufTy).Contents (Elt F)),
   unary main_v86 main_v93 (broadcastInDim S1x12x2048x8 ![0, 1, 2, 3] bcast_S1x12x1x1_S1x12x2048x8_0_1_2_3 : (⟨S1x12x1x1, .i32⟩ : BufTy).Contents (Elt F) → (⟨S1x12x2048x8, .i32⟩ : BufTy).Contents (Elt F)),
   unary main_v92 main_v94 (broadcastInDim S1x12x2048x8x1 ![0, 1, 2, 3] bcast_S1x12x2048x8_S1x12x2048x8x1_0_1_2_3 : (⟨S1x12x2048x8, .i32⟩ : BufTy).Contents (Elt F) → (⟨S1x12x2048x8x1, .i32⟩ : BufTy).Contents (Elt F)),
   unary main_v93 main_v95 (broadcastInDim S1x12x2048x8x1 ![0, 1, 2, 3] bcast_S1x12x2048x8_S1x12x2048x8x1_0_1_2_3 : (⟨S1x12x2048x8, .i32⟩ : BufTy).Contents (Elt F) → (⟨S1x12x2048x8x1, .i32⟩ : BufTy).Contents (Elt F)),
   unary main_v91 main_v96 (broadcastInDim S1x12x2048x8x1 ![0, 1, 2, 3] bcast_S1x12x2048x8_S1x12x2048x8x1_0_1_2_3 : (⟨S1x12x2048x8, .i32⟩ : BufTy).Contents (Elt F) → (⟨S1x12x2048x8x1, .i32⟩ : BufTy).Contents (Elt F)),
   nary ![main_v94, main_v95, main_v96] main_v97 (fun u => (concatenate S1x12x2048x8x3 4 [⟨S1x12x2048x8x1, (u 0 : (⟨S1x12x2048x8x1, .i32⟩ : BufTy).Contents (Elt F))⟩, ⟨S1x12x2048x8x1, (u 1 : (⟨S1x12x2048x8x1, .i32⟩ : BufTy).Contents (Elt F))⟩, ⟨S1x12x2048x8x1, (u 2 : (⟨S1x12x2048x8x1, .i32⟩ : BufTy).Contents (Elt F))⟩] concatenates_S1x12x2048x8x1_S1x12x2048x8x1_S1x12x2048x8x1_S1x12x2048x8x3_d4 : (⟨S1x12x2048x8x3, .i32⟩ : BufTy).Contents (Elt F)))]

/-- Operations 127 to 127 of the reference. -/
def opsMemRead : List (HloOp τ sig (Elt F)) :=
  [binary main_v36 main_v97 main_v98 ((fun x i => Host.gather gather_S1x12x768x64x64_S1x12x2048x8x3_S1x12x2048x8x64x64_45_012_n_n_012_4_1116464 x i) : (⟨S1x12x768x64x64, .f32⟩ : BufTy).Contents (Elt F) → (⟨S1x12x2048x8x3, .i32⟩ : BufTy).Contents (Elt F) → (⟨S1x12x2048x8x64x64, .f32⟩ : BufTy).Contents (Elt F))]

/-- Operations 128 to 156 of the reference. -/
def opsReadB : List (HloOp τ sig (Elt F)) :=
  [unary main_v11 main_v99 (broadcastInDim S1x1x1x1 ![0, 1, 2] bcast_S1x1x1_S1x1x1x1_0_1_2 : (⟨S1x1x1, .i32⟩ : BufTy).Contents (Elt F) → (⟨S1x1x1x1, .i32⟩ : BufTy).Contents (Elt F)),
   unary main_v13 main_v100 (broadcastInDim S1x12x1x1 ![0, 1, 2] bcast_S1x12x1_S1x12x1x1_0_1_2 : (⟨S1x12x1, .i32⟩ : BufTy).Contents (Elt F) → (⟨S1x12x1x1, .i32⟩ : BufTy).Contents (Elt F)),
   nullary main_c_21 (constantI S_ 32 0#32),
   unary main_c_21 main_v101 (broadcastInDim S1x1x1x1 ![] bcast_S_S1x1x1x1 : (⟨S_, .i32⟩ : BufTy).Contents (Elt F) → (⟨S1x1x1x1, .i32⟩ : BufTy).Contents (Elt F)),
   binary main_v99 main_v101 main_v102 (cmpi .slt : (⟨S1x1x1x1, .i32⟩ : BufTy).Contents (Elt F) → (⟨S1x1x1x1, .i32⟩ : BufTy).Contents (Elt F) → (⟨S1x1x1x1, .i1⟩ : BufTy).Contents (Elt F)),
   nullary main_c_22 (constantI S_ 32 1#32),
   unary main_c_22 main_v103 (broadcastInDim S1x1x1x1 ![] bcast_S_S1x1x1x1 : (⟨S_, .i32⟩ : BufTy).Contents (Elt F) → (⟨S1x1x1x1, .i32⟩ : BufTy).Contents (Elt F)),
   binary main_v99 main_v103 main_v104 (addi : (⟨S1x1x1x1, .i32⟩ : BufTy).Contents (Elt F) → (⟨S1x1x1x1, .i32⟩ : BufTy).Contents (Elt F) → (⟨S1x1x1x1, .i32⟩ : BufTy).Contents (Elt F)),
   ternary main_v102 main_v104 main_v99 main_v105 (select : (⟨S1x1x1x1, .i1⟩ : BufTy).Contents (Elt F) → (⟨S1x1x1x1, .i32⟩ : BufTy).Contents (Elt F) → (⟨S1x1x1x1, .i32⟩ : BufTy).Contents (Elt F) → (⟨S1x1x1x1, .i32⟩ : BufTy).Contents (Elt F)),
   nullary main_c_23 (constantI S_ 32 0#32),
   unary main_c_23 main_v106 (broadcastInDim S1x12x1x1 ![] bcast_S_S1x12x1x1 : (⟨S_, .i32⟩ : BufTy).Contents (Elt F) → (⟨S1x12x1x1, .i32⟩ : BufTy).Contents (Elt F)),
   binary main_v100 main_v106 main_v107 (cmpi .slt : (⟨S1x12x1x1, .i32⟩ : BufTy).Contents (Elt F) → (⟨S1x12x1x1, .i32⟩ : BufTy).Contents (Elt F) → (⟨S1x12x1x1, .i1⟩ : BufTy).Contents (Elt F)),
   nullary main_c_24 (constantI S_ 32 12#32),
   unary main_c_24 main_v108 (broadcastInDim S1x12x1x1 ![] bcast_S_S1x12x1x1 : (⟨S_, .i32⟩ : BufTy).Contents (Elt F) → (⟨S1x12x1x1, .i32⟩ : BufTy).Contents (Elt F)),
   binary main_v100 main_v108 main_v109 (addi : (⟨S1x12x1x1, .i32⟩ : BufTy).Contents (Elt F) → (⟨S1x12x1x1, .i32⟩ : BufTy).Contents (Elt F) → (⟨S1x12x1x1, .i32⟩ : BufTy).Contents (Elt F)),
   ternary main_v107 main_v109 main_v100 main_v110 (select : (⟨S1x12x1x1, .i1⟩ : BufTy).Contents (Elt F) → (⟨S1x12x1x1, .i32⟩ : BufTy).Contents (Elt F) → (⟨S1x12x1x1, .i32⟩ : BufTy).Contents (Elt F) → (⟨S1x12x1x1, .i32⟩ : BufTy).Contents (Elt F)),
   nullary main_c_25 (constantI S_ 32 0#32),
   unary main_c_25 main_v111 (broadcastInDim S1x12x2048x8 ![] bcast_S_S1x12x2048x8 : (⟨S_, .i32⟩ : BufTy).Contents (Elt F) → (⟨S1x12x2048x8, .i32⟩ : BufTy).Contents (Elt F)),
   binary main_indices main_v111 main_v112 (cmpi .slt : (⟨S1x12x2048x8, .i32⟩ : BufTy).Contents (Elt F) → (⟨S1x12x2048x8, .i32⟩ : BufTy).Contents (Elt F) → (⟨S1x12x2048x8, .i1⟩ : BufTy).Contents (Elt F)),
   nullary main_c_26 (constantI S_ 32 768#32),
   unary main_c_26 main_v113 (broadcastInDim S1x12x2048x8 ![] bcast_S_S1x12x2048x8 : (⟨S_, .i32⟩ : BufTy).Contents (Elt F) → (⟨S1x12x2048x8, .i32⟩ : BufTy).Contents (Elt F)),
   binary main_indices main_v113 main_v114 (addi : (⟨S1x12x2048x8, .i32⟩ : BufTy).Contents (Elt F) → (⟨S1x12x2048x8, .i32⟩ : BufTy).Contents (Elt F) → (⟨S1x12x2048x8, .i32⟩ : BufTy).Contents (Elt F)),
   ternary main_v112 main_v114 main_indices main_v115 (select : (⟨S1x12x2048x8, .i1⟩ : BufTy).Contents (Elt F) → (⟨S1x12x2048x8, .i32⟩ : BufTy).Contents (Elt F) → (⟨S1x12x2048x8, .i32⟩ : BufTy).Contents (Elt F) → (⟨S1x12x2048x8, .i32⟩ : BufTy).Contents (Elt F)),
   unary main_v105 main_v116 (broadcastInDim S1x12x2048x8 ![0, 1, 2, 3] bcast_S1x1x1x1_S1x12x2048x8_0_1_2_3 : (⟨S1x1x1x1, .i32⟩ : BufTy).Contents (Elt F) → (⟨S1x12x2048x8, .i32⟩ : BufTy).Contents (Elt F)),
   unary main_v110 main_v117 (broadcastInDim S1x12x2048x8 ![0, 1, 2, 3] bcast_S1x12x1x1_S1x12x2048x8_0_1_2_3 : (⟨S1x12x1x1, .i32⟩ : BufTy).Contents (Elt F) → (⟨S1x12x2048x8, .i32⟩ : BufTy).Contents (Elt F)),
   unary main_v116 main_v118 (broadcastInDim S1x12x2048x8x1 ![0, 1, 2, 3] bcast_S1x12x2048x8_S1x12x2048x8x1_0_1_2_3 : (⟨S1x12x2048x8, .i32⟩ : BufTy).Contents (Elt F) → (⟨S1x12x2048x8x1, .i32⟩ : BufTy).Contents (Elt F)),
   unary main_v117 main_v119 (broadcastInDim S1x12x2048x8x1 ![0, 1, 2, 3] bcast_S1x12x2048x8_S1x12x2048x8x1_0_1_2_3 : (⟨S1x12x2048x8, .i32⟩ : BufTy).Contents (Elt F) → (⟨S1x12x2048x8x1, .i32⟩ : BufTy).Contents (Elt F)),
   unary main_v115 main_v120 (broadcastInDim S1x12x2048x8x1 ![0, 1, 2, 3] bcast_S1x12x2048x8_S1x12x2048x8x1_0_1_2_3 : (⟨S1x12x2048x8, .i32⟩ : BufTy).Contents (Elt F) → (⟨S1x12x2048x8x1, .i32⟩ : BufTy).Contents (Elt F)),
   nary ![main_v118, main_v119, main_v120] main_v121 (fun u => (concatenate S1x12x2048x8x3 4 [⟨S1x12x2048x8x1, (u 0 : (⟨S1x12x2048x8x1, .i32⟩ : BufTy).Contents (Elt F))⟩, ⟨S1x12x2048x8x1, (u 1 : (⟨S1x12x2048x8x1, .i32⟩ : BufTy).Contents (Elt F))⟩, ⟨S1x12x2048x8x1, (u 2 : (⟨S1x12x2048x8x1, .i32⟩ : BufTy).Contents (Elt F))⟩] concatenates_S1x12x2048x8x1_S1x12x2048x8x1_S1x12x2048x8x1_S1x12x2048x8x3_d4 : (⟨S1x12x2048x8x3, .i32⟩ : BufTy).Contents (Elt F)))]

/-- Operations 157 to 170 of the reference. -/
def opsOut : List (HloOp τ sig (Elt F)) :=
  [binary main_v59 main_v121 main_v122 ((fun x i => Host.gather gather_S1x12x768x64_S1x12x2048x8x3_S1x12x2048x8x64_4_012_n_n_012_4_11164 x i) : (⟨S1x12x768x64, .f32⟩ : BufTy).Contents (Elt F) → (⟨S1x12x2048x8x3, .i32⟩ : BufTy).Contents (Elt F) → (⟨S1x12x2048x8x64, .f32⟩ : BufTy).Contents (Elt F)),
   binary main_v98 main_arg0 main_v123 ((fun l r => Host.dotGeneral dot_S1x12x2048x8x64x64_S1x12x2048x64_S1x12x2048x8x64_5_3_34_n_012_012 none l r) : (⟨S1x12x2048x8x64x64, .f32⟩ : BufTy).Contents (Elt F) → (⟨S1x12x2048x64, .f32⟩ : BufTy).Contents (Elt F) → (⟨S1x12x2048x8x64, .f32⟩ : BufTy).Contents (Elt F)),
   binary main_v122 main_arg0 main_v124 ((fun l r => Host.dotGeneral dot_S1x12x2048x8x64_S1x12x2048x64_S1x12x2048x8_4_3_3_n_012_012 none l r) : (⟨S1x12x2048x8x64, .f32⟩ : BufTy).Contents (Elt F) → (⟨S1x12x2048x64, .f32⟩ : BufTy).Contents (Elt F) → (⟨S1x12x2048x8, .f32⟩ : BufTy).Contents (Elt F)),
   unary main_v124 main_v125 (broadcastInDim S1x12x2048x8x1 ![0, 1, 2, 3] bcast_S1x12x2048x8_S1x12x2048x8x1_0_1_2_3 : (⟨S1x12x2048x8, .f32⟩ : BufTy).Contents (Elt F) → (⟨S1x12x2048x8x1, .f32⟩ : BufTy).Contents (Elt F)),
   nullary main_cst_27 (constant S_ .f32 0x358637BD#32),
   unary main_cst_27 main_v126 (broadcastInDim S1x12x2048x8x1 ![] bcast_S_S1x12x2048x8x1 : (⟨S_, .f32⟩ : BufTy).Contents (Elt F) → (⟨S1x12x2048x8x1, .f32⟩ : BufTy).Contents (Elt F)),
   binary main_v125 main_v126 main_v127 (addf : (⟨S1x12x2048x8x1, .f32⟩ : BufTy).Contents (Elt F) → (⟨S1x12x2048x8x1, .f32⟩ : BufTy).Contents (Elt F) → (⟨S1x12x2048x8x1, .f32⟩ : BufTy).Contents (Elt F)),
   unary main_v127 main_v128 (broadcastInDim S1x12x2048x8x64 ![0, 1, 2, 3, 4] bcast_S1x12x2048x8x1_S1x12x2048x8x64_0_1_2_3_4 : (⟨S1x12x2048x8x1, .f32⟩ : BufTy).Contents (Elt F) → (⟨S1x12x2048x8x64, .f32⟩ : BufTy).Contents (Elt F)),
   binary main_v123 main_v128 main_v129 (Host.divf : (⟨S1x12x2048x8x64, .f32⟩ : BufTy).Contents (Elt F) → (⟨S1x12x2048x8x64, .f32⟩ : BufTy).Contents (Elt F) → (⟨S1x12x2048x8x64, .f32⟩ : BufTy).Contents (Elt F)),
   unary main_v74 main_v130 (broadcastInDim S1x12x2048x8x1 ![0, 1, 2, 3] bcast_S1x12x2048x8_S1x12x2048x8x1_0_1_2_3 : (⟨S1x12x2048x8, .f32⟩ : BufTy).Contents (Elt F) → (⟨S1x12x2048x8x1, .f32⟩ : BufTy).Contents (Elt F)),
   unary main_v130 main_v131 (broadcastInDim S1x12x2048x8x64 ![0, 1, 2, 3, 4] bcast_S1x12x2048x8x1_S1x12x2048x8x64_0_1_2_3_4 : (⟨S1x12x2048x8x1, .f32⟩ : BufTy).Contents (Elt F) → (⟨S1x12x2048x8x64, .f32⟩ : BufTy).Contents (Elt F)),
   binary main_v131 main_v129 main_v132 (mulf : (⟨S1x12x2048x8x64, .f32⟩ : BufTy).Contents (Elt F) → (⟨S1x12x2048x8x64, .f32⟩ : BufTy).Contents (Elt F) → (⟨S1x12x2048x8x64, .f32⟩ : BufTy).Contents (Elt F)),
   nullary main_cst_28 (constant S_ .f32 0x00000000#32),
   binary main_v132 main_cst_28 main_v133 ((fun x v => Host.reduceAdd x v reducesTo_S1x12x2048x8x64_S1x12x2048x64_d3 h_S_) : (⟨S1x12x2048x8x64, .f32⟩ : BufTy).Contents (Elt F) → (⟨S_, .f32⟩ : BufTy).Contents (Elt F) → (⟨S1x12x2048x64, .f32⟩ : BufTy).Contents (Elt F))]

end

/-- A buffer that these operations do not write is as it was. -/
theorem keepSlot (V : Val) (r : Ref sig .tc) (hr : r ∉ [main_v0, main_v1, main_v2, main_v3, main_call0_v0, main_call0_cst, main_call0_c, main_call0_v1_0, main_v4]) :
    at_ (after (opsSlot (F := Ideal)) V) r = at_ V r :=
  after_unwritten [main_v0, main_v1, main_v2, main_v3, main_call0_v0, main_call0_cst, main_call0_c, main_call0_v1_0, main_v4] rfl hr V

/-- A buffer that these operations do not write is as it was. -/
theorem keepOuter (V : Val) (r : Ref sig .tc) (hr : r ∉ [main_v5, main_v6, main_v7, main_v8, main_v9, main_v10, main_v11, main_v12, main_v13, main_cst, main_v14]) :
    at_ (after (opsOuter (F := Ideal)) V) r = at_ V r :=
  after_unwritten [main_v5, main_v6, main_v7, main_v8, main_v9, main_v10, main_v11, main_v12, main_v13, main_cst, main_v14] rfl hr V

/-- A buffer that these operations do not write is as it was. -/
theorem keepAddA (V : Val) (r : Ref sig .tc) (hr : r ∉ [main_c, main_v15, main_v16, main_c_0, main_v17, main_v18, main_v19, main_c_1, main_v20, main_v21, main_c_2, main_v22, main_v23, main_v24, main_c_3, main_v25, main_v26, main_c_4, main_v27, main_v28, main_v29, main_v30, main_v31, main_v32, main_v33, main_v34, main_v35]) :
    at_ (after (opsAddA (F := Ideal)) V) r = at_ V r :=
  after_unwritten [main_c, main_v15, main_v16, main_c_0, main_v17, main_v18, main_v19, main_c_1, main_v20, main_v21, main_c_2, main_v22, main_v23, main_v24, main_c_3, main_v25, main_v26, main_c_4, main_v27, main_v28, main_v29, main_v30, main_v31, main_v32, main_v33, main_v34, main_v35] rfl hr V

/-- A buffer that these operations do not write is as it was. -/
theorem keepMem (V : Val) (r : Ref sig .tc) (hr : r ∉ [main_v36]) :
    at_ (after (opsMem (F := Ideal)) V) r = at_ V r :=
  after_unwritten [main_v36] rfl hr V

/-- A buffer that these operations do not write is as it was. -/
theorem keepAddB (V : Val) (r : Ref sig .tc) (hr : r ∉ [main_cst_5, main_v37, main_c_6, main_v38, main_v39, main_c_7, main_v40, main_v41, main_v42, main_c_8, main_v43, main_v44, main_c_9, main_v45, main_v46, main_v47, main_c_10, main_v48, main_v49, main_c_11, main_v50, main_v51, main_v52, main_v53, main_v54, main_v55, main_v56, main_v57, main_v58]) :
    at_ (after (opsAddB (F := Ideal)) V) r = at_ V r :=
  after_unwritten [main_cst_5, main_v37, main_c_6, main_v38, main_v39, main_c_7, main_v40, main_v41, main_v42, main_c_8, main_v43, main_v44, main_c_9, main_v45, main_v46, main_v47, main_c_10, main_v48, main_v49, main_c_11, main_v50, main_v51, main_v52, main_v53, main_v54, main_v55, main_v56, main_v57, main_v58] rfl hr V

/-- A buffer that these operations do not write is as it was. -/
theorem keepSum (V : Val) (r : Ref sig .tc) (hr : r ∉ [main_v59]) :
    at_ (after (opsSum (F := Ideal)) V) r = at_ V r :=
  after_unwritten [main_v59] rfl hr V

/-- A buffer that these operations do not write is as it was. -/
theorem keepTop (V : Val) (r : Ref sig .tc) (hr : r ∉ [main_v60, main_v61, main_v62, main_v63, main_values, main_indices, main_cst_12, main_v64, main_cst_13, main_v65, main_v66, main_v67, main_v68, main_v69, main_v70, main_cst_14, main_v71, main_v72, main_v73, main_v74]) :
    at_ (after (opsTop (F := Ideal)) V) r = at_ V r :=
  after_unwritten [main_v60, main_v61, main_v62, main_v63, main_values, main_indices, main_cst_12, main_v64, main_cst_13, main_v65, main_v66, main_v67, main_v68, main_v69, main_v70, main_cst_14, main_v71, main_v72, main_v73, main_v74] rfl hr V

/-- A buffer that these operations do not write is as it was. -/
theorem keepReadA (V : Val) (r : Ref sig .tc) (hr : r ∉ [main_v75, main_v76, main_c_15, main_v77, main_v78, main_c_16, main_v79, main_v80, main_v81, main_c_17, main_v82, main_v83, main_c_18, main_v84, main_v85, main_v86, main_c_19, main_v87, main_v88, main_c_20, main_v89, main_v90, main_v91, main_v92, main_v93, main_v94, main_v95, main_v96, main_v97]) :
    at_ (after (opsReadA (F := Ideal)) V) r = at_ V r :=
  after_unwritten [main_v75, main_v76, main_c_15, main_v77, main_v78, main_c_16, main_v79, main_v80, main_v81, main_c_17, main_v82, main_v83, main_c_18, main_v84, main_v85, main_v86, main_c_19, main_v87, main_v88, main_c_20, main_v89, main_v90, main_v91, main_v92, main_v93, main_v94, main_v95, main_v96, main_v97] rfl hr V

/-- A buffer that these operations do not write is as it was. -/
theorem keepMemRead (V : Val) (r : Ref sig .tc) (hr : r ∉ [main_v98]) :
    at_ (after (opsMemRead (F := Ideal)) V) r = at_ V r :=
  after_unwritten [main_v98] rfl hr V

/-- A buffer that these operations do not write is as it was. -/
theorem keepReadB (V : Val) (r : Ref sig .tc) (hr : r ∉ [main_v99, main_v100, main_c_21, main_v101, main_v102, main_c_22, main_v103, main_v104, main_v105, main_c_23, main_v106, main_v107, main_c_24, main_v108, main_v109, main_v110, main_c_25, main_v111, main_v112, main_c_26, main_v113, main_v114, main_v115, main_v116, main_v117, main_v118, main_v119, main_v120, main_v121]) :
    at_ (after (opsReadB (F := Ideal)) V) r = at_ V r :=
  after_unwritten [main_v99, main_v100, main_c_21, main_v101, main_v102, main_c_22, main_v103, main_v104, main_v105, main_c_23, main_v106, main_v107, main_c_24, main_v108, main_v109, main_v110, main_c_25, main_v111, main_v112, main_c_26, main_v113, main_v114, main_v115, main_v116, main_v117, main_v118, main_v119, main_v120, main_v121] rfl hr V

/-- A buffer that these operations do not write is as it was. -/
theorem keepOut (V : Val) (r : Ref sig .tc) (hr : r ∉ [main_v122, main_v123, main_v124, main_v125, main_cst_27, main_v126, main_v127, main_v128, main_v129, main_v130, main_v131, main_v132, main_cst_28, main_v133]) :
    at_ (after (opsOut (F := Ideal)) V) r = at_ V r :=
  after_unwritten [main_v122, main_v123, main_v124, main_v125, main_cst_27, main_v126, main_v127, main_v128, main_v129, main_v130, main_v131, main_v132, main_cst_28, main_v133] rfl hr V

/-- What they leave in `main_v4`. -/
theorem valSlot_main_v4 (V : Val) : at_ (after (opsSlot (F := Ideal)) V) main_v4 = slot (at_ V main_arg1) := by
  unfold at_ opsSlot
  after_results
  rfl

/-- What they leave in `main_v9`. -/
theorem valOuter_main_v9 (V : Val) : at_ (after (opsOuter (F := Ideal)) V) main_v9 = outer (at_ V main_arg1) (at_ V main_arg2) := by
  unfold at_ opsOuter
  after_results
  rfl

/-- What they leave in `main_v11`. -/
theorem valOuter_main_v11 (V : Val) : at_ (after (opsOuter (F := Ideal)) V) main_v11 = batchNo := by
  unfold at_ opsOuter
  after_results
  rfl

/-- What they leave in `main_v13`. -/
theorem valOuter_main_v13 (V : Val) : at_ (after (opsOuter (F := Ideal)) V) main_v13 = headNo := by
  unfold at_ opsOuter
  after_results
  rfl

/-- What they leave in `main_v14`. -/
theorem valOuter_main_v14 (V : Val) : at_ (after (opsOuter (F := Ideal)) V) main_v14 = broadcastInDim S1x12x768x64x64 ![] bcast_S_S1x12x768x64x64 (constant (F := Ideal) S_ .f32 0x00000000#32) := by
  unfold at_ opsOuter
  after_results

/-- What they leave in `main_v35`. -/
theorem valAddA_main_v35 (V : Val) : at_ (after (opsAddA (F := Ideal)) V) main_v35 = addAtOf (at_ V main_v11) (at_ V main_v13) (at_ V main_v4) := by
  unfold at_ opsAddA
  after_results
  rfl

/-- What they leave in `main_v36`. -/
theorem valMem_main_v36 (V : Val) : at_ (after (opsMem (F := Ideal)) V) main_v36 = Host.scatterAdd (F := Ideal) (φ := .f32) scatter_S1x12x768x64x64_S1x12x2048x3_S1x12x2048x64x64_34_012_012_3 (at_ V main_v14) (at_ V main_v35) (at_ V main_v9) := by
  unfold at_ opsMem
  after_results

/-- What they leave in `main_v58`. -/
theorem valAddB_main_v58 (V : Val) : at_ (after (opsAddB (F := Ideal)) V) main_v58 = addAtOf (at_ V main_v11) (at_ V main_v13) (at_ V main_v4) := by
  unfold at_ opsAddB
  after_results
  rfl

/-- What they leave in `main_v37`. -/
theorem valAddB_main_v37 (V : Val) : at_ (after (opsAddB (F := Ideal)) V) main_v37 = broadcastInDim S1x12x768x64 ![] bcast_S_S1x12x768x64 (constant (F := Ideal) S_ .f32 0x00000000#32) := by
  unfold at_ opsAddB
  after_results

/-- What they leave in `main_v59`. -/
theorem valSum_main_v59 (V : Val) : at_ (after (opsSum (F := Ideal)) V) main_v59 = Host.scatterAdd (F := Ideal) (φ := .f32) scatter_S1x12x768x64_S1x12x2048x3_S1x12x2048x64_3_012_012_3 (at_ V main_v37) (at_ V main_v58) (at_ V main_arg1) := by
  unfold at_ opsSum
  after_results

/-- What they leave in `main_indices`. -/
theorem valTop_main_indices (V : Val) : at_ (after (opsTop (F := Ideal)) V) main_indices = topIdx (at_ V main_arg0) := by
  unfold at_ opsTop
  after_results
  rfl

/-- What they leave in `main_v74`. -/
theorem valTop_main_v74 (V : Val) : at_ (after (opsTop (F := Ideal)) V) main_v74 = weight (at_ V main_arg0) := by
  unfold at_ opsTop
  after_results
  rfl

/-- What they leave in `main_v97`. -/
theorem valReadA_main_v97 (V : Val) : at_ (after (opsReadA (F := Ideal)) V) main_v97 = readAtOf (at_ V main_v11) (at_ V main_v13) (at_ V main_indices) := by
  unfold at_ opsReadA
  after_results
  rfl

/-- What they leave in `main_v98`. -/
theorem valMemRead_main_v98 (V : Val) : at_ (after (opsMemRead (F := Ideal)) V) main_v98 = Host.gather (α := Ideal .f32) gather_S1x12x768x64x64_S1x12x2048x8x3_S1x12x2048x8x64x64_45_012_n_n_012_4_1116464 (at_ V main_v36) (at_ V main_v97) := by
  unfold at_ opsMemRead
  after_results

/-- What they leave in `main_v121`. -/
theorem valReadB_main_v121 (V : Val) : at_ (after (opsReadB (F := Ideal)) V) main_v121 = readAtOf (at_ V main_v11) (at_ V main_v13) (at_ V main_indices) := by
  unfold at_ opsReadB
  after_results
  rfl

/-- What they leave in `main_v133`. -/
theorem valOut_main_v133 (V : Val) : at_ (after (opsOut (F := Ideal)) V) main_v133 = outOf (at_ V main_v74) (retrievedOf (at_ V main_arg0) (at_ V main_v98) (Host.gather (α := Ideal .f32) gather_S1x12x768x64_S1x12x2048x8x3_S1x12x2048x8x64_4_012_n_n_012_4_11164 (at_ V main_v59) (at_ V main_v121))) := by
  unfold at_ opsOut
  after_results
  rfl

/-- All the operations of the reference, in order. -/
def opsAll : List (HloOp τ sig (Elt Ideal)) :=
  opsSlot ++ (opsOuter ++ (opsAddA ++ (opsMem ++ (opsAddB ++ (opsSum ++ (opsTop ++ (opsReadA ++ (opsMemRead ++ (opsReadB ++ (opsOut))))))))))

/-- What the whole line leaves in the result. -/
theorem valAll (V : Val) : at_ (after opsAll V) main_v133 = refOut (at_ V main_arg0) (at_ V main_arg1) (at_ V main_arg2) := by
  unfold opsAll
  rw [after_append, after_append, after_append, after_append, after_append, after_append, after_append, after_append, after_append, after_append]
  rw [valOut_main_v133]
  have a0 : at_ (after (opsReadB (F := Ideal)) (after (opsMemRead (F := Ideal)) (after (opsReadA (F := Ideal)) (after (opsTop (F := Ideal)) (after (opsSum (F := Ideal)) (after (opsAddB (F := Ideal)) (after (opsMem (F := Ideal)) (after (opsAddA (F := Ideal)) (after (opsOuter (F := Ideal)) (after (opsSlot (F := Ideal)) V)))))))))) main_arg0 = at_ V main_arg0 := by rw [keepReadB _ main_arg0 (by decide), keepMemRead _ main_arg0 (by decide), keepReadA _ main_arg0 (by decide), keepTop _ main_arg0 (by decide), keepSum _ main_arg0 (by decide), keepAddB _ main_arg0 (by decide), keepMem _ main_arg0 (by decide), keepAddA _ main_arg0 (by decide), keepOuter _ main_arg0 (by decide), keepSlot _ main_arg0 (by decide)]
  have w : at_ (after (opsReadB (F := Ideal)) (after (opsMemRead (F := Ideal)) (after (opsReadA (F := Ideal)) (after (opsTop (F := Ideal)) (after (opsSum (F := Ideal)) (after (opsAddB (F := Ideal)) (after (opsMem (F := Ideal)) (after (opsAddA (F := Ideal)) (after (opsOuter (F := Ideal)) (after (opsSlot (F := Ideal)) V)))))))))) main_v74 = weight (at_ V main_arg0) := by
    rw [keepReadB _ main_v74 (by decide), keepMemRead _ main_v74 (by decide), keepReadA _ main_v74 (by decide), valTop_main_v74, keepSum _ main_arg0 (by decide), keepAddB _ main_arg0 (by decide), keepMem _ main_arg0 (by decide), keepAddA _ main_arg0 (by decide), keepOuter _ main_arg0 (by decide), keepSlot _ main_arg0 (by decide)]
  have b10 : at_ (after (opsMemRead (F := Ideal)) (after (opsReadA (F := Ideal)) (after (opsTop (F := Ideal)) (after (opsSum (F := Ideal)) (after (opsAddB (F := Ideal)) (after (opsMem (F := Ideal)) (after (opsAddA (F := Ideal)) (after (opsOuter (F := Ideal)) (after (opsSlot (F := Ideal)) V))))))))) main_v11 = batchNo := by
    rw [keepMemRead _ main_v11 (by decide), keepReadA _ main_v11 (by decide), keepTop _ main_v11 (by decide), keepSum _ main_v11 (by decide), keepAddB _ main_v11 (by decide), keepMem _ main_v11 (by decide), keepAddA _ main_v11 (by decide), valOuter_main_v11]
  have h10 : at_ (after (opsMemRead (F := Ideal)) (after (opsReadA (F := Ideal)) (after (opsTop (F := Ideal)) (after (opsSum (F := Ideal)) (after (opsAddB (F := Ideal)) (after (opsMem (F := Ideal)) (after (opsAddA (F := Ideal)) (after (opsOuter (F := Ideal)) (after (opsSlot (F := Ideal)) V))))))))) main_v13 = headNo := by
    rw [keepMemRead _ main_v13 (by decide), keepReadA _ main_v13 (by decide), keepTop _ main_v13 (by decide), keepSum _ main_v13 (by decide), keepAddB _ main_v13 (by decide), keepMem _ main_v13 (by decide), keepAddA _ main_v13 (by decide), valOuter_main_v13]
  have b7 : at_ (after (opsTop (F := Ideal)) (after (opsSum (F := Ideal)) (after (opsAddB (F := Ideal)) (after (opsMem (F := Ideal)) (after (opsAddA (F := Ideal)) (after (opsOuter (F := Ideal)) (after (opsSlot (F := Ideal)) V))))))) main_v11 = batchNo := by
    rw [keepTop _ main_v11 (by decide), keepSum _ main_v11 (by decide), keepAddB _ main_v11 (by decide), keepMem _ main_v11 (by decide), keepAddA _ main_v11 (by decide), valOuter_main_v11]
  have h7 : at_ (after (opsTop (F := Ideal)) (after (opsSum (F := Ideal)) (after (opsAddB (F := Ideal)) (after (opsMem (F := Ideal)) (after (opsAddA (F := Ideal)) (after (opsOuter (F := Ideal)) (after (opsSlot (F := Ideal)) V))))))) main_v13 = headNo := by
    rw [keepTop _ main_v13 (by decide), keepSum _ main_v13 (by decide), keepAddB _ main_v13 (by decide), keepMem _ main_v13 (by decide), keepAddA _ main_v13 (by decide), valOuter_main_v13]
  have i9 : at_ (after (opsMemRead (F := Ideal)) (after (opsReadA (F := Ideal)) (after (opsTop (F := Ideal)) (after (opsSum (F := Ideal)) (after (opsAddB (F := Ideal)) (after (opsMem (F := Ideal)) (after (opsAddA (F := Ideal)) (after (opsOuter (F := Ideal)) (after (opsSlot (F := Ideal)) V))))))))) main_indices = topIdx (at_ V main_arg0) := by
    rw [keepMemRead _ main_indices (by decide), keepReadA _ main_indices (by decide), valTop_main_indices, keepSum _ main_arg0 (by decide), keepAddB _ main_arg0 (by decide), keepMem _ main_arg0 (by decide), keepAddA _ main_arg0 (by decide), keepOuter _ main_arg0 (by decide), keepSlot _ main_arg0 (by decide)]
  have i7 : at_ (after (opsTop (F := Ideal)) (after (opsSum (F := Ideal)) (after (opsAddB (F := Ideal)) (after (opsMem (F := Ideal)) (after (opsAddA (F := Ideal)) (after (opsOuter (F := Ideal)) (after (opsSlot (F := Ideal)) V))))))) main_indices = topIdx (at_ V main_arg0) := by
    rw [valTop_main_indices, keepSum _ main_arg0 (by decide), keepAddB _ main_arg0 (by decide), keepMem _ main_arg0 (by decide), keepAddA _ main_arg0 (by decide), keepOuter _ main_arg0 (by decide), keepSlot _ main_arg0 (by decide)]
  have s2 : at_ (after (opsOuter (F := Ideal)) (after (opsSlot (F := Ideal)) V)) main_v4 = slot (at_ V main_arg1) := by
    rw [keepOuter _ main_v4 (by decide), valSlot_main_v4]
  have s4 : at_ (after (opsMem (F := Ideal)) (after (opsAddA (F := Ideal)) (after (opsOuter (F := Ideal)) (after (opsSlot (F := Ideal)) V)))) main_v4 = slot (at_ V main_arg1) := by
    rw [keepMem _ main_v4 (by decide), keepAddA _ main_v4 (by decide), keepOuter _ main_v4 (by decide), valSlot_main_v4]
  have x35 : at_ (after (opsAddA (F := Ideal)) (after (opsOuter (F := Ideal)) (after (opsSlot (F := Ideal)) V))) main_v35 = addAt (at_ V main_arg1) := by
    rw [valAddA_main_v35, valOuter_main_v11, valOuter_main_v13, s2]; rfl
  have x14 : at_ (after (opsAddA (F := Ideal)) (after (opsOuter (F := Ideal)) (after (opsSlot (F := Ideal)) V))) main_v14 = broadcastInDim S1x12x768x64x64 ![] bcast_S_S1x12x768x64x64 (constant (F := Ideal) S_ .f32 0x00000000#32) := by
    rw [keepAddA _ main_v14 (by decide), valOuter_main_v14]
  have x9 : at_ (after (opsAddA (F := Ideal)) (after (opsOuter (F := Ideal)) (after (opsSlot (F := Ideal)) V))) main_v9 = outer (at_ V main_arg1) (at_ V main_arg2) := by
    rw [keepAddA _ main_v9 (by decide), valOuter_main_v9, keepSlot _ main_arg1 (by decide), keepSlot _ main_arg2 (by decide)]
  have x36 : at_ (after (opsReadA (F := Ideal)) (after (opsTop (F := Ideal)) (after (opsSum (F := Ideal)) (after (opsAddB (F := Ideal)) (after (opsMem (F := Ideal)) (after (opsAddA (F := Ideal)) (after (opsOuter (F := Ideal)) (after (opsSlot (F := Ideal)) V)))))))) main_v36 = memory (at_ V main_arg1) (at_ V main_arg2) := by
    rw [keepReadA _ main_v36 (by decide), keepTop _ main_v36 (by decide), keepSum _ main_v36 (by decide), keepAddB _ main_v36 (by decide), valMem_main_v36, x35, x14, x9]; rfl
  have x58 : at_ (after (opsAddB (F := Ideal)) (after (opsMem (F := Ideal)) (after (opsAddA (F := Ideal)) (after (opsOuter (F := Ideal)) (after (opsSlot (F := Ideal)) V))))) main_v58 = addAt (at_ V main_arg1) := by
    rw [valAddB_main_v58, keepMem _ main_v11 (by decide), keepAddA _ main_v11 (by decide), valOuter_main_v11, keepMem _ main_v13 (by decide), keepAddA _ main_v13 (by decide), valOuter_main_v13, s4]; rfl
  have x59 : at_ (after (opsReadB (F := Ideal)) (after (opsMemRead (F := Ideal)) (after (opsReadA (F := Ideal)) (after (opsTop (F := Ideal)) (after (opsSum (F := Ideal)) (after (opsAddB (F := Ideal)) (after (opsMem (F := Ideal)) (after (opsAddA (F := Ideal)) (after (opsOuter (F := Ideal)) (after (opsSlot (F := Ideal)) V)))))))))) main_v59 = keySum (at_ V main_arg1) := by
    rw [keepReadB _ main_v59 (by decide), keepMemRead _ main_v59 (by decide), keepReadA _ main_v59 (by decide), keepTop _ main_v59 (by decide), valSum_main_v59, x58, valAddB_main_v37, keepAddB _ main_arg1 (by decide), keepMem _ main_arg1 (by decide), keepAddA _ main_arg1 (by decide), keepOuter _ main_arg1 (by decide), keepSlot _ main_arg1 (by decide)]; rfl
  have x98 : at_ (after (opsReadB (F := Ideal)) (after (opsMemRead (F := Ideal)) (after (opsReadA (F := Ideal)) (after (opsTop (F := Ideal)) (after (opsSum (F := Ideal)) (after (opsAddB (F := Ideal)) (after (opsMem (F := Ideal)) (after (opsAddA (F := Ideal)) (after (opsOuter (F := Ideal)) (after (opsSlot (F := Ideal)) V)))))))))) main_v98 = memRead (at_ V main_arg0) (at_ V main_arg1) (at_ V main_arg2) := by
    rw [keepReadB _ main_v98 (by decide), valMemRead_main_v98, x36, valReadA_main_v97, b7, h7, i7]; rfl
  have x121 : at_ (after (opsReadB (F := Ideal)) (after (opsMemRead (F := Ideal)) (after (opsReadA (F := Ideal)) (after (opsTop (F := Ideal)) (after (opsSum (F := Ideal)) (after (opsAddB (F := Ideal)) (after (opsMem (F := Ideal)) (after (opsAddA (F := Ideal)) (after (opsOuter (F := Ideal)) (after (opsSlot (F := Ideal)) V)))))))))) main_v121 = readAt (at_ V main_arg0) := by
    rw [valReadB_main_v121, b10, h10, i9]; rfl
  rw [a0, w, x98, x59, x121]
  rfl

/-- The reference's run: its result holds `refOut` of its arguments. -/
theorem ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v133)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have keep : ∀ (V : Val) (r : Ref sig .tc), r = main_arg0 ∨ r = main_arg1 ∨ r = main_arg2 → at_ (after opsAll V) r = at_ V r := by
    intro V r hr
    unfold opsAll
    rw [after_append, after_append, after_append, after_append, after_append, after_append, after_append, after_append, after_append, after_append]
    rcases hr with rfl | rfl | rfl <;>
    rw [keepOut _ _ (by decide), keepReadB _ _ (by decide), keepMemRead _ _ (by decide), keepReadA _ _ (by decide), keepTop _ _ (by decide), keepSum _ _ (by decide), keepAddB _ _ (by decide), keepMem _ _ (by decide), keepAddA _ _ (by decide), keepOuter _ _ (by decide), keepSlot _ _ (by decide)]
  refine θ_run_mono (StableHlo.run_hlo (ops := opsAll) _ _ (by hlo_seq) (by decide) (by decide) (by simp [opsAll, opsSlot, opsOuter, opsAddA, opsMem, opsAddB, opsSum, opsTop, opsReadA, opsMemRead, opsReadB, opsOut])
      (by intro _ h; (repeat (cases h with | head => rfl | tail _ h => ?_)); exact nomatch h) _ _) ?_
  intro r hr c
  refine ⟨(hr c main_v133).trans (valAll _), ?_, ?_, ?_⟩
  · exact (hr c main_arg0).trans (keep _ _ (.inl rfl))
  · exact (hr c main_arg1).trans (keep _ _ (.inr (.inl rfl)))
  · exact (hr c main_arg2).trans (keep _ _ (.inr (.inr rfl)))

end Cert.Proof.Reference
-- ==== Proof.TopSort.lean ====
module

public import proofs.«01_k».proof.Proof.FirstMax
public import Idealize.ShloMosaic.Lib.Pipeline.Value

/-! Sorting a row of 768 entries that repeats 64 entries twelve times, largest first: the first eight places hold largest entries, those
    below 64 before the others. -/

@[expose] public section

noncomputable section

namespace Cert.Proof

open Idealize.ShloMosaic
open scoped Classical

/-- An entry that nothing precedes goes to the front. -/
theorem insert_front {ι : Type} (before : ι → ι → Bool) (a : ι) (l : List ι) (h : ∀ b, before b a = false) :
    insertBefore before a l = a :: l := by
  cases l with
  | nil => rfl
  | cons b l => simp [insertBefore, h b]

/-- An entry that all of a list precede goes behind it. -/
theorem insert_behind {ι : Type} (before : ι → ι → Bool) (a : ι) (l m : List ι) (h : ∀ b ∈ l, before b a = true) :
    insertBefore before a (l ++ m) = l ++ insertBefore before a m := by
  induction l with
  | nil => rfl
  | cons b l ih =>
    simp only [List.cons_append, insertBefore, h b (List.mem_cons_self ..), if_true]
    rw [ih fun c hc => h c (List.mem_cons_of_mem _ hc)]

/-- The entries that nothing precedes and that precede all others come first, in the order they had. -/
theorem sort_split {ι : Type} (before : ι → ι → Bool) (p : ι → Bool) (h1 : ∀ a b, p a = true → before b a = false)
    (h2 : ∀ a b, p a = false → p b = true → before b a = true) (l : List ι) :
    stableSort before l = l.filter p ++ stableSort before (l.filter fun a => !p a) := by
  induction l with
  | nil => rfl
  | cons a l ih =>
    show insertBefore before a (stableSort before l) = _
    rw [ih]
    cases ha : p a with
    | true =>
      rw [insert_front before a _ fun b => h1 a b ha]
      simp [List.filter_cons, ha]
    | false =>
      rw [insert_behind before a _ _ fun b hb => h2 a b ha (List.mem_filter.1 hb).2]
      simp [List.filter_cons, ha, stableSort]

/-- A sum over the entries of a list that have a property. -/
theorem sum_filter_list {ι : Type} (p : ι → Prop) (R : ι → EReal) (l : List ι) :
    ((l.filter fun a => decide (p a)).map R).sum = (l.map fun a => if p a then R a else 0).sum := by
  induction l with
  | nil => rfl
  | cons a l ih =>
    by_cases ha : p a
    · simp [List.filter_cons, ha, ih]
    · simp [List.filter_cons, ha, ih]

theorem sum_fin_list {n : ℕ} (R : Fin n → EReal) : ((List.finRange n).map R).sum = ∑ c, R c := by
  rw [← List.ofFn_eq_map, List.sum_ofFn]

/-- The sum over the first places of a list. -/
theorem sum_take {ι : Type} (R : ι → EReal) (L : List ι) (n : ℕ) (h : n ≤ L.length) :
    ∑ t : Fin n, R (L.get ⟨t.val, by omega⟩) = ((L.take n).map R).sum := by
  rw [← List.sum_ofFn]
  congr 1
  refine List.ext_getElem ?_ fun i hi1 hi2 => ?_
  · simp [h]
  · simp

section Top

variable (f : Fin 768 → EReal) (g : Fin 64 → EReal)

/-- The order of the sort: larger first. -/
def larger (a b : Fin 768) : Bool := decide (f b < f a)

/-- An entry below 64, among the 768. -/
def low (c : Fin 64) : Fin 768 := ⟨c.val, by omega⟩
/-- An entry from 64 on. -/
def high (c : Fin 704) : Fin 768 := ⟨64 + c.val, by omega⟩

theorem range_split : List.finRange 768 = (List.finRange 64).map low ++ (List.finRange 704).map high := by
  refine List.ext_getElem (by simp) fun i h1 h2 => ?_
  rw [List.getElem_append]
  split
  · apply Fin.ext; simp [low]
  · rename_i h
    apply Fin.ext
    simp [high] at h ⊢
    omega

/-- The places of the largest entries. -/
def bests : List (Fin 768) := (List.finRange 768).filter fun a => decide (AtMax f a)

theorem positions_split : ∃ rest, sortPositions 768 (larger f) = bests f ++ rest := by
  refine ⟨_, sort_split (larger f) (fun a => decide (AtMax f a)) (fun a b ha => ?_) (fun a b ha hb => ?_) _⟩
  · exact decide_eq_false (not_lt.2 (of_decide_eq_true ha b))
  · refine decide_eq_true ?_
    have ha := of_decide_eq_false ha
    have hb := of_decide_eq_true hb
    unfold AtMax at ha
    push Not at ha
    obtain ⟨j, hj⟩ := ha
    exact lt_of_lt_of_le hj (hb j)

variable (hf : ∀ t : Fin 768, f t = g ⟨t.val % 64, Nat.mod_lt _ (by decide)⟩)
include hf

theorem atMax_iff (t : Fin 768) : AtMax f t ↔ AtMax g ⟨t.val % 64, Nat.mod_lt _ (by decide)⟩ := by
  unfold AtMax
  constructor
  · intro h j
    have := h (low j)
    rw [hf, hf t] at this
    simpa [low, Nat.mod_eq_of_lt j.isLt] using this
  · intro h j
    rw [hf, hf t]
    exact h _

theorem atMax_low (c : Fin 64) : AtMax f (low c) ↔ AtMax g c := by
  rw [atMax_iff f g hf]
  simp [low, Nat.mod_eq_of_lt c.isLt]

theorem bests_length : 8 ≤ (bests f).length := by
  obtain ⟨c, hc⟩ := exists_atMax g
  have hsub : (List.finRange 8).map (fun j : Fin 8 => (⟨c.val + 64 * j.val, by omega⟩ : Fin 768)) ⊆ bests f := by
    intro a ha
    obtain ⟨j, _, rfl⟩ := List.mem_map.1 ha
    refine List.mem_filter.2 ⟨List.mem_finRange _, decide_eq_true ?_⟩
    rw [atMax_iff f g hf]
    have : (⟨(c.val + 64 * j.val) % 64, Nat.mod_lt _ (by decide)⟩ : Fin 64) = c := Fin.ext (by simp [Nat.mod_eq_of_lt c.isLt])
    rwa [this]
  have hnd : ((List.finRange 8).map (fun j : Fin 8 => (⟨c.val + 64 * j.val, by omega⟩ : Fin 768))).Nodup := by
    refine List.Nodup.map (fun i j h => ?_) (List.nodup_finRange 8)
    have := congrArg Fin.val h
    simp at this
    omega
  simpa using (List.subperm_of_subset hnd hsub).length_le

/-- The first eight places of the sorted row. -/
theorem take_eight : (sortPositions 768 (larger f)).take 8 = (bests f).take 8 := by
  obtain ⟨rest, h⟩ := positions_split f
  rw [h, List.take_append_of_le_length (bests_length f g hf)]

theorem sorted_mem (t : Fin 8) : sortedFrom (larger f) ⟨t.val, by omega⟩ ∈ bests f := by
  have hlen := bests_length f g hf
  obtain ⟨rest, h⟩ := positions_split f
  have : sortedFrom (larger f) ⟨t.val, by omega⟩ = (bests f)[t.val]'(by omega) := by
    unfold sortedFrom
    simp only [List.get_eq_getElem, Fin.val_cast, h]
    exact List.getElem_append_left _
  rw [this]
  exact List.getElem_mem _

/-- Each of the first eight places holds a largest entry. -/
theorem top_max (t : Fin 8) : AtMax f (sortedFrom (larger f) ⟨t.val, by omega⟩) :=
  of_decide_eq_true (List.mem_filter.1 (sorted_mem f g hf t)).2

/-- A sum over the first eight places of what is zero from 64 on, when at most two of the 64 entries are largest. -/
theorem top_sum (hT : (Finset.univ.filter (AtMax g)).card ≤ 2) (R : Fin 768 → EReal) (hR : ∀ t, 64 ≤ t.val → R t = 0) :
    ∑ t : Fin 8, R (sortedFrom (larger f) ⟨t.val, by omega⟩) = ∑ c, if AtMax g c then R (low c) else 0 := by
  have h1 : ∑ t : Fin 8, R (sortedFrom (larger f) ⟨t.val, by omega⟩) = (((sortPositions 768 (larger f)).take 8).map R).sum := by
    exact sum_take R (sortPositions 768 (larger f)) 8 (by rw [length_sortPositions]; omega)
  have hsplit : bests f = ((List.finRange 64).filter fun c => decide (AtMax g c)).map low
      ++ ((List.finRange 704).map high).filter fun a => decide (AtMax f a) := by
    unfold bests
    rw [range_split, List.filter_append, List.filter_map]
    congr 2
    refine List.filter_congr fun c _ => ?_
    exact decide_eq_decide.2 (atMax_low f g hf c)
  have hlen : (((List.finRange 64).filter fun c => decide (AtMax g c)).map low).length ≤ 2 := by
    rw [List.length_map]
    exact hT
  rw [h1, take_eight f g hf, hsplit, List.take_append, List.map_append, List.sum_append,
    List.take_of_length_le (by omega), List.map_map]
  rw [List.sum_eq_zero (l := List.map R (List.take _ _)) (fun x hx => ?_), add_zero]
  · rw [← sum_fin_list, ← sum_filter_list]
    rfl
  · obtain ⟨a, ha, rfl⟩ := List.mem_map.1 hx
    obtain ⟨b, _, rfl⟩ := List.mem_map.1 (List.mem_filter.1 (List.mem_of_mem_take ha)).1
    exact hR _ (by simp [high])

end Top

end Cert.Proof

end
-- ==== Proof.Algebra.lean ====
module

public import proofs.«01_k».proof.Proof.FirstMax

/-! The arithmetic of one slot over the extended reals: applying the sum of the outer products of a slot to a query and dividing by
    the normalizer is summing over the keys of the slot, when the normalizer is not zero and the query and the values are finite. -/

@[expose] public section

noncomputable section

namespace Cert.Proof

open scoped Classical

/-- An extended real that is a real number. -/
def Finite (x : EReal) : Prop := ∃ r : ℝ, x = (r : EReal)

/-- A sum of real numbers is the sum as extended reals. -/
theorem coe_sum {ι : Type} (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

theorem finite_of_ne {x : EReal} (ht : x ≠ ⊤) (hb : x ≠ ⊥) : Finite x := ⟨x.toReal, (EReal.coe_toReal ht hb).symm⟩

/-- Both terms of a finite sum of two are finite. -/
theorem finite_of_add {x y : EReal} (h : Finite (x + y)) : Finite x ∧ Finite y := by
  obtain ⟨r, hr⟩ := h
  induction x using EReal.rec with
  | bot => rw [EReal.bot_add] at hr; exact absurd hr (EReal.bot_ne_coe r)
  | coe a =>
    induction y using EReal.rec with
    | bot => rw [EReal.add_bot] at hr; exact absurd hr (EReal.bot_ne_coe r)
    | coe b => exact ⟨⟨a, rfl⟩, ⟨b, rfl⟩⟩
    | top => rw [EReal.coe_add_top] at hr; exact absurd hr (EReal.top_ne_coe r)
  | top =>
    induction y using EReal.rec with
    | bot => rw [EReal.add_bot] at hr; exact absurd hr (EReal.bot_ne_coe r)
    | coe b => rw [EReal.top_add_coe] at hr; exact absurd hr (EReal.top_ne_coe r)
    | top => rw [EReal.top_add_top] at hr; exact absurd hr (EReal.top_ne_coe r)

/-- Every term of a finite sum is finite. -/
theorem finite_of_sum {ι : Type} (s : Finset ι) (f : ι → EReal) (h : Finite (∑ i ∈ s, f i)) : ∀ i ∈ s, Finite (f i) := by
  induction s using Finset.induction_on with
  | empty => intro i hi; simp at hi
  | insert a s ha ih =>
    rw [Finset.sum_insert ha] at h
    obtain ⟨h1, h2⟩ := finite_of_add h
    intro i hi
    rcases Finset.mem_insert.1 hi with rfl | hi
    · exact h1
    · exact ih h2 i hi

/-- A finite product with a finite nonzero factor has the other factor finite. -/
theorem finite_of_mul {x : EReal} {r : ℝ} (hr : r ≠ 0) (h : Finite (x * (r : EReal))) : Finite x := by
  obtain ⟨t, ht⟩ := h
  induction x using EReal.rec with
  | bot =>
    rcases lt_or_gt_of_ne hr with h | h
    · rw [EReal.bot_mul_coe_of_neg h] at ht; exact absurd ht (EReal.top_ne_coe t)
    · rw [EReal.bot_mul_coe_of_pos h] at ht; exact absurd ht (EReal.bot_ne_coe t)
  | coe a => exact ⟨a, rfl⟩
  | top =>
    rcases lt_or_gt_of_ne hr with h | h
    · rw [EReal.top_mul_coe_of_neg h] at ht; exact absurd ht (EReal.bot_ne_coe t)
    · rw [EReal.top_mul_coe_of_pos h] at ht; exact absurd ht (EReal.top_ne_coe t)

/-- One slot: summing over its keys the product of query and key, times `c` over the normalizer, times the value, is `c` times the
    memory applied to the query over the normalizer. -/
theorem slot_eq {n d : ℕ} (q : Fin d → EReal) (hq : ∀ e, Finite (q e)) (v : Fin n → EReal) (hv : ∀ s, Finite (v s))
    (k : Fin n → Fin d → EReal) (P : Fin n → Prop) [DecidablePred P] (eps c : ℝ) (D : EReal)
    (hD : D = (∑ e, (∑ s, if P s then k s e else 0) * q e) + (eps : EReal)) (h0 : D ≠ 0) :
    (∑ s, if P s then ((∑ e, q e * k s e) * ((c : EReal) * D⁻¹)) * v s else 0)
      = (c : EReal) * ((∑ e, (∑ s, if P s then v s * k s e else 0) * q e) * D⁻¹) := by
  by_cases hfin : Finite D
  swap
  · have hinv : D⁻¹ = 0 := by
      by_cases ht : D = ⊤
      · rw [ht, EReal.inv_top]
      · by_cases hb : D = ⊥
        · rw [hb, EReal.inv_bot]
        · exact absurd (finite_of_ne ht hb) hfin
    rw [hinv]; simp
  obtain ⟨dr, hdr⟩ := hfin
  choose qr hqr using hq
  choose vr hvr using hv
  have hterm : ∀ e, Finite ((∑ s, if P s then k s e else 0) * q e) := fun e =>
    finite_of_sum Finset.univ _ (finite_of_add (y := (eps : EReal)) ⟨dr, by rw [← hD, hdr]⟩).1 e (Finset.mem_univ e)
  have hk : ∀ s e, ∃ r : ℝ, P s → q e * k s e = ((qr e * r : ℝ) : EReal) ∧ (qr e ≠ 0 → k s e = (r : EReal)) := by
    intro s e
    by_cases hz : qr e = 0
    · exact ⟨0, fun _ => ⟨by rw [hqr, hz]; simp, fun h => absurd hz h⟩⟩
    · by_cases hp : P s
      · have h1 : Finite (∑ s, if P s then k s e else 0) := finite_of_mul hz (by rw [← hqr]; exact hterm e)
        obtain ⟨r, hr⟩ := finite_of_sum Finset.univ _ h1 s (Finset.mem_univ s)
        rw [if_pos hp] at hr
        exact ⟨r, fun _ => ⟨by rw [hqr, hr, EReal.coe_mul], fun _ => hr⟩⟩
      · exact ⟨0, fun h => absurd h hp⟩
  choose kr hkr using hk
  have hL : ∀ s, (if P s then ((∑ e, q e * k s e) * ((c : EReal) * D⁻¹)) * v s else 0)
      = ((if P s then ((∑ e, qr e * kr s e) * (c * dr⁻¹)) * vr s else 0 : ℝ) : EReal) := by
    intro s
    by_cases hp : P s
    · rw [if_pos hp, if_pos hp, hvr, hdr, EReal.coe_mul, EReal.coe_mul, EReal.coe_mul, coe_sum, EReal.coe_inv]
      congr 2
      exact Finset.sum_congr rfl fun e _ => (hkr s e hp).1
    · rw [if_neg hp, if_neg hp, EReal.coe_zero]
  have hR : ∀ e, (∑ s, if P s then v s * k s e else 0) * q e = (((∑ s, if P s then vr s * kr s e else 0) * qr e : ℝ) : EReal) := by
    intro e
    by_cases hz : qr e = 0
    · rw [hqr, hz]; simp
    · rw [hqr, EReal.coe_mul, coe_sum]
      congr 1
      refine Finset.sum_congr rfl fun s _ => ?_
      by_cases hp : P s
      · rw [if_pos hp, if_pos hp, hvr, (hkr s e hp).2 hz, EReal.coe_mul]
      · rw [if_neg hp, if_neg hp, EReal.coe_zero]
  rw [Finset.sum_congr rfl fun s _ => hL s, Finset.sum_congr rfl fun e _ => hR e, ← coe_sum, ← coe_sum, hdr, ← EReal.coe_inv,
    ← EReal.coe_mul, ← EReal.coe_mul]
  congr 1
  simp only [Finset.sum_mul, Finset.mul_sum, ite_mul, zero_mul, mul_ite, mul_zero]
  rw [Finset.sum_comm]
  refine Finset.sum_congr rfl fun s _ => ?_
  by_cases hp : P s
  · simp only [if_pos hp, Finset.sum_mul]
    exact Finset.sum_congr rfl fun e _ => by ring
  · simp [if_neg hp]

end Cert.Proof

end
-- ==== Proof.Common.lean ====
module

public import proofs.«01_k».proof.Proof.Marks
public import proofs.«01_k».proof.Proof.Algebra

/-! What one query reads: for each of its largest magnitudes, an eighth of the memory of that slot applied to the query over the
    slot's normalizer. The kernel's arrangement of this sum is shown equal to it. -/

@[expose] public section

noncomputable section

namespace Cert.Proof

open Idealize.ShloMosaic
open scoped Classical

/-- The small number added to the normalizer. -/
def eps : EReal := Ideal.ofBits .f32 0x358637BD#32
/-- It is a positive real number. -/
theorem eps_pos : ∃ r : ℝ, 0 < r ∧ eps = (r : EReal) := by
  refine ⟨_, ?_, show eps = ((8796093 * (2 ^ 43)⁻¹ : ℝ) : EReal) from ?_⟩
  · positivity
  · simp [eps, Ideal.ofBits, Ideal.ieee]
    try norm_num
theorem eighth : Ideal.ofBits .f32 0x3E000000#32 = ((1 / 8 : ℝ) : EReal) := by
  simp [Ideal.ofBits, Ideal.ieee]
  rw [← EReal.coe_mul]; norm_num

/-- The slot of a key: the place of its first largest magnitude. -/
def slotOf (k : Fin 2048 → Fin 64 → EReal) (s : Fin 2048) : Fin 64 := first fun e => mag (k s e)
/-- The sum of the keys of a slot. -/
def keySumAt (k : Fin 2048 → Fin 64 → EReal) (c e : Fin 64) : EReal := ∑ s, if slotOf k s = c then k s e else 0
/-- The normalizer of a slot at a query. -/
def normAt (q : Fin 64 → EReal) (k : Fin 2048 → Fin 64 → EReal) (c : Fin 64) : EReal := (∑ e, keySumAt k c e * q e) + eps
/-- One row of the memory of a slot. -/
def memAt (k : Fin 2048 → Fin 64 → EReal) (v : Fin 2048 → EReal) (c e : Fin 64) : EReal :=
  ∑ s, if slotOf k s = c then v s * k s e else 0
/-- The largest magnitudes of a query. -/
def Best (q : Fin 64 → EReal) (c : Fin 64) : Prop := AtMax (fun e => mag (q e)) c
/-- What a query reads. -/
def readOf (q : Fin 64 → EReal) (k : Fin 2048 → Fin 64 → EReal) (v : Fin 2048 → EReal) : EReal :=
  ∑ c, if Best q c then ((1 / 8 : ℝ) : EReal) * ((∑ e, memAt k v c e * q e) * (normAt q k c)⁻¹) else 0

/-- The normalizer of the query's `i`-th largest magnitude, zero when there is none, before the small number is added. -/
def denOf (q : Fin 64 → EReal) (k : Fin 2048 → Fin 64 → EReal) (i : ℕ) : EReal :=
  ∑ e, (∑ c, flag (Nth (fun e => mag (q e)) i c) * keySumAt k c e) * q e
/-- The kernel's weight of a slot: an eighth of the mark of the first largest magnitude over its normalizer plus that of the second. -/
def weightAt (q : Fin 64 → EReal) (k : Fin 2048 → Fin 64 → EReal) (c : Fin 64) : EReal :=
  ((1 / 8 : ℝ) : EReal) * (Ideal.div (flag (Nth (fun e => mag (q e)) 1 c)) (denOf q k 1 + eps)
    + Ideal.div (flag (Nth (fun e => mag (q e)) 2 c)) (denOf q k 2 + eps))

variable (q : Fin 64 → EReal) (k : Fin 2048 → Fin 64 → EReal)

theorem denOf_nth (i : ℕ) (c : Fin 64) (h : Nth (fun e => mag (q e)) i c) : denOf q k i + eps = normAt q k c := by
  unfold denOf normAt
  congr 1
  refine Finset.sum_congr rfl fun e _ => ?_
  rw [sum_flag_mul _ (fun c => keySumAt k c e) c fun j => ⟨fun hj => hj.unique h, fun hj => hj ▸ h⟩]

theorem denOf_none (i : ℕ) (h : ∀ c, ¬ Nth (fun e => mag (q e)) i c) : denOf q k i + eps = eps := by
  unfold denOf
  rw [Finset.sum_eq_zero fun e _ => by
    rw [Finset.sum_eq_zero fun c _ => by rw [flag_false (h c), zero_mul], zero_mul], zero_add]

theorem den_ne (hD : ∀ c, Best q c → normAt q k c ≠ 0) (i : ℕ) : denOf q k i + eps ≠ 0 := by
  by_cases h : ∃ c, Nth (fun e => mag (q e)) i c
  · obtain ⟨c, hc⟩ := h
    rw [denOf_nth q k i c hc]
    exact hD c hc.1
  · rw [denOf_none q k i (not_exists.1 h)]
    obtain ⟨r, hr, he⟩ := eps_pos
    rw [he]
    exact_mod_cast hr.ne'

theorem div_of_ne {x y : EReal} (h : y ≠ 0) : Ideal.div x y = x * y⁻¹ := if_neg h

/-- The kernel's weight: an eighth over the normalizer at a largest magnitude, zero elsewhere. -/
theorem weightAt_eq (hT : (Finset.univ.filter (Best q)).card ≤ 2) (hD : ∀ c, Best q c → normAt q k c ≠ 0) (c : Fin 64) :
    weightAt q k c = if Best q c then ((1 / 8 : ℝ) : EReal) * (normAt q k c)⁻¹ else 0 := by
  unfold weightAt
  rw [div_of_ne (den_ne q k hD 1), div_of_ne (den_ne q k hD 2)]
  by_cases hb : Best q c
  · rw [if_pos hb]
    have hpos : 1 ≤ rank (fun e => mag (q e)) c :=
      Finset.card_pos.2 ⟨c, Finset.mem_filter.2 ⟨Finset.mem_univ _, hb, le_rfl⟩⟩
    have hle : rank (fun e => mag (q e)) c ≤ 2 := le_trans (Finset.card_le_card fun j hj => by
      simp only [Finset.mem_filter, Finset.mem_univ, true_and] at hj ⊢
      exact hj.1) hT
    rcases (show rank (fun e => mag (q e)) c = 1 ∨ rank (fun e => mag (q e)) c = 2 by omega) with h | h
    · have h1 : Nth (fun e => mag (q e)) 1 c := ⟨hb, h⟩
      have h2 : ¬ Nth (fun e => mag (q e)) 2 c := fun h' => by have := h'.2; omega
      rw [flag_true h1, flag_false h2, denOf_nth q k 1 c h1, zero_mul, add_zero, one_mul]
    · have h1 : Nth (fun e => mag (q e)) 2 c := ⟨hb, h⟩
      have h2 : ¬ Nth (fun e => mag (q e)) 1 c := fun h' => by have := h'.2; omega
      rw [flag_true h1, flag_false h2, denOf_nth q k 2 c h1, zero_mul, zero_add, one_mul]
  · rw [if_neg hb, flag_false fun h => hb h.1, flag_false fun h => hb h.1, zero_mul, zero_mul, add_zero, mul_zero]

/-- The kernel's sum over all keys is what the query reads. -/
theorem kernel_sum (v : Fin 2048 → EReal) (hq : ∀ e, Finite (q e)) (hv : ∀ s, Finite (v s))
    (hT : (Finset.univ.filter (Best q)).card ≤ 2) (hD : ∀ c, Best q c → normAt q k c ≠ 0) :
    (∑ s, ((∑ e, q e * k s e) * weightAt q k (slotOf k s)) * v s) = readOf q k v := by
  have hsplit : ∀ s, ((∑ e, q e * k s e) * weightAt q k (slotOf k s)) * v s
      = ∑ c, if slotOf k s = c then ((∑ e, q e * k s e) * weightAt q k c) * v s else 0 := fun s => by
    rw [Finset.sum_ite_eq, if_pos (Finset.mem_univ _)]
  rw [Finset.sum_congr rfl fun s _ => hsplit s, Finset.sum_comm]
  unfold readOf
  refine Finset.sum_congr rfl fun c _ => ?_
  rw [weightAt_eq q k hT hD]
  by_cases hb : Best q c
  · rw [if_pos hb, if_pos hb]
    obtain ⟨r, _, he⟩ := eps_pos
    exact slot_eq q hq v hv k (fun s => slotOf k s = c) r (1 / 8) (normAt q k c) (by unfold normAt keySumAt; rw [he]) (hD c hb)
  · rw [if_neg hb, if_neg hb]
    exact Finset.sum_eq_zero fun s _ => by simp

end Cert.Proof

end
-- ==== Proof.RefTile.lean ====
module

public import proofs.«01_k».proof.Proof.RefValue
public import proofs.«01_k».proof.Proof.TopSort
public import proofs.«01_k».proof.Proof.Common
import Idealize.ShloMosaic.Lib.Pointwise.Reshape
public import Idealize.ShloMosaic.Lib.Pipeline.Value

/-! The row of 768 magnitudes of the reference: 64 of them twelve times. -/

@[expose] public section

set_option maxRecDepth 16384

noncomputable section

namespace Cert.Proof.Reference

open Cert.ReferenceIdeal Cert.ReferenceIdeal.Facts₀
open Idealize.ShloMosaic hiding ix3 ix4
open Idealize.ShloMosaic.ValueIdx
open scoped Classical

/-- The repeated row holds the magnitudes, taken round and round. -/
theorem tile_apply (x : Arr) (h : Fin 12) (i : Fin 2048) (t : Fin 768) :
    tile x (ix4 0 h i t) = mag (x (ix4 0 h i ⟨t.val % 64, Nat.mod_lt _ (by decide)⟩)) := by
  have ht := t.isLt
  have hi := i.isLt
  have hh := h.isLt
  show mag _ = mag _
  congr 1
  refine (shapeCast_apply _ _ _ (ix8 0 0 0 h 0 i ⟨t.val / 64, by omega⟩ ⟨t.val % 64, Nat.mod_lt _ (by decide)⟩) ?_).trans ?_
  · rw [rowMajor_val8 _ (12 * 2048 * 768) (12 * 2048 * 768) (12 * 2048 * 768) (2048 * 768) (2048 * 768) 768 64 rfl rfl rfl rfl rfl rfl rfl,
      rowMajor_val4 _ (12 * 2048 * 768) (2048 * 768) 768 rfl rfl rfl]
    show 0 * _ + 0 * _ + 0 * _ + h.val * _ + 0 * _ + i.val * _ + t.val / 64 * _ + t.val % 64 = 0 * _ + h.val * _ + i.val * _ + t.val
    omega
  · refine shapeCast_apply _ _ _ (ix4 0 h i ⟨t.val % 64, Nat.mod_lt _ (by decide)⟩) ?_
    rw [rowMajor_val8 _ (12 * 2048 * 64) (12 * 2048 * 64) (12 * 2048 * 64) (2048 * 64) (2048 * 64) 64 64 rfl rfl rfl rfl rfl rfl rfl,
      rowMajor_val4 _ (12 * 2048 * 64) (2048 * 64) 64 rfl rfl rfl]
    show 0 * _ + h.val * _ + i.val * _ + t.val % 64 = 0 * _ + 0 * _ + 0 * _ + h.val * _ + 0 * _ + i.val * _ + 0 * _ + t.val % 64
    omega

end Cert.Proof.Reference

end
-- ==== Proof.RefSlot.lean ====
module

public import proofs.«01_k».proof.Proof.RefTile
public import proofs.«01_k».proof.Proof.TopSort
public import proofs.«01_k».proof.Proof.Common
public import Idealize.ShloMosaic.Lib.Pipeline.Value

/-! The slot the reference gives a key: the place of its first largest magnitude. -/

@[expose] public section

set_option maxRecDepth 16384

noncomputable section

namespace Cert.Proof.Reference

open Cert.ReferenceIdeal Cert.ReferenceIdeal.Facts₀
open Idealize.ShloMosaic Idealize.ShloMosaic.ValueIdx
open scoped Classical

/-- How one pair of a value and its place stands to another: the other is larger, or equal and not later. -/
def Below (p r : Ideal .f32 × BitVec 32) : Prop := p.1 < r.1 ∨ (p.1 = r.1 ∧ r.2.toInt ≤ p.2.toInt)

theorem Below.rfl (p : Ideal .f32 × BitVec 32) : Below p p := Or.inr ⟨Eq.refl _, le_refl _⟩

theorem Below.trans {p q r : Ideal .f32 × BitVec 32} (h1 : Below p q) (h2 : Below q r) : Below p r := by
  rcases h1 with h1 | ⟨h1, h1'⟩
  · rcases h2 with h2 | ⟨h2, _⟩
    · exact Or.inl (lt_trans h1 h2)
    · exact Or.inl (h2 ▸ h1)
  · rcases h2 with h2 | ⟨h2, h2'⟩
    · exact Or.inl (h1 ▸ h2)
    · exact Or.inr ⟨h1.trans h2, h2'.trans h1'⟩

/-- One comparison keeps the better of its two pairs. -/
theorem reducer_step (a b : Ideal .f32 × BitVec 32) :
    (reducer_argmax_f32_i32 (F := Ideal) a b = a ∨ reducer_argmax_f32_i32 (F := Ideal) a b = b)
      ∧ Below a (reducer_argmax_f32_i32 (F := Ideal) a b) ∧ Below b (reducer_argmax_f32_i32 (F := Ideal) a b) := by
  obtain ⟨a1, a2⟩ := a
  obtain ⟨b1, b2⟩ := b
  rcases lt_trichotomy (a1 : EReal) b1 with h | h | h
  · have e : reducer_argmax_f32_i32 (F := Ideal) (a1, a2) (b1, b2) = (b1, b2) := by
      simp [reducer_argmax_f32_i32, Ideal.cmpf_def, Ideal.cmp, not_lt.2 h.le, h.ne, IntOp.ori, IntOp.andi, Scalar.select]
    rw [e]
    exact ⟨Or.inr rfl, Or.inl h, Below.rfl _⟩
  · subst h
    by_cases h2 : a2.slt b2
    · have e : reducer_argmax_f32_i32 (F := Ideal) (a1, a2) (a1, b2) = (a1, a2) := by
        simp [reducer_argmax_f32_i32, Ideal.cmpf_def, Ideal.cmp, IntOp.ori, IntOp.andi, Scalar.select, IntOp.cmpi, h2]
      rw [e]
      refine ⟨Or.inl rfl, Below.rfl _, Or.inr ⟨rfl, ?_⟩⟩
      rw [BitVec.slt_eq_decide] at h2
      exact (of_decide_eq_true h2).le
    · have e : reducer_argmax_f32_i32 (F := Ideal) (a1, a2) (a1, b2) = (a1, b2) := by
        simp [reducer_argmax_f32_i32, Ideal.cmpf_def, Ideal.cmp, IntOp.ori, IntOp.andi, Scalar.select, IntOp.cmpi, h2]
      rw [e]
      refine ⟨Or.inr rfl, Or.inr ⟨rfl, ?_⟩, Below.rfl _⟩
      rw [BitVec.slt_eq_decide] at h2
      exact not_lt.1 (fun h => h2 (decide_eq_true h))
  · have e : reducer_argmax_f32_i32 (F := Ideal) (a1, a2) (b1, b2) = (a1, a2) := by
      have h1 : ∀ x : BitVec 1, IntOp.ori (1#1) x = 1#1 := by decide
      simp only [reducer_argmax_f32_i32, Ideal.cmpf_def, Ideal.cmp, h, decide_true, BitVec.ofBool_true]
      simp [h1, Scalar.select]
    rw [e]
    exact ⟨Or.inl rfl, Below.rfl _, Or.inl h⟩

/-- Comparing through a list keeps its best pair. -/
theorem reducer_best (l : List (Ideal .f32 × BitVec 32)) (a : Ideal .f32 × BitVec 32) :
    l.foldl (reducer_argmax_f32_i32 (F := Ideal)) a ∈ a :: l ∧ ∀ p ∈ a :: l, Below p (l.foldl (reducer_argmax_f32_i32 (F := Ideal)) a) := by
  induction l generalizing a with
  | nil => exact ⟨List.mem_singleton.2 rfl, fun p hp => List.mem_singleton.1 hp ▸ Below.rfl _⟩
  | cons b l ih =>
    obtain ⟨hmem, hbel⟩ := ih (reducer_argmax_f32_i32 (F := Ideal) a b)
    obtain ⟨hor, ha, hb⟩ := reducer_step a b
    rw [List.foldl_cons]
    refine ⟨?_, fun p hp => ?_⟩
    · rcases List.mem_cons.1 hmem with h | h
      · rw [h]
        rcases hor with h | h
        · rw [h]; exact List.mem_cons_self ..
        · rw [h]; exact List.mem_cons_of_mem _ (List.mem_cons_self ..)
      · exact List.mem_cons_of_mem _ (List.mem_cons_of_mem _ h)
    · have h0 := hbel _ (List.mem_cons_self ..)
      rcases List.mem_cons.1 hp with rfl | hp
      · exact ha.trans h0
      · rcases List.mem_cons.1 hp with rfl | hp
        · exact hb.trans h0
        · exact hbel p (List.mem_cons_of_mem _ hp)

/-- The pairs a key's slot is chosen from: each entry of its row with its place. -/
theorem fiber_mem (T : FVec Ideal S1x12x2048x768 .f32) (h : Fin 12) (s : Fin 2048) (p : Ideal .f32 × BitVec 32) :
    p ∈ Host.argReduceFiber T (iotaInDim S1x12x2048x768 32 3) reducesTo_S1x12x2048x768_S1x12x2048_d3 (ix3 0 h s)
      ↔ ∃ t : Fin 768, p = (T (ix4 0 h s t), BitVec.ofNat 32 t.val) := by
  unfold Host.argReduceFiber
  constructor
  · intro hp
    obtain ⟨n, hn, rfl⟩ := List.mem_map.1 hp
    have hd := of_decide_eq_true (List.mem_filter.1 hn).2
    generalize S1x12x2048x768.rowMajor.symm n = i at hd
    have hix : ∃ t : Fin 768, i = ix4 0 h s t := by
      refine ⟨i 3, funext fun a => ?_⟩
      match a with
      | ⟨0, _⟩ => exact Subsingleton.elim (α := Fin 1) _ _
      | ⟨1, _⟩ => exact congrFun hd 1
      | ⟨2, _⟩ => exact congrFun hd 2
      | ⟨3, _⟩ => rfl
    obtain ⟨t, rfl⟩ := hix
    exact ⟨t, rfl⟩
  · rintro ⟨t, rfl⟩
    refine List.mem_map.2 ⟨S1x12x2048x768.rowMajor (ix4 0 h s t), List.mem_filter.2 ⟨List.mem_finRange _, decide_eq_true ?_⟩, ?_⟩
    · rw [Equiv.symm_apply_apply]
      funext a
      apply Fin.ext
      match a with
      | ⟨0, _⟩ => rfl
      | ⟨1, _⟩ => rfl
      | ⟨2, _⟩ => rfl
    · rw [Equiv.symm_apply_apply]
      rfl

theorem toInt_small (n : ℕ) (hn : n < 768) : (BitVec.ofNat 32 n).toInt = n := by
  have h : (BitVec.ofNat 32 n).toNat = n := by rw [BitVec.toNat_ofNat]; omega
  rw [BitVec.toInt_eq_toNat_of_lt (by omega), h]

/-- The best of the pairs of a repeated row is the first largest of the 64 entries it repeats. -/
theorem best_place (g : Fin 64 → EReal) (f : Fin 768 → EReal) (hg : ∀ e, ⊥ < g e)
    (hf : ∀ t : Fin 768, f t = g ⟨t.val % 64, Nat.mod_lt _ (by decide)⟩) (l : List (Ideal .f32 × BitVec 32))
    (hl : ∀ p, p ∈ l ↔ ∃ t : Fin 768, p = (f t, BitVec.ofNat 32 t.val)) (r : Ideal .f32 × BitVec 32)
    (hmem : r ∈ ((⊥ : EReal), 0#32) :: l) (hbel : ∀ p ∈ ((⊥ : EReal), 0#32) :: l, Below p r) : r.2 = BitVec.ofNat 32 (first g).val := by
  have hfirst := (nth_one_iff g (first g)).1 (first_spec g)
  have hfl := (first g).isLt
  have hb := hbel _ (List.mem_cons_of_mem _ ((hl _).2 ⟨low (first g), rfl⟩))
  have hlow : f (low (first g)) = g (first g) := (hf _).trans (congrArg g (Fin.ext (Nat.mod_eq_of_lt hfl)))
  rw [hlow] at hb
  have hrl : ∃ t : Fin 768, r = (f t, BitVec.ofNat 32 t.val) := by
    rcases List.mem_cons.1 hmem with h0 | h0
    · exfalso
      have h1 : r.1 = (⊥ : EReal) := congrArg Prod.fst h0
      rcases hb with hb | ⟨hb, _⟩
      · rw [h1] at hb; exact not_lt_bot hb
      · rw [h1] at hb; exact (hg _).ne' hb
    · exact (hl _).1 h0
  obtain ⟨t, rfl⟩ := hrl
  have htl := t.isLt
  have htop : f t ≤ g (first g) := by rw [hf]; exact hfirst.1 _
  rcases hb with hb | ⟨hb, hle⟩
  · exact absurd hb (not_lt.2 htop)
  · have hle : t.val ≤ (first g).val := by
      have h2 : (BitVec.ofNat 32 t.val).toInt ≤ (BitVec.ofNat 32 (first g).val).toInt := hle
      rw [toInt_small _ htl, toInt_small _ (by omega)] at h2
      exact_mod_cast h2
    have hmax : AtMax g ⟨t.val % 64, Nat.mod_lt _ (by decide)⟩ := by
      intro j
      rw [← hf]
      exact (hfirst.1 j).trans (le_of_eq hb)
    have h3 := hfirst.2 _ hmax
    rw [Fin.le_def] at h3
    have h4 : (first g).val ≤ t.val % 64 := h3
    show BitVec.ofNat 32 t.val = _
    congr 1
    omega

theorem mag_pos (x : EReal) : ⊥ < mag x := by
  refine lt_of_lt_of_le EReal.bot_lt_zero ?_
  unfold mag
  rcases le_total 0 x with h | h
  · exact le_max_of_le_left h
  · exact le_max_of_le_right (by simpa using EReal.neg_le_neg_iff.2 h)

/-- So comparing through them finds it. -/
theorem fold_place (g : Fin 64 → EReal) (f : Fin 768 → EReal) (hg : ∀ e, ⊥ < g e)
    (hf : ∀ t : Fin 768, f t = g ⟨t.val % 64, Nat.mod_lt _ (by decide)⟩) (l : List (Ideal .f32 × BitVec 32))
    (hl : ∀ p, p ∈ l ↔ ∃ t : Fin 768, p = (f t, BitVec.ofNat 32 t.val)) (a : Ideal .f32 × BitVec 32) (ha : a = ((⊥ : EReal), 0#32)) :
    (l.foldl (reducer_argmax_f32_i32 (F := Ideal)) a).2 = BitVec.ofNat 32 (first g).val := by
  subst ha
  obtain ⟨hmem, hbel⟩ := reducer_best l ((⊥ : EReal), 0#32)
  exact best_place g f hg hf l hl _ hmem hbel

/-- The slot array as a comparison through the pairs of a row. -/
theorem argmax_fold (T : FVec Ideal S1x12x2048x768 .f32) (Y : IVec S1x12x2048x768 32) (a : FVec Ideal S_ .f32) (b : IVec S_ 32) (j : S1x12x2048.Idx) :
    Host.argReduce (reducer_argmax_f32_i32 (F := Ideal)) T Y a b reducesTo_S1x12x2048x768_S1x12x2048_d3 h_S_ j
      = (Host.argReduceFiber T Y reducesTo_S1x12x2048x768_S1x12x2048_d3 j).foldl (reducer_argmax_f32_i32 (F := Ideal))
        (a (Shape.Idx.first h_S_), b (Shape.Idx.first h_S_)) := by
  rw [Ideal.argReduce_eq_reduce2, Host.reduce2_eq_foldl_fiber]

theorem slot_eq (k : Arr) : slot k = fun j => (Host.argReduce (reducer_argmax_f32_i32 (F := Ideal)) (tile k)
    (iotaInDim S1x12x2048x768 32 3) (constant (F := Ideal) S_ .f32 0xFF800000#32) (constantI S_ 32 0#32)
    reducesTo_S1x12x2048x768_S1x12x2048_d3 h_S_ j).2 := rfl

theorem argmax_place (T : FVec Ideal S1x12x2048x768 .f32) (h : Fin 12) (s : Fin 2048) (g : Fin 64 → EReal) (hg : ∀ e, ⊥ < g e)
    (hT : ∀ t : Fin 768, T (ix4 0 h s t) = g ⟨t.val % 64, Nat.mod_lt _ (by decide)⟩) :
    (Host.argReduce (reducer_argmax_f32_i32 (F := Ideal)) T (iotaInDim S1x12x2048x768 32 3) (constant (F := Ideal) S_ .f32 0xFF800000#32)
      (constantI S_ 32 0#32) reducesTo_S1x12x2048x768_S1x12x2048_d3 h_S_ (ix3 0 h s)).2 = BitVec.ofNat 32 (first g).val :=
  (congrArg Prod.snd (argmax_fold T _ _ _ (ix3 0 h s))).trans
    (fold_place g (fun t => T (ix4 0 h s t)) hg hT _ (fun p => fiber_mem T h s p) _ (congrArg₂ Prod.mk ofBits_bot (Eq.refl (0#32))))

/-- The slot of a key is the place of its first largest magnitude. -/
theorem slot_apply (k : Arr) (h : Fin 12) (s : Fin 2048) :
    slot k (ix3 0 h s) = BitVec.ofNat 32 (first fun e => mag (k (ix4 0 h s e))).val :=
  (congrFun (slot_eq k) (ix3 0 h s)).trans (argmax_place (tile k) h s _ (fun e => mag_pos _) (fun t => tile_apply k h s t))

end Cert.Proof.Reference

end
-- ==== Proof.RefTop.lean ====
module

public import proofs.«01_k».proof.Proof.RefTile
public import proofs.«01_k».proof.Proof.TopSort
public import proofs.«01_k».proof.Proof.Common
public import Idealize.ShloMosaic.Lib.Pipeline.Value

/-! The eight scores of a query and their slots. -/

@[expose] public section

set_option maxRecDepth 16384

noncomputable section

namespace Cert.Proof.Reference

open Cert.ReferenceIdeal Cert.ReferenceIdeal.Facts₀
open Idealize.ShloMosaic Idealize.ShloMosaic.ValueIdx
open scoped Classical

/-- A row of repeated magnitudes. -/
def tileRow (q : Arr) (h : Fin 12) (i : Fin 2048) : Fin 768 → EReal := fun t => tile q (ix4 0 h i t)
/-- The slot at a place of the sorted row. -/
def place (q : Arr) (h : Fin 12) (i : Fin 2048) (t : Fin 8) : Fin 768 := sortedFrom (larger (tileRow q h i)) ⟨t.val, by omega⟩

theorem along_apply (h : Fin 12) (i : Fin 2048) (t a : Fin 768) :
    Shape.Idx.along (s := S1x12x2048x768) (ix4 0 h i t) 3 a = ix4 0 h i a := by
  funext b
  unfold Shape.Idx.along
  match b with
  | ⟨0, _⟩ => rfl
  | ⟨1, _⟩ => rfl
  | ⟨2, _⟩ => rfl
  | ⟨3, _⟩ => rfl

theorem slice_apply {α : Type} (x : S1x12x2048x768.Idx → α) (hs : S1x12x2048x768.Slices (fun _ => 0) S1x12x2048x8) (h : Fin 12) (i : Fin 2048)
    (t : Fin 8) : extractStridedSlice S1x12x2048x8 (fun _ => 0) x hs (ix4 0 h i t) = x (ix4 0 h i ⟨t.val, by omega⟩) := by
  unfold extractStridedSlice
  congr 1
  funext a
  apply Fin.ext
  match a with
  | ⟨0, _⟩ => rfl
  | ⟨1, _⟩ => exact Nat.zero_add _
  | ⟨2, _⟩ => exact Nat.zero_add _
  | ⟨3, _⟩ => exact Nat.zero_add _

/-- Where the sort takes the entry at a place of a row from. -/
theorem order_eq (x : FVec Ideal S1x12x2048x768 .f32) (y : IVec S1x12x2048x768 32) (h : Fin 12) (i : Fin 2048) (t : Fin 768) :
    sortedFrom (fun a b => (fun (l r : Ideal .f32 × BitVec 32) => FloatOps.cmpfTotal (F := Ideal) (φ := .f32) .gt l.1 r.1)
        (x (Shape.Idx.along (s := S1x12x2048x768) (ix4 0 h i t) 3 a), y (Shape.Idx.along (s := S1x12x2048x768) (ix4 0 h i t) 3 a))
        (x (Shape.Idx.along (s := S1x12x2048x768) (ix4 0 h i t) 3 b), y (Shape.Idx.along (s := S1x12x2048x768) (ix4 0 h i t) 3 b)) == 1#1) t
      = sortedFrom (larger fun t => x (ix4 0 h i t)) t := by
  congr 1
  funext a b
  have key : ∀ u v u' v' : EReal, u = u' → v = v' → (BitVec.ofBool (decide (v < u)) == 1#1) = decide (v' < u') := by
    rintro u v _ _ rfl rfl
    cases decide (v < u) <;> rfl
  exact key _ _ _ _ (congrArg x (along_apply h i t a)) (congrArg x (along_apply h i t b))

theorem sort_fst (x : FVec Ideal S1x12x2048x768 .f32) (y : IVec S1x12x2048x768 32) (h : Fin 12) (i : Fin 2048) (t : Fin 768) :
    (Host.sort2 S1x12x2048x768 3 (fun (l r : Ideal .f32 × BitVec 32) => FloatOps.cmpfTotal (F := Ideal) (φ := .f32) .gt l.1 r.1) x y).1 (ix4 0 h i t)
      = x (ix4 0 h i (sortedFrom (larger fun t => x (ix4 0 h i t)) t)) := by
  unfold Host.sort2
  rw [dif_pos (by decide : 3 < S1x12x2048x768.rank)]
  refine Eq.trans ?_ (congrArg x ((along_apply h i t _).trans (congrArg (ix4 0 h i) (order_eq x y h i t))))
  rfl

theorem sort_snd (x : FVec Ideal S1x12x2048x768 .f32) (y : IVec S1x12x2048x768 32) (h : Fin 12) (i : Fin 2048) (t : Fin 768) :
    (Host.sort2 S1x12x2048x768 3 (fun (l r : Ideal .f32 × BitVec 32) => FloatOps.cmpfTotal (F := Ideal) (φ := .f32) .gt l.1 r.1) x y).2 (ix4 0 h i t)
      = y (ix4 0 h i (sortedFrom (larger fun t => x (ix4 0 h i t)) t)) := by
  unfold Host.sort2
  rw [dif_pos (by decide : 3 < S1x12x2048x768.rank)]
  refine Eq.trans ?_ (congrArg y ((along_apply h i t _).trans (congrArg (ix4 0 h i) (order_eq x y h i t))))
  rfl

/-- The places of a row, as the sort carries them. -/
def places : IVec S1x12x2048x768 32 := fun i => if hd : 3 < S1x12x2048x768.rank then iotaInDim S1x12x2048x768 32 ⟨3, hd⟩ i else 0#32

/-- The eight scores of a query. -/
theorem topVal_apply (q : Arr) (h : Fin 12) (i : Fin 2048) (t : Fin 8) : topVal q (ix4 0 h i t) = tileRow q h i (place q h i t) :=
  (slice_apply _ sliceFits_S1x12x2048x768_S1x12x2048x8 h i t).trans (sort_fst (tile q) places h i _)

/-- Their slots. -/
theorem topIdx_apply (q : Arr) (h : Fin 12) (i : Fin 2048) (t : Fin 8) : topIdx q (ix4 0 h i t) = BitVec.ofNat 32 (place q h i t).val :=
  (slice_apply _ sliceFits_S1x12x2048x768_S1x12x2048x8 h i t).trans (sort_snd (tile q) places h i _)

end Cert.Proof.Reference

end
-- ==== Proof.RefIndex.lean ====
module

public import proofs.«01_k».proof.Proof.RefSlot
public import proofs.«01_k».proof.Proof.RefTop

/-! The indices the reference writes at and reads at: the batch, the head and the slot of each position. -/

@[expose] public section

set_option maxRecDepth 16384

noncomputable section

namespace Cert.Proof.Reference

open Cert.ReferenceIdeal Cert.ReferenceIdeal.Facts₀
open Idealize.ShloMosaic Idealize.ShloMosaic.ValueIdx
open scoped Classical

/-- A small index does not count from the end. -/
theorem wrap_apply (S : Shape) (hb : S_.BroadcastsInDim S ![]) (n : BitVec 32) (x : IVec S 32) (j : S.Idx) (m : ℕ) (hm : m < 768)
    (hx : x j = BitVec.ofNat 32 m) : wrap S hb n x j = BitVec.ofNat 32 m := by
  have h : IntOp.cmpi .slt (BitVec.ofNat 32 m) (0#32) = 0#1 := by
    have h2 : BitVec.slt (BitVec.ofNat 32 m) (0#32) = false := by
      rw [BitVec.slt_eq_decide, toInt_small m hm]
      exact decide_eq_false (by simp)
    show BitVec.ofBool (BitVec.slt (BitVec.ofNat 32 m) (0#32)) = 0#1
    rw [h2]; rfl
  show Scalar.select (IntOp.cmpi .slt (x j) (0#32)) _ (x j) = _
  rw [hx, h]
  exact select_zero _ _

theorem batch_wrap : wrap S1x1x1 bcast_S_S1x1x1 1#32 batchNo (ix3 0 0 0) = BitVec.ofNat 32 0 :=
  wrap_apply _ _ _ _ _ 0 (by omega) rfl

theorem head_wrap (h : Fin 12) : wrap S1x12x1 bcast_S_S1x12x1 12#32 headNo (ix3 0 h 0) = BitVec.ofNat 32 h.val :=
  wrap_apply _ _ _ _ _ h.val (by omega) rfl

/-- Three index arrays side by side. -/
theorem three_apply (x : Fin 3 → IVec S1x12x2048x1 32) (h : Fin 12) (s : Fin 2048) (c : Fin 3) :
    concatenate S1x12x2048x3 3 [⟨S1x12x2048x1, x 0⟩, ⟨S1x12x2048x1, x 1⟩, ⟨S1x12x2048x1, x 2⟩]
      concatenates_S1x12x2048x1_S1x12x2048x1_S1x12x2048x1_S1x12x2048x3_d3 (ix4 0 h s c) = x c (ix4 0 h s 0) := by
  refine concatenate_ofFn_unit_apply (t := S1x12x2048x3) (s₁ := S1x12x2048x1) 3 x
    concatenates_S1x12x2048x1_S1x12x2048x1_S1x12x2048x1_S1x12x2048x3_d3 rfl rfl (ix4 0 h s c) c rfl (ix4 0 h s 0) (fun b hb => ?_)
  match b with
  | ⟨0, _⟩ => rfl
  | ⟨1, _⟩ => rfl
  | ⟨2, _⟩ => rfl
  | ⟨3, _⟩ => exact absurd rfl hb

theorem three_apply8 (x : Fin 3 → IVec S1x12x2048x8x1 32) (h : Fin 12) (i : Fin 2048) (t : Fin 8) (c : Fin 3) :
    concatenate S1x12x2048x8x3 4 [⟨S1x12x2048x8x1, x 0⟩, ⟨S1x12x2048x8x1, x 1⟩, ⟨S1x12x2048x8x1, x 2⟩]
      concatenates_S1x12x2048x8x1_S1x12x2048x8x1_S1x12x2048x8x1_S1x12x2048x8x3_d4 (ix5 0 h i t c) = x c (ix5 0 h i t 0) := by
  refine concatenate_ofFn_unit_apply (t := S1x12x2048x8x3) (s₁ := S1x12x2048x8x1) 4 x
    concatenates_S1x12x2048x8x1_S1x12x2048x8x1_S1x12x2048x8x1_S1x12x2048x8x3_d4 rfl rfl (ix5 0 h i t c) c rfl (ix5 0 h i t 0) (fun b hb => ?_)
  match b with
  | ⟨0, _⟩ => rfl
  | ⟨1, _⟩ => rfl
  | ⟨2, _⟩ => rfl
  | ⟨3, _⟩ => rfl
  | ⟨4, _⟩ => exact absurd rfl hb

/-- The batch of each write. -/
def addPartB (b : IVec S1x1x1 32) : IVec S1x12x2048x1 32 := broadcastInDim S1x12x2048x1 ![0, 1, 2] bcast_S1x12x2048_S1x12x2048x1_0_1_2
  (broadcastInDim S1x12x2048 ![0, 1, 2] bcast_S1x1x1_S1x12x2048_0_1_2 (wrap S1x1x1 bcast_S_S1x1x1 1#32 b))
/-- The head of each write. -/
def addPartH (h : IVec S1x12x1 32) : IVec S1x12x2048x1 32 := broadcastInDim S1x12x2048x1 ![0, 1, 2] bcast_S1x12x2048_S1x12x2048x1_0_1_2
  (broadcastInDim S1x12x2048 ![0, 1, 2] bcast_S1x12x1_S1x12x2048_0_1_2 (wrap S1x12x1 bcast_S_S1x12x1 12#32 h))
/-- The slot of each write. -/
def addPartS (s : IVec S1x12x2048 32) : IVec S1x12x2048x1 32 :=
  broadcastInDim S1x12x2048x1 ![0, 1, 2] bcast_S1x12x2048_S1x12x2048x1_0_1_2 (wrap S1x12x2048 bcast_S_S1x12x2048 768#32 s)
/-- The three index arrays of the writes. -/
def addParts (b : IVec S1x1x1 32) (h : IVec S1x12x1 32) (s : IVec S1x12x2048 32) : Fin 3 → IVec S1x12x2048x1 32 :=
  ![addPartB b, addPartH h, addPartS s]

theorem addAtOf_eq (b : IVec S1x1x1 32) (h : IVec S1x12x1 32) (s : IVec S1x12x2048 32) : addAtOf b h s
    = concatenate S1x12x2048x3 3 [⟨S1x12x2048x1, addParts b h s 0⟩, ⟨S1x12x2048x1, addParts b h s 1⟩, ⟨S1x12x2048x1, addParts b h s 2⟩]
      concatenates_S1x12x2048x1_S1x12x2048x1_S1x12x2048x1_S1x12x2048x3_d3 := rfl

theorem add_batch (b : IVec S1x1x1 32) (hd : IVec S1x12x1 32) (sl : IVec S1x12x2048 32) (h : Fin 12) (s : Fin 2048) :
    addParts b hd sl 0 (ix4 0 h s 0) = wrap S1x1x1 bcast_S_S1x1x1 1#32 b (ix3 0 0 0) := by
  show addPartB b (ix4 0 h s 0) = _
  unfold addPartB broadcastInDim
  congr 1
  funext a
  match a with
  | ⟨0, _⟩ => rfl
  | ⟨1, _⟩ => rfl
  | ⟨2, _⟩ => rfl
theorem add_head (b : IVec S1x1x1 32) (hd : IVec S1x12x1 32) (sl : IVec S1x12x2048 32) (h : Fin 12) (s : Fin 2048) :
    addParts b hd sl 1 (ix4 0 h s 0) = wrap S1x12x1 bcast_S_S1x12x1 12#32 hd (ix3 0 h 0) := by
  show addPartH hd (ix4 0 h s 0) = _
  unfold addPartH broadcastInDim
  congr 1
  funext a
  match a with
  | ⟨0, _⟩ => rfl
  | ⟨1, _⟩ => rfl
  | ⟨2, _⟩ => rfl
theorem add_slot (b : IVec S1x1x1 32) (hd : IVec S1x12x1 32) (sl : IVec S1x12x2048 32) (h : Fin 12) (s : Fin 2048) :
    addParts b hd sl 2 (ix4 0 h s 0) = wrap S1x12x2048 bcast_S_S1x12x2048 768#32 sl (ix3 0 h s) := by
  show addPartS sl (ix4 0 h s 0) = _
  unfold addPartS broadcastInDim
  congr 1
  funext a
  match a with
  | ⟨0, _⟩ => rfl
  | ⟨1, _⟩ => rfl
  | ⟨2, _⟩ => rfl

/-- Where a key is added. -/
theorem addAt_apply (k : Arr) (h : Fin 12) (s : Fin 2048) (c : Fin 3) :
    addAt k (ix4 0 h s c) = ![BitVec.ofNat 32 0, BitVec.ofNat 32 h.val, BitVec.ofNat 32 (slotOf (fun s e => k (ix4 0 h s e)) s).val] c := by
  refine (congrFun (addAtOf_eq batchNo headNo (slot k)) (ix4 0 h s c)).trans ((three_apply _ h s c).trans ?_)
  match c with
  | ⟨0, _⟩ => exact (add_batch _ _ _ h s).trans batch_wrap
  | ⟨1, _⟩ => exact (add_head _ _ _ h s).trans (head_wrap h)
  | ⟨2, _⟩ =>
    have hl := (slotOf (fun s e => k (ix4 0 h s e)) s).isLt
    exact (add_slot _ _ _ h s).trans (wrap_apply S1x12x2048 bcast_S_S1x12x2048 768#32 (slot k) (ix3 0 h s) _ (by omega) (slot_apply k h s))

/-- The batch of each read. -/
def readPartB (b : IVec S1x1x1x1 32) : IVec S1x12x2048x8x1 32 := broadcastInDim S1x12x2048x8x1 ![0, 1, 2, 3] bcast_S1x12x2048x8_S1x12x2048x8x1_0_1_2_3
  (broadcastInDim S1x12x2048x8 ![0, 1, 2, 3] bcast_S1x1x1x1_S1x12x2048x8_0_1_2_3 (wrap S1x1x1x1 bcast_S_S1x1x1x1 1#32 b))
/-- The head of each read. -/
def readPartH (h : IVec S1x12x1x1 32) : IVec S1x12x2048x8x1 32 := broadcastInDim S1x12x2048x8x1 ![0, 1, 2, 3] bcast_S1x12x2048x8_S1x12x2048x8x1_0_1_2_3
  (broadcastInDim S1x12x2048x8 ![0, 1, 2, 3] bcast_S1x12x1x1_S1x12x2048x8_0_1_2_3 (wrap S1x12x1x1 bcast_S_S1x12x1x1 12#32 h))
/-- The slot of each read. -/
def readPartS (t : IVec S1x12x2048x8 32) : IVec S1x12x2048x8x1 32 :=
  broadcastInDim S1x12x2048x8x1 ![0, 1, 2, 3] bcast_S1x12x2048x8_S1x12x2048x8x1_0_1_2_3 (wrap S1x12x2048x8 bcast_S_S1x12x2048x8 768#32 t)
/-- The three index arrays of the reads. -/
def readParts (b : IVec S1x1x1 32) (h : IVec S1x12x1 32) (t : IVec S1x12x2048x8 32) : Fin 3 → IVec S1x12x2048x8x1 32 :=
  ![readPartB (broadcastInDim S1x1x1x1 ![0, 1, 2] bcast_S1x1x1_S1x1x1x1_0_1_2 b),
    readPartH (broadcastInDim S1x12x1x1 ![0, 1, 2] bcast_S1x12x1_S1x12x1x1_0_1_2 h), readPartS t]

theorem readAtOf_eq (b : IVec S1x1x1 32) (h : IVec S1x12x1 32) (t : IVec S1x12x2048x8 32) : readAtOf b h t
    = concatenate S1x12x2048x8x3 4 [⟨S1x12x2048x8x1, readParts b h t 0⟩, ⟨S1x12x2048x8x1, readParts b h t 1⟩, ⟨S1x12x2048x8x1, readParts b h t 2⟩]
      concatenates_S1x12x2048x8x1_S1x12x2048x8x1_S1x12x2048x8x1_S1x12x2048x8x3_d4 := rfl

theorem read_batch (hd : IVec S1x12x1 32) (tp : IVec S1x12x2048x8 32) (h : Fin 12) (i : Fin 2048) (t : Fin 8) :
    readParts batchNo hd tp 0 (ix5 0 h i t 0) = BitVec.ofNat 32 0 := by
  refine Eq.trans (b := wrap S1x1x1x1 bcast_S_S1x1x1x1 1#32 (broadcastInDim S1x1x1x1 ![0, 1, 2] bcast_S1x1x1_S1x1x1x1_0_1_2 batchNo) (ix4 0 0 0 0))
    ?_ (wrap_apply _ _ _ _ _ 0 (by omega) rfl)
  show readPartB (broadcastInDim S1x1x1x1 ![0, 1, 2] bcast_S1x1x1_S1x1x1x1_0_1_2 batchNo) (ix5 0 h i t 0) = _
  unfold readPartB broadcastInDim
  congr 1
  funext a
  match a with
  | ⟨0, _⟩ => rfl
  | ⟨1, _⟩ => rfl
  | ⟨2, _⟩ => rfl
  | ⟨3, _⟩ => rfl
theorem read_head (b : IVec S1x1x1 32) (tp : IVec S1x12x2048x8 32) (h : Fin 12) (i : Fin 2048) (t : Fin 8) :
    readParts b headNo tp 1 (ix5 0 h i t 0) = BitVec.ofNat 32 h.val := by
  refine Eq.trans (b := wrap S1x12x1x1 bcast_S_S1x12x1x1 12#32 (broadcastInDim S1x12x1x1 ![0, 1, 2] bcast_S1x12x1_S1x12x1x1_0_1_2 headNo) (ix4 0 h 0 0))
    ?_ (wrap_apply _ _ _ _ _ h.val (by omega) rfl)
  show readPartH (broadcastInDim S1x12x1x1 ![0, 1, 2] bcast_S1x12x1_S1x12x1x1_0_1_2 headNo) (ix5 0 h i t 0) = _
  unfold readPartH broadcastInDim
  congr 1
  funext a
  match a with
  | ⟨0, _⟩ => rfl
  | ⟨1, _⟩ => rfl
  | ⟨2, _⟩ => rfl
  | ⟨3, _⟩ => rfl
theorem read_slot (b : IVec S1x1x1 32) (hd : IVec S1x12x1 32) (tp : IVec S1x12x2048x8 32) (h : Fin 12) (i : Fin 2048) (t : Fin 8) :
    readParts b hd tp 2 (ix5 0 h i t 0) = wrap S1x12x2048x8 bcast_S_S1x12x2048x8 768#32 tp (ix4 0 h i t) := by
  show readPartS tp (ix5 0 h i t 0) = _
  unfold readPartS broadcastInDim
  congr 1
  funext a
  match a with
  | ⟨0, _⟩ => rfl
  | ⟨1, _⟩ => rfl
  | ⟨2, _⟩ => rfl
  | ⟨3, _⟩ => rfl

/-- Where a query reads. -/
theorem readAt_apply (q : Arr) (h : Fin 12) (i : Fin 2048) (t : Fin 8) (c : Fin 3) :
    readAt q (ix5 0 h i t c) = ![BitVec.ofNat 32 0, BitVec.ofNat 32 h.val, BitVec.ofNat 32 (place q h i t).val] c := by
  refine (congrFun (readAtOf_eq batchNo headNo (topIdx q)) (ix5 0 h i t c)).trans ((three_apply8 _ h i t c).trans ?_)
  match c with
  | ⟨0, _⟩ => exact read_batch _ _ h i t
  | ⟨1, _⟩ => exact read_head _ _ h i t
  | ⟨2, _⟩ => exact (read_slot _ _ _ h i t).trans (wrap_apply _ _ _ (topIdx q) (ix4 0 h i t) _ (place q h i t).isLt (topIdx_apply q h i t))

end Cert.Proof.Reference

end
-- ==== Proof.RefScatter.lean ====
module

public import proofs.«01_k».proof.Proof.RefIndex

/-! What the reference's two tables hold: in each slot the sum of what is written there. -/

@[expose] public section

set_option maxRecDepth 16384

noncomputable section

namespace Cert.Proof.Reference

open Cert.ReferenceIdeal Cert.ReferenceIdeal.Facts₀
open Idealize.ShloMosaic Idealize.ShloMosaic.ValueIdx

/-- An update whose start and window add up to an index of the operand lands there. -/
theorem lands {s si u : Shape} {w : ℕ} (d : ScatterDims s si u) (j : u.Idx) (idx : IVec si w) (i : s.Idx)
    (h : ∀ a, d.start j idx a + d.window j a = ((i a).val : ℤ)) : d.resultIdx? j idx = some i := by
  unfold ScatterDims.resultIdx?
  rw [dif_pos (fun a => by rw [h a]; have := (i a).isLt; omega)]
  congr 1
  funext a
  apply Fin.ext
  show (d.start j idx a + d.window j a).toNat = (i a).val
  rw [h a]
  exact Int.toNat_natCast _

/-- The scatter of the keys. -/
abbrev dk := scatter_S1x12x768x64_S1x12x2048x3_S1x12x2048x64_3_012_012_3
/-- The scatter of the outer products. -/
abbrev dm := scatter_S1x12x768x64x64_S1x12x2048x3_S1x12x2048x64x64_34_012_012_3

/-- A scatter of sums adds to each entry all the updates that land there. -/
theorem scatterAdd_apply {s si u : Shape} {w : ℕ} (d : ScatterDims s si u) (x : FVec Ideal s .f32) (idx : IVec si w) (upd : FVec Ideal u .f32) (i : s.Idx) :
    Host.scatterAdd d x idx upd i = x i + ∑ j, if d.resultIdx? j idx = some i then upd j else 0 := by
  rw [← Finset.sum_filter]
  show x i + _ = x i + _
  congr 1

/-- Coordinate 0 of where a key starts. -/
theorem key_start0 (idx : IVec S1x12x2048x3 32) (h : Fin 12) (s : Fin 2048) (e : Fin 64) :
    dk.start (ix4 0 h s e) idx 0 = (idx (ix4 0 h s 0)).toInt := by
  unfold ScatterDims.start
  rw [dif_pos (by decide)]
  congr 2
  funext b
  match b with
  | ⟨0, _⟩ => rfl
  | ⟨1, _⟩ => rfl
  | ⟨2, _⟩ => rfl
  | ⟨3, _⟩ => rfl

/-- Coordinate 1 of where a key starts. -/
theorem key_start1 (idx : IVec S1x12x2048x3 32) (h : Fin 12) (s : Fin 2048) (e : Fin 64) :
    dk.start (ix4 0 h s e) idx 1 = (idx (ix4 0 h s 1)).toInt := by
  unfold ScatterDims.start
  rw [dif_pos (by decide)]
  congr 2
  funext b
  match b with
  | ⟨0, _⟩ => rfl
  | ⟨1, _⟩ => rfl
  | ⟨2, _⟩ => rfl
  | ⟨3, _⟩ => rfl

/-- Coordinate 2 of where a key starts. -/
theorem key_start2 (idx : IVec S1x12x2048x3 32) (h : Fin 12) (s : Fin 2048) (e : Fin 64) :
    dk.start (ix4 0 h s e) idx 2 = (idx (ix4 0 h s 2)).toInt := by
  unfold ScatterDims.start
  rw [dif_pos (by decide)]
  congr 2
  funext b
  match b with
  | ⟨0, _⟩ => rfl
  | ⟨1, _⟩ => rfl
  | ⟨2, _⟩ => rfl
  | ⟨3, _⟩ => rfl

/-- The windows of a key: only its own entries move inside the slot. -/
theorem key_window0 (h : Fin 12) (s : Fin 2048) (e : Fin 64) : dk.window (ix4 0 h s e) 0 = 0 := by
  unfold ScatterDims.window
  rw [dif_neg (by decide)]

theorem key_window1 (h : Fin 12) (s : Fin 2048) (e : Fin 64) : dk.window (ix4 0 h s e) 1 = 0 := by
  unfold ScatterDims.window
  rw [dif_neg (by decide)]

theorem key_window2 (h : Fin 12) (s : Fin 2048) (e : Fin 64) : dk.window (ix4 0 h s e) 2 = 0 := by
  unfold ScatterDims.window
  rw [dif_neg (by decide)]

theorem key_window3 (h : Fin 12) (s : Fin 2048) (e : Fin 64) : dk.window (ix4 0 h s e) 3 = e.val := by
  unfold ScatterDims.window
  rw [dif_pos (by decide)]
  rfl

theorem key_start3 (idx : IVec S1x12x2048x3 32) (h : Fin 12) (s : Fin 2048) (e : Fin 64) :
    dk.start (ix4 0 h s e) idx 3 = 0 := by
  unfold ScatterDims.start
  rw [dif_neg (by decide)]

/-- A key lands in the slot of its key. -/
theorem key_lands (k : Arr) (h : Fin 12) (s : Fin 2048) (e : Fin 64) :
    dk.resultIdx? (ix4 0 h s e) (addAt k) = some (ix4 0 h (low (slotOf (fun s e => k (ix4 0 h s e)) s)) e) := by
  have hl := (slotOf (fun s e => k (ix4 0 h s e)) s).isLt
  refine lands dk _ _ _ fun a => ?_
  match a with
  | ⟨0, _⟩ =>
    have e0 := (key_start0 (addAt k) h s e).trans (congrArg BitVec.toInt (addAt_apply k h s 0))
    have e1 := e0.trans (toInt_small 0 (by omega))
    have e2 := key_window0 h s e
    exact (congrArg₂ (fun (x : ℤ) (y : ℕ) => x + (y : ℤ)) e1 e2).trans (by simp; try rfl)
  | ⟨1, _⟩ =>
    have e0 := (key_start1 (addAt k) h s e).trans (congrArg BitVec.toInt (addAt_apply k h s 1))
    have e1 := e0.trans (toInt_small h.val (by omega))
    have e2 := key_window1 h s e
    exact (congrArg₂ (fun (x : ℤ) (y : ℕ) => x + (y : ℤ)) e1 e2).trans (by simp; try rfl)
  | ⟨2, _⟩ =>
    have e0 := (key_start2 (addAt k) h s e).trans (congrArg BitVec.toInt (addAt_apply k h s 2))
    have e1 := e0.trans (toInt_small (slotOf (fun s e => k (ix4 0 h s e)) s).val (by omega))
    have e2 := key_window2 h s e
    exact (congrArg₂ (fun (x : ℤ) (y : ℕ) => x + (y : ℤ)) e1 e2).trans (by simp; try rfl)
  | ⟨3, _⟩ =>
    have e1 := key_start3 (addAt k) h s e
    have e2 := key_window3 h s e
    exact (congrArg₂ (fun (x : ℤ) (y : ℕ) => x + (y : ℤ)) e1 e2).trans (by simp; try rfl)

/-- Coordinate 0 of where an outer product starts. -/
theorem outer_start0 (idx : IVec S1x12x2048x3 32) (h : Fin 12) (s : Fin 2048) (d e : Fin 64) :
    dm.start (ix5 0 h s d e) idx 0 = (idx (ix4 0 h s 0)).toInt := by
  unfold ScatterDims.start
  rw [dif_pos (by decide)]
  congr 2
  funext b
  match b with
  | ⟨0, _⟩ => rfl
  | ⟨1, _⟩ => rfl
  | ⟨2, _⟩ => rfl
  | ⟨3, _⟩ => rfl

/-- Coordinate 1 of where an outer product starts. -/
theorem outer_start1 (idx : IVec S1x12x2048x3 32) (h : Fin 12) (s : Fin 2048) (d e : Fin 64) :
    dm.start (ix5 0 h s d e) idx 1 = (idx (ix4 0 h s 1)).toInt := by
  unfold ScatterDims.start
  rw [dif_pos (by decide)]
  congr 2
  funext b
  match b with
  | ⟨0, _⟩ => rfl
  | ⟨1, _⟩ => rfl
  | ⟨2, _⟩ => rfl
  | ⟨3, _⟩ => rfl

/-- Coordinate 2 of where an outer product starts. -/
theorem outer_start2 (idx : IVec S1x12x2048x3 32) (h : Fin 12) (s : Fin 2048) (d e : Fin 64) :
    dm.start (ix5 0 h s d e) idx 2 = (idx (ix4 0 h s 2)).toInt := by
  unfold ScatterDims.start
  rw [dif_pos (by decide)]
  congr 2
  funext b
  match b with
  | ⟨0, _⟩ => rfl
  | ⟨1, _⟩ => rfl
  | ⟨2, _⟩ => rfl
  | ⟨3, _⟩ => rfl

/-- The windows of an outer product: only its own entries move inside the slot. -/
theorem outer_window0 (h : Fin 12) (s : Fin 2048) (d e : Fin 64) : dm.window (ix5 0 h s d e) 0 = 0 := by
  unfold ScatterDims.window
  rw [dif_neg (by decide)]

theorem outer_window1 (h : Fin 12) (s : Fin 2048) (d e : Fin 64) : dm.window (ix5 0 h s d e) 1 = 0 := by
  unfold ScatterDims.window
  rw [dif_neg (by decide)]

theorem outer_window2 (h : Fin 12) (s : Fin 2048) (d e : Fin 64) : dm.window (ix5 0 h s d e) 2 = 0 := by
  unfold ScatterDims.window
  rw [dif_neg (by decide)]

theorem outer_window3 (h : Fin 12) (s : Fin 2048) (d e : Fin 64) : dm.window (ix5 0 h s d e) 3 = d.val := by
  unfold ScatterDims.window
  rw [dif_pos (by decide)]
  rfl

theorem outer_start3 (idx : IVec S1x12x2048x3 32) (h : Fin 12) (s : Fin 2048) (d e : Fin 64) :
    dm.start (ix5 0 h s d e) idx 3 = 0 := by
  unfold ScatterDims.start
  rw [dif_neg (by decide)]

theorem outer_window4 (h : Fin 12) (s : Fin 2048) (d e : Fin 64) : dm.window (ix5 0 h s d e) 4 = e.val := by
  unfold ScatterDims.window
  rw [dif_pos (by decide)]
  rfl

theorem outer_start4 (idx : IVec S1x12x2048x3 32) (h : Fin 12) (s : Fin 2048) (d e : Fin 64) :
    dm.start (ix5 0 h s d e) idx 4 = 0 := by
  unfold ScatterDims.start
  rw [dif_neg (by decide)]

/-- An outer product lands in the slot of its key. -/
theorem outer_lands (k : Arr) (h : Fin 12) (s : Fin 2048) (d e : Fin 64) :
    dm.resultIdx? (ix5 0 h s d e) (addAt k) = some (ix5 0 h (low (slotOf (fun s e => k (ix4 0 h s e)) s)) d e) := by
  have hl := (slotOf (fun s e => k (ix4 0 h s e)) s).isLt
  refine lands dm _ _ _ fun a => ?_
  match a with
  | ⟨0, _⟩ =>
    have e0 := (outer_start0 (addAt k) h s d e).trans (congrArg BitVec.toInt (addAt_apply k h s 0))
    have e1 := e0.trans (toInt_small 0 (by omega))
    have e2 := outer_window0 h s d e
    exact (congrArg₂ (fun (x : ℤ) (y : ℕ) => x + (y : ℤ)) e1 e2).trans (by simp; try rfl)
  | ⟨1, _⟩ =>
    have e0 := (outer_start1 (addAt k) h s d e).trans (congrArg BitVec.toInt (addAt_apply k h s 1))
    have e1 := e0.trans (toInt_small h.val (by omega))
    have e2 := outer_window1 h s d e
    exact (congrArg₂ (fun (x : ℤ) (y : ℕ) => x + (y : ℤ)) e1 e2).trans (by simp; try rfl)
  | ⟨2, _⟩ =>
    have e0 := (outer_start2 (addAt k) h s d e).trans (congrArg BitVec.toInt (addAt_apply k h s 2))
    have e1 := e0.trans (toInt_small (slotOf (fun s e => k (ix4 0 h s e)) s).val (by omega))
    have e2 := outer_window2 h s d e
    exact (congrArg₂ (fun (x : ℤ) (y : ℕ) => x + (y : ℤ)) e1 e2).trans (by simp; try rfl)
  | ⟨3, _⟩ =>
    have e1 := outer_start3 (addAt k) h s d e
    have e2 := outer_window3 h s d e
    exact (congrArg₂ (fun (x : ℤ) (y : ℕ) => x + (y : ℤ)) e1 e2).trans (by simp; try rfl)
  | ⟨4, _⟩ =>
    have e1 := outer_start4 (addAt k) h s d e
    have e2 := outer_window4 h s d e
    exact (congrArg₂ (fun (x : ℤ) (y : ℕ) => x + (y : ℤ)) e1 e2).trans (by simp; try rfl)

/-- What the table of keys holds. -/
theorem keySum_apply (k : Arr) (h : Fin 12) (c : Fin 768) (e : Fin 64) :
    keySum k (ix4 0 h c e) = ∑ s, if low (slotOf (fun s e => k (ix4 0 h s e)) s) = c then k (ix4 0 h s e) else 0 := by
  refine (scatterAdd_apply dk _ (addAt k) k (ix4 0 h c e)).trans ?_
  refine (congrArg (fun x : EReal => x + _) Ideal.ofBits_zero_f32).trans ?_
  rw [zero_add, ← Finset.sum_filter, ← Finset.sum_filter]
  have key : ∀ j : S1x12x2048x64.Idx, dk.resultIdx? j (addAt k) = some (ix4 0 h c e) →
      j = ix4 0 h (j 2) e ∧ low (slotOf (fun s e => k (ix4 0 h s e)) (j 2)) = c := by
    intro j hj
    obtain ⟨a, h', s, e', rfl⟩ : ∃ (a : Fin 1) (h' : Fin 12) (s : Fin 2048) (e' : Fin 64), j = ix4 a h' s e' := ⟨j 0, j 1, j 2, j 3, eq_ix4 j⟩
    obtain rfl : a = 0 := Subsingleton.elim _ _
    rw [key_lands] at hj
    have hj := Option.some.inj hj
    have h1 : h' = h := congrFun hj 1
    subst h1
    have h3 : e' = e := congrFun hj 3
    subst h3
    exact ⟨rfl, congrFun hj 2⟩
  refine Finset.sum_bij' (fun j _ => j 2) (fun s _ => ix4 0 h s e) ?_ ?_ ?_ ?_ ?_
  · intro j hj
    exact Finset.mem_filter.2 ⟨Finset.mem_univ _, (key j (Finset.mem_filter.1 hj).2).2⟩
  · intro s hs
    refine Finset.mem_filter.2 ⟨Finset.mem_univ _, ?_⟩
    rw [key_lands, (Finset.mem_filter.1 hs).2]
  · intro j hj
    exact (key j (Finset.mem_filter.1 hj).2).1.symm
  · intro s hs
    rfl
  · intro j hj
    exact congrArg k (key j (Finset.mem_filter.1 hj).2).1

/-- The values, repeated along the last axis. -/
theorem spread_value (v : Arr) (h : Fin 12) (s : Fin 2048) (d e : Fin 64) :
    (broadcastInDim S1x12x2048x64x64 ![0, 1, 2, 3, 4] bcast_S1x12x2048x64x1_S1x12x2048x64x64_0_1_2_3_4
      (broadcastInDim S1x12x2048x64x1 ![0, 1, 2, 3] bcast_S1x12x2048x64_S1x12x2048x64x1_0_1_2_3 v)) (ix5 0 h s d e) = v (ix4 0 h s d) := by
  unfold broadcastInDim
  congr 1
  funext a
  match a with
  | ⟨0, _⟩ => rfl
  | ⟨1, _⟩ => rfl
  | ⟨2, _⟩ => rfl
  | ⟨3, _⟩ => rfl

/-- The keys, repeated along the axis before the last. -/
theorem spread_key (k : Arr) (h : Fin 12) (s : Fin 2048) (d e : Fin 64) :
    (broadcastInDim S1x12x2048x64x64 ![0, 1, 2, 3, 4] bcast_S1x12x2048x1x64_S1x12x2048x64x64_0_1_2_3_4
      (broadcastInDim S1x12x2048x1x64 ![0, 1, 2, 4] bcast_S1x12x2048x64_S1x12x2048x1x64_0_1_2_4 k)) (ix5 0 h s d e) = k (ix4 0 h s e) := by
  unfold broadcastInDim
  congr 1
  funext a
  match a with
  | ⟨0, _⟩ => rfl
  | ⟨1, _⟩ => rfl
  | ⟨2, _⟩ => rfl
  | ⟨3, _⟩ => rfl

/-- The outer product of a value and a key. -/
theorem outer_apply (k v : Arr) (h : Fin 12) (s : Fin 2048) (d e : Fin 64) :
    outer k v (ix5 0 h s d e) = v (ix4 0 h s d) * k (ix4 0 h s e) :=
  congrArg₂ (fun x y : EReal => x * y) (spread_value v h s d e) (spread_key k h s d e)

/-- What the table of outer products holds. -/
theorem memory_apply (k v : Arr) (h : Fin 12) (c : Fin 768) (d e : Fin 64) :
    memory k v (ix5 0 h c d e)
      = ∑ s, if low (slotOf (fun s e => k (ix4 0 h s e)) s) = c then v (ix4 0 h s d) * k (ix4 0 h s e) else 0 := by
  refine (scatterAdd_apply dm _ (addAt k) (outer k v) (ix5 0 h c d e)).trans ?_
  refine (congrArg (fun x : EReal => x + _) Ideal.ofBits_zero_f32).trans ?_
  rw [zero_add, ← Finset.sum_filter, ← Finset.sum_filter]
  have key : ∀ j : S1x12x2048x64x64.Idx, dm.resultIdx? j (addAt k) = some (ix5 0 h c d e) →
      j = ix5 0 h (j 2) d e ∧ low (slotOf (fun s e => k (ix4 0 h s e)) (j 2)) = c := by
    intro j hj
    obtain ⟨a, h', s, d', e', rfl⟩ : ∃ (a : Fin 1) (h' : Fin 12) (s : Fin 2048) (d' e' : Fin 64), j = ix5 a h' s d' e' :=
      ⟨j 0, j 1, j 2, j 3, j 4, eq_ix5 j⟩
    obtain rfl : a = 0 := Subsingleton.elim _ _
    rw [outer_lands] at hj
    have hj := Option.some.inj hj
    have h1 : h' = h := congrFun hj 1
    subst h1
    have h3 : d' = d := congrFun hj 3
    subst h3
    have h4 : e' = e := congrFun hj 4
    subst h4
    exact ⟨rfl, congrFun hj 2⟩
  refine Finset.sum_bij' (fun j _ => j 2) (fun s _ => ix5 0 h s d e) ?_ ?_ ?_ ?_ ?_
  · intro j hj
    exact Finset.mem_filter.2 ⟨Finset.mem_univ _, (key j (Finset.mem_filter.1 hj).2).2⟩
  · intro s hs
    refine Finset.mem_filter.2 ⟨Finset.mem_univ _, ?_⟩
    rw [outer_lands, (Finset.mem_filter.1 hs).2]
  · intro j hj
    exact (key j (Finset.mem_filter.1 hj).2).1.symm
  · intro s hs
    rfl
  · intro j hj
    exact (congrArg (outer k v) (key j (Finset.mem_filter.1 hj).2).1).trans (outer_apply k v h (j 2) d e)

end Cert.Proof.Reference

end
-- ==== Proof.RefGather.lean ====
module

public import proofs.«01_k».proof.Proof.RefScatter
public import Idealize.ShloMosaic.Lib.ValueIdxRank6

/-! What the reference reads from its two tables: the rows of a query's eight slots. -/

@[expose] public section

set_option maxRecDepth 16384

noncomputable section

namespace Cert.Proof.Reference

open Cert.ReferenceIdeal Cert.ReferenceIdeal.Facts₀
open Idealize.ShloMosaic Idealize.ShloMosaic.ValueIdx

/-- A gather reads the operand at the index its three parts add up to. -/
theorem gather_at {α : Type} {s si t : Shape} {w : ℕ} (d : GatherDims s si t) (x : s.Idx → α) (idx : IVec si w) (j : t.Idx) (i : s.Idx)
    (h : ∀ a, d.start j idx a + d.batchCoord j a + d.offCoord j a = (i a).val) : Host.gather d x idx j = x i := by
  unfold Host.gather
  congr 1
  funext a
  exact Fin.ext (h a)

/-- The reading of the keys. -/
abbrev gk := gather_S1x12x768x64_S1x12x2048x8x3_S1x12x2048x8x64_4_012_n_n_012_4_11164
/-- The reading of the outer products. -/
abbrev gm := gather_S1x12x768x64x64_S1x12x2048x8x3_S1x12x2048x8x64x64_45_012_n_n_012_4_1116464

/-- Coordinate 0 of where a reading starts. -/
theorem key_read_start0 (idx : IVec S1x12x2048x8x3 32) (h : Fin 12) (i : Fin 2048) (t : Fin 8) (e : Fin 64) :
    gk.start (ix5 0 h i t e) idx 0 = min (idx (ix5 0 h i t 0)).toInt.toNat 0 := by
  unfold GatherDims.start
  rw [dif_pos (by decide)]
  refine congrArg (fun x : S1x12x2048x8x3.Idx => min (idx x).toInt.toNat 0) ?_
  funext b
  match b with
  | ⟨0, _⟩ => rfl
  | ⟨1, _⟩ => rfl
  | ⟨2, _⟩ => rfl
  | ⟨3, _⟩ => rfl
  | ⟨4, _⟩ => rfl

/-- Coordinate 1 of where a reading starts. -/
theorem key_read_start1 (idx : IVec S1x12x2048x8x3 32) (h : Fin 12) (i : Fin 2048) (t : Fin 8) (e : Fin 64) :
    gk.start (ix5 0 h i t e) idx 1 = min (idx (ix5 0 h i t 1)).toInt.toNat 11 := by
  unfold GatherDims.start
  rw [dif_pos (by decide)]
  refine congrArg (fun x : S1x12x2048x8x3.Idx => min (idx x).toInt.toNat 11) ?_
  funext b
  match b with
  | ⟨0, _⟩ => rfl
  | ⟨1, _⟩ => rfl
  | ⟨2, _⟩ => rfl
  | ⟨3, _⟩ => rfl
  | ⟨4, _⟩ => rfl

/-- Coordinate 2 of where a reading starts. -/
theorem key_read_start2 (idx : IVec S1x12x2048x8x3 32) (h : Fin 12) (i : Fin 2048) (t : Fin 8) (e : Fin 64) :
    gk.start (ix5 0 h i t e) idx 2 = min (idx (ix5 0 h i t 2)).toInt.toNat 767 := by
  unfold GatherDims.start
  rw [dif_pos (by decide)]
  refine congrArg (fun x : S1x12x2048x8x3.Idx => min (idx x).toInt.toNat 767) ?_
  funext b
  match b with
  | ⟨0, _⟩ => rfl
  | ⟨1, _⟩ => rfl
  | ⟨2, _⟩ => rfl
  | ⟨3, _⟩ => rfl
  | ⟨4, _⟩ => rfl

theorem key_read_start3 (idx : IVec S1x12x2048x8x3 32) (h : Fin 12) (i : Fin 2048) (t : Fin 8) (e : Fin 64) :
    gk.start (ix5 0 h i t e) idx 3 = 0 := by
  unfold GatherDims.start
  rw [dif_neg (by decide)]

theorem key_read_off3 (h : Fin 12) (i : Fin 2048) (t : Fin 8) (e : Fin 64) : gk.offCoord (ix5 0 h i t e) 3 = e.val := by
  unfold GatherDims.offCoord
  rw [dif_pos (by decide)]
  rfl

/-- What a query reads of its slot number `t`. -/
theorem keyRead_apply (q k : Arr) (h : Fin 12) (i : Fin 2048) (t : Fin 8) (e : Fin 64) :
    keyRead q k (ix5 0 h i t e) = keySum k (ix4 0 h (place q h i t) e) := by
  have hl := (place q h i t).isLt
  refine gather_at gk _ _ _ _ fun a => ?_
  match a with
  | ⟨0, _⟩ =>
    have e0 := (key_read_start0 (readAt q) h i t e).trans (congrArg (fun x : BitVec 32 => min x.toInt.toNat 0) (readAt_apply q h i t 0))
    have e1 := e0.trans (congrArg (fun x : ℤ => min x.toNat 0) (toInt_small 0 (by omega)))
    have e2 := gk.batchCoord_eq_zero (ix5 0 h i t e) 0 (by decide)
    have e3 := gk.offCoord_eq_zero (ix5 0 h i t e) 0 (by decide)
    have e4 : min (((0 : ℕ) : ℤ).toNat) 0 + 0 + 0 = 0 := by omega
    exact ((congrArg₂ (· + ·) (congrArg₂ (· + ·) e1 e2) e3).trans e4)
  | ⟨1, _⟩ =>
    have e0 := (key_read_start1 (readAt q) h i t e).trans (congrArg (fun x : BitVec 32 => min x.toInt.toNat 11) (readAt_apply q h i t 1))
    have e1 := e0.trans (congrArg (fun x : ℤ => min x.toNat 11) (toInt_small h.val (by omega)))
    have e2 := gk.batchCoord_eq_zero (ix5 0 h i t e) 1 (by decide)
    have e3 := gk.offCoord_eq_zero (ix5 0 h i t e) 1 (by decide)
    have e4 : min (((h.val : ℕ) : ℤ).toNat) 11 + 0 + 0 = h.val := by omega
    exact ((congrArg₂ (· + ·) (congrArg₂ (· + ·) e1 e2) e3).trans e4)
  | ⟨2, _⟩ =>
    have e0 := (key_read_start2 (readAt q) h i t e).trans (congrArg (fun x : BitVec 32 => min x.toInt.toNat 767) (readAt_apply q h i t 2))
    have e1 := e0.trans (congrArg (fun x : ℤ => min x.toNat 767) (toInt_small (place q h i t).val (by omega)))
    have e2 := gk.batchCoord_eq_zero (ix5 0 h i t e) 2 (by decide)
    have e3 := gk.offCoord_eq_zero (ix5 0 h i t e) 2 (by decide)
    have e4 : min ((((place q h i t).val : ℕ) : ℤ).toNat) 767 + 0 + 0 = (place q h i t).val := by omega
    exact ((congrArg₂ (· + ·) (congrArg₂ (· + ·) e1 e2) e3).trans e4)
  | ⟨3, _⟩ =>
    have e1 := key_read_start3 (readAt q) h i t e
    have e2 := gk.batchCoord_eq_zero (ix5 0 h i t e) 3 (by decide)
    have e3 := key_read_off3 h i t e
    have e4 : 0 + 0 + e.val = e.val := by omega
    exact ((congrArg₂ (· + ·) (congrArg₂ (· + ·) e1 e2) e3).trans e4)

/-- Coordinate 0 of where a reading starts. -/
theorem memory_read_start0 (idx : IVec S1x12x2048x8x3 32) (h : Fin 12) (i : Fin 2048) (t : Fin 8) (d e : Fin 64) :
    gm.start (ix6 0 h i t d e) idx 0 = min (idx (ix5 0 h i t 0)).toInt.toNat 0 := by
  unfold GatherDims.start
  rw [dif_pos (by decide)]
  refine congrArg (fun x : S1x12x2048x8x3.Idx => min (idx x).toInt.toNat 0) ?_
  funext b
  match b with
  | ⟨0, _⟩ => rfl
  | ⟨1, _⟩ => rfl
  | ⟨2, _⟩ => rfl
  | ⟨3, _⟩ => rfl
  | ⟨4, _⟩ => rfl

/-- Coordinate 1 of where a reading starts. -/
theorem memory_read_start1 (idx : IVec S1x12x2048x8x3 32) (h : Fin 12) (i : Fin 2048) (t : Fin 8) (d e : Fin 64) :
    gm.start (ix6 0 h i t d e) idx 1 = min (idx (ix5 0 h i t 1)).toInt.toNat 11 := by
  unfold GatherDims.start
  rw [dif_pos (by decide)]
  refine congrArg (fun x : S1x12x2048x8x3.Idx => min (idx x).toInt.toNat 11) ?_
  funext b
  match b with
  | ⟨0, _⟩ => rfl
  | ⟨1, _⟩ => rfl
  | ⟨2, _⟩ => rfl
  | ⟨3, _⟩ => rfl
  | ⟨4, _⟩ => rfl

/-- Coordinate 2 of where a reading starts. -/
theorem memory_read_start2 (idx : IVec S1x12x2048x8x3 32) (h : Fin 12) (i : Fin 2048) (t : Fin 8) (d e : Fin 64) :
    gm.start (ix6 0 h i t d e) idx 2 = min (idx (ix5 0 h i t 2)).toInt.toNat 767 := by
  unfold GatherDims.start
  rw [dif_pos (by decide)]
  refine congrArg (fun x : S1x12x2048x8x3.Idx => min (idx x).toInt.toNat 767) ?_
  funext b
  match b with
  | ⟨0, _⟩ => rfl
  | ⟨1, _⟩ => rfl
  | ⟨2, _⟩ => rfl
  | ⟨3, _⟩ => rfl
  | ⟨4, _⟩ => rfl

theorem memory_read_start3 (idx : IVec S1x12x2048x8x3 32) (h : Fin 12) (i : Fin 2048) (t : Fin 8) (d e : Fin 64) :
    gm.start (ix6 0 h i t d e) idx 3 = 0 := by
  unfold GatherDims.start
  rw [dif_neg (by decide)]

theorem memory_read_off3 (h : Fin 12) (i : Fin 2048) (t : Fin 8) (d e : Fin 64) : gm.offCoord (ix6 0 h i t d e) 3 = d.val := by
  unfold GatherDims.offCoord
  rw [dif_pos (by decide)]
  rfl

theorem memory_read_start4 (idx : IVec S1x12x2048x8x3 32) (h : Fin 12) (i : Fin 2048) (t : Fin 8) (d e : Fin 64) :
    gm.start (ix6 0 h i t d e) idx 4 = 0 := by
  unfold GatherDims.start
  rw [dif_neg (by decide)]

theorem memory_read_off4 (h : Fin 12) (i : Fin 2048) (t : Fin 8) (d e : Fin 64) : gm.offCoord (ix6 0 h i t d e) 4 = e.val := by
  unfold GatherDims.offCoord
  rw [dif_pos (by decide)]
  rfl

/-- What a query reads of its slot number `t`. -/
theorem memRead_apply (q k v : Arr) (h : Fin 12) (i : Fin 2048) (t : Fin 8) (d e : Fin 64) :
    memRead q k v (ix6 0 h i t d e) = memory k v (ix5 0 h (place q h i t) d e) := by
  have hl := (place q h i t).isLt
  refine gather_at gm _ _ _ _ fun a => ?_
  match a with
  | ⟨0, _⟩ =>
    have e0 := (memory_read_start0 (readAt q) h i t d e).trans (congrArg (fun x : BitVec 32 => min x.toInt.toNat 0) (readAt_apply q h i t 0))
    have e1 := e0.trans (congrArg (fun x : ℤ => min x.toNat 0) (toInt_small 0 (by omega)))
    have e2 := gm.batchCoord_eq_zero (ix6 0 h i t d e) 0 (by decide)
    have e3 := gm.offCoord_eq_zero (ix6 0 h i t d e) 0 (by decide)
    have e4 : min (((0 : ℕ) : ℤ).toNat) 0 + 0 + 0 = 0 := by omega
    exact ((congrArg₂ (· + ·) (congrArg₂ (· + ·) e1 e2) e3).trans e4)
  | ⟨1, _⟩ =>
    have e0 := (memory_read_start1 (readAt q) h i t d e).trans (congrArg (fun x : BitVec 32 => min x.toInt.toNat 11) (readAt_apply q h i t 1))
    have e1 := e0.trans (congrArg (fun x : ℤ => min x.toNat 11) (toInt_small h.val (by omega)))
    have e2 := gm.batchCoord_eq_zero (ix6 0 h i t d e) 1 (by decide)
    have e3 := gm.offCoord_eq_zero (ix6 0 h i t d e) 1 (by decide)
    have e4 : min (((h.val : ℕ) : ℤ).toNat) 11 + 0 + 0 = h.val := by omega
    exact ((congrArg₂ (· + ·) (congrArg₂ (· + ·) e1 e2) e3).trans e4)
  | ⟨2, _⟩ =>
    have e0 := (memory_read_start2 (readAt q) h i t d e).trans (congrArg (fun x : BitVec 32 => min x.toInt.toNat 767) (readAt_apply q h i t 2))
    have e1 := e0.trans (congrArg (fun x : ℤ => min x.toNat 767) (toInt_small (place q h i t).val (by omega)))
    have e2 := gm.batchCoord_eq_zero (ix6 0 h i t d e) 2 (by decide)
    have e3 := gm.offCoord_eq_zero (ix6 0 h i t d e) 2 (by decide)
    have e4 : min ((((place q h i t).val : ℕ) : ℤ).toNat) 767 + 0 + 0 = (place q h i t).val := by omega
    exact ((congrArg₂ (· + ·) (congrArg₂ (· + ·) e1 e2) e3).trans e4)
  | ⟨3, _⟩ =>
    have e1 := memory_read_start3 (readAt q) h i t d e
    have e2 := gm.batchCoord_eq_zero (ix6 0 h i t d e) 3 (by decide)
    have e3 := memory_read_off3 h i t d e
    have e4 : 0 + 0 + d.val = d.val := by omega
    exact ((congrArg₂ (· + ·) (congrArg₂ (· + ·) e1 e2) e3).trans e4)
  | ⟨4, _⟩ =>
    have e1 := memory_read_start4 (readAt q) h i t d e
    have e2 := gm.batchCoord_eq_zero (ix6 0 h i t d e) 4 (by decide)
    have e3 := memory_read_off4 h i t d e
    have e4 : 0 + 0 + e.val = e.val := by omega
    exact ((congrArg₂ (· + ·) (congrArg₂ (· + ·) e1 e2) e3).trans e4)

end Cert.Proof.Reference

end
-- ==== Proof.RefWeight.lean ====
module

public import proofs.«01_k».proof.Proof.RefGather
public import Idealize.ShloMosaic.Lib.IdealHost

/-! The reference's softmax of eight equal scores: an eighth each. -/

@[expose] public section

set_option maxRecDepth 16384

noncomputable section

namespace Cert.Proof.Reference

open Cert.ReferenceIdeal Cert.ReferenceIdeal.Facts₀
open Idealize.ShloMosaic Idealize.ShloMosaic.ValueIdx

/-- The fold of `max` over equal entries is that entry. -/
theorem fold_equal (f : Fin 8 → EReal) (m : EReal) (hf : ∀ n, f n = m) : (Finset.univ : Finset (Fin 8)).fold max ⊥ f = m :=
  ((eq_fold_max_iff f 0).2 (fun j => by rw [hf, hf])).symm.trans (hf 0)

/-- The largest of eight scores. -/
def peakOf (t : FVec Ideal S1x12x2048x8 .f32) : FVec Ideal S1x12x2048 .f32 :=
  maximumf (broadcastInDim S1x12x2048 ![] bcast_S_S1x12x2048 (constant (F := Ideal) S_ .f32 0xFF800000#32))
    (Host.reduce FloatOps.maximumf t (constant (F := Ideal) S_ .f32 0xFF800000#32) reducesTo_S1x12x2048x8_S1x12x2048_d3 h_S_)

/-- A number for each query, repeated over its eight scores. -/
def spread (x : FVec Ideal S1x12x2048 .f32) : FVec Ideal S1x12x2048x8 .f32 :=
  broadcastInDim S1x12x2048x8 ![0, 1, 2, 3] bcast_S1x12x2048x1_S1x12x2048x8_0_1_2_3
    (broadcastInDim S1x12x2048x1 ![0, 1, 2] bcast_S1x12x2048_S1x12x2048x1_0_1_2 x)

theorem spread_apply (x : FVec Ideal S1x12x2048 .f32) (h : Fin 12) (i : Fin 2048) (n : Fin 8) : spread x (ix4 0 h i n) = x (ix3 0 h i) := by
  unfold spread broadcastInDim
  congr 1
  funext a
  match a with
  | ⟨0, _⟩ => rfl
  | ⟨1, _⟩ => rfl
  | ⟨2, _⟩ => rfl

theorem lift_eight (hr : S1x12x2048x8.Reduces [3] S1x12x2048) (h : Fin 12) (i : Fin 2048) (n : Fin 8) :
    hr.lift (ix3 0 h i) n = ix4 0 h i n := by
  funext a
  match a with
  | ⟨0, _⟩ => rfl
  | ⟨1, _⟩ => rfl
  | ⟨2, _⟩ => rfl
  | ⟨3, _⟩ => rfl

theorem reduces_eight : S1x12x2048x8.Reduces [3] S1x12x2048 := by decide

/-- The largest of eight equal scores is that score. -/
theorem peak_equal (t : FVec Ideal S1x12x2048x8 .f32) (h : Fin 12) (i : Fin 2048) (m : EReal) (ht : ∀ n, t (ix4 0 h i n) = m) :
    peakOf t (ix3 0 h i) = m := by
  have e1 := Host.reduce_eq_fold_single (FloatOps.maximumf (F := Ideal) (φ := .f32)) t (constant (F := Ideal) S_ .f32 0xFF800000#32)
    reducesTo_S1x12x2048x8_S1x12x2048_d3 reduces_eight h_S_ (ix3 0 h i)
  have e2 : (Finset.univ : Finset (Fin 8)).fold max ⊥ (fun n => t (reduces_eight.lift (ix3 0 h i) n)) = m :=
    fold_equal _ m fun n => (congrArg t (lift_eight reduces_eight h i n)).trans (ht n)
  have e3 : Host.reduce (FloatOps.maximumf (F := Ideal) (φ := .f32)) t (constant (F := Ideal) S_ .f32 0xFF800000#32)
      reducesTo_S1x12x2048x8_S1x12x2048_d3 h_S_ (ix3 0 h i) = m :=
    e1.trans ((congrArg (fun b : EReal => (Finset.univ : Finset (Fin 8)).fold max b (fun n => t (reduces_eight.lift (ix3 0 h i) n))) ofBits_bot).trans e2)
  exact (congrArg₂ (fun x y : EReal => max x y) ofBits_bot e3).trans (max_eq_right bot_le)

/-- The exponentials of eight equal scores less the largest are all one. -/
theorem expo_equal (t : FVec Ideal S1x12x2048x8 .f32) (h : Fin 12) (i : Fin 2048) (m : ℝ) (ht : ∀ n, t (ix4 0 h i n) = (m : EReal)) (n : Fin 8) :
    expoOf t (ix4 0 h i n) = (1 : EReal) := by
  have e1 : spread (peakOf t) (ix4 0 h i n) = (m : EReal) := (spread_apply _ h i n).trans (peak_equal t h i _ ht)
  have e2 : expoOf t (ix4 0 h i n) = Ideal.exp (t (ix4 0 h i n) - spread (peakOf t) (ix4 0 h i n)) := rfl
  rw [e2, e1, ht n, ← EReal.coe_sub, sub_self]
  show ((Real.exp 0 : ℝ) : EReal) = 1
  rw [Real.exp_zero]
  rfl

/-- The sum of the exponentials. -/
def totalOf (x : FVec Ideal S1x12x2048x8 .f32) : FVec Ideal S1x12x2048 .f32 :=
  Host.reduceAdd x (constant (F := Ideal) S_ .f32 0x00000000#32) reducesTo_S1x12x2048x8_S1x12x2048_d3 h_S_

theorem total_ones (x : FVec Ideal S1x12x2048x8 .f32) (h : Fin 12) (i : Fin 2048) (hx : ∀ n, x (ix4 0 h i n) = (1 : EReal)) :
    totalOf x (ix3 0 h i) = ((8 : ℝ) : EReal) := by
  have e1 : totalOf x (ix3 0 h i) = Ideal.ofBits .f32 0x00000000#32 + ∑ n : Fin 8, x (reduces_eight.lift (ix3 0 h i) n) :=
    Ideal.hostReduceAdd_single reducesTo_S1x12x2048x8_S1x12x2048_d3 reduces_eight x _ (ix3 0 h i)
  rw [e1, Ideal.ofBits_zero_f32, zero_add]
  refine (Finset.sum_congr rfl fun n _ => (congrArg x (lift_eight reduces_eight h i n)).trans (hx n)).trans ?_
  rw [← EReal.coe_one, ← coe_sum]
  simp

/-- The softmax of eight equal scores gives each an eighth. -/
theorem weight_equal (t : FVec Ideal S1x12x2048x8 .f32) (h : Fin 12) (i : Fin 2048) (m : ℝ) (ht : ∀ n, t (ix4 0 h i n) = (m : EReal)) (n : Fin 8) :
    weightOf t (ix4 0 h i n) = ((1 / 8 : ℝ) : EReal) := by
  have e1 : spread (totalOf (expoOf t)) (ix4 0 h i n) = ((8 : ℝ) : EReal) :=
    (spread_apply _ h i n).trans (total_ones _ h i fun n => expo_equal t h i m ht n)
  have e2 : weightOf t (ix4 0 h i n) = Ideal.div (expoOf t (ix4 0 h i n)) (spread (totalOf (expoOf t)) (ix4 0 h i n)) := rfl
  rw [e2, e1, expo_equal t h i m ht n, div_of_ne (by norm_cast), one_mul, ← EReal.coe_inv]
  norm_num

end Cert.Proof.Reference

end
-- ==== Proof.RefRead.lean ====
module

public import proofs.«01_k».proof.Proof.RefGather
public import Idealize.ShloMosaic.Lib.IdealHost

/-! What the reference retrieves from a slot, and the weighted sum of it, entry by entry. -/

@[expose] public section

set_option maxRecDepth 16384

noncomputable section

namespace Cert.Proof.Reference

open Cert.ReferenceIdeal Cert.ReferenceIdeal.Facts₀
open Idealize.ShloMosaic Idealize.ShloMosaic.ValueIdx

/-- The product of the memories with the queries. -/
abbrev pm := dot_S1x12x2048x8x64x64_S1x12x2048x64_S1x12x2048x8x64_5_3_34_n_012_012
/-- The product of the normalizers with the queries. -/
abbrev pz := dot_S1x12x2048x8x64_S1x12x2048x64_S1x12x2048x8_4_3_3_n_012_012

/-- A memory applied to its query: the sum over the memory's last coordinate. -/
theorem apply_memory (M : FVec Ideal S1x12x2048x8x64x64 .f32) (q : Arr) (h : Fin 12) (i : Fin 2048) (t : Fin 8) (d : Fin 64) :
    Host.dotGeneral (φ₁ := .f32) (φ₂ := .f32) pm none M q (ix5 0 h i t d) = ∑ e, M (ix6 0 h i t d e) * q (ix4 0 h i e) := by
  show FloatOps.dotGeneral _ none _ M q (ix5 0 h i t d) = _
  rw [Ideal.dotGeneral_apply, ← Equiv.sum_comp (contrEquiv1 pm 64 rfl rfl).symm]
  refine Finset.sum_congr rfl fun e _ => ?_
  have hc := contrEquiv1_symm_val pm 64 rfl rfl e
  have hl : pm.lhsIdx (ix5 0 h i t d) ((contrEquiv1 pm 64 rfl rfl).symm e) = ix6 0 h i t d e := by
    funext a
    apply Fin.ext
    match a with
    | ⟨0, _⟩ => rfl
    | ⟨1, _⟩ => rfl
    | ⟨2, _⟩ => rfl
    | ⟨3, _⟩ => rfl
    | ⟨4, _⟩ => rfl
    | ⟨5, _⟩ => exact hc
  have hr : pm.rhsIdx (ix5 0 h i t d) ((contrEquiv1 pm 64 rfl rfl).symm e) = ix4 0 h i e := by
    funext a
    apply Fin.ext
    match a with
    | ⟨0, _⟩ => rfl
    | ⟨1, _⟩ => rfl
    | ⟨2, _⟩ => rfl
    | ⟨3, _⟩ => exact hc
  rw [hl, hr]

/-- A normalizer times its query. -/
theorem apply_key (z : FVec Ideal S1x12x2048x8x64 .f32) (q : Arr) (h : Fin 12) (i : Fin 2048) (t : Fin 8) :
    Host.dotGeneral (φ₁ := .f32) (φ₂ := .f32) pz none z q (ix4 0 h i t) = ∑ e, z (ix5 0 h i t e) * q (ix4 0 h i e) := by
  show FloatOps.dotGeneral _ none _ z q (ix4 0 h i t) = _
  rw [Ideal.dotGeneral_apply, ← Equiv.sum_comp (contrEquiv1 pz 64 rfl rfl).symm]
  refine Finset.sum_congr rfl fun e _ => ?_
  have hc := contrEquiv1_symm_val pz 64 rfl rfl e
  have hl : pz.lhsIdx (ix4 0 h i t) ((contrEquiv1 pz 64 rfl rfl).symm e) = ix5 0 h i t e := by
    funext a
    apply Fin.ext
    match a with
    | ⟨0, _⟩ => rfl
    | ⟨1, _⟩ => rfl
    | ⟨2, _⟩ => rfl
    | ⟨3, _⟩ => rfl
    | ⟨4, _⟩ => exact hc
  have hr : pz.rhsIdx (ix4 0 h i t) ((contrEquiv1 pz 64 rfl rfl).symm e) = ix4 0 h i e := by
    funext a
    apply Fin.ext
    match a with
    | ⟨0, _⟩ => rfl
    | ⟨1, _⟩ => rfl
    | ⟨2, _⟩ => rfl
    | ⟨3, _⟩ => exact hc
  rw [hl, hr]

/-- The denominators, one to each of a query's slots. -/
def denomOf (x : FVec Ideal S1x12x2048x8 .f32) : FVec Ideal S1x12x2048x8x1 .f32 :=
  addf (broadcastInDim S1x12x2048x8x1 ![0, 1, 2, 3] bcast_S1x12x2048x8_S1x12x2048x8x1_0_1_2_3 x)
    (broadcastInDim S1x12x2048x8x1 ![] bcast_S_S1x12x2048x8x1 (constant (F := Ideal) S_ .f32 0x358637BD#32))

/-- A number for each slot, set on an axis of its own. -/
def setOut (x : FVec Ideal S1x12x2048x8 .f32) : FVec Ideal S1x12x2048x8x1 .f32 :=
  broadcastInDim S1x12x2048x8x1 ![0, 1, 2, 3] bcast_S1x12x2048x8_S1x12x2048x8x1_0_1_2_3 x

theorem setOut_apply (x : FVec Ideal S1x12x2048x8 .f32) (h : Fin 12) (i : Fin 2048) (t : Fin 8) : setOut x (ix5 0 h i t 0) = x (ix4 0 h i t) := by
  unfold setOut broadcastInDim
  congr 1
  funext a
  match a with
  | ⟨0, _⟩ => rfl
  | ⟨1, _⟩ => rfl
  | ⟨2, _⟩ => rfl
  | ⟨3, _⟩ => rfl

/-- A number for each slot, repeated over the retrieved entries. -/
def repeated (x : FVec Ideal S1x12x2048x8x1 .f32) : FVec Ideal S1x12x2048x8x64 .f32 :=
  broadcastInDim S1x12x2048x8x64 ![0, 1, 2, 3, 4] bcast_S1x12x2048x8x1_S1x12x2048x8x64_0_1_2_3_4 x

theorem repeated_apply (x : FVec Ideal S1x12x2048x8x1 .f32) (h : Fin 12) (i : Fin 2048) (t : Fin 8) (d : Fin 64) :
    repeated x (ix5 0 h i t d) = x (ix5 0 h i t 0) := by
  unfold repeated broadcastInDim
  congr 1
  funext a
  match a with
  | ⟨0, _⟩ => rfl
  | ⟨1, _⟩ => rfl
  | ⟨2, _⟩ => rfl
  | ⟨3, _⟩ => rfl
  | ⟨4, _⟩ => rfl

theorem denom_apply (x : FVec Ideal S1x12x2048x8 .f32) (h : Fin 12) (i : Fin 2048) (t : Fin 8) :
    denomOf x (ix5 0 h i t 0) = x (ix4 0 h i t) + eps :=
  congrArg (fun y : EReal => y + eps) (setOut_apply x h i t)

/-- What is retrieved: the memory applied to the query over the normalizer times the query plus a small number. -/
theorem retrieved_apply (q : Arr) (M : FVec Ideal S1x12x2048x8x64x64 .f32) (z : FVec Ideal S1x12x2048x8x64 .f32)
    (h : Fin 12) (i : Fin 2048) (t : Fin 8) (d : Fin 64) :
    retrievedOf q M z (ix5 0 h i t d)
      = Ideal.div (∑ e, M (ix6 0 h i t d e) * q (ix4 0 h i e)) ((∑ e, z (ix5 0 h i t e) * q (ix4 0 h i e)) + eps) := by
  have e1 := (repeated_apply (denomOf (Host.dotGeneral (φ₁ := .f32) (φ₂ := .f32) pz none z q)) h i t d).trans
    ((denom_apply _ h i t).trans (congrArg (fun y : EReal => y + eps) (apply_key z q h i t)))
  exact congrArg₂ (fun x y : EReal => Ideal.div x y) (apply_memory M q h i t d) e1

theorem reduces_slots : S1x12x2048x8x64.Reduces [3] S1x12x2048x64 := by decide

theorem lift_slots (hr : S1x12x2048x8x64.Reduces [3] S1x12x2048x64) (h : Fin 12) (i : Fin 2048) (d : Fin 64) (t : Fin 8) :
    hr.lift (ix4 0 h i d) t = ix5 0 h i t d := by
  funext a
  match a with
  | ⟨0, _⟩ => rfl
  | ⟨1, _⟩ => rfl
  | ⟨2, _⟩ => rfl
  | ⟨3, _⟩ => rfl
  | ⟨4, _⟩ => rfl

/-- The weighted sum over a query's eight slots. -/
theorem out_apply (w : FVec Ideal S1x12x2048x8 .f32) (r : FVec Ideal S1x12x2048x8x64 .f32) (h : Fin 12) (i : Fin 2048) (d : Fin 64) :
    outOf w r (ix4 0 h i d) = ∑ t : Fin 8, w (ix4 0 h i t) * r (ix5 0 h i t d) := by
  have e1 : outOf w r (ix4 0 h i d) = Ideal.ofBits .f32 0x00000000#32
      + ∑ t : Fin 8, repeated (setOut w) (reduces_slots.lift (ix4 0 h i d) t) * r (reduces_slots.lift (ix4 0 h i d) t) :=
    Ideal.hostReduceAdd_single reducesTo_S1x12x2048x8x64_S1x12x2048x64_d3 reduces_slots (mulf (repeated (setOut w)) r) _ (ix4 0 h i d)
  rw [e1, Ideal.ofBits_zero_f32, zero_add]
  refine Finset.sum_congr rfl fun t _ => ?_
  have e2 := lift_slots reduces_slots h i d t
  refine congrArg₂ (fun x y : EReal => x * y) ((congrArg (repeated (setOut w)) e2).trans ?_) (congrArg r e2)
  exact (repeated_apply _ h i t d).trans (setOut_apply w h i t)

end Cert.Proof.Reference

end
-- ==== Proof.LaneSum.lean ====
module

public import proofs.«01_k».proof.Proof.Marks
public import Idealize.ShloMosaic.Lib.Pipeline.Value

/-! The kernel's sum of the 64 lanes of a row: rotations by 16, 32 and 48, then 8, 4, 1 and 2, each added to what it rotates, whose
    lane 0 is the sum of the row. -/

@[expose] public section

set_option maxRecDepth 16384

noncomputable section

namespace Cert.Proof.KernelIdeal

open Cert.KernelIdeal Cert.KernelIdeal.Gen
open Idealize.ShloMosaic Idealize.ShloMosaic.ValueIdx

/-- The rows rotated left by `n` lanes, written as the last `a` lanes before the first `n`. -/
def roll (a n : ℕ) (h1 : S256x64.Slices ![0, n] ⟨2, ![256, a]⟩) (h2 : S256x64.Slices ![0, 0] ⟨2, ![256, n]⟩)
    (hc : Shape.Concatenates [(⟨2, ![256, a]⟩ : Shape), ⟨2, ![256, n]⟩] S256x64 1) (v : FVec Ideal S256x64 .f32) : FVec Ideal S256x64 .f32 :=
  concatenate S256x64 1 [⟨⟨2, ![256, a]⟩, extractStridedSlice ⟨2, ![256, a]⟩ ![0, n] v h1⟩,
    ⟨⟨2, ![256, n]⟩, extractStridedSlice ⟨2, ![256, n]⟩ ![0, 0] v h2⟩] hc

/-- A lane of the rotated rows is the lane `n` further on, round the end. -/
theorem roll_apply (a n : ℕ) (han : a + n = 64) (h1 h2 hc) (v : FVec Ideal S256x64 .f32) (r : Fin 256) (e : Fin 64) :
    roll a n h1 h2 hc v (ix2 r e) = v (ix2 r (e + Fin.ofNat 64 n)) := by
  unfold roll
  have hn : (Fin.ofNat 64 n).val = n % 64 := rfl
  have he := e.isLt
  by_cases hlt : e.val < a
  · refine (concatenate_pair_apply_left 1 _ _ hc (ix2 r e) rfl (ix2 r ⟨e.val, hlt⟩) (fun b => ?_)).trans ?_
    · match b with
      | ⟨0, _⟩ => rfl
      | ⟨1, _⟩ => rfl
    · unfold extractStridedSlice
      congr 1
      funext b
      apply Fin.ext
      match b with
      | ⟨0, _⟩ => show 0 + r.val = r.val; omega
      | ⟨1, _⟩ => show n + e.val = (e + Fin.ofNat 64 n).val; rw [Fin.val_add, hn]; omega
  · refine (concatenate_pair_apply_right 1 _ _ hc (ix2 r e) rfl rfl (ix2 r ⟨e.val - a, by omega⟩) (fun b hb => ?_) ?_).trans ?_
    · match b with
      | ⟨0, _⟩ => rfl
      | ⟨1, _⟩ => exact absurd rfl hb
    · show e.val - a + a = e.val; omega
    · unfold extractStridedSlice
      congr 1
      funext b
      apply Fin.ext
      match b with
      | ⟨0, _⟩ => show 0 + r.val = r.val; omega
      | ⟨1, _⟩ => show 0 + (e.val - a) = (e + Fin.ofNat 64 n).val; rw [Fin.val_add, hn]; omega

/-- A row added to itself `n` lanes further on. -/
def stepBy (n : Fin 64) (p : Fin 64 → EReal) (e : Fin 64) : EReal := p e + p (e + n)
/-- A row added to itself 16, 32 and 48 lanes further on. -/
def quarter (p : Fin 64 → EReal) (e : Fin 64) : EReal := p e + p (e + 16) + p (e + 32) + p (e + 48)

/-- The lane with the given digits. -/
def lane (x : Fin 2 × Fin 2 × Fin 2 × Fin 2 × Fin 4) : Fin 64 :=
  ⟨2 * x.1.val + x.2.1.val + 4 * x.2.2.1.val + 8 * x.2.2.2.1.val + 16 * x.2.2.2.2.val, by
    have := x.1.isLt; have := x.2.1.isLt; have := x.2.2.1.isLt; have := x.2.2.2.1.isLt; have := x.2.2.2.2.isLt; omega⟩
theorem lane_bijective : Function.Bijective lane := by decide +kernel

/-- Lane 0 after all the additions is the sum of the row. -/
theorem tree_sum (p : Fin 64 → EReal) : stepBy 2 (stepBy 1 (stepBy 4 (stepBy 8 (quarter p)))) 0 = ∑ e, p e := by
  rw [← Fintype.sum_bijective lane lane_bijective (fun x => p (lane x)) p fun _ => rfl]
  simp only [Fintype.sum_prod_type, Fin.sum_univ_two, Fin.sum_univ_four]
  rfl

/-- The first half of the additions: by 16, 32 and 48, then 8. -/
def laneHead (v : FVec Ideal S256x64 .f32) : FVec Ideal S256x64 .f32 :=
  let w := addf (addf (addf v (roll 48 16 slices_S256x64_o0_16_S256x48 slices_S256x64_o0_0_S256x16 concatenates_S256x48_S256x16_S256x64_d1 v))
    (roll 32 32 slices_S256x64_o0_32_S256x32 slices_S256x64_o0_0_S256x32 concatenates_S256x32_S256x32_S256x64_d1 v))
    (roll 16 48 slices_S256x64_o0_48_S256x16 slices_S256x64_o0_0_S256x48 concatenates_S256x16_S256x48_S256x64_d1 v)
  addf w (roll 56 8 slices_S256x64_o0_8_S256x56 slices_S256x64_o0_0_S256x8 concatenates_S256x56_S256x8_S256x64_d1 w)

/-- The second half: by 4, 1 and 2. -/
def laneTail (v : FVec Ideal S256x64 .f32) : FVec Ideal S256x64 .f32 :=
  let a := addf v (roll 60 4 slices_S256x64_o0_4_S256x60 slices_S256x64_o0_0_S256x4 concatenates_S256x60_S256x4_S256x64_d1 v)
  let b := addf a (roll 63 1 slices_S256x64_o0_1_S256x63 slices_S256x64_o0_0_S256x1 concatenates_S256x63_S256x1_S256x64_d1 a)
  addf b (roll 62 2 slices_S256x64_o0_2_S256x62 slices_S256x64_o0_0_S256x2 concatenates_S256x62_S256x2_S256x64_d1 b)

theorem add_roll (a n : ℕ) (han : a + n = 64) (h1 h2 hc) (v : FVec Ideal S256x64 .f32) (r : Fin 256) :
    (fun e => addf v (roll a n h1 h2 hc v) (ix2 r e)) = stepBy (Fin.ofNat 64 n) fun e => v (ix2 r e) :=
  funext fun e => congrArg (v (ix2 r e) + ·) (roll_apply a n han h1 h2 hc v r e)

theorem laneHead_row (v : FVec Ideal S256x64 .f32) (r : Fin 256) :
    (fun e => laneHead v (ix2 r e)) = stepBy 8 (quarter fun e => v (ix2 r e)) := by
  unfold laneHead
  refine (add_roll 56 8 rfl _ _ _ _ r).trans ?_
  refine congrArg (stepBy 8) (funext fun e => ?_)
  show v (ix2 r e) + roll 48 16 _ _ _ v (ix2 r e) + roll 32 32 _ _ _ v (ix2 r e) + roll 16 48 _ _ _ v (ix2 r e) = _
  rw [roll_apply 48 16 rfl, roll_apply 32 32 rfl, roll_apply 16 48 rfl]
  rfl

theorem laneTail_row (v : FVec Ideal S256x64 .f32) (r : Fin 256) :
    (fun e => laneTail v (ix2 r e)) = stepBy 2 (stepBy 1 (stepBy 4 fun e => v (ix2 r e))) := by
  unfold laneTail
  refine (add_roll 62 2 rfl _ _ _ _ r).trans (congrArg (stepBy 2) ?_)
  refine (add_roll 63 1 rfl _ _ _ _ r).trans (congrArg (stepBy 1) ?_)
  exact add_roll 60 4 rfl _ _ _ _ r

/-- Lane 0 of both halves is the sum of the row. -/
theorem lanes_sum (v : FVec Ideal S256x64 .f32) (r : Fin 256) : laneTail (laneHead v) (ix2 r 0) = ∑ e, v (ix2 r e) := by
  rw [← tree_sum, ← laneHead_row]
  exact congrFun (laneTail_row (laneHead v) r) 0

end Cert.Proof.KernelIdeal

end
-- ==== Proof.AttnValue.lean ====
module

public import proofs.«01_k».proof.Proof.LaneSum
public import proofs.«01_k».proof.Proof.Common
public import proofs.«01_k».proof.Proof.AttendRun

/-! What the attention body computes over the extended reals: for each query the sum over the keys of the query's product with the key,
    times the weight of the key's slot, times the key's value. -/

@[expose] public section

set_option maxRecDepth 16384

noncomputable section

namespace Cert.Proof.KernelIdeal

open Cert.KernelIdeal Cert.KernelIdeal.Gen
open Idealize.ShloMosaic Idealize.ShloMosaic.ValueIdx
open scoped Classical

theorem zero_const (s : Shape) (i : s.Idx) : (constant (F := Ideal) s .f32 0x00000000#32) i = (0 : EReal) := Ideal.ofBits_zero_f32

section Weight

variable (x0 : Vec Ideal S1x256x64 .f32) (x3 : Vec Ideal S1x64x64 .f32) (r : Fin 256)

theorem query_apply (e : Fin 64) : k2_pay3 x0 (ix2 r e) = x0 (ix3 0 r e) := shapeCast_1ab_ab_apply _ _ r e

/-- The marks of a query's largest magnitudes. -/
theorem pay5_apply (e : Fin 64) : k2_pay5 x0 (ix2 r e) = flag (AtMax (fun e => mag (x0 (ix3 0 r e))) e) := by
  refine (hot_row (k2_pay3 x0) _ _ _ _ _ _ r e).trans ?_
  simp only [query_apply]

/-- How many of them there are up to an entry. -/
theorem pay6_apply (e : Fin 64) : k2_pay6 x0 (ix2 r e) = ((rank (fun e => mag (x0 (ix3 0 r e))) e : ℕ) : EReal) :=
  count_row _ _ _ r _ (pay5_apply x0 r) (fun i j => tri_apply _ _ _ i j) e

/-- The mark of the first. -/
theorem pay7_apply (e : Fin 64) : k2_pay7 x0 (ix2 r e) = flag (Nth (fun e => mag (x0 (ix3 0 r e))) 1 e) :=
  nth_row _ _ _ 1 ofBits_one r _ _ (pay5_apply x0 r) (pay6_apply x0 r) e

/-- The mark of the second. -/
theorem pay8_apply (e : Fin 64) : k2_pay8 x0 (ix2 r e) = flag (Nth (fun e => mag (x0 (ix3 0 r e))) 2 e) :=
  nth_row _ _ _ 2 ofBits_two r _ _ (pay5_apply x0 r) (pay6_apply x0 r) e

/-- A mark's row of the key sums times the query. -/
def product (w : FVec Ideal S256x64 .f32) : FVec Ideal S256x64 .f32 :=
  mulf (matmul dot_S256x64_S64x64_S256x64_1_0_0_1_n_n (some .fp32) w (k2_pay9 x3) (constant S256x64 .f32 0x00000000#32)) (k2_pay3 x0)

theorem product_apply (w : FVec Ideal S256x64 .f32) (e : Fin 64) :
    product x0 x3 w (ix2 r e) = (∑ c, w (ix2 r c) * x3 (ix3 0 c e)) * x0 (ix3 0 r e) := by
  refine congrArg₂ (· * ·) ?_ (query_apply x0 r e)
  refine (Ideal.matmul_plain_apply (M := 256) (K := 64) (N := 64) _ _ _ _ r e).trans ?_
  rw [show (constant (F := Ideal) ⟨2, ![256, 64]⟩ .f32 0x00000000#32) (ix2 r e) = (0 : EReal) from Ideal.ofBits_zero_f32, zero_add]
  exact Finset.sum_congr rfl fun c _ => congrArg (_ * ·) (shapeCast_1ab_ab_apply _ _ c e)

/-- A normalizer, its small number added, along its row. -/
def rowDen (y : FVec Ideal S256x64 .f32) : FVec Ideal S256x64 .f32 :=
  broadcastTo S256x64 (addf (extractStridedSlice S256x1 ![0, 0] y slices_S256x64_o0_0_S256x1)
    (broadcast S256x1 (Scalar.ofBits (F := Ideal) .f32 0x358637BD#32))) broadcasts_S256x1_S256x64

theorem rowDen_apply (y : FVec Ideal S256x64 .f32) (c : Fin 64) : rowDen y (ix2 r c) = y (ix2 r 0) + eps := by
  unfold rowDen broadcastTo
  refine congrArg₂ (· + ·) ?_ rfl
  unfold extractStridedSlice
  congr 1
  funext a
  apply Fin.ext
  match a with
  | ⟨0, _⟩ => show 0 + (if (256 : ℕ) = 1 then 0 else r.val) = r.val; simp
  | ⟨1, _⟩ => show 0 + (if (1 : ℕ) = 1 then 0 else c.val) = 0; simp

/-- The weights, in the words above. -/
theorem attnWeight_eq : attnWeight x0 x3 = mulf (broadcast S256x64 (Scalar.ofBits (F := Ideal) .f32 0x3E000000#32))
    (addf (divf (k2_pay7 x0) (rowDen (laneTail (laneHead (product x0 x3 (k2_pay7 x0))))))
      (divf (k2_pay8 x0) (rowDen (laneTail (laneHead (product x0 x3 (k2_pay8 x0))))))) := rfl

/-- The weight of a slot for a query, when the fourth block holds the sums of the keys of each slot. -/
theorem weight_apply (k : Fin 2048 → Fin 64 → EReal) (hz : ∀ c e, x3 (ix3 0 c e) = keySumAt k c e) (c : Fin 64) :
    attnWeight x0 x3 (ix2 r c) = weightAt (fun e => x0 (ix3 0 r e)) k c := by
  rw [attnWeight_eq]
  have hden : ∀ (w : FVec Ideal S256x64 .f32) (i : ℕ), (∀ e, w (ix2 r e) = flag (Nth (fun e => mag (x0 (ix3 0 r e))) i e)) →
      rowDen (laneTail (laneHead (product x0 x3 w))) (ix2 r c) = denOf (fun e => x0 (ix3 0 r e)) k i + eps := by
    intro w i hw
    rw [rowDen_apply, lanes_sum]
    unfold denOf
    congr 1
    refine Finset.sum_congr rfl fun e _ => ?_
    rw [product_apply]
    congr 1
    refine Finset.sum_congr rfl fun c _ => ?_
    rw [hw, hz]
  show Ideal.ofBits .f32 0x3E000000#32 * (Ideal.div _ _ + Ideal.div _ _) = _
  rw [hden _ 1 (pay7_apply x0 r), hden _ 2 (pay8_apply x0 r), pay7_apply, pay8_apply, eighth]
  rfl

end Weight

/-- The marks of the first largest magnitude of each key of a group. -/
def firsts (kb : FVec Ideal S1x512x64 .f32) : FVec Ideal S512x64 .f32 :=
  let h := sitofp (F := Ideal) .f32 (extui 32 (cmpf .oeq (absf (shapeCast S512x64 kb shapeCasts_S1x512x64_S512x64))
    (broadcastTo S512x64 (shapeCast S512x1 (multiReduction .maximumf [1] S512 (absf (shapeCast S512x64 kb shapeCasts_S1x512x64_S512x64))
      0xFF800000#32 reduces_S512x64_S512 (.inl rfl) rfl) shapeCasts_S512_S512x1) broadcasts_S512x1_S512x64)) natLt_1_32)
  mulf h (sitofp (F := Ideal) .f32 (extui 32 (cmpf .oeq
    (matmul dot_S512x64_S64x64_S512x64_1_0_0_1_n_n (some .fp32) h (k2_pay4 (F := Ideal)) (constant S512x64 .f32 0x00000000#32))
    (broadcast S512x64 (Scalar.ofBits (F := Ideal) .f32 0x3F800000#32))) natLt_1_32))

theorem firsts_apply (kb : FVec Ideal S1x512x64 .f32) (j : Fin 512) (m : Fin 64) :
    firsts kb (ix2 j m) = flag (Nth (fun e => mag (kb (ix3 0 j e))) 1 m) := by
  have hk : (fun e => mag (shapeCast S512x64 kb shapeCasts_S1x512x64_S512x64 (ix2 j e))) = fun e => mag (kb (ix3 0 j e)) :=
    funext fun e => congrArg mag (shapeCast_1ab_ab_apply _ _ j e)
  refine nth_row _ _ _ 1 ofBits_one j _ _ (fun e => ?_) (fun e => ?_) m
  · exact (hot_row _ _ _ _ _ _ _ j e).trans (by rw [hk])
  · refine count_row _ _ _ j _ (fun e => ?_) (fun i j => tri_apply _ _ _ i j) e
    exact (hot_row _ _ _ _ _ _ _ j e).trans (by rw [hk])

/-- One group of keys, in the words above. -/
theorem pay1_eq (Q W acc : FVec Ideal S256x64 .f32) (kb vb : FVec Ideal S1x512x64 .f32) :
    k2_pay1 Q (k2_pay4 (F := Ideal)) W acc kb vb = addf acc (matmul dot_S256x512_S512x64_S256x64_1_0_0_1_n_n (some .fp32)
      (mulf (matmul dot_S256x64_S512x64_S256x512_1_1_0_0_n_n (some .fp32) Q (shapeCast S512x64 kb shapeCasts_S1x512x64_S512x64)
          (constant S256x512 .f32 0x00000000#32))
        (matmul dot_S256x64_S512x64_S256x512_1_1_0_0_n_n (some .fp32) W (firsts kb) (constant S256x512 .f32 0x00000000#32)))
      (shapeCast S512x64 vb shapeCasts_S1x512x64_S512x64) (constant S256x64 .f32 0x00000000#32)) := rfl

/-- What one group of keys adds. -/
theorem pay1_apply (Q W acc : FVec Ideal S256x64 .f32) (kb vb : FVec Ideal S1x512x64 .f32) (r : Fin 256) (d : Fin 64) :
    k2_pay1 Q (k2_pay4 (F := Ideal)) W acc kb vb (ix2 r d) = acc (ix2 r d) + ∑ j : Fin 512,
      ((∑ e, Q (ix2 r e) * kb (ix3 0 j e)) * W (ix2 r (first fun e => mag (kb (ix3 0 j e))))) * vb (ix3 0 j d) := by
  rw [pay1_eq]
  refine congrArg (acc (ix2 r d) + ·) ?_
  refine (Ideal.matmul_plain_apply (M := 256) (K := 512) (N := 64) _ _ _ _ r d).trans ?_
  rw [show (constant (F := Ideal) ⟨2, ![256, 64]⟩ .f32 0x00000000#32) (ix2 r d) = (0 : EReal) from Ideal.ofBits_zero_f32, zero_add]
  refine Finset.sum_congr rfl fun j _ => congrArg₂ (· * ·) (congrArg₂ (· * ·) ?_ ?_) (shapeCast_1ab_ab_apply _ _ j d)
  · refine (Ideal.matmul_transposedRhs_apply (M := 256) (K := 64) (N := 512) _ _ _ _ r j).trans ?_
    rw [show (constant (F := Ideal) ⟨2, ![256, 512]⟩ .f32 0x00000000#32) (ix2 r j) = (0 : EReal) from Ideal.ofBits_zero_f32, zero_add]
    exact Finset.sum_congr rfl fun e _ => congrArg (_ * ·) (shapeCast_1ab_ab_apply _ _ j e)
  · refine (Ideal.matmul_transposedRhs_apply (M := 256) (K := 64) (N := 512) _ _ _ _ r j).trans ?_
    rw [show (constant (F := Ideal) ⟨2, ![256, 512]⟩ .f32 0x00000000#32) (ix2 r j) = (0 : EReal) from Ideal.ofBits_zero_f32, zero_add]
    exact (Finset.sum_congr rfl fun m _ => congrArg (_ * ·) (firsts_apply kb j m)).trans
      (sum_mul_flag _ (fun m => W (ix2 r m)) _ (first_iff _))

/-- Four sums over 512 keys are the sum over the 2048. -/
theorem four_groups (f : Fin 2048 → EReal) :
    0 + ∑ j : Fin 512, f (Fin.ofNat 2048 (512 * 0 + j.val)) + ∑ j : Fin 512, f (Fin.ofNat 2048 (512 * 1 + j.val))
      + ∑ j : Fin 512, f (Fin.ofNat 2048 (512 * 2 + j.val)) + ∑ j : Fin 512, f (Fin.ofNat 2048 (512 * 3 + j.val)) = ∑ s, f s := by
  rw [← Fintype.sum_equiv (finProdFinEquiv (m := 4) (n := 512)) (fun x => f (Fin.ofNat 2048 (512 * x.1.val + x.2.val))) f (fun x => ?_),
    Fintype.sum_prod_type, Fin.sum_univ_four, zero_add]
  · rfl
  · congr 1
    apply Fin.ext
    have h1 := x.1.isLt
    have h2 := x.2.isLt
    show (512 * x.1.val + x.2.val) % 2048 = x.2.val + 512 * x.1.val
    omega

/-- What the attention body leaves: the sum over all the keys. -/
theorem attn_value (x0 : Vec Ideal S1x256x64 .f32) (x1 x2 : Vec Ideal S1x2048x64 .f32) (x3 : Vec Ideal S1x64x64 .f32)
    (hz : ∀ c e, x3 (ix3 0 c e) = keySumAt (fun s e => x1 (ix3 0 s e)) c e) (r : Fin 256) (d : Fin 64) :
    attnBlk x0 x1 x2 x3 (ix3 0 r d) = ∑ s : Fin 2048, ((∑ e, x0 (ix3 0 r e) * x1 (ix3 0 s e))
      * weightAt (fun e => x0 (ix3 0 r e)) (fun s e => x1 (ix3 0 s e)) (slotOf (fun s e => x1 (ix3 0 s e)) s)) * x2 (ix3 0 s d) := by
  unfold attnBlk k2_pay2
  refine (shapeCast_ab_1ab_apply _ _ 0 r d).trans ?_
  rw [← four_groups]
  have hstep : ∀ n, attnSum x0 x1 x2 x3 (n + 1) (ix2 r d) = attnSum x0 x1 x2 x3 n (ix2 r d) + ∑ j : Fin 512,
      (fun s : Fin 2048 => ((∑ e, x0 (ix3 0 r e) * x1 (ix3 0 s e)) * weightAt (fun e => x0 (ix3 0 r e)) (fun s e => x1 (ix3 0 s e))
        (slotOf (fun s e => x1 (ix3 0 s e)) s)) * x2 (ix3 0 s d)) (Fin.ofNat 2048 (512 * n + j.val)) := by
    intro n
    refine (pay1_apply _ _ _ _ _ r d).trans (congrArg (_ + ·) (Finset.sum_congr rfl fun j _ => ?_))
    refine congrArg₂ (· * ·) (congrArg₂ (· * ·) (Finset.sum_congr rfl fun e _ => ?_) ?_) rfl
    · rw [query_apply]; rfl
    · rw [weight_apply x0 x3 r _ hz]; rfl
  rw [hstep 3, hstep 2, hstep 1, hstep 0]
  rw [show attnSum x0 x1 x2 x3 0 (ix2 r d) = (0 : EReal) from Ideal.ofBits_zero_f32]

end Cert.Proof.KernelIdeal

end
-- ==== Proof.KernelValue.lean ====
module

public import proofs.«01_k».proof.Proof.AttnValue
public import proofs.«01_k».proof.Proof.AssignValue
public import proofs.«01_k».proof.Proof.Arrays

/-! The kernel's result at one query and one column of the values, over the extended reals. -/

@[expose] public section

set_option maxRecDepth 16384

noncomputable section

namespace Cert.Proof

open Idealize.ShloMosaic Idealize.ShloMosaic.ValueIdx

/-- One query of an array of queries. -/
def rowAt (q : FVec Ideal ⟨4, ![1, 12, 2048, 64]⟩ .f32) (h : Fin 12) (i : Fin 2048) : Fin 64 → EReal := fun e => q (ix4 0 h i e)
/-- The keys of one head. -/
def keysAt (k : FVec Ideal ⟨4, ![1, 12, 2048, 64]⟩ .f32) (h : Fin 12) : Fin 2048 → Fin 64 → EReal := fun s e => k (ix4 0 h s e)
/-- One column of the values of one head. -/
def colAt (v : FVec Ideal ⟨4, ![1, 12, 2048, 64]⟩ .f32) (h : Fin 12) (d : Fin 64) : Fin 2048 → EReal := fun s => v (ix4 0 h s d)

end Cert.Proof

namespace Cert.Proof.KernelIdeal

open Cert.KernelIdeal Cert.KernelIdeal.Gen
open Idealize.ShloMosaic Idealize.ShloMosaic.ValueIdx
open scoped Classical

/-- The running sums, when the slot array holds the places of the first largest magnitudes. -/
theorem sumAcc_eq (A : Vec Ideal S12x1x2048 .i32) (X : Vec Ideal S12x2048x64 .f32) (h : Fin 12) (K : Fin 2048 → Fin 64 → EReal)
    (hX : ∀ s e, X (ix3 h s e) = K s e) (hA : ∀ s, (A (ix3 h 0 s) : BitVec 32) = BitVec.ofNat 32 (slotOf K s).val) (c e : Fin 64) :
    ∀ n, n ≤ 2048 → sumAcc A X h n c e
      = ∑ s ∈ Finset.range n, if slotOf K (Fin.ofNat 2048 s) = c then K (Fin.ofNat 2048 s) e else 0
  | 0, _ => Ideal.ofBits_zero_f32
  | n + 1, hn => by
    rw [Finset.sum_range_succ, ← sumAcc_eq A X h K hX hA c e n (by omega)]
    have hcond : (c.val = (A (ix3 h 0 (Fin.ofNat 2048 n)) : BitVec 32).toNat) ↔ slotOf K (Fin.ofNat 2048 n) = c := by
      have hs := (slotOf K (Fin.ofNat 2048 n)).isLt
      rw [hA, BitVec.toNat_ofNat, Nat.mod_eq_of_lt (by omega), Fin.ext_iff]
      exact eq_comm
    show (if c.val = (A (ix3 h 0 (Fin.ofNat 2048 n)) : BitVec 32).toNat then sumAcc A X h n c e + X (ix3 h (Fin.ofNat 2048 n) e)
      else sumAcc A X h n c e) = _
    by_cases hc : slotOf K (Fin.ofNat 2048 n) = c
    · rw [if_pos (hcond.2 hc), if_pos hc, hX]
    · rw [if_neg (fun h => hc (hcond.1 h)), if_neg hc, add_zero]

/-- What the accumulation call leaves: the sums of the keys of each slot. -/
theorem sum_value (k : Vec Ideal S1x12x2048x64 .f32) (h : Fin 12) (c e : Fin 64) :
    sumOut (assignArr (flat k)) (flat k) (ix3 h c e) = keySumAt (keysAt k h) c e := by
  unfold keySumAt
  refine (sumAcc_eq _ _ h (keysAt k h) (fun s e => rfl) (fun s => ?_) c e 2048 le_rfl).trans ?_
  · exact assign_value (headOf (flat k) h) s
  · rw [Finset.sum_range]
    refine Finset.sum_congr rfl fun s _ => ?_
    rw [show Fin.ofNat 2048 s.val = s from Fin.ext (Nat.mod_eq_of_lt s.isLt)]

/-- The kernel's result: the sum over the keys of the query's product with the key, times the weight of its slot, times its value. -/
theorem kernel_apply (q k v : Vec Ideal S1x12x2048x64 .f32) (h : Fin 12) (i : Fin 2048) (d : Fin 64) :
    kernelOut q k v (ix4 0 h i d) = ∑ s : Fin 2048, ((∑ e, rowAt q h i e * keysAt k h s e)
      * weightAt (rowAt q h i) (keysAt k h) (slotOf (keysAt k h) s)) * colAt v h d s := by
  have hi : (ix3 0 (Fin.ofNat 256 i.val) d : S1x256x64.Idx) = ix3 0 ⟨i.val % 256, Nat.mod_lt _ (by decide)⟩ d := rfl
  refine (attn_value (queryOf (flat q) h (i.val / 256)) (headOf (flat k) h) (headOf (flat v) h)
    (sumOf (sumOut (assignArr (flat k)) (flat k)) h) (fun c e => sum_value k h c e) (Fin.ofNat 256 i.val) d).trans ?_
  have hrow : ∀ e, queryOf (flat q) h (i.val / 256) (ix3 0 (Fin.ofNat 256 i.val) e) = rowAt q h i e := by
    intro e
    show q (ix4 0 h (Fin.ofNat 2048 (256 * (i.val / 256) + i.val % 256)) e) = q (ix4 0 h i e)
    rw [Nat.div_add_mod, show Fin.ofNat 2048 i.val = i from Fin.ext (Nat.mod_eq_of_lt i.isLt)]
  simp only [hrow]
  rfl

end Cert.Proof.KernelIdeal

end
-- ==== Proof.RefOut.lean ====
module

public import proofs.«01_k».proof.Proof.RefWeight
public import proofs.«01_k».proof.Proof.RefRead
public import proofs.«01_k».proof.Proof.KernelValue

/-! The reference's result, entry by entry: an eighth of what is retrieved from each slot where the query's magnitude is
    largest. -/

@[expose] public section

set_option maxRecDepth 16384

noncomputable section

namespace Cert.Proof.Reference

open Cert.ReferenceIdeal Cert.ReferenceIdeal.Facts₀
open Idealize.ShloMosaic Idealize.ShloMosaic.ValueIdx
open scoped Classical

/-- A row of the memory at one of the 768 places. -/
def memPlace (K : Fin 2048 → Fin 64 → EReal) (V : Fin 2048 → EReal) (p : Fin 768) (e : Fin 64) : EReal :=
  ∑ s, if low (slotOf K s) = p then V s * K s e else 0
/-- A row of the normalizers at one of the 768 places. -/
def keyPlace (K : Fin 2048 → Fin 64 → EReal) (p : Fin 768) (e : Fin 64) : EReal := ∑ s, if low (slotOf K s) = p then K s e else 0
/-- An eighth of what is retrieved from a place. -/
def takeOf (Q : Fin 64 → EReal) (K : Fin 2048 → Fin 64 → EReal) (V : Fin 2048 → EReal) (p : Fin 768) : EReal :=
  ((1 / 8 : ℝ) : EReal) * Ideal.div (∑ e, memPlace K V p e * Q e) ((∑ e, keyPlace K p e * Q e) + eps)

theorem low_eq (a c : Fin 64) : low a = low c ↔ a = c :=
  ⟨fun h => Fin.ext (congrArg (fun p : Fin 768 => p.val) h), fun h => congrArg low h⟩

theorem memPlace_low (K : Fin 2048 → Fin 64 → EReal) (V : Fin 2048 → EReal) (c e : Fin 64) : memPlace K V (low c) e = memAt K V c e :=
  Finset.sum_congr rfl fun s _ => by simp only [low_eq]
theorem keyPlace_low (K : Fin 2048 → Fin 64 → EReal) (c e : Fin 64) : keyPlace K (low c) e = keySumAt K c e :=
  Finset.sum_congr rfl fun s _ => by simp only [low_eq]

theorem low_ne (a : Fin 64) (p : Fin 768) (hp : 64 ≤ p.val) : low a ≠ p := fun h => by
  have h1 : a.val = p.val := congrArg (fun p : Fin 768 => p.val) h
  omega

theorem memPlace_high (K : Fin 2048 → Fin 64 → EReal) (V : Fin 2048 → EReal) (p : Fin 768) (hp : 64 ≤ p.val) (e : Fin 64) : memPlace K V p e = 0 :=
  Finset.sum_eq_zero fun s _ => if_neg (low_ne _ p hp)
theorem keyPlace_high (K : Fin 2048 → Fin 64 → EReal) (p : Fin 768) (hp : 64 ≤ p.val) (e : Fin 64) : keyPlace K p e = 0 :=
  Finset.sum_eq_zero fun s _ => if_neg (low_ne _ p hp)

/-- Nothing is retrieved from a place no key is written to. -/
theorem take_high (Q : Fin 64 → EReal) (K : Fin 2048 → Fin 64 → EReal) (V : Fin 2048 → EReal) (p : Fin 768) (hp : 64 ≤ p.val) : takeOf Q K V p = 0 := by
  obtain ⟨r, hr, he⟩ := eps_pos
  have hne : (0 : EReal) + eps ≠ 0 := by
    rw [zero_add, he]
    exact_mod_cast hr.ne'
  unfold takeOf
  simp only [memPlace_high K V p hp, keyPlace_high K p hp, zero_mul, Finset.sum_const_zero]
  rw [div_of_ne hne, zero_mul, mul_zero]

/-- What is retrieved from a slot. -/
theorem take_low (Q : Fin 64 → EReal) (K : Fin 2048 → Fin 64 → EReal) (V : Fin 2048 → EReal) (c : Fin 64) (hD : normAt Q K c ≠ 0) :
    takeOf Q K V (low c) = ((1 / 8 : ℝ) : EReal) * ((∑ e, memAt K V c e * Q e) * (normAt Q K c)⁻¹) := by
  unfold takeOf
  simp only [memPlace_low, keyPlace_low]
  exact congrArg (fun x : EReal => ((1 / 8 : ℝ) : EReal) * x) (div_of_ne hD)

/-- The eight sorted scores are all the largest magnitude. -/
theorem topVal_equal (q : Arr) (h : Fin 12) (i : Fin 2048) (hq : ∀ e, Finite (rowAt q h i e)) :
    ∃ m : ℝ, ∀ n : Fin 8, topVal q (ix4 0 h i n) = (m : EReal) := by
  have hf : ∀ t : Fin 768, tileRow q h i t = (fun e => mag (rowAt q h i e)) ⟨t.val % 64, Nat.mod_lt _ (by decide)⟩ := fun t => tile_apply q h i t
  have hm := fun n : Fin 8 => top_max (tileRow q h i) (fun e => mag (rowAt q h i e)) hf n
  have hfin : Finite (tileRow q h i (place q h i 0)) := by
    rw [hf]
    obtain ⟨r, hr⟩ := hq ⟨(place q h i 0).val % 64, Nat.mod_lt _ (by decide)⟩
    exact ⟨max r (-r), by show max (rowAt q h i _) (-rowAt q h i _) = _; rw [hr, ← EReal.coe_neg]; exact (EReal.coe_strictMono.monotone.map_max).symm⟩
  obtain ⟨m, hm0⟩ := hfin
  refine ⟨m, fun n => ?_⟩
  rw [topVal_apply, ← hm0]
  exact le_antisymm (hm 0 _) (hm n _)

theorem mem_row (q k v : Arr) (h : Fin 12) (i : Fin 2048) (t : Fin 8) (d e : Fin 64) :
    memRead q k v (ix6 0 h i t d e) = memPlace (keysAt k h) (colAt v h d) (place q h i t) e :=
  (memRead_apply q k v h i t d e).trans (memory_apply k v h (place q h i t) d e)

theorem key_row (q k : Arr) (h : Fin 12) (i : Fin 2048) (t : Fin 8) (e : Fin 64) :
    keyRead q k (ix5 0 h i t e) = keyPlace (keysAt k h) (place q h i t) e :=
  (keyRead_apply q k h i t e).trans (keySum_apply k h (place q h i t) e)

/-- What a query retrieves from its slot number `t`. -/
theorem retrieved_read (q k v : Arr) (h : Fin 12) (i : Fin 2048) (t : Fin 8) (d : Fin 64) :
    retrievedOf q (memRead q k v) (keyRead q k) (ix5 0 h i t d)
      = Ideal.div (∑ e, memPlace (keysAt k h) (colAt v h d) (place q h i t) e * rowAt q h i e)
          ((∑ e, keyPlace (keysAt k h) (place q h i t) e * rowAt q h i e) + eps) := by
  rw [retrieved_apply]
  have e1 : ∀ e, memRead q k v (ix6 0 h i t d e) * q (ix4 0 h i e)
      = memPlace (keysAt k h) (colAt v h d) (place q h i t) e * rowAt q h i e := fun e => by rw [mem_row]; rfl
  have e2 : ∀ e, keyRead q k (ix5 0 h i t e) * q (ix4 0 h i e)
      = keyPlace (keysAt k h) (place q h i t) e * rowAt q h i e := fun e => by rw [key_row]; rfl
  rw [Finset.sum_congr rfl fun e _ => e1 e, Finset.sum_congr rfl fun e _ => e2 e]

/-- The reference's result at an entry. -/
theorem ref_apply (q k v : Arr) (h : Fin 12) (i : Fin 2048) (d : Fin 64) (hq : ∀ e, Finite (rowAt q h i e))
    (hT : (Finset.univ.filter (Best (rowAt q h i))).card ≤ 2) (hD : ∀ c, Best (rowAt q h i) c → normAt (rowAt q h i) (keysAt k h) c ≠ 0) :
    refOut q k v (ix4 0 h i d) = readOf (rowAt q h i) (keysAt k h) (colAt v h d) := by
  obtain ⟨m, hm⟩ := topVal_equal q h i hq
  have hf : ∀ t : Fin 768, tileRow q h i t = (fun e => mag (rowAt q h i e)) ⟨t.val % 64, Nat.mod_lt _ (by decide)⟩ := fun t => tile_apply q h i t
  have e1 : refOut q k v (ix4 0 h i d) = ∑ t : Fin 8, takeOf (rowAt q h i) (keysAt k h) (colAt v h d) (place q h i t) := by
    refine (out_apply (weight q) _ h i d).trans (Finset.sum_congr rfl fun t _ => ?_)
    have ew : weight q (ix4 0 h i t) = ((1 / 8 : ℝ) : EReal) := weight_equal (topVal q) h i m hm t
    rw [ew, retrieved_read]
    rfl
  have e2 := top_sum (tileRow q h i) (fun e => mag (rowAt q h i e)) hf hT (takeOf (rowAt q h i) (keysAt k h) (colAt v h d))
    (fun t ht => take_high _ _ _ t ht)
  have e3 : ∀ t : Fin 8, place q h i t = sortedFrom (larger (tileRow q h i)) ⟨t.val, by omega⟩ := fun t => rfl
  rw [e1, Finset.sum_congr rfl fun t _ => congrArg (takeOf (rowAt q h i) (keysAt k h) (colAt v h d)) (e3 t), e2]
  unfold readOf
  refine Finset.sum_congr rfl fun c _ => ?_
  by_cases hc : Best (rowAt q h i) c
  · exact (if_pos hc).trans ((take_low _ _ _ c (hD c hc)).trans (if_pos hc).symm)
  · exact (if_neg hc).trans (if_neg hc).symm

end Cert.Proof.Reference

end
-- ==== Proof.PreParts.lean ====
module

public import proofs.«01_k».proof.Proof.PreFacts
public import Idealize.ShloMosaic.Lib.ReduceAll

/-! The four conditions the precondition states, one by one. -/

@[expose] public section

noncomputable section

namespace Cert.Proof.Pre

open Cert.Pre_pre Cert.Pre_pre.Facts Idealize.ShloMosaic

instance : Subsingleton S_.Idx := ⟨fun _ _ => funext fun a => a.elim0⟩

section
variable {F : FTy → Type} [FloatOps F]

/-- Where a query's magnitude is the largest of its row. -/
def marks (q : FVec F S1x12x2048x64 .f32) : IVec S1x12x2048x64 1 :=
  cmpf .oeq (Host.absf q) (broadcastInDim S1x12x2048x64 ![0, 1, 2, 3] bcast_S1x12x2048x1_S1x12x2048x64_0_1_2_3
    (broadcastInDim S1x12x2048x1 ![0, 1, 2] bcast_S1x12x2048_S1x12x2048x1_0_1_2
      (Host.reduce FloatOps.maximumf (Host.absf q) (constant S_ .f32 0xFF800000#32) reducesTo_S1x12x2048x64_S1x12x2048_d3 h_S_)))

/-- Each key's slot, as a row of zeros and one. -/
def hots (k : FVec F S1x12x2048x64 .f32) : FVec F S1x12x2048x64 .f32 := fn_one_hot (F := F) (fn_argmax (F := F) (Host.absf k))

/-- The keys of each slot summed. -/
def sums (k : FVec F S1x12x2048x64 .f32) : FVec F S1x12x64x64 .f32 :=
  Host.dotGeneral (φ₁ := .f32) (φ₂ := .f32) dot_S1x12x2048x64_S1x12x2048x64_S1x12x64x64_2_2_3_3_01_01 none (hots k) k

/-- The normalizer of each slot at each query. -/
def norms (q k : FVec F S1x12x2048x64 .f32) : FVec F S1x12x2048x64 .f32 :=
  addf (Host.dotGeneral (φ₁ := .f32) (φ₂ := .f32) dot_S1x12x2048x64_S1x12x64x64_S1x12x2048x64_3_3_2_2_01_01 none q (sums k))
    (broadcastInDim S1x12x2048x64 ![] bcast_S_S1x12x2048x64 (constant S_ .f32 0x358637BD#32))

/-- Which entries are finite. -/
def finites (x : FVec F S1x12x2048x64 .f32) : IVec S1x12x2048x64 1 :=
  cmpf .olt (Host.absf x) (broadcastInDim S1x12x2048x64 ![] bcast_S_S1x12x2048x64 (constant S_ .f32 0x7F800000#32))

/-- Which queries have at most two largest magnitudes. -/
def few (m : IVec S1x12x2048x64 1) : IVec S1x12x2048 1 :=
  cmpi .sle (Host.reduce IntOp.addi (extui 32 m natLt_1_32) (constantI S_ 32 0#32) reducesTo_S1x12x2048x64_S1x12x2048_d3 h_S_)
    (broadcastInDim S1x12x2048 ![] bcast_S_S1x12x2048 (constantI S_ 32 2#32))

/-- Where a mark comes with a normalizer other than zero. -/
def sound (m : IVec S1x12x2048x64 1) (n : FVec F S1x12x2048x64 .f32) : IVec S1x12x2048x64 1 :=
  ori (noti m) (cmpf .une n (broadcastInDim S1x12x2048x64 ![] bcast_S_S1x12x2048x64 (constant S_ .f32 0x00000000#32)))

/-- Whether a condition holds everywhere. -/
def every (x : IVec S1x12x2048x64 1) : IVec S_ 1 := Host.reduce IntOp.andi x (constantI S_ 1 1#1) reducesTo_S1x12x2048x64_S_d0_1_2_3 h_S_
def everyRow (x : IVec S1x12x2048 1) : IVec S_ 1 := Host.reduce IntOp.andi x (constantI S_ 1 1#1) reducesTo_S1x12x2048_S_d0_1_2 h_S_

/-- The precondition is the four conditions together. -/
theorem fn_eq (q k v : FVec F S1x12x2048x64 .f32) : Cert.Pre_pre.fn (F := F) q k v
    = andi (andi (andi (every (finites q)) (every (finites v))) (everyRow (few (marks q)))) (every (sound (marks q) (norms q k))) := rfl

theorem every_all (x : IVec S1x12x2048x64 1) (h : every x (fun a => a.elim0) = 1#1) (i : S1x12x2048x64.Idx) : x i = 1#1 :=
  Host.reduce_andi_all _ _ _ _ _ h i
theorem everyRow_all (x : IVec S1x12x2048 1) (h : everyRow x (fun a => a.elim0) = 1#1) (i : S1x12x2048.Idx) : x i = 1#1 :=
  Host.reduce_andi_all _ _ _ _ _ h i

theorem and_split (x y : IVec S_ 1) (h : andi x y (fun a => a.elim0) = 1#1) : x (fun a => a.elim0) = 1#1 ∧ y (fun a => a.elim0) = 1#1 :=
  IntOp.andi_eq_one.1 h

/-- Under the precondition each of the four holds everywhere. -/
theorem parts (q k v : FVec F S1x12x2048x64 .f32) (e : Cert.Pre_pre.fn (F := F) q k v = fun _ => 1#1) :
    (∀ i, finites q i = 1#1) ∧ (∀ i, finites v i = 1#1) ∧ (∀ i, few (marks q) i = 1#1) ∧ ∀ i, sound (marks q) (norms q k) i = 1#1 := by
  rw [fn_eq] at e
  obtain ⟨h1, h2⟩ := and_split _ _ (congrFun e _)
  obtain ⟨h3, h4⟩ := and_split _ _ h1
  obtain ⟨h5, h6⟩ := and_split _ _ h3
  exact ⟨every_all _ h5, every_all _ h6, everyRow_all _ h4, every_all _ h2⟩
end

end Cert.Proof.Pre

end
-- ==== Proof.PreSlot.lean ====
module

public import proofs.«01_k».proof.Proof.PreFacts
public import proofs.«01_k».proof.Proof.RefSlot

/-! The precondition's slot of a key: the place of its first largest magnitude. -/

@[expose] public section

set_option maxRecDepth 16384

noncomputable section

namespace Cert.Proof.Pre

open Cert.Pre_pre Cert.Pre_pre.Facts Idealize.ShloMosaic Idealize.ShloMosaic.ValueIdx
open Cert.Proof.Reference (Below reducer_best toInt_small)

/-- The pairs a key's slot is chosen from: each entry of its row with its place. -/
theorem row_mem (T : FVec Ideal S1x12x2048x64 .f32) (h : Fin 12) (s : Fin 2048) (p : Ideal .f32 × BitVec 32) :
    p ∈ Host.argReduceFiber T (iotaInDim S1x12x2048x64 32 3) reducesTo_S1x12x2048x64_S1x12x2048_d3 (ix3 0 h s)
      ↔ ∃ t : Fin 64, p = (T (ix4 0 h s t), BitVec.ofNat 32 t.val) := by
  unfold Host.argReduceFiber
  constructor
  · intro hp
    obtain ⟨n, hn, rfl⟩ := List.mem_map.1 hp
    have hd := of_decide_eq_true (List.mem_filter.1 hn).2
    generalize S1x12x2048x64.rowMajor.symm n = i at hd
    have hix : ∃ t : Fin 64, i = ix4 0 h s t := by
      refine ⟨i 3, funext fun a => ?_⟩
      match a with
      | ⟨0, _⟩ => exact Subsingleton.elim (α := Fin 1) _ _
      | ⟨1, _⟩ => exact congrFun hd 1
      | ⟨2, _⟩ => exact congrFun hd 2
      | ⟨3, _⟩ => rfl
    obtain ⟨t, rfl⟩ := hix
    exact ⟨t, rfl⟩
  · rintro ⟨t, rfl⟩
    refine List.mem_map.2 ⟨S1x12x2048x64.rowMajor (ix4 0 h s t), List.mem_filter.2 ⟨List.mem_finRange _, decide_eq_true ?_⟩, ?_⟩
    · rw [Equiv.symm_apply_apply]
      funext a
      apply Fin.ext
      match a with
      | ⟨0, _⟩ => rfl
      | ⟨1, _⟩ => rfl
      | ⟨2, _⟩ => rfl
    · rw [Equiv.symm_apply_apply]
      rfl

/-- The best of the pairs of a row is its first largest entry. -/
theorem best_of_row (g : Fin 64 → EReal) (hg : ∀ e, ⊥ < g e) (l : List (Ideal .f32 × BitVec 32))
    (hl : ∀ p, p ∈ l ↔ ∃ t : Fin 64, p = (g t, BitVec.ofNat 32 t.val)) (r : Ideal .f32 × BitVec 32)
    (hmem : r ∈ ((⊥ : EReal), 0#32) :: l) (hbel : ∀ p ∈ ((⊥ : EReal), 0#32) :: l, Below p r) : r.2 = BitVec.ofNat 32 (first g).val := by
  have hfirst := (nth_one_iff g (first g)).1 (first_spec g)
  have hfl := (first g).isLt
  have hb := hbel _ (List.mem_cons_of_mem _ ((hl _).2 ⟨first g, rfl⟩))
  have hrl : ∃ t : Fin 64, r = (g t, BitVec.ofNat 32 t.val) := by
    rcases List.mem_cons.1 hmem with h0 | h0
    · exfalso
      have h1 : r.1 = (⊥ : EReal) := congrArg Prod.fst h0
      rcases hb with hb | ⟨hb, _⟩
      · rw [h1] at hb; exact not_lt_bot hb
      · rw [h1] at hb; exact (hg _).ne' hb
    · exact (hl _).1 h0
  obtain ⟨t, rfl⟩ := hrl
  have htl := t.isLt
  rcases hb with hb | ⟨hb, hle⟩
  · exact absurd hb (not_lt.2 (hfirst.1 t))
  · have hle : t.val ≤ (first g).val := by
      have h2 : (BitVec.ofNat 32 t.val).toInt ≤ (BitVec.ofNat 32 (first g).val).toInt := hle
      rw [toInt_small _ (by omega), toInt_small _ (by omega)] at h2
      exact_mod_cast h2
    have hmax : AtMax g t := fun j => (hfirst.1 j).trans (le_of_eq hb)
    have h3 := hfirst.2 _ hmax
    rw [Fin.le_def] at h3
    show BitVec.ofNat 32 t.val = _
    congr 1
    omega

theorem reducer_same : reducer_argmax_f32_i32 (F := Ideal) = Cert.ReferenceIdeal.reducer_argmax_f32_i32 (F := Ideal) := rfl

theorem fold_of_row (g : Fin 64 → EReal) (hg : ∀ e, ⊥ < g e) (l : List (Ideal .f32 × BitVec 32))
    (hl : ∀ p, p ∈ l ↔ ∃ t : Fin 64, p = (g t, BitVec.ofNat 32 t.val)) (a : Ideal .f32 × BitVec 32) (ha : a = ((⊥ : EReal), 0#32)) :
    (l.foldl (reducer_argmax_f32_i32 (F := Ideal)) a).2 = BitVec.ofNat 32 (first g).val := by
  subst ha
  rw [reducer_same]
  obtain ⟨hmem, hbel⟩ := reducer_best l ((⊥ : EReal), 0#32)
  exact best_of_row g hg l hl _ hmem hbel

theorem argmax_row (T : FVec Ideal S1x12x2048x64 .f32) (Y : IVec S1x12x2048x64 32) (a : FVec Ideal S_ .f32) (b : IVec S_ 32) (j : S1x12x2048.Idx) :
    Host.argReduce (reducer_argmax_f32_i32 (F := Ideal)) T Y a b reducesTo_S1x12x2048x64_S1x12x2048_d3 h_S_ j
      = (Host.argReduceFiber T Y reducesTo_S1x12x2048x64_S1x12x2048_d3 j).foldl (reducer_argmax_f32_i32 (F := Ideal))
        (a (Shape.Idx.first h_S_), b (Shape.Idx.first h_S_)) := by
  rw [Ideal.argReduce_eq_reduce2, Host.reduce2_eq_foldl_fiber]

theorem argmax_eq (T : FVec Ideal S1x12x2048x64 .f32) : fn_argmax (F := Ideal) T = fun j => (Host.argReduce (reducer_argmax_f32_i32 (F := Ideal)) T
    (iotaInDim S1x12x2048x64 32 3) (constant (F := Ideal) S_ .f32 0xFF800000#32) (constantI S_ 32 0#32)
    reducesTo_S1x12x2048x64_S1x12x2048_d3 h_S_ j).2 := rfl

/-- The place the precondition finds in a row whose entries are above the least one. -/
theorem argmax_apply (T : FVec Ideal S1x12x2048x64 .f32) (h : Fin 12) (s : Fin 2048) (hg : ∀ e, ⊥ < T (ix4 0 h s e)) :
    fn_argmax (F := Ideal) T (ix3 0 h s) = BitVec.ofNat 32 (first fun e => T (ix4 0 h s e)).val :=
  (congrFun (argmax_eq T) (ix3 0 h s)).trans ((congrArg Prod.snd (argmax_row T _ _ _ (ix3 0 h s))).trans
    (fold_of_row (fun t => T (ix4 0 h s t)) hg _ (fun p => row_mem T h s p) _ (congrArg₂ Prod.mk ofBits_bot (Eq.refl (0#32)))))

end Cert.Proof.Pre

end
-- ==== Proof.PreRead.lean ====
module

public import proofs.«01_k».proof.Proof.PreParts
public import proofs.«01_k».proof.Proof.PreSlot
public import proofs.«01_k».proof.Proof.KernelValue
public import Idealize.ShloMosaic.Lib.IdealHost

/-! What the precondition says over the extended reals. -/

@[expose] public section

set_option maxRecDepth 16384

noncomputable section

namespace Cert.Proof.Pre

open Cert.Pre_pre Cert.Pre_pre.Facts Idealize.ShloMosaic Idealize.ShloMosaic.ValueIdx
open scoped Classical

theorem bool_one (p : Prop) [Decidable p] (h : BitVec.ofBool (decide p) = 1#1) : p := by
  by_contra hp
  rw [decide_eq_false hp] at h
  exact absurd h (by decide)

theorem ofBits_top : Ideal.ofBits .f32 0x7F800000#32 = ⊤ := by simp [Ideal.ofBits, Ideal.ieee]

/-- An entry whose magnitude is below the top is finite. -/
theorem finite_of_mag (x : EReal) (h : mag x < ⊤) : Finite x := by
  refine finite_of_ne (fun e => ?_) (fun e => ?_)
  · rw [e] at h; exact absurd (lt_of_le_of_lt (le_max_left _ _) h) (lt_irrefl _)
  · rw [e] at h; exact absurd (lt_of_le_of_lt (le_max_right _ _) h) (by simp)

theorem finites_apply (x : FVec Ideal S1x12x2048x64 .f32) (i : S1x12x2048x64.Idx) (h : finites x i = 1#1) : Finite (x i) := by
  have e : finites x i = BitVec.ofBool (decide (mag (x i) < Ideal.ofBits .f32 0x7F800000#32)) := by
    have : finites x i = Ideal.cmp .olt (mag (x i)) (Ideal.ofBits .f32 0x7F800000#32) := rfl
    rw [this]
    unfold Ideal.cmp
    congr
  rw [e] at h
  have h1 := bool_one _ h
  rw [ofBits_top] at h1
  exact finite_of_mag _ h1

/-- A number for each query, repeated over its row. -/
def over (x : FVec Ideal S1x12x2048 .f32) : FVec Ideal S1x12x2048x64 .f32 :=
  broadcastInDim S1x12x2048x64 ![0, 1, 2, 3] bcast_S1x12x2048x1_S1x12x2048x64_0_1_2_3
    (broadcastInDim S1x12x2048x1 ![0, 1, 2] bcast_S1x12x2048_S1x12x2048x1_0_1_2 x)

theorem over_apply (x : FVec Ideal S1x12x2048 .f32) (h : Fin 12) (i : Fin 2048) (e : Fin 64) : over x (ix4 0 h i e) = x (ix3 0 h i) := by
  unfold over broadcastInDim
  congr 1
  funext a
  match a with
  | ⟨0, _⟩ => rfl
  | ⟨1, _⟩ => rfl
  | ⟨2, _⟩ => rfl

theorem reduces_row : S1x12x2048x64.Reduces [3] S1x12x2048 := by decide

theorem lift_row (hr : S1x12x2048x64.Reduces [3] S1x12x2048) (h : Fin 12) (i : Fin 2048) (e : Fin 64) : hr.lift (ix3 0 h i) e = ix4 0 h i e := by
  funext a
  match a with
  | ⟨0, _⟩ => rfl
  | ⟨1, _⟩ => rfl
  | ⟨2, _⟩ => rfl
  | ⟨3, _⟩ => rfl

/-- The largest entry of a row. -/
def topOf (x : FVec Ideal S1x12x2048x64 .f32) : FVec Ideal S1x12x2048 .f32 :=
  Host.reduce FloatOps.maximumf x (constant S_ .f32 0xFF800000#32) reducesTo_S1x12x2048x64_S1x12x2048_d3 h_S_

theorem topOf_apply (x : FVec Ideal S1x12x2048x64 .f32) (h : Fin 12) (i : Fin 2048) :
    topOf x (ix3 0 h i) = (Finset.univ : Finset (Fin 64)).fold max ⊥ fun e => x (ix4 0 h i e) := by
  have e1 := Host.reduce_eq_fold_single (FloatOps.maximumf (F := Ideal) (φ := .f32)) x (constant (F := Ideal) S_ .f32 0xFF800000#32)
    reducesTo_S1x12x2048x64_S1x12x2048_d3 reduces_row h_S_ (ix3 0 h i)
  refine e1.trans ((congrArg (fun b : EReal => (Finset.univ : Finset (Fin 64)).fold max b (fun n => x (reduces_row.lift (ix3 0 h i) n))) ofBits_bot).trans ?_)
  exact congrArg (fun f : Fin 64 → EReal => (Finset.univ : Finset (Fin 64)).fold max ⊥ f) (funext fun n => congrArg x (lift_row reduces_row h i n))

/-- A mark stands exactly where the magnitude is the largest of the row. -/
theorem marks_apply (q : FVec Ideal S1x12x2048x64 .f32) (h : Fin 12) (i : Fin 2048) (e : Fin 64) :
    marks q (ix4 0 h i e) = BitVec.ofBool (decide (Best (rowAt q h i) e)) := by
  have e1 : marks q (ix4 0 h i e) = Ideal.cmp .oeq (mag (q (ix4 0 h i e))) (over (topOf (Host.absf q)) (ix4 0 h i e)) := rfl
  rw [e1, over_apply, topOf_apply]
  unfold Ideal.cmp
  refine congrArg BitVec.ofBool (decide_eq_decide.2 ?_)
  exact eq_fold_max_iff (fun e => mag (rowAt q h i e)) e

theorem count_fold (p : Fin 64 → Prop) [DecidablePred p] (s : Finset (Fin 64)) :
    (s.fold IntOp.addi (0#32) fun e => (BitVec.ofBool (decide (p e))).setWidth 32).toNat = (s.filter p).card := by
  induction s using Finset.induction_on with
  | empty => rfl
  | insert a s ha ih =>
    rw [Finset.fold_insert ha]
    have hc : (s.filter p).card ≤ 64 := (Finset.card_le_univ _).trans (by simp)
    show ((BitVec.ofBool (decide (p a))).setWidth 32 + _).toNat = _
    rw [BitVec.toNat_add, ih]
    by_cases hp : p a
    · rw [Finset.filter_insert, if_pos hp, Finset.card_insert_of_notMem (fun hm => ha (Finset.mem_filter.1 hm).1), decide_eq_true hp]
      show (1 + _) % _ = _
      omega
    · rw [Finset.filter_insert, if_neg hp, decide_eq_false hp]
      show (0 + _) % _ = _
      omega

/-- The marks of a query, counted. -/
theorem few_apply (m : IVec S1x12x2048x64 1) (h : Fin 12) (i : Fin 2048) (p : Fin 64 → Prop) [DecidablePred p]
    (hm : ∀ e, m (ix4 0 h i e) = BitVec.ofBool (decide (p e))) (hf : few m (ix3 0 h i) = 1#1) : (Finset.univ.filter p).card ≤ 2 := by
  have e1 := Host.reduce_eq_fold_single IntOp.addi (extui 32 m natLt_1_32) (constantI S_ 32 0#32)
    reducesTo_S1x12x2048x64_S1x12x2048_d3 reduces_row h_S_ (ix3 0 h i)
  have e2 : Host.reduce IntOp.addi (extui 32 m natLt_1_32) (constantI S_ 32 0#32) reducesTo_S1x12x2048x64_S1x12x2048_d3 h_S_ (ix3 0 h i)
      = (Finset.univ : Finset (Fin 64)).fold IntOp.addi (0#32) fun e => (BitVec.ofBool (decide (p e))).setWidth 32 := by
    refine e1.trans (congrArg (fun f : Fin 64 → BitVec 32 => (Finset.univ : Finset (Fin 64)).fold IntOp.addi (0#32) f) (funext fun n => ?_))
    exact (congrArg (extui 32 m natLt_1_32) (lift_row reduces_row h i n)).trans (congrArg (fun b : BitVec 1 => b.setWidth 32) (hm n))
  have e3 := count_fold p Finset.univ
  rw [← e2] at e3
  have hc : (Finset.univ.filter p).card ≤ 64 := (Finset.card_le_univ _).trans (by simp)
  have e4 : IntOp.cmpi .sle (Host.reduce IntOp.addi (extui 32 m natLt_1_32) (constantI S_ 32 0#32) reducesTo_S1x12x2048x64_S1x12x2048_d3 h_S_ (ix3 0 h i)) 2#32 = 1#1 := hf
  generalize Host.reduce IntOp.addi (extui 32 m natLt_1_32) (constantI S_ 32 0#32) reducesTo_S1x12x2048x64_S1x12x2048_d3 h_S_ (ix3 0 h i) = w at e3 e4
  have e5 : w.toInt ≤ 2 := by
    have e6 : BitVec.ofBool (w.sle 2#32) = 1#1 := e4
    rw [BitVec.sle_eq_decide] at e6
    exact bool_one _ e6
  rw [BitVec.toInt_eq_toNat_of_lt (by omega)] at e5
  omega

theorem sound_apply (m : IVec S1x12x2048x64 1) (n : FVec Ideal S1x12x2048x64 .f32) (i : S1x12x2048x64.Idx) (h : sound m n i = 1#1) (hm : m i = 1#1) :
    n i ≠ 0 := by
  intro hn
  have e1 : sound m n i = IntOp.ori (~~~ (m i)) (Ideal.cmp .une (n i) (Ideal.ofBits .f32 0x00000000#32)) := rfl
  rw [e1, hm, hn, Ideal.ofBits_zero_f32] at h
  simp [Ideal.cmp, IntOp.ori] at h

end Cert.Proof.Pre

end
-- ==== Proof.PreNorm.lean ====
module

public import proofs.«01_k».proof.Proof.PreParts
public import proofs.«01_k».proof.Proof.PreSlot
public import proofs.«01_k».proof.Proof.KernelValue
public import Idealize.ShloMosaic.Lib.IdealHost

/-! The normalizers the precondition speaks of are those of the kernel and the reference. -/

@[expose] public section

set_option maxRecDepth 16384

noncomputable section

namespace Cert.Proof.Pre

open Cert.Pre_pre Cert.Pre_pre.Facts Idealize.ShloMosaic Idealize.ShloMosaic.ValueIdx
open scoped Classical

/-- The products with the keys and with the queries. -/
abbrev dk := dot_S1x12x2048x64_S1x12x2048x64_S1x12x64x64_2_2_3_3_01_01
abbrev dq := dot_S1x12x2048x64_S1x12x64x64_S1x12x2048x64_3_3_2_2_01_01

theorem keys_product (x k : FVec Ideal S1x12x2048x64 .f32) (h : Fin 12) (c e : Fin 64) :
    Host.dotGeneral (φ₁ := .f32) (φ₂ := .f32) dk none x k (ix4 0 h c e) = ∑ s, x (ix4 0 h s c) * k (ix4 0 h s e) := by
  show FloatOps.dotGeneral _ none _ x k (ix4 0 h c e) = _
  rw [Ideal.dotGeneral_apply, ← Equiv.sum_comp (contrEquiv1 dk 2048 rfl rfl).symm]
  refine Finset.sum_congr rfl fun s _ => ?_
  have hc := contrEquiv1_symm_val dk 2048 rfl rfl s
  have hl : dk.lhsIdx (ix4 0 h c e) ((contrEquiv1 dk 2048 rfl rfl).symm s) = ix4 0 h s c := by
    funext a
    apply Fin.ext
    match a with
    | ⟨0, _⟩ => rfl
    | ⟨1, _⟩ => rfl
    | ⟨2, _⟩ => exact hc
    | ⟨3, _⟩ => rfl
  have hr : dk.rhsIdx (ix4 0 h c e) ((contrEquiv1 dk 2048 rfl rfl).symm s) = ix4 0 h s e := by
    funext a
    apply Fin.ext
    match a with
    | ⟨0, _⟩ => rfl
    | ⟨1, _⟩ => rfl
    | ⟨2, _⟩ => exact hc
    | ⟨3, _⟩ => rfl
  rw [hl, hr]

theorem queries_product (q : FVec Ideal S1x12x2048x64 .f32) (z : FVec Ideal S1x12x64x64 .f32) (h : Fin 12) (i : Fin 2048) (c : Fin 64) :
    Host.dotGeneral (φ₁ := .f32) (φ₂ := .f32) dq none q z (ix4 0 h i c) = ∑ e, q (ix4 0 h i e) * z (ix4 0 h c e) := by
  show FloatOps.dotGeneral _ none _ q z (ix4 0 h i c) = _
  rw [Ideal.dotGeneral_apply, ← Equiv.sum_comp (contrEquiv1 dq 64 rfl rfl).symm]
  refine Finset.sum_congr rfl fun e _ => ?_
  have hc := contrEquiv1_symm_val dq 64 rfl rfl e
  have hl : dq.lhsIdx (ix4 0 h i c) ((contrEquiv1 dq 64 rfl rfl).symm e) = ix4 0 h i e := by
    funext a
    apply Fin.ext
    match a with
    | ⟨0, _⟩ => rfl
    | ⟨1, _⟩ => rfl
    | ⟨2, _⟩ => rfl
    | ⟨3, _⟩ => exact hc
  have hr : dq.rhsIdx (ix4 0 h i c) ((contrEquiv1 dq 64 rfl rfl).symm e) = ix4 0 h c e := by
    funext a
    apply Fin.ext
    match a with
    | ⟨0, _⟩ => rfl
    | ⟨1, _⟩ => rfl
    | ⟨2, _⟩ => rfl
    | ⟨3, _⟩ => exact hc
  rw [hl, hr]

/-- The slots, each repeated along a row. -/
def slotRow (a : IVec S1x12x2048 32) : IVec S1x12x2048x64 32 :=
  broadcastInDim S1x12x2048x64 ![0, 1, 2, 3] bcast_S1x12x2048x1_S1x12x2048x64_0_1_2_3
    (broadcastInDim S1x12x2048x1 ![0, 1, 2] bcast_S1x12x2048_S1x12x2048x1_0_1_2 a)
/-- The numbers of the columns. -/
def colRow : IVec S1x12x2048x64 32 :=
  broadcastInDim S1x12x2048x64 ![0, 1, 2, 3] bcast_S1x1x1x64_S1x12x2048x64_0_1_2_3 (iotaInDim S1x1x1x64 32 3)

theorem slotRow_apply (a : IVec S1x12x2048 32) (h : Fin 12) (s : Fin 2048) (c : Fin 64) : slotRow a (ix4 0 h s c) = a (ix3 0 h s) := by
  unfold slotRow broadcastInDim
  congr 1
  funext b
  match b with
  | ⟨0, _⟩ => rfl
  | ⟨1, _⟩ => rfl
  | ⟨2, _⟩ => rfl

theorem colRow_apply (h : Fin 12) (s : Fin 2048) (c : Fin 64) : colRow (ix4 0 h s c) = BitVec.ofNat 32 c.val := rfl

theorem hot_eq (a : IVec S1x12x2048 32) : fn_one_hot (F := Ideal) a = fun i => ((((IntOp.cmpi .eq (slotRow a i) (colRow i)).toNat : ℝ)) : EReal) := rfl

/-- A row of zeros with a one at the slot. -/
theorem hot_apply (a : IVec S1x12x2048 32) (h : Fin 12) (s : Fin 2048) (c p : Fin 64) (ha : a (ix3 0 h s) = BitVec.ofNat 32 p.val) :
    fn_one_hot (F := Ideal) a (ix4 0 h s c) = if p = c then 1 else 0 := by
  rw [hot_eq]
  show ((((IntOp.cmpi .eq (slotRow a (ix4 0 h s c)) (colRow (ix4 0 h s c))).toNat : ℝ)) : EReal) = _
  rw [slotRow_apply, colRow_apply, ha]
  by_cases hpc : p = c
  · subst hpc
    rw [if_pos rfl]
    have : IntOp.cmpi .eq (BitVec.ofNat 32 p.val) (BitVec.ofNat 32 p.val) = 1#1 := by simp [IntOp.cmpi]
    rw [this]
    simp
  · rw [if_neg hpc]
    have hne : BitVec.ofNat 32 p.val ≠ BitVec.ofNat 32 c.val := by
      intro h0
      have h1 := congrArg BitVec.toNat h0
      rw [BitVec.toNat_ofNat, BitVec.toNat_ofNat] at h1
      exact hpc (Fin.ext (by have := p.isLt; have := c.isLt; omega))
    have : IntOp.cmpi .eq (BitVec.ofNat 32 p.val) (BitVec.ofNat 32 c.val) = 0#1 := by
      show BitVec.ofBool (BitVec.ofNat 32 p.val == BitVec.ofNat 32 c.val) = 0#1
      rw [beq_eq_false_iff_ne.2 hne]
      rfl
    rw [this]
    simp

/-- The slot of a key, as the precondition finds it. -/
theorem slot_word (k : FVec Ideal S1x12x2048x64 .f32) (h : Fin 12) (s : Fin 2048) :
    fn_argmax (F := Ideal) (Host.absf k) (ix3 0 h s) = BitVec.ofNat 32 (slotOf (keysAt k h) s).val :=
  argmax_apply (Host.absf k) h s fun e => Cert.Proof.Reference.mag_pos (k (ix4 0 h s e))

theorem sums_apply (k : FVec Ideal S1x12x2048x64 .f32) (h : Fin 12) (c e : Fin 64) : sums k (ix4 0 h c e) = keySumAt (keysAt k h) c e := by
  refine (keys_product (hots k) k h c e).trans (Finset.sum_congr rfl fun s _ => ?_)
  have e1 : hots k (ix4 0 h s c) = if slotOf (keysAt k h) s = c then (1 : EReal) else 0 := hot_apply _ h s c _ (slot_word k h s)
  rw [e1]
  by_cases hc : slotOf (keysAt k h) s = c
  · rw [if_pos hc, if_pos hc, one_mul]
    rfl
  · rw [if_neg hc, if_neg hc, zero_mul]

/-- The normalizers. -/
theorem norms_apply (q k : FVec Ideal S1x12x2048x64 .f32) (h : Fin 12) (i : Fin 2048) (c : Fin 64) :
    norms q k (ix4 0 h i c) = normAt (rowAt q h i) (keysAt k h) c := by
  refine congrArg (fun x : EReal => x + eps) ((queries_product q (sums k) h i c).trans (Finset.sum_congr rfl fun e _ => ?_))
  rw [sums_apply, mul_comm]
  rfl

end Cert.Proof.Pre

end
-- ==== Proof.Equation.lean ====
module

public import proofs.«01_k».proof.Proof.RefOut
public import proofs.«01_k».proof.Proof.PreRead
public import proofs.«01_k».proof.Proof.PreNorm

/-! Under the precondition the kernel's result is the reference's. -/

@[expose] public section

noncomputable section

namespace Cert.Proof.Equation

open Idealize.ShloMosaic Idealize.ShloMosaic.ValueIdx
open scoped Classical

/-- The kernel and the reference give the same array. -/
theorem kernel_eq_reference (q k v : FVec Ideal ⟨4, ![1, 12, 2048, 64]⟩ .f32) (hp : Cert.Pre_pre.fn (F := Ideal) q k v = fun _ => 1#1) :
    (Cert.Proof.KernelIdeal.kernelOut (F := Ideal) q k v : FVec Ideal ⟨4, ![1, 12, 2048, 64]⟩ .f32) = Cert.Proof.Reference.refOut q k v := by
  obtain ⟨hq, hv, hf, hs⟩ := Pre.parts q k v hp
  funext j
  obtain ⟨a, h, i, d, rfl⟩ : ∃ (a : Fin 1) (h : Fin 12) (i : Fin 2048) (d : Fin 64), j = ix4 a h i d := ⟨j 0, j 1, j 2, j 3, eq_ix4 j⟩
  obtain rfl : a = 0 := Subsingleton.elim _ _
  have h1 : ∀ e, Finite (rowAt q h i e) := fun e => Pre.finites_apply q (ix4 0 h i e) (hq _)
  have h2 : ∀ s, Finite (colAt v h d s) := fun s => Pre.finites_apply v (ix4 0 h s d) (hv _)
  have h3 : (Finset.univ.filter (Best (rowAt q h i))).card ≤ 2 :=
    Pre.few_apply (Pre.marks q) h i (Best (rowAt q h i)) (Pre.marks_apply q h i) (hf _)
  have h4 : ∀ c, Best (rowAt q h i) c → normAt (rowAt q h i) (keysAt k h) c ≠ 0 := by
    intro c hc
    have hm : Pre.marks q (ix4 0 h i c) = 1#1 := by rw [Pre.marks_apply, decide_eq_true hc]; rfl
    have hn := Pre.sound_apply (Pre.marks q) (Pre.norms q k) (ix4 0 h i c) (hs _) hm
    rwa [Pre.norms_apply] at hn
  exact (KernelIdeal.kernel_apply q k v h i d).trans
    ((kernel_sum (rowAt q h i) (keysAt k h) (colAt v h d) h1 h2 h3 h4).trans (Reference.ref_apply q k v h i d h1 h3 h4).symm)

end Cert.Proof.Equation

end
-- ==== Proof.lean ====
module

public import proofs.«01_k».proof.Defs
public import proofs.«01_k».proof.Proof.Gen.Assign.Frame
public import proofs.«01_k».proof.Proof.Gen.AssignIdeal.Frame
public import proofs.«01_k».proof.Proof.Gen.Attend.Frame
public import proofs.«01_k».proof.Proof.Gen.AttendIdeal.Frame
public import proofs.«01_k».proof.Proof.ZsumFrame
public import proofs.«01_k».proof.Proof.ZsumIdealFrame
public import proofs.«01_k».proof.Proof.KernelFrame
public import proofs.«01_k».proof.Proof.RefValue
public import proofs.«01_k».proof.Proof.Gen.Pre_slots_in_range
public import proofs.«01_k».proof.Proof.PreFacts
public import proofs.«01_k».proof.Proof.RefRun
public import proofs.«01_k».proof.Proof.Equation

@[expose] public section

noncomputable section

namespace Cert.Proof

open Idealize.ShloMosaic Idealize.ShloMosaic.TcCoe

/-- Over the extended reals the kernel and the reference, run from memories that agree on the arguments and satisfy the
    precondition, leave the same array. -/
theorem same_result : Cert.algebraic_KernelIdeal_ReferenceIdeal_pre_pre := by
  intro m g m' g' hpre hagree
  refine ⟨fun c => KernelIdeal.kernelOut (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run _ _ _).mono (fun r h c => ?_) (KernelIdeal.kernel_value m g)
    obtain ⟨h0, h1, h2, h6⟩ := h.1 c
    exact ⟨h6, h0, h1, h2⟩
  · refine (θ_run _ _ _).mono (fun r h c => ?_) (Reference.ref_run m' g')
    obtain ⟨h6, h0, h1, h2⟩ := h c
    obtain ⟨a0, a1, a2⟩ := hagree c
    refine ⟨h6.trans ?_, h0, h1, h2⟩
    rw [a0, a1, a2]
    exact (Equation.kernel_eq_reference _ _ _ (hpre c)).symm

/-- Every claim of the certificate. -/
theorem claim : Cert.Claim :=
  ⟨Cert.Assign.Gen.facts, Cert.AssignIdeal.Gen.facts, Cert.Zsum.Gen.facts, Cert.ZsumIdeal.Gen.facts, Cert.Attend.Gen.facts,
    Cert.AttendIdeal.Gen.facts, Cert.KernelIdeal.Gen.facts, Cert.ReferenceIdeal.Gen.facts, inferInstance, inferInstance,
    fun m ρ _ => Cert.Assign.Gen.frame m ρ, fun m ρ _ => Cert.AssignIdeal.Gen.frame m ρ, Zsum.quiescent, ZsumIdeal.quiescent,
    fun m ρ _ => Cert.Attend.Gen.frame m ρ, fun m ρ _ => Cert.AttendIdeal.Gen.frame m ρ, KernelIdeal.quiescent, fun m g _ => KernelIdeal.quiescent m g trivial,
    Reference.ref_frame, fun m g _ => Reference.ref_frame m g trivial, trivial, trivial, trivial, same_result⟩

end Cert.Proof

end
